-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_v37) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v14)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v15)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v15) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v98) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Kernel.lean ====
abbrev S1x8192x6144 : Shape := ⟨3, ![1, 8192, 6144]⟩
abbrev S1x8192x16 : Shape := ⟨3, ![1, 8192, 16]⟩
abbrev S16x1024 : Shape := ⟨2, ![16, 1024]⟩
abbrev S1024 : Shape := ⟨1, ![1024]⟩
abbrev S512 : Shape := ⟨1, ![512]⟩
abbrev S8192x6144 : Shape := ⟨2, ![8192, 6144]⟩
abbrev S8192x16 : Shape := ⟨2, ![8192, 16]⟩
abbrev S_ : Shape := ⟨0, ![]⟩
abbrev S8192x128 : Shape := ⟨2, ![8192, 128]⟩
abbrev S128x1024 : Shape := ⟨2, ![128, 1024]⟩
abbrev S1x1024 : Shape := ⟨2, ![1, 1024]⟩
abbrev S1x512 : Shape := ⟨2, ![1, 512]⟩
abbrev S8192x2048 : Shape := ⟨2, ![8192, 2048]⟩
abbrev S512x1024 : Shape := ⟨2, ![512, 1024]⟩
abbrev S512x2048 : Shape := ⟨2, ![512, 2048]⟩
abbrev S512x128 : Shape := ⟨2, ![512, 128]⟩
abbrev S4x512x256 : Shape := ⟨3, ![4, 512, 256]⟩
abbrev S64x64 : Shape := ⟨2, ![64, 64]⟩
abbrev S64x1024 : Shape := ⟨2, ![64, 1024]⟩
abbrev S64x512 : Shape := ⟨2, ![64, 512]⟩
abbrev S64x256 : Shape := ⟨2, ![64, 256]⟩
abbrev S1x512x256 : Shape := ⟨3, ![1, 512, 256]⟩
abbrev S512x256 : Shape := ⟨2, ![512, 256]⟩
abbrev S1x256 : Shape := ⟨2, ![1, 256]⟩
abbrev S64 : Shape := ⟨1, ![64]⟩
abbrev S64x1 : Shape := ⟨2, ![64, 1]⟩

abbrev nBuf : Space → Nat
  | .hbm => 19
  | .vmem => 14
  | .smem => 0
  | _ => 0

abbrev bufTy : (tb : Table) → Fin (tcTables nBuf tb) → BufTy
  | .hbm, ⟨0, _⟩ => ⟨S1x8192x6144, .f32⟩
  | .hbm, ⟨1, _⟩ => ⟨S1x8192x16, .f32⟩
  | .hbm, ⟨2, _⟩ => ⟨S16x1024, .f32⟩
  | .hbm, ⟨3, _⟩ => ⟨S1024, .f32⟩
  | .hbm, ⟨4, _⟩ => ⟨S512, .f32⟩
  | .hbm, ⟨5, _⟩ => ⟨S8192x6144, .f32⟩
  | .hbm, ⟨6, _⟩ => ⟨S8192x6144, .bf16⟩
  | .hbm, ⟨7, _⟩ => ⟨S8192x16, .f32⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S8192x128, .bf16⟩
  | .hbm, ⟨12, _⟩ => ⟨S_, .i32⟩
  | .hbm, ⟨13, _⟩ => ⟨S_, .f32⟩
  | .hbm, ⟨14, _⟩ => ⟨S128x1024, .f32⟩
  | .hbm, ⟨15, _⟩ => ⟨S128x1024, .bf16⟩
  | .hbm, ⟨16, _⟩ => ⟨S1x1024, .f32⟩
  | .hbm, ⟨17, _⟩ => ⟨S1x512, .f32⟩
  | .hbm, ⟨18, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x128, .bf16⟩
  | .local _ .vmem, ⟨7, _⟩ => ⟨S512x128, .bf16⟩
  | .local _ .vmem, ⟨8, _⟩ => ⟨S128x1024, .bf16⟩
  | .local _ .vmem, ⟨9, _⟩ => ⟨S1x1024, .f32⟩
  | .local _ .vmem, ⟨10, _⟩ => ⟨S1x512, .f32⟩
  | .local _ .vmem, ⟨11, _⟩ => ⟨S512x2048, .bf16⟩
  | .local _ .vmem, ⟨12, _⟩ => ⟨S512x2048, .bf16⟩
  | .local _ .vmem, ⟨13, _⟩ => ⟨S4x512x256, .f32⟩
  | _, _ => ⟨S1x8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x8192x6144 : Shape := ⟨3, ![1, 8192, 6144]⟩
abbrev S1x8192x16 : Shape := ⟨3, ![1, 8192, 16]⟩
abbrev S16x1024 : Shape := ⟨2, ![16, 1024]⟩
abbrev S1024 : Shape := ⟨1, ![1024]⟩
abbrev S512 : Shape := ⟨1, ![512]⟩
abbrev S1x8192x2048 : Shape := ⟨3, ![1, 8192, 2048]⟩
abbrev S1x8192x1024 : Shape := ⟨3, ![1, 8192, 1024]⟩
abbrev S1x1x1024 : Shape := ⟨3, ![1, 1, 1024]⟩
abbrev S_ : Shape := ⟨0, ![]⟩
abbrev S1x128x64x4x256 : Shape := ⟨5, ![1, 128, 64, 4, 256]⟩
abbrev S1x128x64x4x512 : Shape := ⟨5, ![1, 128, 64, 4, 512]⟩
abbrev S1x128x1x4x256 : Shape := ⟨5, ![1, 128, 1, 4, 256]⟩
abbrev S64x64 : Shape := ⟨2, ![64, 64]⟩
abbrev S1x128x4x64x64 : Shape := ⟨5, ![1, 128, 4, 64, 64]⟩
abbrev S1x128x4x512x64 : Shape := ⟨5, ![1, 128, 4, 512, 64]⟩
abbrev S1x4x256x512 : Shape := ⟨4, ![1, 4, 256, 512]⟩
abbrev S128x1x64x4x256 : Shape := ⟨5, ![128, 1, 64, 4, 256]⟩
abbrev S128x1x64x4x512 : Shape := ⟨5, ![128, 1, 64, 4, 512]⟩
abbrev S1x128x4x256 : Shape := ⟨4, ![1, 128, 4, 256]⟩
abbrev S128x1x4x256 : Shape := ⟨4, ![128, 1, 4, 256]⟩
abbrev S1x1x64x4x256 : Shape := ⟨5, ![1, 1, 64, 4, 256]⟩
abbrev S1x64x4x256 : Shape := ⟨4, ![1, 64, 4, 256]⟩
abbrev S1x1x64x4x512 : Shape := ⟨5, ![1, 1, 64, 4, 512]⟩
abbrev S1x64x4x512 : Shape := ⟨4, ![1, 64, 4, 512]⟩
abbrev S1x1x4x256 : Shape := ⟨4, ![1, 1, 4, 256]⟩
abbrev S1x4x256 : Shape := ⟨3, ![1, 4, 256]⟩
abbrev S1x4x512x64 : Shape := ⟨4, ![1, 4, 512, 64]⟩
abbrev S1x4x256x1 : Shape := ⟨4, ![1, 4, 256, 1]⟩
abbrev S1x8192x4x512 : Shape := ⟨4, ![1, 8192, 4, 512]⟩
abbrev S1x8192x4 : Shape := ⟨3, ![1, 8192, 4]⟩
abbrev S1x8192x4x1 : Shape := ⟨4, ![1, 8192, 4, 1]⟩
abbrev S1x1x1x512 : Shape := ⟨4, ![1, 1, 1, 512]⟩
abbrev S8192x2048 : Shape := ⟨2, ![8192, 2048]⟩

abbrev nBuf : Space → Nat
  | .hbm => 150
  | .vmem => 0
  | .smem => 0
  | _ => 0

abbrev hbmTy0_0 (i : Nat) : BufTy := match i % 128 with
  | 0 => ⟨S1x8192x6144, .f32⟩
  | 1 => ⟨S1x8192x16, .f32⟩
  | 2 => ⟨S16x1024, .f32⟩
  | 3 => ⟨S1024, .f32⟩
  | 4 => ⟨S512, .f32⟩
  | 5 => ⟨S1x8192x2048, .f32⟩
  | 6 => ⟨S1x8192x1024, .f32⟩
  | 7 => ⟨S1x8192x1024, .f32⟩
  | 8 => ⟨S1x8192x2048, .f32⟩
  | 9 => ⟨S1x8192x1024, .f32⟩
  | 10 => ⟨S1x1x1024, .f32⟩
  | 11 => ⟨S1x8192x1024, .f32⟩
  | 12 => ⟨S1x8192x1024, .f32⟩
  | 13 => ⟨S1x8192x1024, .f32⟩
  | 14 => ⟨S_, .f32⟩
  | 15 => ⟨S1x8192x1024, .f32⟩
  | 16 => ⟨S1x8192x1024, .f32⟩
  | 17 => ⟨S1x8192x1024, .f32⟩
  | 18 => ⟨S1x8192x1024, .f32⟩
  | 19 => ⟨S1x8192x1024, .i1⟩
  | 20 => ⟨S1x8192x1024, .f32⟩
  | 21 => ⟨S1x8192x1024, .f32⟩
  | 22 => ⟨S1x8192x1024, .f32⟩
  | 23 => ⟨S1x8192x1024, .f32⟩
  | 24 => ⟨S1x8192x1024, .f32⟩
  | 25 => ⟨S1x8192x1024, .f32⟩
  | 26 => ⟨S1x8192x1024, .f32⟩
  | 27 => ⟨S1x8192x1024, .f32⟩
  | 28 => ⟨S1x8192x1024, .f32⟩
  | 29 => ⟨S_, .f32⟩
  | 30 => ⟨S1x8192x1024, .f32⟩
  | 31 => ⟨S1x8192x1024, .f32⟩
  | 32 => ⟨S1x128x64x4x256, .f32⟩
  | 33 => ⟨S_, .f32⟩
  | 34 => ⟨S1x128x64x4x256, .f32⟩
  | 35 => ⟨S1x128x64x4x256, .f32⟩
  | 36 => ⟨S1x128x64x4x256, .f32⟩
  | 37 => ⟨S1x128x64x4x512, .f32⟩
  | 38 => ⟨S1x128x64x4x256, .f32⟩
  | 39 => ⟨S_, .f32⟩
  | 40 => ⟨S_, .f32⟩
  | 41 => ⟨S1x128x64x4x256, .f32⟩
  | 42 => ⟨S1x128x1x4x256, .f32⟩
  | 43 => ⟨S1x128x64x4x256, .f32⟩
  | 44 => ⟨S1x128x64x4x256, .f32⟩
  | 45 => ⟨S1x128x64x4x256, .f32⟩
  | 46 => ⟨S1x128x64x4x256, .f32⟩
  | 47 => ⟨S1x128x64x4x256, .f32⟩
  | 48 => ⟨S1x128x64x4x256, .f32⟩
  | 49 => ⟨S1x128x64x4x256, .f32⟩
  | 50 => ⟨S1x128x64x4x256, .f32⟩
  | 51 => ⟨S1x128x64x4x256, .f32⟩
  | 52 => ⟨S_, .i1⟩
  | 53 => ⟨S64x64, .i1⟩
  | 54 => ⟨S64x64, .i32⟩
  | 55 => ⟨S_, .i32⟩
  | 56 => ⟨S64x64, .i32⟩
  | 57 => ⟨S64x64, .i32⟩
  | 58 => ⟨S64x64, .i32⟩
  | 59 => ⟨S64x64, .i1⟩
  | 60 => ⟨S_, .i1⟩
  | 61 => ⟨S64x64, .i1⟩
  | 62 => ⟨S64x64, .i1⟩
  | 63 => ⟨S1x128x4x64x64, .f32⟩
  | 64 => ⟨S_, .f32⟩
  | 65 => ⟨S_, .f32⟩
  | 66 => ⟨S1x128x4x64x64, .i1⟩
  | 67 => ⟨S1x128x4x64x64, .f32⟩
  | 68 => ⟨S1x128x4x64x64, .f32⟩
  | 69 => ⟨S1x128x4x512x64, .f32⟩
  | 70 => ⟨S1x128x64x4x512, .f32⟩
  | 71 => ⟨S_, .f32⟩
  | 72 => ⟨S1x4x256x512, .f32⟩
  | 73 => ⟨S128x1x64x4x256, .f32⟩
  | 74 => ⟨S128x1x64x4x256, .f32⟩
  | 75 => ⟨S128x1x64x4x512, .f32⟩
  | 76 => ⟨S1x128x4x256, .f32⟩
  | 77 => ⟨S1x128x4x256, .f32⟩
  | 78 => ⟨S128x1x4x256, .f32⟩
  | 79 => ⟨S_, .f32⟩
  | 80 => ⟨S128x1x64x4x512, .f32⟩
  | 81 => ⟨S_, .i32⟩
  | 82 => ⟨S128x1x64x4x256, .f32⟩
  | 83 => ⟨S128x1x64x4x256, .f32⟩
  | 84 => ⟨S128x1x64x4x512, .f32⟩
  | 85 => ⟨S128x1x4x256, .f32⟩
  | 86 => ⟨S_, .i32⟩
  | 87 => ⟨S1x4x256x512, .f32⟩
  | 88 => ⟨S128x1x64x4x512, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1x1x64x4x256, .f32⟩
  | 96 => ⟨S1x64x4x256, .f32⟩
  | 97 => ⟨S_, .i32⟩
  | 98 => ⟨S_, .i32⟩
  | 99 => ⟨S_, .i32⟩
  | 100 => ⟨S_, .i32⟩
  | 101 => ⟨S1x1x64x4x256, .f32⟩
  | 102 => ⟨S1x64x4x256, .f32⟩
  | 103 => ⟨S_, .i32⟩
  | 104 => ⟨S_, .i32⟩
  | 105 => ⟨S_, .i32⟩
  | 106 => ⟨S_, .i32⟩
  | 107 => ⟨S1x1x64x4x512, .f32⟩
  | 108 => ⟨S1x64x4x512, .f32⟩
  | 109 => ⟨S_, .i32⟩
  | 110 => ⟨S_, .i32⟩
  | 111 => ⟨S_, .i32⟩
  | 112 => ⟨S1x1x4x256, .f32⟩
  | 113 => ⟨S1x4x256, .f32⟩
  | 114 => ⟨S1x4x512x64, .f32⟩
  | 115 => ⟨S1x64x4x512, .f32⟩
  | 116 => ⟨S1x4x256x1, .f32⟩
  | 117 => ⟨S1x4x256x512, .f32⟩
  | 118 => ⟨S1x4x256x512, .f32⟩
  | 119 => ⟨S1x4x256x512, .f32⟩
  | 120 => ⟨S1x4x256x512, .f32⟩
  | 121 => ⟨S1x1x64x4x512, .f32⟩
  | 122 => ⟨S_, .i32⟩
  | 123 => ⟨S_, .i32⟩
  | 124 => ⟨S_, .i32⟩
  | 125 => ⟨S_, .i32⟩
  | 126 => ⟨S128x1x64x4x512, .f32⟩
  | 127 => ⟨S_, .i32⟩
  | _ => ⟨S1x8192x6144, .f32⟩

abbrev hbmTy0_1 (i : Nat) : BufTy := match i % 128 with
  | 0 => ⟨S_, .i32⟩
  | 1 => ⟨S1x128x64x4x512, .f32⟩
  | 2 => ⟨S1x128x64x4x512, .f32⟩
  | 3 => ⟨S1x8192x4x512, .f32⟩
  | 4 => ⟨S1x8192x4x512, .f32⟩
  | 5 => ⟨S_, .f32⟩
  | 6 => ⟨S1x8192x4, .f32⟩
  | 7 => ⟨S1x8192x4x1, .f32⟩
  | 8 => ⟨S_, .f32⟩
  | 9 => ⟨S1x8192x4x1, .f32⟩
  | 10 => ⟨S1x8192x4x1, .f32⟩
  | 11 => ⟨S_, .f32⟩
  | 12 => ⟨S1x8192x4x1, .f32⟩
  | 13 => ⟨S1x8192x4x1, .f32⟩
  | 14 => ⟨S1x8192x4x1, .f32⟩
  | 15 => ⟨S1x8192x4x512, .f32⟩
  | 16 => ⟨S1x8192x4x512, .f32⟩
  | 17 => ⟨S1x1x1x512, .f32⟩
  | 18 => ⟨S1x8192x4x512, .f32⟩
  | 19 => ⟨S1x8192x4x512, .f32⟩
  | 20 => ⟨S8192x2048, .f32⟩
  | 21 => ⟨S8192x2048, .bf16⟩
  | _ => ⟨S1x8192x6144, .f32⟩

abbrev hbmTy (i : Nat) : BufTy := match i / 128 with
  | 0 => hbmTy0_0 i
  | 1 => hbmTy0_1 i
  | _ => ⟨S1x8192x6144, .f32⟩

abbrev bufTy : (tb : Table) → Fin (tcTables nBuf tb) → BufTy
  | .hbm, ⟨i, _⟩ => hbmTy i
  | _, _ => ⟨S1x8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_call1_call0_cst : Ref sig .tc := ⟨.hbm, 39, rfl⟩
abbrev main_call1_call0_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c : Ref sig .tc := ⟨.hbm, 52, rfl⟩
abbrev main_v28 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_0 : Ref sig .tc := ⟨.hbm, 60, rfl⟩
abbrev main_call2_v5 : Ref sig .tc := ⟨.hbm, 61, rfl⟩
abbrev main_v29 : Ref sig .tc := ⟨.hbm, 62, rfl⟩
abbrev main_v30 : Ref sig .tc := ⟨.hbm, 63, rfl⟩
abbrev main_cst_1 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_2 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_3 : Ref sig .tc := ⟨.hbm, 79, rfl⟩
abbrev main_v41 : Ref sig .tc := ⟨.hbm, 80, rfl⟩
abbrev main_c_4 : Ref sig .tc := ⟨.hbm, 81, rfl⟩
abbrev main_v42_0 : Ref sig .tc := ⟨.hbm, 82, rfl⟩
abbrev main_v42_1 : Ref sig .tc := ⟨.hbm, 83, rfl⟩
abbrev main_v42_2 : Ref sig .tc := ⟨.hbm, 84, rfl⟩
abbrev main_v42_3 : Ref sig .tc := ⟨.hbm, 85, rfl⟩
abbrev main_v42_4 : Ref sig .tc := ⟨.hbm, 86, rfl⟩
abbrev main_v42_5 : Ref sig .tc := ⟨.hbm, 87, rfl⟩
abbrev main_v42_6 : Ref sig .tc := ⟨.hbm, 88, rfl⟩
abbrev main_while0c_c_14 : Ref sig .tc := ⟨.hbm, 89, rfl⟩
abbrev main_while0c_v61 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_call4_c_1 : Ref sig .tc := ⟨.hbm, 93, rfl⟩
abbrev main_while0b_call4_c_2 : Ref sig .tc := ⟨.hbm, 94, rfl⟩
abbrev main_while0b_call4_v0 : Ref sig .tc := ⟨.hbm, 95, rfl⟩
abbrev main_while0b_v61 : Ref sig .tc := ⟨.hbm, 96, rfl⟩
abbrev main_while0b_call5_c : Ref sig .tc := ⟨.hbm, 97, rfl⟩
abbrev main_while0b_call5_c_0 : Ref sig .tc := ⟨.hbm, 98, rfl⟩
abbrev main_while0b_call5_c_1 : Ref sig .tc := ⟨.hbm, 99, rfl⟩
abbrev main_while0b_call5_c_2 : Ref sig .tc := ⟨.hbm, 100, rfl⟩
abbrev main_while0b_call5_v0 : Ref sig .tc := ⟨.hbm, 101, rfl⟩
abbrev main_while0b_v62 : Ref sig .tc := ⟨.hbm, 102, rfl⟩
abbrev main_while0b_call6_c : Ref sig .tc := ⟨.hbm, 103, rfl⟩
abbrev main_while0b_call6_c_0 : Ref sig .tc := ⟨.hbm, 104, rfl⟩
abbrev main_while0b_call6_c_1 : Ref sig .tc := ⟨.hbm, 105, rfl⟩
abbrev main_while0b_call6_c_2 : Ref sig .tc := ⟨.hbm, 106, rfl⟩
abbrev main_while0b_call6_v0 : Ref sig .tc := ⟨.hbm, 107, rfl⟩
abbrev main_while0b_v63 : Ref sig .tc := ⟨.hbm, 108, rfl⟩
abbrev main_while0b_call7_c : Ref sig .tc := ⟨.hbm, 109, rfl⟩
abbrev main_while0b_call7_c_0 : Ref sig .tc := ⟨.hbm, 110, rfl⟩
abbrev main_while0b_call7_c_1 : Ref sig .tc := ⟨.hbm, 111, rfl⟩
abbrev main_while0b_call7_v0 : Ref sig .tc := ⟨.hbm, 112, rfl⟩
abbrev main_while0b_v64 : Ref sig .tc := ⟨.hbm, 113, rfl⟩
abbrev main_while0b_v65 : Ref sig .tc := ⟨.hbm, 114, rfl⟩
abbrev main_while0b_v66 : Ref sig .tc := ⟨.hbm, 115, rfl⟩
abbrev main_while0b_v67 : Ref sig .tc := ⟨.hbm, 116, rfl⟩
abbrev main_while0b_v68 : Ref sig .tc := ⟨.hbm, 117, rfl⟩
abbrev main_while0b_v69 : Ref sig .tc := ⟨.hbm, 118, rfl⟩
abbrev main_while0b_v70 : Ref sig .tc := ⟨.hbm, 119, rfl⟩
abbrev main_while0b_v71 : Ref sig .tc := ⟨.hbm, 120, rfl⟩
abbrev main_while0b_call8_v0 : Ref sig .tc := ⟨.hbm, 121, rfl⟩
abbrev main_while0b_call8_c : Ref sig .tc := ⟨.hbm, 122, rfl⟩
abbrev main_while0b_call8_c_0 : Ref sig .tc := ⟨.hbm, 123, rfl⟩
abbrev main_while0b_call8_c_1 : Ref sig .tc := ⟨.hbm, 124, rfl⟩
abbrev main_while0b_call8_c_2 : Ref sig .tc := ⟨.hbm, 125, rfl⟩
abbrev main_while0b_v72 : Ref sig .tc := ⟨.hbm, 126, rfl⟩
abbrev main_while0b_c_14 : Ref sig .tc := ⟨.hbm, 127, rfl⟩
abbrev main_while0b_v73 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_cst_5 : Ref sig .tc := ⟨.hbm, 133, rfl⟩
abbrev main_v47 : Ref sig .tc := ⟨.hbm, 134, rfl⟩
abbrev main_v48 : Ref sig .tc := ⟨.hbm, 135, rfl⟩
abbrev main_cst_6 : Ref sig .tc := ⟨.hbm, 136, rfl⟩
abbrev main_v49 : Ref sig .tc := ⟨.hbm, 137, rfl⟩
abbrev main_v50 : Ref sig .tc := ⟨.hbm, 138, rfl⟩
abbrev main_cst_7 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S1x8192x2048 : Shape := ⟨3, ![1, 8192, 2048]⟩
abbrev S1x8192x6144 : Shape := ⟨3, ![1, 8192, 6144]⟩
abbrev S4x2048x2048 : Shape := ⟨3, ![4, 2048, 2048]⟩
abbrev S2048 : Shape := ⟨1, ![2048]⟩
abbrev S8192x2048 : Shape := ⟨2, ![8192, 2048]⟩
abbrev S8192x6144 : Shape := ⟨2, ![8192, 6144]⟩
abbrev S1x2048 : Shape := ⟨2, ![1, 2048]⟩
abbrev S256x2048 : Shape := ⟨2, ![256, 2048]⟩
abbrev S1x2048x2048 : Shape := ⟨3, ![1, 2048, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 18
  | .vmem => 15
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x8192x2048, .f32⟩
  | .hbm, ⟨3, _⟩ => ⟨S1x8192x6144, .f32⟩
  | .hbm, ⟨4, _⟩ => ⟨S4x2048x2048, .f32⟩
  | .hbm, ⟨5, _⟩ => ⟨S4x2048x2048, .f32⟩
  | .hbm, ⟨6, _⟩ => ⟨S2048, .f32⟩
  | .hbm, ⟨7, _⟩ => ⟨S8192x2048, .f32⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S8192x2048, .bf16⟩
  | .hbm, ⟨12, _⟩ => ⟨S8192x6144, .f32⟩
  | .hbm, ⟨13, _⟩ => ⟨S8192x6144, .bf16⟩
  | .hbm, ⟨14, _⟩ => ⟨S4x2048x2048, .bf16⟩
  | .hbm, ⟨15, _⟩ => ⟨S4x2048x2048, .bf16⟩
  | .hbm, ⟨16, _⟩ => ⟨S1x2048, .f32⟩
  | .hbm, ⟨17, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x2048x2048, .bf16⟩
  | .local _ .vmem, ⟨11, _⟩ => ⟨S1x2048x2048, .bf16⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S1x8192x2048 : Shape := ⟨3, ![1, 8192, 2048]⟩
abbrev S1x8192x6144 : Shape := ⟨3, ![1, 8192, 6144]⟩
abbrev S4x2048x2048 : Shape := ⟨3, ![4, 2048, 2048]⟩
abbrev S2048 : Shape := ⟨1, ![2048]⟩
abbrev S_ : Shape := ⟨0, ![]⟩
abbrev S1x2048x2048 : Shape := ⟨3, ![1, 2048, 2048]⟩
abbrev S2048x2048 : Shape := ⟨2, ![2048, 2048]⟩
abbrev S1x8192 : Shape := ⟨2, ![1, 8192]⟩
abbrev S1x8192x1 : Shape := ⟨3, ![1, 8192, 1]⟩
abbrev S1x1x2048 : Shape := ⟨3, ![1, 1, 2048]⟩
abbrev S8192x2048 : Shape := ⟨2, ![8192, 2048]⟩

abbrev nBuf : Space → Nat
  | .hbm => 54
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x8192x2048, .f32⟩
  | .hbm, ⟨3, _⟩ => ⟨S1x8192x6144, .f32⟩
  | .hbm, ⟨4, _⟩ => ⟨S4x2048x2048, .f32⟩
  | .hbm, ⟨5, _⟩ => ⟨S4x2048x2048, .f32⟩
  | .hbm, ⟨6, _⟩ => ⟨S2048, .f32⟩
  | .hbm, ⟨7, _⟩ => ⟨S1x8192x2048, .f32⟩
  | .hbm, ⟨8, _⟩ => ⟨S1x8192x2048, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S_, .f32⟩
  | .hbm, ⟨13, _⟩ => ⟨S1x8192x2048, .f32⟩
  | .hbm, ⟨14, _⟩ => ⟨S1x8192x2048, .f32⟩
  | .hbm, ⟨15, _⟩ => ⟨S_, .f32⟩
  | .hbm, ⟨16, _⟩ => ⟨S1x8192x2048, .f32⟩
  | .hbm, ⟨17, _⟩ => ⟨S1x8192x2048, .f32⟩
  | .hbm, ⟨18, _⟩ => ⟨S1x8192x2048, .f32⟩
  | .hbm, ⟨19, _⟩ => ⟨S1x8192x2048, .f32⟩
  | .hbm, ⟨20, _⟩ => ⟨S1x2048x2048, .f32⟩
  | .hbm, ⟨21, _⟩ => ⟨S2048x2048, .f32⟩
  | .hbm, ⟨22, _⟩ => ⟨S1x8192x2048, .f32⟩
  | .hbm, ⟨23, _⟩ => ⟨S1x8192x2048, .f32⟩
  | .hbm, ⟨24, _⟩ => ⟨S1x8192x2048, .f32⟩
  | .hbm, ⟨25, _⟩ => ⟨S_, .f32⟩
  | .hbm, ⟨26, _⟩ => ⟨S1x8192x2048, .f32⟩
  | .hbm, ⟨27, _⟩ => ⟨S1x8192x2048, .f32⟩
  | .hbm, ⟨28, _⟩ => ⟨S_, .f32⟩
  | .hbm, ⟨29, _⟩ => ⟨S1x8192x2048, .f32⟩
  | .hbm, ⟨30, _⟩ => ⟨S1x8192x2048, .f32⟩
  | .hbm, ⟨31, _⟩ => ⟨S1x8192x2048, .f32⟩
  | .hbm, ⟨32, _⟩ => ⟨S1x8192x2048, .f32⟩
  | .hbm, ⟨33, _⟩ => ⟨S1x2048x2048, .f32⟩
  | .hbm, ⟨34, _⟩ => ⟨S2048x2048, .f32⟩
  | .hbm, ⟨35, _⟩ => ⟨S1x8192x2048, .f32⟩
  | .hbm, ⟨36, _⟩ => ⟨S1x8192x2048, .f32⟩
  | .hbm, ⟨37, _⟩ => ⟨S1x8192x2048, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S_, .f32⟩
  | .hbm, ⟨42, _⟩ => ⟨S1x8192x1, .f32⟩
  | .hbm, ⟨43, _⟩ => ⟨S1x8192x1, .f32⟩
  | .hbm, ⟨44, _⟩ => ⟨S_, .f32⟩
  | .hbm, ⟨45, _⟩ => ⟨S1x8192x1, .f32⟩
  | .hbm, ⟨46, _⟩ => ⟨S1x8192x1, .f32⟩
  | .hbm, ⟨47, _⟩ => ⟨S1x8192x1, .f32⟩
  | .hbm, ⟨48, _⟩ => ⟨S1x8192x2048, .f32⟩
  | .hbm, ⟨49, _⟩ => ⟨S1x8192x2048, .f32⟩
  | .hbm, ⟨50, _⟩ => ⟨S1x1x2048, .f32⟩
  | .hbm, ⟨51, _⟩ => ⟨S1x8192x2048, .f32⟩
  | .hbm, ⟨52, _⟩ => ⟨S1x8192x2048, .f32⟩
  | .hbm, ⟨53, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Kernel3.lean ====
abbrev S1x8192x2048 : Shape := ⟨3, ![1, 8192, 2048]⟩
abbrev S4x2048x17472 : Shape := ⟨3, ![4, 2048, 17472]⟩
abbrev S8192x2048 : Shape := ⟨2, ![8192, 2048]⟩
abbrev S4x17472x2048 : Shape := ⟨3, ![4, 17472, 2048]⟩
abbrev S8192x6144 : Shape := ⟨2, ![8192, 6144]⟩
abbrev S2048x2048 : Shape := ⟨2, ![2048, 2048]⟩
abbrev S1x512x2048 : Shape := ⟨3, ![1, 512, 2048]⟩
abbrev S1x128x2048 : Shape := ⟨3, ![1, 128, 2048]⟩
abbrev S2048x512 : Shape := ⟨2, ![2048, 512]⟩
abbrev S512x2048 : Shape := ⟨2, ![512, 2048]⟩
abbrev S1x464x2048 : Shape := ⟨3, ![1, 464, 2048]⟩
abbrev S464x2048 : Shape := ⟨2, ![464, 2048]⟩
abbrev S1x48x2048 : Shape := ⟨3, ![1, 48, 2048]⟩
abbrev S48x2048 : Shape := ⟨2, ![48, 2048]⟩

abbrev nBuf : Space → Nat
  | .hbm => 6
  | .vmem => 9
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S8192x2048, .f32⟩
  | .hbm, ⟨3, _⟩ => ⟨S8192x2048, .bf16⟩
  | .hbm, ⟨4, _⟩ => ⟨S4x17472x2048, .f32⟩
  | .hbm, ⟨5, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x128x2048, .f32⟩
  | .local _ .vmem, ⟨5, _⟩ => ⟨S1x128x2048, .f32⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c512_i32 : BitVec 32 := 512#32
  let v1 : BitVec 32 := Scalar.muli v0 c512_i32
  let c5120_i32 : BitVec 32 := 5120#32
  let v2 : BitVec 32 := Scalar.addi c5120_i32 v1
  let c128_i32 : BitVec 32 := 128#32
  let v3 : BitVec 32 := Scalar.divsi v2 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c0_i32_5 : BitVec 32 := 0#32
  let c0_i32_6 : BitVec 32 := 0#32
  let c0_i32_7 : BitVec 32 := 0#32
  ![c0_i32_5.toNat, v19.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S1x8192x2048 : Shape := ⟨3, ![1, 8192, 2048]⟩
abbrev S4x2048x17472 : Shape := ⟨3, ![4, 2048, 17472]⟩
abbrev S1x2048x17472 : Shape := ⟨3, ![1, 2048, 17472]⟩
abbrev S2048x17472 : Shape := ⟨2, ![2048, 17472]⟩
abbrev S1x8192x17472 : Shape := ⟨3, ![1, 8192, 17472]⟩
abbrev S1x8192x6144 : Shape := ⟨3, ![1, 8192, 6144]⟩
abbrev S8192x6144 : Shape := ⟨2, ![8192, 6144]⟩

abbrev nBuf : Space → Nat
  | .hbm => 8
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S1x2048x17472, .f32⟩
  | .hbm, ⟨3, _⟩ => ⟨S2048x17472, .f32⟩
  | .hbm, ⟨4, _⟩ => ⟨S1x8192x17472, .f32⟩
  | .hbm, ⟨5, _⟩ => ⟨S1x8192x6144, .f32⟩
  | .hbm, ⟨6, _⟩ => ⟨S8192x6144, .f32⟩
  | .hbm, ⟨7, _⟩ => ⟨S8192x6144, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S1x8192x2048 : Shape := ⟨3, ![1, 8192, 2048]⟩
abbrev S4x2048x17472 : Shape := ⟨3, ![4, 2048, 17472]⟩
abbrev S8192x2048 : Shape := ⟨2, ![8192, 2048]⟩
abbrev S4x17472x2048 : Shape := ⟨3, ![4, 17472, 2048]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S8192x2048, .f32⟩
  | .hbm, ⟨3, _⟩ => ⟨S8192x2048, .bf16⟩
  | .hbm, ⟨4, _⟩ => ⟨S4x17472x2048, .f32⟩
  | .hbm, ⟨5, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x512x2048, .f32⟩
  | .local _ .vmem, ⟨3, _⟩ => ⟨S1x512x2048, .f32⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S1x8192x2048 : Shape := ⟨3, ![1, 8192, 2048]⟩
abbrev S4x2048x17472 : Shape := ⟨3, ![4, 2048, 17472]⟩
abbrev S1x2048x17472 : Shape := ⟨3, ![1, 2048, 17472]⟩
abbrev S2048x17472 : Shape := ⟨2, ![2048, 17472]⟩
abbrev S1x8192x17472 : Shape := ⟨3, ![1, 8192, 17472]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S1x2048x17472, .f32⟩
  | .hbm, ⟨3, _⟩ => ⟨S2048x17472, .f32⟩
  | .hbm, ⟨4, _⟩ => ⟨S1x8192x17472, .f32⟩
  | .hbm, ⟨5, _⟩ => ⟨S1x8192x2048, .f32⟩
  | .hbm, ⟨6, _⟩ => ⟨S8192x2048, .f32⟩
  | .hbm, ⟨7, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S1x8192x2048 : Shape := ⟨3, ![1, 8192, 2048]⟩
abbrev S4x2048x17472 : Shape := ⟨3, ![4, 2048, 17472]⟩
abbrev S8192x2048 : Shape := ⟨2, ![8192, 2048]⟩
abbrev S4x17472x2048 : Shape := ⟨3, ![4, 17472, 2048]⟩
abbrev S8192x1024 : Shape := ⟨2, ![8192, 1024]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S8192x2048, .f32⟩
  | .hbm, ⟨3, _⟩ => ⟨S8192x2048, .bf16⟩
  | .hbm, ⟨4, _⟩ => ⟨S4x17472x2048, .f32⟩
  | .hbm, ⟨5, _⟩ => ⟨S8192x1024, .f32⟩
  | .local _ .vmem, ⟨0, _⟩ => ⟨S2048x2048, .bf16⟩
  | .local _ .vmem, ⟨1, _⟩ => ⟨S2048x2048, .bf16⟩
  | .local _ .vmem, ⟨2, _⟩ => ⟨S1x512x2048, .f32⟩
  | .local _ .vmem, ⟨3, _⟩ => ⟨S1x512x2048, .f32⟩
  | .local _ .vmem, ⟨4, _⟩ => ⟨S2048x512, .f32⟩
  | .local _ .vmem, ⟨5, _⟩ => ⟨S2048x512, .f32⟩
  | .local _ .vmem, ⟨6, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S1x8192x2048 : Shape := ⟨3, ![1, 8192, 2048]⟩
abbrev S4x2048x17472 : Shape := ⟨3, ![4, 2048, 17472]⟩
abbrev S1x2048x17472 : Shape := ⟨3, ![1, 2048, 17472]⟩
abbrev S2048x17472 : Shape := ⟨2, ![2048, 17472]⟩
abbrev S1x8192x17472 : Shape := ⟨3, ![1, 8192, 17472]⟩
abbrev S1x8192x1024 : Shape := ⟨3, ![1, 8192, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S1x2048x17472, .f32⟩
  | .hbm, ⟨3, _⟩ => ⟨S2048x17472, .f32⟩
  | .hbm, ⟨4, _⟩ => ⟨S1x8192x17472, .f32⟩
  | .hbm, ⟨5, _⟩ => ⟨S1x8192x1024, .f32⟩
  | .hbm, ⟨6, _⟩ => ⟨S8192x1024, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S1x8192x2048 : Shape := ⟨3, ![1, 8192, 2048]⟩
abbrev S1x8192x6144 : Shape := ⟨3, ![1, 8192, 6144]⟩
abbrev S4x2048x2048 : Shape := ⟨3, ![4, 2048, 2048]⟩
abbrev S4x2048 : Shape := ⟨2, ![4, 2048]⟩
abbrev S8192x2048 : Shape := ⟨2, ![8192, 2048]⟩
abbrev S8192x6144 : Shape := ⟨2, ![8192, 6144]⟩
abbrev S1x2048 : Shape := ⟨2, ![1, 2048]⟩
abbrev S2048 : Shape := ⟨1, ![2048]⟩
abbrev S256x2048 : Shape := ⟨2, ![256, 2048]⟩
abbrev S1x2048x2048 : Shape := ⟨3, ![1, 2048, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 21
  | .vmem => 17
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x8192x2048, .f32⟩
  | .hbm, ⟨3, _⟩ => ⟨S1x8192x6144, .f32⟩
  | .hbm, ⟨4, _⟩ => ⟨S4x2048x2048, .f32⟩
  | .hbm, ⟨5, _⟩ => ⟨S4x2048x2048, .f32⟩
  | .hbm, ⟨6, _⟩ => ⟨S4x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S8192x2048, .bf16⟩
  | .hbm, ⟨12, _⟩ => ⟨S8192x6144, .f32⟩
  | .hbm, ⟨13, _⟩ => ⟨S8192x6144, .bf16⟩
  | .hbm, ⟨14, _⟩ => ⟨S4x2048x2048, .bf16⟩
  | .hbm, ⟨15, _⟩ => ⟨S4x2048x2048, .bf16⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x2048x2048, .bf16⟩
  | .local _ .vmem, ⟨11, _⟩ => ⟨S1x2048x2048, .bf16⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S1x8192x2048 : Shape := ⟨3, ![1, 8192, 2048]⟩
abbrev S1x8192x6144 : Shape := ⟨3, ![1, 8192, 6144]⟩
abbrev S4x2048x2048 : Shape := ⟨3, ![4, 2048, 2048]⟩
abbrev S4x2048 : Shape := ⟨2, ![4, 2048]⟩
abbrev S_ : Shape := ⟨0, ![]⟩
abbrev S1x2048x2048 : Shape := ⟨3, ![1, 2048, 2048]⟩
abbrev S2048x2048 : Shape := ⟨2, ![2048, 2048]⟩
abbrev S1x8192 : Shape := ⟨2, ![1, 8192]⟩
abbrev S1x8192x1 : Shape := ⟨3, ![1, 8192, 1]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x8192x2048, .f32⟩
  | .hbm, ⟨3, _⟩ => ⟨S1x8192x6144, .f32⟩
  | .hbm, ⟨4, _⟩ => ⟨S4x2048x2048, .f32⟩
  | .hbm, ⟨5, _⟩ => ⟨S4x2048x2048, .f32⟩
  | .hbm, ⟨6, _⟩ => ⟨S4x2048, .f32⟩
  | .hbm, ⟨7, _⟩ => ⟨S1x8192x2048, .f32⟩
  | .hbm, ⟨8, _⟩ => ⟨S1x8192x2048, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S_, .f32⟩
  | .hbm, ⟨13, _⟩ => ⟨S1x8192x2048, .f32⟩
  | .hbm, ⟨14, _⟩ => ⟨S1x8192x2048, .f32⟩
  | .hbm, ⟨15, _⟩ => ⟨S_, .f32⟩
  | .hbm, ⟨16, _⟩ => ⟨S1x8192x2048, .f32⟩
  | .hbm, ⟨17, _⟩ => ⟨S1x8192x2048, .f32⟩
  | .hbm, ⟨18, _⟩ => ⟨S1x8192x2048, .f32⟩
  | .hbm, ⟨19, _⟩ => ⟨S1x8192x2048, .f32⟩
  | .hbm, ⟨20, _⟩ => ⟨S1x2048x2048, .f32⟩
  | .hbm, ⟨21, _⟩ => ⟨S2048x2048, .f32⟩
  | .hbm, ⟨22, _⟩ => ⟨S1x8192x2048, .f32⟩
  | .hbm, ⟨23, _⟩ => ⟨S1x8192x2048, .f32⟩
  | .hbm, ⟨24, _⟩ => ⟨S1x8192x2048, .f32⟩
  | .hbm, ⟨25, _⟩ => ⟨S_, .f32⟩
  | .hbm, ⟨26, _⟩ => ⟨S1x8192x2048, .f32⟩
  | .hbm, ⟨27, _⟩ => ⟨S1x8192x2048, .f32⟩
  | .hbm, ⟨28, _⟩ => ⟨S_, .f32⟩
  | .hbm, ⟨29, _⟩ => ⟨S1x8192x2048, .f32⟩
  | .hbm, ⟨30, _⟩ => ⟨S1x8192x2048, .f32⟩
  | .hbm, ⟨31, _⟩ => ⟨S1x8192x2048, .f32⟩
  | .hbm, ⟨32, _⟩ => ⟨S1x8192x2048, .f32⟩
  | .hbm, ⟨33, _⟩ => ⟨S1x2048x2048, .f32⟩
  | .hbm, ⟨34, _⟩ => ⟨S2048x2048, .f32⟩
  | .hbm, ⟨35, _⟩ => ⟨S1x8192x2048, .f32⟩
  | .hbm, ⟨36, _⟩ => ⟨S1x8192x2048, .f32⟩
  | .hbm, ⟨37, _⟩ => ⟨S1x8192x2048, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S_, .f32⟩
  | .hbm, ⟨42, _⟩ => ⟨S1x8192x1, .f32⟩
  | .hbm, ⟨43, _⟩ => ⟨S1x8192x1, .f32⟩
  | .hbm, ⟨44, _⟩ => ⟨S_, .f32⟩
  | .hbm, ⟨45, _⟩ => ⟨S1x8192x1, .f32⟩
  | .hbm, ⟨46, _⟩ => ⟨S1x8192x1, .f32⟩
  | .hbm, ⟨47, _⟩ => ⟨S1x8192x1, .f32⟩
  | .hbm, ⟨48, _⟩ => ⟨S1x8192x2048, .f32⟩
  | .hbm, ⟨49, _⟩ => ⟨S1x8192x2048, .f32⟩
  | .hbm, ⟨50, _⟩ => ⟨S1x2048, .f32⟩
  | .hbm, ⟨51, _⟩ => ⟨S2048, .f32⟩
  | .hbm, ⟨52, _⟩ => ⟨S1x1x2048, .f32⟩
  | .hbm, ⟨53, _⟩ => ⟨S1x8192x2048, .f32⟩
  | .hbm, ⟨54, _⟩ => ⟨S1x8192x2048, .f32⟩
  | .hbm, ⟨55, _⟩ => ⟨S8192x2048, .f32⟩
  | .hbm, ⟨56, _⟩ => ⟨S8192x2048, .f32⟩
  | .hbm, ⟨57, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Kernel7.lean ====
abbrev S1x8192x2048 : Shape := ⟨3, ![1, 8192, 2048]⟩
abbrev S1x8192x48 : Shape := ⟨3, ![1, 8192, 48]⟩
abbrev S1x8192x6144 : Shape := ⟨3, ![1, 8192, 6144]⟩
abbrev S4x2048x2048 : Shape := ⟨3, ![4, 2048, 2048]⟩
abbrev S8192x48 : Shape := ⟨2, ![8192, 48]⟩
abbrev S_ : Shape := ⟨0, ![]⟩
abbrev S8192x128 : Shape := ⟨2, ![8192, 128]⟩
abbrev S8192x2048 : Shape := ⟨2, ![8192, 2048]⟩
abbrev S8192x6144 : Shape := ⟨2, ![8192, 6144]⟩
abbrev S512x2048 : Shape := ⟨2, ![512, 2048]⟩
abbrev S512x128 : Shape := ⟨2, ![512, 128]⟩
abbrev S1x2048x2048 : Shape := ⟨3, ![1, 2048, 2048]⟩
abbrev S2x512x2048 : Shape := ⟨3, ![2, 512, 2048]⟩
abbrev S1x512x2048 : Shape := ⟨3, ![1, 512, 2048]⟩
abbrev S512x1 : Shape := ⟨2, ![512, 1]⟩
abbrev S1x512x128 : Shape := ⟨3, ![1, 512, 128]⟩
abbrev S2048x2048 : Shape := ⟨2, ![2048, 2048]⟩

abbrev nBuf : Space → Nat
  | .hbm => 24
  | .vmem => 16
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x8192x2048, .f32⟩
  | .hbm, ⟨3, _⟩ => ⟨S1x8192x48, .f32⟩
  | .hbm, ⟨4, _⟩ => ⟨S1x8192x6144, .f32⟩
  | .hbm, ⟨5, _⟩ => ⟨S1x8192x6144, .f32⟩
  | .hbm, ⟨6, _⟩ => ⟨S4x2048x2048, .f32⟩
  | .hbm, ⟨7, _⟩ => ⟨S8192x48, .f32⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S8192x128, .bf16⟩
  | .hbm, ⟨12, _⟩ => ⟨S8192x2048, .f32⟩
  | .hbm, ⟨13, _⟩ => ⟨S8192x2048, .bf16⟩
  | .hbm, ⟨14, _⟩ => ⟨S8192x2048, .f32⟩
  | .hbm, ⟨15, _⟩ => ⟨S8192x2048, .bf16⟩
  | .hbm, ⟨16, _⟩ => ⟨S8192x2048, .f32⟩
  | .hbm, ⟨17, _⟩ => ⟨S8192x2048, .bf16⟩
  | .hbm, ⟨18, _⟩ => ⟨S8192x6144, .f32⟩
  | .hbm, ⟨19, _⟩ => ⟨S8192x6144, .bf16⟩
  | .hbm, ⟨20, _⟩ => ⟨S8192x6144, .f32⟩
  | .hbm, ⟨21, _⟩ => ⟨S8192x6144, .bf16⟩
  | .hbm, ⟨22, _⟩ => ⟨S4x2048x2048, .bf16⟩
  | .hbm, ⟨23, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x128, .bf16⟩
  | .local _ .vmem, ⟨7, _⟩ => ⟨S512x128, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S1x2048x2048, .bf16⟩
  | .local _ .vmem, ⟨13, _⟩ => ⟨S512x2048, .bf16⟩
  | .local _ .vmem, ⟨14, _⟩ => ⟨S512x2048, .bf16⟩
  | .local _ .vmem, ⟨15, _⟩ => ⟨S2x512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S1x8192x2048 : Shape := ⟨3, ![1, 8192, 2048]⟩
abbrev S1x8192x48 : Shape := ⟨3, ![1, 8192, 48]⟩
abbrev S1x8192x6144 : Shape := ⟨3, ![1, 8192, 6144]⟩
abbrev S4x2048x2048 : Shape := ⟨3, ![4, 2048, 2048]⟩
abbrev S_ : Shape := ⟨0, ![]⟩
abbrev S1x8192x16x3 : Shape := ⟨4, ![1, 8192, 16, 3]⟩
abbrev S1x8192x16x1 : Shape := ⟨4, ![1, 8192, 16, 1]⟩
abbrev S1x8192x16x128 : Shape := ⟨4, ![1, 8192, 16, 128]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x8192x2048, .f32⟩
  | .hbm, ⟨3, _⟩ => ⟨S1x8192x48, .f32⟩
  | .hbm, ⟨4, _⟩ => ⟨S1x8192x6144, .f32⟩
  | .hbm, ⟨5, _⟩ => ⟨S1x8192x6144, .f32⟩
  | .hbm, ⟨6, _⟩ => ⟨S4x2048x2048, .f32⟩
  | .hbm, ⟨7, _⟩ => ⟨S1x8192x2048, .f32⟩
  | .hbm, ⟨8, _⟩ => ⟨S1x8192x2048, .f32⟩
  | .hbm, ⟨9, _⟩ => ⟨S1x8192x48, .f32⟩
  | .hbm, ⟨10, _⟩ => ⟨S1x8192x48, .f32⟩
  | .hbm, ⟨11, _⟩ => ⟨S_, .f32⟩
  | .hbm, ⟨12, _⟩ => ⟨S1x8192x48, .f32⟩
  | .hbm, ⟨13, _⟩ => ⟨S1x8192x48, .f32⟩
  | .hbm, ⟨14, _⟩ => ⟨S_, .f32⟩
  | .hbm, ⟨15, _⟩ => ⟨S1x8192x48, .f32⟩
  | .hbm, ⟨16, _⟩ => ⟨S1x8192x48, .f32⟩
  | .hbm, ⟨17, _⟩ => ⟨S1x8192x16x3, .f32⟩
  | .hbm, ⟨18, _⟩ => ⟨S1x8192x16x1, .f32⟩
  | .hbm, ⟨19, _⟩ => ⟨S1x8192x16x128, .f32⟩
  | .hbm, ⟨20, _⟩ => ⟨S1x8192x16x128, .f32⟩
  | .hbm, ⟨21, _⟩ => ⟨S1x8192x16x128, .f32⟩
  | .hbm, ⟨22, _⟩ => ⟨S1x8192x16x1, .f32⟩
  | .hbm, ⟨23, _⟩ => ⟨S1x8192x16x128, .f32⟩
  | .hbm, ⟨24, _⟩ => ⟨S1x8192x16x128, .f32⟩
  | .hbm, ⟨25, _⟩ => ⟨S1x8192x16x128, .f32⟩
  | .hbm, ⟨26, _⟩ => ⟨S1x8192x16x128, .f32⟩
  | .hbm, ⟨27, _⟩ => ⟨S1x8192x16x1, .f32⟩
  | .hbm, ⟨28, _⟩ => ⟨S1x8192x16x128, .f32⟩
  | .hbm, ⟨29, _⟩ => ⟨S1x8192x16x128, .f32⟩
  | .hbm, ⟨30, _⟩ => ⟨S1x8192x16x128, .f32⟩
  | .hbm, ⟨31, _⟩ => ⟨S1x8192x16x128, .f32⟩
  | .hbm, ⟨32, _⟩ => ⟨S1x8192x2048, .f32⟩
  | .hbm, ⟨33, _⟩ => ⟨S1x8192x2048, .f32⟩
  | .hbm, ⟨34, _⟩ => ⟨S1x8192x2048, .f32⟩
  | .hbm, ⟨35, _⟩ => ⟨S_, .f32⟩
  | .hbm, ⟨36, _⟩ => ⟨S1x8192x2048, .f32⟩
  | .hbm, ⟨37, _⟩ => ⟨S1x8192x2048, .f32⟩
  | .hbm, ⟨38, _⟩ => ⟨S_, .f32⟩
  | .hbm, ⟨39, _⟩ => ⟨S1x8192x2048, .f32⟩
  | .hbm, ⟨40, _⟩ => ⟨S1x8192x2048, .f32⟩
  | .hbm, ⟨41, _⟩ => ⟨S1x8192x2048, .f32⟩
  | .hbm, ⟨42, _⟩ => ⟨S1x8192x2048, .f32⟩
  | .hbm, ⟨43, _⟩ => ⟨S1x2048x2048, .f32⟩
  | .hbm, ⟨44, _⟩ => ⟨S2048x2048, .f32⟩
  | .hbm, ⟨45, _⟩ => ⟨S1x8192x2048, .f32⟩
  | .hbm, ⟨46, _⟩ => ⟨S1x8192x2048, .f32⟩
  | .hbm, ⟨47, _⟩ => ⟨S1x8192x2048, .f32⟩
  | .hbm, ⟨48, _⟩ => ⟨S_, .f32⟩
  | .hbm, ⟨49, _⟩ => ⟨S1x8192x2048, .f32⟩
  | .hbm, ⟨50, _⟩ => ⟨S1x8192x2048, .f32⟩
  | .hbm, ⟨51, _⟩ => ⟨S_, .f32⟩
  | .hbm, ⟨52, _⟩ => ⟨S1x8192x2048, .f32⟩
  | .hbm, ⟨53, _⟩ => ⟨S1x8192x2048, .f32⟩
  | .hbm, ⟨54, _⟩ => ⟨S1x8192x2048, .f32⟩
  | .hbm, ⟨55, _⟩ => ⟨S8192x2048, .f32⟩
  | .hbm, ⟨56, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Kernel8.lean ====
abbrev S1x8192x2048 : Shape := ⟨3, ![1, 8192, 2048]⟩
abbrev S4x2048x17472 : Shape := ⟨3, ![4, 2048, 17472]⟩
abbrev S8192x2048 : Shape := ⟨2, ![8192, 2048]⟩
abbrev S4x17472x2048 : Shape := ⟨3, ![4, 17472, 2048]⟩
abbrev S8192x6144 : Shape := ⟨2, ![8192, 6144]⟩
abbrev S2048x2048 : Shape := ⟨2, ![2048, 2048]⟩
abbrev S1x512x2048 : Shape := ⟨3, ![1, 512, 2048]⟩
abbrev S1x128x2048 : Shape := ⟨3, ![1, 128, 2048]⟩
abbrev S2048x512 : Shape := ⟨2, ![2048, 512]⟩
abbrev S512x2048 : Shape := ⟨2, ![512, 2048]⟩
abbrev S1x448x2048 : Shape := ⟨3, ![1, 448, 2048]⟩
abbrev S448x2048 : Shape := ⟨2, ![448, 2048]⟩
abbrev S1x64x2048 : Shape := ⟨3, ![1, 64, 2048]⟩
abbrev S64x2048 : Shape := ⟨2, ![64, 2048]⟩

abbrev nBuf : Space → Nat
  | .hbm => 6
  | .vmem => 9
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S8192x2048, .f32⟩
  | .hbm, ⟨3, _⟩ => ⟨S8192x2048, .bf16⟩
  | .hbm, ⟨4, _⟩ => ⟨S4x17472x2048, .f32⟩
  | .hbm, ⟨5, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x128x2048, .f32⟩
  | .local _ .vmem, ⟨5, _⟩ => ⟨S1x128x2048, .f32⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c512_i32 : BitVec 32 := 512#32
  let v1 : BitVec 32 := Scalar.muli v0 c512_i32
  let c11264_i32 : BitVec 32 := 11264#32
  let v2 : BitVec 32 := Scalar.addi c11264_i32 v1
  let c128_i32 : BitVec 32 := 128#32
  let v3 : BitVec 32 := Scalar.divsi v2 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c0_i32_5 : BitVec 32 := 0#32
  let c0_i32_6 : BitVec 32 := 0#32
  let c0_i32_7 : BitVec 32 := 0#32
  ![c0_i32_5.toNat, v19.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S1x8192x2048 : Shape := ⟨3, ![1, 8192, 2048]⟩
abbrev S4x2048x17472 : Shape := ⟨3, ![4, 2048, 17472]⟩
abbrev S1x2048x17472 : Shape := ⟨3, ![1, 2048, 17472]⟩
abbrev S2048x17472 : Shape := ⟨2, ![2048, 17472]⟩
abbrev S1x8192x17472 : Shape := ⟨3, ![1, 8192, 17472]⟩
abbrev S1x8192x6144 : Shape := ⟨3, ![1, 8192, 6144]⟩
abbrev S8192x6144 : Shape := ⟨2, ![8192, 6144]⟩

abbrev nBuf : Space → Nat
  | .hbm => 8
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S1x2048x17472, .f32⟩
  | .hbm, ⟨3, _⟩ => ⟨S2048x17472, .f32⟩
  | .hbm, ⟨4, _⟩ => ⟨S1x8192x17472, .f32⟩
  | .hbm, ⟨5, _⟩ => ⟨S1x8192x6144, .f32⟩
  | .hbm, ⟨6, _⟩ => ⟨S8192x6144, .f32⟩
  | .hbm, ⟨7, _⟩ => ⟨S8192x6144, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S1x8192x2048 : Shape := ⟨3, ![1, 8192, 2048]⟩
abbrev S4x2048x17472 : Shape := ⟨3, ![4, 2048, 17472]⟩
abbrev S8192x2048 : Shape := ⟨2, ![8192, 2048]⟩
abbrev S4x17472x2048 : Shape := ⟨3, ![4, 17472, 2048]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S8192x2048, .f32⟩
  | .hbm, ⟨3, _⟩ => ⟨S8192x2048, .bf16⟩
  | .hbm, ⟨4, _⟩ => ⟨S4x17472x2048, .f32⟩
  | .hbm, ⟨5, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x512x2048, .f32⟩
  | .local _ .vmem, ⟨3, _⟩ => ⟨S1x512x2048, .f32⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S1x8192x2048 : Shape := ⟨3, ![1, 8192, 2048]⟩
abbrev S4x2048x17472 : Shape := ⟨3, ![4, 2048, 17472]⟩
abbrev S1x2048x17472 : Shape := ⟨3, ![1, 2048, 17472]⟩
abbrev S2048x17472 : Shape := ⟨2, ![2048, 17472]⟩
abbrev S1x8192x17472 : Shape := ⟨3, ![1, 8192, 17472]⟩
abbrev S8192x2048 : Shape := ⟨2, ![8192, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S1x2048x17472, .f32⟩
  | .hbm, ⟨3, _⟩ => ⟨S2048x17472, .f32⟩
  | .hbm, ⟨4, _⟩ => ⟨S1x8192x17472, .f32⟩
  | .hbm, ⟨5, _⟩ => ⟨S1x8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S1x8192x2048 : Shape := ⟨3, ![1, 8192, 2048]⟩
abbrev S4x2048x17472 : Shape := ⟨3, ![4, 2048, 17472]⟩
abbrev S8192x2048 : Shape := ⟨2, ![8192, 2048]⟩
abbrev S4x17472x2048 : Shape := ⟨3, ![4, 17472, 2048]⟩
abbrev S8192x128 : Shape := ⟨2, ![8192, 128]⟩
abbrev S2048x2048 : Shape := ⟨2, ![2048, 2048]⟩
abbrev S1x128x2048 : Shape := ⟨3, ![1, 128, 2048]⟩
abbrev S2048x128 : Shape := ⟨2, ![2048, 128]⟩
abbrev S128x2048 : Shape := ⟨2, ![128, 2048]⟩
abbrev S80x2048 : Shape := ⟨2, ![80, 2048]⟩

abbrev nBuf : Space → Nat
  | .hbm => 6
  | .vmem => 6
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S8192x2048, .f32⟩
  | .hbm, ⟨3, _⟩ => ⟨S8192x2048, .bf16⟩
  | .hbm, ⟨4, _⟩ => ⟨S4x17472x2048, .f32⟩
  | .hbm, ⟨5, _⟩ => ⟨S8192x128, .bf16⟩
  | .local _ .vmem, ⟨0, _⟩ => ⟨S2048x2048, .bf16⟩
  | .local _ .vmem, ⟨1, _⟩ => ⟨S2048x2048, .bf16⟩
  | .local _ .vmem, ⟨2, _⟩ => ⟨S1x128x2048, .f32⟩
  | .local _ .vmem, ⟨3, _⟩ => ⟨S2048x128, .bf16⟩
  | .local _ .vmem, ⟨4, _⟩ => ⟨S2048x128, .bf16⟩
  | .local _ .vmem, ⟨5, _⟩ => ⟨S128x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S1x8192x2048 : Shape := ⟨3, ![1, 8192, 2048]⟩
abbrev S4x2048x17472 : Shape := ⟨3, ![4, 2048, 17472]⟩
abbrev S1x2048x17472 : Shape := ⟨3, ![1, 2048, 17472]⟩
abbrev S2048x17472 : Shape := ⟨2, ![2048, 17472]⟩
abbrev S1x8192x17472 : Shape := ⟨3, ![1, 8192, 17472]⟩
abbrev S1x8192x48 : Shape := ⟨3, ![1, 8192, 48]⟩
abbrev S8192x48 : Shape := ⟨2, ![8192, 48]⟩
abbrev S_ : Shape := ⟨0, ![]⟩
abbrev S8192x128 : Shape := ⟨2, ![8192, 128]⟩

abbrev nBuf : Space → Nat
  | .hbm => 11
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S1x2048x17472, .f32⟩
  | .hbm, ⟨3, _⟩ => ⟨S2048x17472, .f32⟩
  | .hbm, ⟨4, _⟩ => ⟨S1x8192x17472, .f32⟩
  | .hbm, ⟨5, _⟩ => ⟨S1x8192x48, .f32⟩
  | .hbm, ⟨6, _⟩ => ⟨S8192x48, .f32⟩
  | .hbm, ⟨7, _⟩ => ⟨S_, .i32⟩
  | .hbm, ⟨8, _⟩ => ⟨S_, .f32⟩
  | .hbm, ⟨9, _⟩ => ⟨S8192x128, .f32⟩
  | .hbm, ⟨10, _⟩ => ⟨S8192x128, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel11.lean ====
abbrev S1x8192x2048 : Shape := ⟨3, ![1, 8192, 2048]⟩
abbrev S4x2048x17472 : Shape := ⟨3, ![4, 2048, 17472]⟩
abbrev S8192x2048 : Shape := ⟨2, ![8192, 2048]⟩
abbrev S4x17472x2048 : Shape := ⟨3, ![4, 17472, 2048]⟩
abbrev S8192x128 : Shape := ⟨2, ![8192, 128]⟩
abbrev S2048x2048 : Shape := ⟨2, ![2048, 2048]⟩
abbrev S1x128x2048 : Shape := ⟨3, ![1, 128, 2048]⟩
abbrev S2048x128 : Shape := ⟨2, ![2048, 128]⟩
abbrev S128x2048 : Shape := ⟨2, ![128, 2048]⟩
abbrev S1x80x2048 : Shape := ⟨3, ![1, 80, 2048]⟩
abbrev S80x2048 : Shape := ⟨2, ![80, 2048]⟩
abbrev S1x48x2048 : Shape := ⟨3, ![1, 48, 2048]⟩
abbrev S48x2048 : Shape := ⟨2, ![48, 2048]⟩
abbrev S112x2048 : Shape := ⟨2, ![112, 2048]⟩

abbrev nBuf : Space → Nat
  | .hbm => 6
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S8192x2048, .f32⟩
  | .hbm, ⟨3, _⟩ => ⟨S8192x2048, .bf16⟩
  | .hbm, ⟨4, _⟩ => ⟨S4x17472x2048, .f32⟩
  | .hbm, ⟨5, _⟩ => ⟨S8192x128, .bf16⟩
  | .local _ .vmem, ⟨0, _⟩ => ⟨S2048x2048, .bf16⟩
  | .local _ .vmem, ⟨1, _⟩ => ⟨S2048x2048, .bf16⟩
  | .local _ .vmem, ⟨2, _⟩ => ⟨S1x128x2048, .f32⟩
  | .local _ .vmem, ⟨3, _⟩ => ⟨S1x128x2048, .f32⟩
  | .local _ .vmem, ⟨4, _⟩ => ⟨S2048x128, .bf16⟩
  | .local _ .vmem, ⟨5, _⟩ => ⟨S2048x128, .bf16⟩
  | .local _ .vmem, ⟨6, _⟩ => ⟨S128x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c88_i32 : BitVec 32 := 88#32
  let v0 : BitVec 32 := Scalar.addi c88_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c11264_i32 : BitVec 32 := 11264#32
  let v2 : BitVec 32 := Scalar.addi c11264_i32 v1
  let c128_i32_0 : BitVec 32 := 128#32
  let v3 : BitVec 32 := Scalar.divsi v2 c128_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  let c0_i32_8 : BitVec 32 := 0#32
  ![c0_i32_6.toNat, v19.toNat, c0_i32_7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S1x8192x2048 : Shape := ⟨3, ![1, 8192, 2048]⟩
abbrev S4x2048x17472 : Shape := ⟨3, ![4, 2048, 17472]⟩
abbrev S1x2048x17472 : Shape := ⟨3, ![1, 2048, 17472]⟩
abbrev S2048x17472 : Shape := ⟨2, ![2048, 17472]⟩
abbrev S1x8192x17472 : Shape := ⟨3, ![1, 8192, 17472]⟩
abbrev S1x8192x16 : Shape := ⟨3, ![1, 8192, 16]⟩
abbrev S8192x16 : Shape := ⟨2, ![8192, 16]⟩
abbrev S_ : Shape := ⟨0, ![]⟩
abbrev S8192x128 : Shape := ⟨2, ![8192, 128]⟩

abbrev nBuf : Space → Nat
  | .hbm => 11
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x2048x17472, .f32⟩
  | .hbm, ⟨2, _⟩ => ⟨S1x2048x17472, .f32⟩
  | .hbm, ⟨3, _⟩ => ⟨S2048x17472, .f32⟩
  | .hbm, ⟨4, _⟩ => ⟨S1x8192x17472, .f32⟩
  | .hbm, ⟨5, _⟩ => ⟨S1x8192x16, .f32⟩
  | .hbm, ⟨6, _⟩ => ⟨S8192x16, .f32⟩
  | .hbm, ⟨7, _⟩ => ⟨S_, .i32⟩
  | .hbm, ⟨8, _⟩ => ⟨S_, .f32⟩
  | .hbm, ⟨9, _⟩ => ⟨S8192x128, .f32⟩
  | .hbm, ⟨10, _⟩ => ⟨S8192x128, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel12.lean ====
abbrev S1x8192x2048 : Shape := ⟨3, ![1, 8192, 2048]⟩
abbrev S4x2048 : Shape := ⟨2, ![4, 2048]⟩
abbrev S8192x2048 : Shape := ⟨2, ![8192, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S4x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S1x8192x2048 : Shape := ⟨3, ![1, 8192, 2048]⟩
abbrev S4x2048 : Shape := ⟨2, ![4, 2048]⟩
abbrev S_ : Shape := ⟨0, ![]⟩
abbrev S1x8192 : Shape := ⟨2, ![1, 8192]⟩
abbrev S1x8192x1 : Shape := ⟨3, ![1, 8192, 1]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 22
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x2048, .f32⟩
  | .hbm, ⟨2, _⟩ => ⟨S1x8192x2048, .f32⟩
  | .hbm, ⟨3, _⟩ => ⟨S_, .f32⟩
  | .hbm, ⟨4, _⟩ => ⟨S1x8192, .f32⟩
  | .hbm, ⟨5, _⟩ => ⟨S1x8192x1, .f32⟩
  | .hbm, ⟨6, _⟩ => ⟨S_, .f32⟩
  | .hbm, ⟨7, _⟩ => ⟨S1x8192x1, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S1x8192x1, .f32⟩
  | .hbm, ⟨13, _⟩ => ⟨S1x8192x2048, .f32⟩
  | .hbm, ⟨14, _⟩ => ⟨S1x8192x2048, .f32⟩
  | .hbm, ⟨15, _⟩ => ⟨S1x2048, .f32⟩
  | .hbm, ⟨16, _⟩ => ⟨S2048, .f32⟩
  | .hbm, ⟨17, _⟩ => ⟨S1x1x2048, .f32⟩
  | .hbm, ⟨18, _⟩ => ⟨S1x8192x2048, .f32⟩
  | .hbm, ⟨19, _⟩ => ⟨S1x8192x2048, .f32⟩
  | .hbm, ⟨20, _⟩ => ⟨S8192x2048, .f32⟩
  | .hbm, ⟨21, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel13.lean ====
abbrev S1x8192x1024 : Shape := ⟨3, ![1, 8192, 1024]⟩
abbrev S4x2x32x128 : Shape := ⟨4, ![4, 2, 32, 128]⟩
abbrev S4x2x4096x256 : Shape := ⟨4, ![4, 2, 4096, 256]⟩
abbrev S4x2x256 : Shape := ⟨3, ![4, 2, 256]⟩
abbrev S4x2x256x128 : Shape := ⟨4, ![4, 2, 256, 128]⟩
abbrev S4x2x128 : Shape := ⟨3, ![4, 2, 128]⟩
abbrev S8192x1024 : Shape := ⟨2, ![8192, 1024]⟩
abbrev S1x2x32x128 : Shape := ⟨4, ![1, 2, 32, 128]⟩
abbrev S2x32x128 : Shape := ⟨3, ![2, 32, 128]⟩
abbrev S1x2x4096x256 : Shape := ⟨4, ![1, 2, 4096, 256]⟩
abbrev S2x4096x256 : Shape := ⟨3, ![2, 4096, 256]⟩
abbrev S1x2x256 : Shape := ⟨3, ![1, 2, 256]⟩
abbrev S2x256 : Shape := ⟨2, ![2, 256]⟩
abbrev S2x1x256 : Shape := ⟨3, ![2, 1, 256]⟩
abbrev S1x2x256x128 : Shape := ⟨4, ![1, 2, 256, 128]⟩
abbrev S2x256x128 : Shape := ⟨3, ![2, 256, 128]⟩
abbrev S1x2x128 : Shape := ⟨3, ![1, 2, 128]⟩
abbrev S2x128 : Shape := ⟨2, ![2, 128]⟩
abbrev S2x1x128 : Shape := ⟨3, ![2, 1, 128]⟩
abbrev S2x4x512x128 : Shape := ⟨4, ![2, 4, 512, 128]⟩
abbrev S8192x128 : Shape := ⟨2, ![8192, 128]⟩
abbrev S1x32x128 : Shape := ⟨3, ![1, 32, 128]⟩
abbrev S1x4096x256 : Shape := ⟨3, ![1, 4096, 256]⟩
abbrev S1x1x256 : Shape := ⟨3, ![1, 1, 256]⟩
abbrev S1x256x128 : Shape := ⟨3, ![1, 256, 128]⟩
abbrev S1x1x128 : Shape := ⟨3, ![1, 1, 128]⟩
abbrev S1x1x512x128 : Shape := ⟨4, ![1, 1, 512, 128]⟩
abbrev S512x2048 : Shape := ⟨2, ![512, 2048]⟩
abbrev S512x128 : Shape := ⟨2, ![512, 128]⟩
abbrev S1x128 : Shape := ⟨2, ![1, 128]⟩
abbrev S1x2048x256 : Shape := ⟨3, ![1, 2048, 256]⟩
abbrev S2048x256 : Shape := ⟨2, ![2048, 256]⟩
abbrev S512x256 : Shape := ⟨2, ![512, 256]⟩
abbrev S1x256 : Shape := ⟨2, ![1, 256]⟩
abbrev S256x128 : Shape := ⟨2, ![256, 128]⟩

abbrev nBuf : Space → Nat
  | .hbm => 22
  | .vmem => 16
  | .smem => 0
  | _ => 0

abbrev bufTy : (tb : Table) → Fin (tcTables nBuf tb) → BufTy
  | .hbm, ⟨0, _⟩ => ⟨S1x8192x1024, .f32⟩
  | .hbm, ⟨1, _⟩ => ⟨S4x2x32x128, .f32⟩
  | .hbm, ⟨2, _⟩ => ⟨S4x2x4096x256, .f32⟩
  | .hbm, ⟨3, _⟩ => ⟨S4x2x256, .f32⟩
  | .hbm, ⟨4, _⟩ => ⟨S4x2x256x128, .f32⟩
  | .hbm, ⟨5, _⟩ => ⟨S4x2x128, .f32⟩
  | .hbm, ⟨6, _⟩ => ⟨S8192x1024, .f32⟩
  | .hbm, ⟨7, _⟩ => ⟨S1x2x32x128, .f32⟩
  | .hbm, ⟨8, _⟩ => ⟨S2x32x128, .f32⟩
  | .hbm, ⟨9, _⟩ => ⟨S1x2x4096x256, .f32⟩
  | .hbm, ⟨10, _⟩ => ⟨S2x4096x256, .f32⟩
  | .hbm, ⟨11, _⟩ => ⟨S2x4096x256, .bf16⟩
  | .hbm, ⟨12, _⟩ => ⟨S1x2x256, .f32⟩
  | .hbm, ⟨13, _⟩ => ⟨S2x256, .f32⟩
  | .hbm, ⟨14, _⟩ => ⟨S2x1x256, .f32⟩
  | .hbm, ⟨15, _⟩ => ⟨S1x2x256x128, .f32⟩
  | .hbm, ⟨16, _⟩ => ⟨S2x256x128, .f32⟩
  | .hbm, ⟨17, _⟩ => ⟨S2x256x128, .bf16⟩
  | .hbm, ⟨18, _⟩ => ⟨S1x2x128, .f32⟩
  | .hbm, ⟨19, _⟩ => ⟨S2x128, .f32⟩
  | .hbm, ⟨20, _⟩ => ⟨S2x1x128, .f32⟩
  | .hbm, ⟨21, _⟩ => ⟨S2x4x512x128, .bf16⟩
  | .local _ .vmem, ⟨0, _⟩ => ⟨S8192x128, .f32⟩
  | .local _ .vmem, ⟨1, _⟩ => ⟨S8192x128, .f32⟩
  | .local _ .vmem, ⟨2, _⟩ => ⟨S1x32x128, .f32⟩
  | .local _ .vmem, ⟨3, _⟩ => ⟨S1x32x128, .f32⟩
  | .local _ .vmem, ⟨4, _⟩ => ⟨S1x4096x256, .bf16⟩
  | .local _ .vmem, ⟨5, _⟩ => ⟨S1x4096x256, .bf16⟩
  | .local _ .vmem, ⟨6, _⟩ => ⟨S1x1x256, .f32⟩
  | .local _ .vmem, ⟨7, _⟩ => ⟨S1x1x256, .f32⟩
  | .local _ .vmem, ⟨8, _⟩ => ⟨S1x256x128, .bf16⟩
  | .local _ .vmem, ⟨9, _⟩ => ⟨S1x256x128, .bf16⟩
  | .local _ .vmem, ⟨10, _⟩ => ⟨S1x1x128, .f32⟩
  | .local _ .vmem, ⟨11, _⟩ => ⟨S1x1x128, .f32⟩
  | .local _ .vmem, ⟨12, _⟩ => ⟨S1x1x512x128, .bf16⟩
  | .local _ .vmem, ⟨13, _⟩ => ⟨S1x1x512x128, .bf16⟩
  | .local _ .vmem, ⟨14, _⟩ => ⟨S512x2048, .bf16⟩
  | .local _ .vmem, ⟨15, _⟩ => ⟨S512x2048, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S1x8192x1024 : Shape := ⟨3, ![1, 8192, 1024]⟩
abbrev S4x2x32x128 : Shape := ⟨4, ![4, 2, 32, 128]⟩
abbrev S4x2x4096x256 : Shape := ⟨4, ![4, 2, 4096, 256]⟩
abbrev S4x2x256 : Shape := ⟨3, ![4, 2, 256]⟩
abbrev S4x2x256x128 : Shape := ⟨4, ![4, 2, 256, 128]⟩
abbrev S4x2x128 : Shape := ⟨3, ![4, 2, 128]⟩
abbrev S1x8192x512 : Shape := ⟨3, ![1, 8192, 512]⟩
abbrev S8192x512 : Shape := ⟨2, ![8192, 512]⟩
abbrev S1x1x32x128 : Shape := ⟨4, ![1, 1, 32, 128]⟩
abbrev S32x128 : Shape := ⟨2, ![32, 128]⟩
abbrev S1x1x4096x256 : Shape := ⟨4, ![1, 1, 4096, 256]⟩
abbrev S4096x256 : Shape := ⟨2, ![4096, 256]⟩
abbrev S1x1x256 : Shape := ⟨3, ![1, 1, 256]⟩
abbrev S256 : Shape := ⟨1, ![256]⟩
abbrev S1x1x256x128 : Shape := ⟨4, ![1, 1, 256, 128]⟩
abbrev S256x128 : Shape := ⟨2, ![256, 128]⟩
abbrev S1x1x128 : Shape := ⟨3, ![1, 1, 128]⟩
abbrev S128 : Shape := ⟨1, ![128]⟩
abbrev S512x16x4x128 : Shape := ⟨4, ![512, 16, 4, 128]⟩
abbrev S16x128 : Shape := ⟨2, ![16, 128]⟩
abbrev S1x16x1x128 : Shape := ⟨4, ![1, 16, 1, 128]⟩
abbrev S511x16x4x128 : Shape := ⟨4, ![511, 16, 4, 128]⟩
abbrev S_ : Shape := ⟨0, ![]⟩
abbrev S512x32x4x128 : Shape := ⟨4, ![512, 32, 4, 128]⟩
abbrev S512x4x32x128 : Shape := ⟨4, ![512, 4, 32, 128]⟩
abbrev S512x4x4096 : Shape := ⟨3, ![512, 4, 4096]⟩
abbrev S512x4x256 : Shape := ⟨3, ![512, 4, 256]⟩
abbrev S512x4x128 : Shape := ⟨3, ![512, 4, 128]⟩
abbrev S1x512x4x128 : Shape := ⟨4, ![1, 512, 4, 128]⟩
abbrev S2x512x4x128 : Shape := ⟨4, ![2, 512, 4, 128]⟩
abbrev S2x4x512x128 : Shape := ⟨4, ![2, 4, 512, 128]⟩

abbrev nBuf : Space → Nat
  | .hbm => 117
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S4x2x32x128, .f32⟩
  | .hbm, ⟨2, _⟩ => ⟨S4x2x4096x256, .f32⟩
  | .hbm, ⟨3, _⟩ => ⟨S4x2x256, .f32⟩
  | .hbm, ⟨4, _⟩ => ⟨S4x2x256x128, .f32⟩
  | .hbm, ⟨5, _⟩ => ⟨S4x2x128, .f32⟩
  | .hbm, ⟨6, _⟩ => ⟨S1x8192x512, .f32⟩
  | .hbm, ⟨7, _⟩ => ⟨S8192x512, .f32⟩
  | .hbm, ⟨8, _⟩ => ⟨S1x1x32x128, .f32⟩
  | .hbm, ⟨9, _⟩ => ⟨S32x128, .f32⟩
  | .hbm, ⟨10, _⟩ => ⟨S1x1x4096x256, .f32⟩
  | .hbm, ⟨11, _⟩ => ⟨S4096x256, .f32⟩
  | .hbm, ⟨12, _⟩ => ⟨S1x1x256, .f32⟩
  | .hbm, ⟨13, _⟩ => ⟨S256, .f32⟩
  | .hbm, ⟨14, _⟩ => ⟨S1x1x256x128, .f32⟩
  | .hbm, ⟨15, _⟩ => ⟨S256x128, .f32⟩
  | .hbm, ⟨16, _⟩ => ⟨S1x1x128, .f32⟩
  | .hbm, ⟨17, _⟩ => ⟨S128, .f32⟩
  | .hbm, ⟨18, _⟩ => ⟨S512x16x4x128, .f32⟩
  | .hbm, ⟨19, _⟩ => ⟨S16x128, .f32⟩
  | .hbm, ⟨20, _⟩ => ⟨S1x16x1x128, .f32⟩
  | .hbm, ⟨21, _⟩ => ⟨S512x16x4x128, .f32⟩
  | .hbm, ⟨22, _⟩ => ⟨S512x16x4x128, .f32⟩
  | .hbm, ⟨23, _⟩ => ⟨S511x16x4x128, .f32⟩
  | .hbm, ⟨24, _⟩ => ⟨S16x128, .f32⟩
  | .hbm, ⟨25, _⟩ => ⟨S1x16x1x128, .f32⟩
  | .hbm, ⟨26, _⟩ => ⟨S511x16x4x128, .f32⟩
  | .hbm, ⟨27, _⟩ => ⟨S511x16x4x128, .f32⟩
  | .hbm, ⟨28, _⟩ => ⟨S_, .i32⟩
  | .hbm, ⟨29, _⟩ => ⟨S_, .f32⟩
  | .hbm, ⟨30, _⟩ => ⟨S512x16x4x128, .f32⟩
  | .hbm, ⟨31, _⟩ => ⟨S512x32x4x128, .f32⟩
  | .hbm, ⟨32, _⟩ => ⟨S512x4x32x128, .f32⟩
  | .hbm, ⟨33, _⟩ => ⟨S512x4x4096, .f32⟩
  | .hbm, ⟨34, _⟩ => ⟨S512x4x256, .f32⟩
  | .hbm, ⟨35, _⟩ => ⟨S1x1x256, .f32⟩
  | .hbm, ⟨36, _⟩ => ⟨S512x4x256, .f32⟩
  | .hbm, ⟨37, _⟩ => ⟨S512x4x256, .f32⟩
  | .hbm, ⟨38, _⟩ => ⟨S512x4x256, .f32⟩
  | .hbm, ⟨39, _⟩ => ⟨S512x4x256, .f32⟩
  | .hbm, ⟨40, _⟩ => ⟨S_, .f32⟩
  | .hbm, ⟨41, _⟩ => ⟨S512x4x256, .f32⟩
  | .hbm, ⟨42, _⟩ => ⟨S512x4x256, .f32⟩
  | .hbm, ⟨43, _⟩ => ⟨S512x4x256, .f32⟩
  | .hbm, ⟨44, _⟩ => ⟨S_, .f32⟩
  | .hbm, ⟨45, _⟩ => ⟨S512x4x256, .f32⟩
  | .hbm, ⟨46, _⟩ => ⟨S512x4x256, .f32⟩
  | .hbm, ⟨47, _⟩ => ⟨S512x4x256, .f32⟩
  | .hbm, ⟨48, _⟩ => ⟨S_, .f32⟩
  | .hbm, ⟨49, _⟩ => ⟨S512x4x256, .f32⟩
  | .hbm, ⟨50, _⟩ => ⟨S512x4x256, .f32⟩
  | .hbm, ⟨51, _⟩ => ⟨S_, .f32⟩
  | .hbm, ⟨52, _⟩ => ⟨S512x4x256, .f32⟩
  | .hbm, ⟨53, _⟩ => ⟨S512x4x256, .f32⟩
  | .hbm, ⟨54, _⟩ => ⟨S512x4x256, .f32⟩
  | .hbm, ⟨55, _⟩ => ⟨S512x4x128, .f32⟩
  | .hbm, ⟨56, _⟩ => ⟨S1x1x128, .f32⟩
  | .hbm, ⟨57, _⟩ => ⟨S512x4x128, .f32⟩
  | .hbm, ⟨58, _⟩ => ⟨S512x4x128, .f32⟩
  | .hbm, ⟨59, _⟩ => ⟨S1x8192x512, .f32⟩
  | .hbm, ⟨60, _⟩ => ⟨S8192x512, .f32⟩
  | .hbm, ⟨61, _⟩ => ⟨S1x1x32x128, .f32⟩
  | .hbm, ⟨62, _⟩ => ⟨S32x128, .f32⟩
  | .hbm, ⟨63, _⟩ => ⟨S1x1x4096x256, .f32⟩
  | .hbm, ⟨64, _⟩ => ⟨S4096x256, .f32⟩
  | .hbm, ⟨65, _⟩ => ⟨S1x1x256, .f32⟩
  | .hbm, ⟨66, _⟩ => ⟨S256, .f32⟩
  | .hbm, ⟨67, _⟩ => ⟨S1x1x256x128, .f32⟩
  | .hbm, ⟨68, _⟩ => ⟨S256x128, .f32⟩
  | .hbm, ⟨69, _⟩ => ⟨S1x1x128, .f32⟩
  | .hbm, ⟨70, _⟩ => ⟨S128, .f32⟩
  | .hbm, ⟨71, _⟩ => ⟨S512x16x4x128, .f32⟩
  | .hbm, ⟨72, _⟩ => ⟨S16x128, .f32⟩
  | .hbm, ⟨73, _⟩ => ⟨S1x16x1x128, .f32⟩
  | .hbm, ⟨74, _⟩ => ⟨S512x16x4x128, .f32⟩
  | .hbm, ⟨75, _⟩ => ⟨S512x16x4x128, .f32⟩
  | .hbm, ⟨76, _⟩ => ⟨S511x16x4x128, .f32⟩
  | .hbm, ⟨77, _⟩ => ⟨S16x128, .f32⟩
  | .hbm, ⟨78, _⟩ => ⟨S1x16x1x128, .f32⟩
  | .hbm, ⟨79, _⟩ => ⟨S511x16x4x128, .f32⟩
  | .hbm, ⟨80, _⟩ => ⟨S511x16x4x128, .f32⟩
  | .hbm, ⟨81, _⟩ => ⟨S_, .i32⟩
  | .hbm, ⟨82, _⟩ => ⟨S_, .f32⟩
  | .hbm, ⟨83, _⟩ => ⟨S512x16x4x128, .f32⟩
  | .hbm, ⟨84, _⟩ => ⟨S512x32x4x128, .f32⟩
  | .hbm, ⟨85, _⟩ => ⟨S512x4x32x128, .f32⟩
  | .hbm, ⟨86, _⟩ => ⟨S512x4x4096, .f32⟩
  | .hbm, ⟨87, _⟩ => ⟨S512x4x256, .f32⟩
  | .hbm, ⟨88, _⟩ => ⟨S1x1x256, .f32⟩
  | .hbm, ⟨89, _⟩ => ⟨S512x4x256, .f32⟩
  | .hbm, ⟨90, _⟩ => ⟨S512x4x256, .f32⟩
  | .hbm, ⟨91, _⟩ => ⟨S512x4x256, .f32⟩
  | .hbm, ⟨92, _⟩ => ⟨S512x4x256, .f32⟩
  | .hbm, ⟨93, _⟩ => ⟨S_, .f32⟩
  | .hbm, ⟨94, _⟩ => ⟨S512x4x256, .f32⟩
  | .hbm, ⟨95, _⟩ => ⟨S512x4x256, .f32⟩
  | .hbm, ⟨96, _⟩ => ⟨S512x4x256, .f32⟩
  | .hbm, ⟨97, _⟩ => ⟨S_, .f32⟩
  | .hbm, ⟨98, _⟩ => ⟨S512x4x256, .f32⟩
  | .hbm, ⟨99, _⟩ => ⟨S512x4x256, .f32⟩
  | .hbm, ⟨100, _⟩ => ⟨S512x4x256, .f32⟩
  | .hbm, ⟨101, _⟩ => ⟨S_, .f32⟩
  | .hbm, ⟨102, _⟩ => ⟨S512x4x256, .f32⟩
  | .hbm, ⟨103, _⟩ => ⟨S512x4x256, .f32⟩
  | .hbm, ⟨104, _⟩ => ⟨S_, .f32⟩
  | .hbm, ⟨105, _⟩ => ⟨S512x4x256, .f32⟩
  | .hbm, ⟨106, _⟩ => ⟨S512x4x256, .f32⟩
  | .hbm, ⟨107, _⟩ => ⟨S512x4x256, .f32⟩
  | .hbm, ⟨108, _⟩ => ⟨S512x4x128, .f32⟩
  | .hbm, ⟨109, _⟩ => ⟨S1x1x128, .f32⟩
  | .hbm, ⟨110, _⟩ => ⟨S512x4x128, .f32⟩
  | .hbm, ⟨111, _⟩ => ⟨S512x4x128, .f32⟩
  | .hbm, ⟨112, _⟩ => ⟨S1x512x4x128, .f32⟩
  | .hbm, ⟨113, _⟩ => ⟨S1x512x4x128, .f32⟩
  | .hbm, ⟨114, _⟩ => ⟨S2x512x4x128, .f32⟩
  | .hbm, ⟨115, _⟩ => ⟨S2x4x512x128, .f32⟩
  | .hbm, ⟨116, _⟩ => ⟨S2x4x512x128, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_0 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_c_3 : Ref sig .tc := ⟨.hbm, 81, rfl⟩
abbrev main_call1_v0 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_4 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_5 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_6 : Ref sig .tc := ⟨.hbm, 101, rfl⟩
abbrev main_v85 : Ref sig .tc := ⟨.hbm, 102, rfl⟩
abbrev main_v86 : Ref sig .tc := ⟨.hbm, 103, rfl⟩
abbrev main_cst_7 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩

abbrev nD : Nat := 1
abbrev τ : Topo := Topo.v7x

variable {F : FTy → Type} [FloatOps F]
-- ==== Proof.RefWin.lean ====
module

public import proofs.«01_k».proof.Proof.Gen.ReferenceIdeal
public import Idealize.ShloMosaic.Lib.Pointwise

/-! A running sum along one axis, written as a sum over a padded window, read entry by entry. -/

@[expose] public section

set_option maxRecDepth 16384

noncomputable section

namespace Cert.ReferenceIdeal.Side

open Idealize.ShloMosaic Idealize.ShloMosaic.TcCoe
open Cert.ReferenceIdeal

/-- A left fold of additions is the start plus the sum. -/
theorem foldl_add_eq {n : ℕ} (f : Fin n → EReal) (a : EReal) :
    (List.finRange n).foldl (fun r i => r + f i) a = a + ∑ i, f i := by
  have key : ∀ (l : List (Fin n)) (a : EReal), l.foldl (fun r i => r + f i) a = a + (l.map f).sum := by
    intro l
    induction l with
    | nil => intro a; simp
    | cons i l ih => intro a; rw [List.foldl_cons, ih, List.map_cons, List.sum_cons, add_assoc]
  rw [key, Fin.sum_univ_def]

/-- The window's indices are the places of a chunk. -/
def winEquiv : (⟨5, ![1, 1, 64, 1, 1]⟩ : Shape).Idx ≃ Fin 64 where
  toFun i := i 2
  invFun s := ix5 0 0 s 0 0
  left_inv i := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
  right_inv s := rfl

/-- The sum over the window that ends at place `t` is the sum over the places up to `t`. -/
theorem sum_window_eq (X : Fin 64 → EReal) (t : Fin 64) :
    (∑ n : Fin 64, if h : 63 ≤ t.val + n.val then X ⟨t.val + n.val - 63, by omega⟩ else 0) = ∑ s : Fin 64, if s ≤ t then X s else 0 := by
  refine Fintype.sum_equiv (Equiv.addRight (t + 1)) _ _ fun n => ?_
  have e : ((Equiv.addRight (t + 1)) n).val = (n.val + (t.val + 1) % 64) % 64 := by
    show (n + (t + 1)).val = _
    rw [Fin.val_add, Fin.val_add]; rfl
  have ht := t.isLt
  have hn := n.isLt
  by_cases h : 63 ≤ t.val + n.val
  · rw [dif_pos h, if_pos (by rw [Fin.le_def, e]; omega)]
    exact congrArg X (Fin.ext (by rw [e]; show t.val + n.val - 63 = _; omega))
  · rw [dif_neg h, if_neg (by rw [Fin.le_def, e]; omega)]

/-- The running sum of an array of chunks along the places of a chunk. -/
theorem cumsum_at (x : FVec Ideal S1x128x64x4x256 .f32) (v : FVec Ideal S_ .f32) (hv : ∀ i, v i = (0 : EReal))
    (hw : S1x128x64x4x256.ReduceWindows ![1, 1, 64, 1, 1] ![1, 1, 1, 1, 1] ![0, 0, 63, 0, 0] ![0, 0, 0, 0, 0] S1x128x64x4x256)
    (hu : 0 < S_.numel) (g : Fin 128) (t : Fin 64) (h : Fin 4) (d : Fin 256) :
    Host.reduceWindowAdd ![1, 1, 64, 1, 1] ![1, 1, 1, 1, 1] ![0, 0, 63, 0, 0] ![0, 0, 0, 0, 0] x v hw hu (ix5 0 g t h d)
      = ∑ s : Fin 64, if s ≤ t then (x (ix5 0 g s h d) : EReal) else 0 := by
  rw [← sum_window_eq (fun s => x (ix5 0 g s h d)) t]
  refine (foldl_add_eq _ _).trans ?_
  have hv0 : (v (Shape.Idx.first hu) : EReal) = 0 := hv _
  refine (congrArg₂ (· + ·) hv0 (Fintype.sum_equiv ((Shape.rowMajor _).symm.trans winEquiv) _ _ fun n => ?_)).trans (zero_add _)
  obtain ⟨s, hq⟩ : ∃ s, (Shape.rowMajor (⟨5, ![1, 1, 64, 1, 1]⟩ : Shape)).symm n = ix5 0 0 s 0 0 := ⟨_, (winEquiv.symm_apply_apply _).symm⟩
  refine Eq.trans ?_ (congrArg (fun k : Fin 64 => if hk : 63 ≤ t.val + k.val then (x (ix5 0 g ⟨t.val + k.val - 63, by omega⟩ h d) : EReal) else 0)
    (show s = ((Shape.rowMajor _).symm.trans winEquiv) n from (congrArg winEquiv hq).symm))
  beta_reduce
  have hp : ∀ a : Fin 5, (Shape.rowMajor (⟨5, ![1, 1, 64, 1, 1]⟩ : Shape)).symm n a = ix5 (0 : Fin 1) (0 : Fin 1) s (0 : Fin 1) (0 : Fin 1) a := fun a => by rw [hq]
  have hst := t.isLt
  have hss := s.isLt
  by_cases c : 63 ≤ t.val + s.val
  · rw [dif_pos c]
    have hin : ∀ a : Fin 5, (![0, 0, 63, 0, 0] : Fin 5 → ℕ) a ≤ (ix5 (0 : Fin 1) g t h d a).val * (![1, 1, 1, 1, 1] : Fin 5 → ℕ) a
          + ((Shape.rowMajor (⟨5, ![1, 1, 64, 1, 1]⟩ : Shape)).symm n a).val
        ∧ (ix5 (0 : Fin 1) g t h d a).val * (![1, 1, 1, 1, 1] : Fin 5 → ℕ) a + ((Shape.rowMajor (⟨5, ![1, 1, 64, 1, 1]⟩ : Shape)).symm n a).val
          - (![0, 0, 63, 0, 0] : Fin 5 → ℕ) a < S1x128x64x4x256.size a := by
      intro a
      rw [hp a]
      match a with
      | ⟨0, _⟩ => exact ⟨Nat.zero_le _, show 0 * 1 + 0 - 0 < 1 by decide⟩
      | ⟨1, _⟩ => exact ⟨Nat.zero_le _, by show g.val * 1 + 0 - 0 < 128; omega⟩
      | ⟨2, _⟩ => exact ⟨by show 63 ≤ t.val * 1 + s.val; omega, by show t.val * 1 + s.val - 63 < 64; omega⟩
      | ⟨3, _⟩ => exact ⟨Nat.zero_le _, by show h.val * 1 + 0 - 0 < 4; omega⟩
      | ⟨4, _⟩ => exact ⟨Nat.zero_le _, by show d.val * 1 + 0 - 0 < 256; omega⟩
    refine (dif_pos hin).trans (congrArg x (funext fun a => Fin.ext ?_))
    show (ix5 (0 : Fin 1) g t h d a).val * (![1, 1, 1, 1, 1] : Fin 5 → ℕ) a + ((Shape.rowMajor (⟨5, ![1, 1, 64, 1, 1]⟩ : Shape)).symm n a).val
          - (![0, 0, 63, 0, 0] : Fin 5 → ℕ) a = _
    rw [hp a]
    match a with
    | ⟨0, _⟩ => rfl
    | ⟨1, _⟩ => show g.val * 1 + 0 - 0 = g.val; omega
    | ⟨2, _⟩ => show t.val * 1 + s.val - 63 = t.val + s.val - 63; omega
    | ⟨3, _⟩ => show h.val * 1 + 0 - 0 = h.val; omega
    | ⟨4, _⟩ => show d.val * 1 + 0 - 0 = d.val; omega
  · rw [dif_neg c]
    refine (dif_neg fun hin => c ?_).trans hv0
    have := (hin 2).1
    have e := congrArg Fin.val (hp 2)
    change 63 ≤ t.val * 1 + ((Shape.rowMajor (⟨5, ![1, 1, 64, 1, 1]⟩ : Shape)).symm n 2).val at this
    rw [e] at this
    change 63 ≤ t.val * 1 + s.val at this
    omega

end Cert.ReferenceIdeal.Side

end
-- ==== Proof.Spec.lean ====
module

public import Idealize.ShloMosaic.Lib.Pointwise

/-! Chunked gated linear attention as plain functions on extended reals: the sums that both programs compute.
Rows are counted as a chunk (of 128) and a place in it (of 64), columns as a head (of 4) and a place in it
(256 for queries, keys and decays; 512 for values). -/

@[expose] public section

set_option maxRecDepth 16384

noncomputable section

namespace Cert.Gla

open Idealize.ShloMosaic

abbrev SC : Shape := ⟨3, ![1, 8192, 6144]⟩
abbrev SA : Shape := ⟨3, ![1, 8192, 16]⟩
abbrev SW : Shape := ⟨2, ![16, 1024]⟩
abbrev SB : Shape := ⟨1, ![1024]⟩
abbrev SN : Shape := ⟨1, ![512]⟩

/-- The row of chunk `g` and place `s`. -/
def row (g : Fin 128) (s : Fin 64) : Fin 8192 := ⟨64 * g.val + s.val, by omega⟩
/-- The column of head `h` and place `d` among 1024. -/
def colK (h : Fin 4) (d : Fin 256) : Fin 1024 := ⟨256 * h.val + d.val, by omega⟩

/-- `1/16`. -/
def cS : EReal := Ideal.ofBits .f32 0x3D800000#32

/-- The logarithm of the logistic function, divided by the gate's temperature 16. -/
def lsg (z : EReal) : EReal :=
  (0 - (max (0 - z) 0 + Ideal.log1p (Ideal.exp (0 - (FloatOps.absf (F := Ideal) (φ := .f32) (0 - z) : EReal))))) * cS

variable (x : SC.Idx → EReal) (a : SA.Idx → EReal) (w : SW.Idx → EReal) (b : SB.Idx → EReal) (nw : SN.Idx → EReal)

/-- Queries, keys and values. -/
def qf (g : Fin 128) (s : Fin 64) (h : Fin 4) (d : Fin 256) : EReal := x (ix3 0 (row g s) ⟨2048 + (256 * h.val + d.val), by omega⟩)
def kf (g : Fin 128) (s : Fin 64) (h : Fin 4) (d : Fin 256) : EReal := x (ix3 0 (row g s) ⟨3072 + (256 * h.val + d.val), by omega⟩)
def vf (g : Fin 128) (s : Fin 64) (h : Fin 4) (e : Fin 512) : EReal := x (ix3 0 (row g s) ⟨4096 + (512 * h.val + e.val), by omega⟩)

/-- The log decays. -/
def la (g : Fin 128) (s : Fin 64) (h : Fin 4) (d : Fin 256) : EReal :=
  lsg ((∑ r : Fin 16, a (ix3 0 (row g s) r) * w (ix2 r (colK h d))) + b (ix1 (colK h d)))

/-- Their running sums inside a chunk. -/
def cum (g : Fin 128) (t : Fin 64) (h : Fin 4) (d : Fin 256) : EReal := ∑ s : Fin 64, if s ≤ t then la a w b g s h d else 0

/-- The decayed queries, the keys with the decay undone, the keys decayed to the chunk's end. -/
def qd (g : Fin 128) (s : Fin 64) (h : Fin 4) (d : Fin 256) : EReal := qf x g s h d * cS * Ideal.exp (cum a w b g s h d)
def ki (g : Fin 128) (s : Fin 64) (h : Fin 4) (d : Fin 256) : EReal := kf x g s h d * Ideal.exp (0 - cum a w b g s h d)
def ks (g : Fin 128) (s : Fin 64) (h : Fin 4) (d : Fin 256) : EReal := kf x g s h d * Ideal.exp (cum a w b g 63 h d - cum a w b g s h d)

/-- The attention inside a chunk, causal. -/
def att (g : Fin 128) (h : Fin 4) (t s : Fin 64) : EReal := if s ≤ t then ∑ d : Fin 256, qd x a w b g t h d * ki x a w b g s h d else 0

/-- A chunk's number below 128. -/
def g128 (n : ℕ) : Fin 128 := ⟨n % 128, Nat.mod_lt _ (by decide)⟩

/-- The state before the `n`-th chunk. -/
def st : ℕ → Fin 4 → Fin 256 → Fin 512 → EReal
  | 0 => fun _ _ _ => 0
  | n + 1 => fun h d e => st n h d e * Ideal.exp (cum a w b (g128 n) 63 h d) + ∑ s : Fin 64, vf x (g128 n) s h e * ks x a w b (g128 n) s h d

/-- The output before its normalisation. -/
def ro (g : Fin 128) (t : Fin 64) (h : Fin 4) (e : Fin 512) : EReal :=
  (∑ s : Fin 64, att x a w b g h t s * vf x g s h e) + ∑ d : Fin 256, qd x a w b g t h d * st x a w b g.val h d e

/-- The layer's output. -/
def out (g : Fin 128) (t : Fin 64) (h : Fin 4) (e : Fin 512) : EReal :=
  ro x a w b g t h e
    * Ideal.rsqrt (Ideal.div (∑ i : Fin 512, ro x a w b g t h i * ro x a w b g t h i) (Ideal.ofBits .f32 0x44000000#32)
        + Ideal.ofBits .f32 0x358637BD#32)
    * nw (ix1 e)

theorem cS_eq : cS = ((1 / 16 : ℝ) : EReal) := by
  unfold cS
  simp [Ideal.ofBits, Ideal.ieee, -EReal.coe_mul]; norm_num

theorem sixteen_eq : Ideal.ofBits .f32 0x41800000#32 = ((16 : ℝ) : EReal) := by
  simp [Ideal.ofBits, Ideal.ieee, -EReal.coe_mul]; norm_num

theorem exp_nonneg (z : EReal) : 0 ≤ Ideal.exp z := by
  induction z using EReal.rec with
  | bot => simp
  | top => simp
  | coe r => simp only [Ideal.exp_coe]; exact_mod_cast (Real.exp_pos r).le

theorem log1p_nonneg (z : EReal) (hz : 0 ≤ z) : 0 ≤ Ideal.log1p z := by
  induction z using EReal.rec with
  | bot => simp at hz
  | top => rw [Ideal.log1p, EReal.add_top_of_ne_bot (by decide)]; exact le_top
  | coe r =>
    have hr : 0 ≤ r := by exact_mod_cast hz
    have e : (1 : EReal) + (r : EReal) = ((1 + r : ℝ) : EReal) := by norm_cast
    have e2 : Ideal.log ((1 + r : ℝ) : EReal) = (Real.log (1 + r) : EReal) := by
      show (if 1 + r ≤ 0 then (⊥ : EReal) else (Real.log (1 + r) : EReal)) = _
      rw [if_neg (by linarith)]
    rw [Ideal.log1p, e, e2]
    exact_mod_cast Real.log_nonneg (by linarith)

theorem lsg_ne_top (z : EReal) : lsg z ≠ ⊤ := by
  unfold lsg
  have h : (0 : EReal) ≤ max (0 - z) 0 + Ideal.log1p (Ideal.exp (0 - (FloatOps.absf (F := Ideal) (φ := .f32) (0 - z) : EReal))) :=
    add_nonneg (le_max_right _ _) (log1p_nonneg _ (exp_nonneg _))
  generalize max (0 - z) 0 + Ideal.log1p _ = p at h
  have hc : (0 : EReal) ≤ cS := by rw [cS_eq]; exact_mod_cast (by norm_num : (0:ℝ) ≤ 1/16)
  rw [zero_sub, EReal.neg_mul]
  have := mul_nonneg h hc
  intro e
  rw [EReal.neg_eq_top_iff] at e
  rw [e] at this
  simp at this

/-- A number that is not `+∞` is itself plus its difference with itself. -/
theorem add_sub_self {u : EReal} (h : u ≠ ⊤) : u + (u - u) = u := by
  induction u using EReal.rec with
  | bot => simp
  | top => exact absurd rfl h
  | coe r => rw [← EReal.coe_sub, sub_self]; simp

end Cert.Gla

end
-- ==== Proof.RefEntry.lean ====
module

public import proofs.«01_k».proof.Proof.Gen.ReferenceIdeal.Run
public import proofs.«01_k».proof.Proof.RefWin
public import proofs.«01_k».proof.Proof.Spec
public import Idealize.ShloMosaic.Lib.WordCmp

/-! The reference's arrays before its loop, entry by entry. -/

@[expose] public section

set_option maxRecDepth 16384

noncomputable section

namespace Cert.ReferenceIdeal.Side

open Idealize.ShloMosaic Idealize.ShloMosaic.TcCoe Idealize.ShloMosaic.StableHlo
open Cert.ReferenceIdeal Cert.ReferenceIdeal.Gen Cert.ReferenceIdeal.Value

section stretches

variable (V : Valuation τ sig (Elt Ideal))

theorem o0_v7 (r : Fin 8192) (j : Fin 1024) : (show EReal from after hostOps0 V (Proc.devRef .tc main_v7) (ix3 0 r j))
    = (∑ k : Fin 16, (show EReal from V (Proc.devRef .tc main_arg1) (ix3 0 r k)) * (show EReal from V (Proc.devRef .tc main_arg2) (ix2 k j)))
      + (show EReal from V (Proc.devRef .tc main_arg3) (ix1 j)) := by
  after_reads_simp
  have e (x : FVec Ideal S1x8192x16 .f32) (y : FVec Ideal S16x1024 .f32) (z : FVec Ideal S1024 .f32) :
      addf (Host.dotGeneral dot_S1x8192x16_S16x1024_S1x8192x1024_2_0_01_1_n_n none x y)
        (broadcastInDim S1x8192x1024 ![0, 1, 2] bcast_S1x1x1024_S1x8192x1024_0_1_2 (broadcastInDim S1x1x1024 ![2] bcast_S1024_S1x1x1024_2 z)) (ix3 0 r j)
      = (∑ k : Fin 16, (x (ix3 0 r k) : EReal) * y (ix2 k j)) + z (ix1 j) := by pointwise
  exact e _ _ _

theorem o0_v1 (r : Fin 8192) (j : Fin 1024) : after hostOps0 V (Proc.devRef .tc main_v1) (ix3 0 r j)
    = V (Proc.devRef .tc main_arg0) (ix3 0 r ⟨2048 + j.val, by omega⟩) := by
  after_reads_simp
  have e (x : FVec Ideal S1x8192x6144 .f32) : extractStridedSlice S1x8192x1024 ![0, 0, 2048] x slices_S1x8192x6144_S1x8192x1024_0_0_2048 (ix3 0 r j)
      = x (ix3 0 r ⟨2048 + j.val, by omega⟩) := by pointwise
  exact e _

theorem o0_v2 (r : Fin 8192) (j : Fin 1024) : after hostOps0 V (Proc.devRef .tc main_v2) (ix3 0 r j)
    = V (Proc.devRef .tc main_arg0) (ix3 0 r ⟨3072 + j.val, by omega⟩) := by
  after_reads_simp
  have e (x : FVec Ideal S1x8192x6144 .f32) : extractStridedSlice S1x8192x1024 ![0, 0, 3072] x slices_S1x8192x6144_S1x8192x1024_0_0_3072 (ix3 0 r j)
      = x (ix3 0 r ⟨3072 + j.val, by omega⟩) := by pointwise
  exact e _

theorem o0_v3 (r : Fin 8192) (j : Fin 2048) : after hostOps0 V (Proc.devRef .tc main_v3) (ix3 0 r j)
    = V (Proc.devRef .tc main_arg0) (ix3 0 r ⟨4096 + j.val, by omega⟩) := by
  after_reads_simp
  have e (x : FVec Ideal S1x8192x6144 .f32) : extractStridedSlice S1x8192x2048 ![0, 0, 4096] x slices_S1x8192x6144_S1x8192x2048_0_0_4096 (ix3 0 r j)
      = x (ix3 0 r ⟨4096 + j.val, by omega⟩) := by pointwise
  exact e _

/-- The logarithm of the logistic function, as the reference writes it. -/
theorem o1_v8 (i : S1x8192x1024.Idx) : (show EReal from after hostOps0_1 V (Proc.devRef .tc main_v8) i)
    = -(max (-(show EReal from V (Proc.devRef .tc main_v7) i)) 0 + Ideal.log1p (Ideal.exp
        (-(FloatOps.absf (F := Ideal) (φ := .f32) (-(show EReal from V (Proc.devRef .tc main_v7) i)) : EReal)))) := by
  after_reads_simp
  have e (x : FVec Ideal S1x8192x1024 .f32) : Host.negf (select
        (cmpf .une (subf (Host.negf x) (broadcastInDim S1x8192x1024 ![] bcast_S_S1x8192x1024 (constant S_ .f32 0x00000000#32)))
          (subf (Host.negf x) (broadcastInDim S1x8192x1024 ![] bcast_S_S1x8192x1024 (constant S_ .f32 0x00000000#32))))
        (addf (Host.negf x) (broadcastInDim S1x8192x1024 ![] bcast_S_S1x8192x1024 (constant S_ .f32 0x00000000#32)))
        (addf (maximumf (Host.negf x) (broadcastInDim S1x8192x1024 ![] bcast_S_S1x8192x1024 (constant S_ .f32 0x00000000#32)))
          (Host.log1p (Host.exp (Host.negf (Host.absf (subf (Host.negf x)
            (broadcastInDim S1x8192x1024 ![] bcast_S_S1x8192x1024 (constant S_ .f32 0x00000000#32))))))))) i
      = -(max (-(x i : EReal)) 0 + Ideal.log1p (Ideal.exp (-(FloatOps.absf (F := Ideal) (φ := .f32) (-(x i : EReal)) : EReal)))) := by
    pointwise
    rw [if_neg (not_not_intro rfl)]
  exact e _

theorem o2_v16 (g : Fin 128) (s : Fin 64) (h : Fin 4) (d : Fin 256) :
    (show EReal from after hostOps0_2 V (Proc.devRef .tc main_v16) (ix5 0 g s h d))
      = Ideal.div (V (Proc.devRef .tc main_v8) (ix3 0 (Gla.row g s) (Gla.colK h d))) (Ideal.ofBits .f32 0x41800000#32) := by
  after_reads_simp
  have e (x : FVec Ideal S1x8192x1024 .f32) : shapeCast S1x128x64x4x256 (Host.divf x (broadcastInDim S1x8192x1024 ![] bcast_S_S1x8192x1024
        (constant S_ .f32 0x41800000#32))) shapeCasts_S1x8192x1024_S1x128x64x4x256 (ix5 0 g s h d)
      = Ideal.div (x (ix3 0 (Gla.row g s) (Gla.colK h d))) (Ideal.ofBits .f32 0x41800000#32) := by pointwise [Gla.row, Gla.colK]; simp only [Nat.mul_comm]
  exact e _

theorem o2_v13 (g : Fin 128) (s : Fin 64) (h : Fin 4) (d : Fin 256) :
    (show EReal from after hostOps0_2 V (Proc.devRef .tc main_v13) (ix5 0 g s h d))
      = (show EReal from V (Proc.devRef .tc main_v1) (ix3 0 (Gla.row g s) (Gla.colK h d))) * Gla.cS := by
  after_reads_simp
  have e (x : FVec Ideal S1x8192x1024 .f32) : mulf (shapeCast S1x128x64x4x256 x shapeCasts_S1x8192x1024_S1x128x64x4x256)
        (broadcastInDim S1x128x64x4x256 ![] bcast_S_S1x128x64x4x256 (constant S_ .f32 0x3D800000#32)) (ix5 0 g s h d)
      = x (ix3 0 (Gla.row g s) (Gla.colK h d)) * Gla.cS := by pointwise [Gla.row, Gla.colK, Gla.cS]; simp only [Nat.mul_comm]
  exact e _

theorem o2_v14 (g : Fin 128) (s : Fin 64) (h : Fin 4) (d : Fin 256) :
    after hostOps0_2 V (Proc.devRef .tc main_v14) (ix5 0 g s h d) = V (Proc.devRef .tc main_v2) (ix3 0 (Gla.row g s) (Gla.colK h d)) := by
  after_reads_simp
  have e (x : FVec Ideal S1x8192x1024 .f32) : shapeCast S1x128x64x4x256 x shapeCasts_S1x8192x1024_S1x128x64x4x256 (ix5 0 g s h d)
      = x (ix3 0 (Gla.row g s) (Gla.colK h d)) := by pointwise [Gla.row, Gla.colK]; simp only [Nat.mul_comm]
  exact e _

theorem o2_v15 (g : Fin 128) (s : Fin 64) (h : Fin 4) (e : Fin 512) :
    after hostOps0_2 V (Proc.devRef .tc main_v15) (ix5 0 g s h e) = V (Proc.devRef .tc main_v3) (ix3 0 (Gla.row g s) ⟨512 * h.val + e.val, by omega⟩) := by
  after_reads_simp
  have k (x : FVec Ideal S1x8192x2048 .f32) : shapeCast S1x128x64x4x512 x shapeCasts_S1x8192x2048_S1x128x64x4x512 (ix5 0 g s h e)
      = x (ix3 0 (Gla.row g s) ⟨512 * h.val + e.val, by omega⟩) := by pointwise [Gla.row]; simp only [Nat.mul_comm]
  exact k _

theorem o3_v17 (g : Fin 128) (t : Fin 64) (h : Fin 4) (d : Fin 256) :
    (show EReal from after hostOps0_3 V (Proc.devRef .tc main_v17) (ix5 0 g t h d))
      = ∑ s : Fin 64, if s ≤ t then (show EReal from V (Proc.devRef .tc main_v16) (ix5 0 g s h d)) else 0 := by
  after_reads_simp
  have hz : ∀ i, (broadcastInDim S_ ![] bcast_S_S_ (constant (F := Ideal) S_ .f32 0x00000000#32) i : EReal) = 0 := fun i => by
    show Ideal.ofBits .f32 0x00000000#32 = 0
    simp [Ideal.ofBits, Ideal.ieee]
  exact cumsum_at _ _ hz _ h_S_ g t h d

theorem o4_v18 (g : Fin 128) (h : Fin 4) (d : Fin 256) :
    after hostOps0_4 V (Proc.devRef .tc main_v18) (ix5 0 g 0 h d) = V (Proc.devRef .tc main_v17) (ix5 0 g 63 h d) := by
  after_reads_simp
  have e (x : FVec Ideal S1x128x64x4x256 .f32) : extractStridedSlice S1x128x1x4x256 ![0, 0, 63, 0, 0] x slices_S1x128x64x4x256_S1x128x1x4x256_0_0_63_0_0 (ix5 0 g 0 h d)
      = x (ix5 0 g 63 h d) := by pointwise
  exact e _

theorem o4_v20 (g : Fin 128) (s : Fin 64) (h : Fin 4) (d : Fin 256) :
    (show EReal from after hostOps0_4 V (Proc.devRef .tc main_v20) (ix5 0 g s h d))
      = (show EReal from V (Proc.devRef .tc main_v13) (ix5 0 g s h d)) * Ideal.exp (V (Proc.devRef .tc main_v17) (ix5 0 g s h d)) := by
  after_reads_simp
  rfl

theorem o4_v23 (g : Fin 128) (s : Fin 64) (h : Fin 4) (d : Fin 256) :
    (show EReal from after hostOps0_4 V (Proc.devRef .tc main_v23) (ix5 0 g s h d))
      = (show EReal from V (Proc.devRef .tc main_v14) (ix5 0 g s h d)) * Ideal.exp (-(show EReal from V (Proc.devRef .tc main_v17) (ix5 0 g s h d))) := by
  after_reads_simp
  rfl

theorem o4_v27 (g : Fin 128) (s : Fin 64) (h : Fin 4) (d : Fin 256) :
    (show EReal from after hostOps0_4 V (Proc.devRef .tc main_v27) (ix5 0 g s h d))
      = (show EReal from V (Proc.devRef .tc main_v14) (ix5 0 g s h d))
        * Ideal.exp ((show EReal from V (Proc.devRef .tc main_v17) (ix5 0 g 63 h d)) - (show EReal from V (Proc.devRef .tc main_v17) (ix5 0 g s h d))) := by
  after_reads_simp
  have e (x y : FVec Ideal S1x128x64x4x256 .f32) : mulf y (Host.exp (subf (broadcastInDim S1x128x64x4x256 ![0, 1, 2, 3, 4] bcast_S1x128x1x4x256_S1x128x64x4x256_0_1_2_3_4
        (extractStridedSlice S1x128x1x4x256 ![0, 0, 63, 0, 0] x slices_S1x128x64x4x256_S1x128x1x4x256_0_0_63_0_0)) x)) (ix5 0 g s h d)
      = (y (ix5 0 g s h d) : EReal) * Ideal.exp ((x (ix5 0 g 63 h d) : EReal) - x (ix5 0 g s h d)) := by pointwise
  exact e _ _

theorem o4_v28 (i : S64x64.Idx) : after hostOps0_4 V (Proc.devRef .tc main_v28) i = 1#1 := by
  after_reads_simp
  rfl

theorem o5_v29 (t s : Fin 64) : after hostOps0_5 V (Proc.devRef .tc main_v29) (ix2 t s)
    = if s ≤ t then V (Proc.devRef .tc main_v28) (ix2 t s) else 0#1 := by
  after_reads_simp
  have e (x : IVec S64x64 1) : select (cmpi .sge (addi (iotaInDim S64x64 32 0) (broadcastInDim S64x64 ![] bcast_S_S64x64 (constantI S_ 32 0#32))) (iotaInDim S64x64 32 1))
        x (broadcastInDim S64x64 ![] bcast_S_S64x64 (constantI S_ 1 0#1)) (ix2 t s) = if s ≤ t then x (ix2 t s) else 0#1 := by
    pointwise
    rw [show IntOp.addi (BitVec.ofNat 32 t.val) 0#32 = BitVec.ofNat 32 t.val from BitVec.add_zero _, WordCmp.cmpi_sge_ofNat (by omega) (by omega)]
    by_cases h : s.val ≤ t.val
    · rw [if_pos (show s ≤ t from h), decide_eq_true h]; rfl
    · rw [if_neg (show ¬ s ≤ t from h), decide_eq_false h]; rfl
  exact e _

theorem o6_v30 (g : Fin 128) (h : Fin 4) (t s : Fin 64) :
    (show EReal from after hostOps0_6 V (Proc.devRef .tc main_v30) (ix5 0 g h t s))
      = ∑ d : Fin 256, (show EReal from V (Proc.devRef .tc main_v20) (ix5 0 g t h d)) * (show EReal from V (Proc.devRef .tc main_v23) (ix5 0 g s h d)) := by
  after_reads_simp
  have e (x y : FVec Ideal S1x128x64x4x256 .f32) : Host.dotGeneral dot_S1x128x64x4x256_S1x128x64x4x256_S1x128x4x64x64_4_4_2_2_013_013 none x y (ix5 0 g h t s)
      = ∑ d : Fin 256, (x (ix5 0 g t h d) : EReal) * y (ix5 0 g s h d) := by pointwise
  exact e _ _

theorem o6_cst (i : S_.Idx) : (show EReal from after hostOps0_6 V (Proc.devRef .tc main_cst_1) i) = 0 := by
  after_reads_simp
  show Ideal.ofBits .f32 0x00000000#32 = 0
  simp [Ideal.ofBits, Ideal.ieee]

theorem o7_v31 (g : Fin 128) (h : Fin 4) (t s : Fin 64) :
    (show EReal from after hostOps0_7 V (Proc.devRef .tc main_v31) (ix5 0 g h t s))
      = Scalar.select (V (Proc.devRef .tc main_v29) (ix2 t s)) (show EReal from V (Proc.devRef .tc main_v30) (ix5 0 g h t s))
          (show EReal from V (Proc.devRef .tc main_cst_1) ix0) := by
  after_reads_simp
  have e (p : IVec S64x64 1) (x : FVec Ideal S1x128x4x64x64 .f32) (z : FVec Ideal S_ .f32) :
      select (broadcastInDim S1x128x4x64x64 ![3, 4] bcast_S64x64_S1x128x4x64x64_3_4 p) x (broadcastInDim S1x128x4x64x64 ![] bcast_S_S1x128x4x64x64 z) (ix5 0 g h t s)
      = Scalar.select (p (ix2 t s)) (x (ix5 0 g h t s) : EReal) (z ix0) := by pointwise
  exact e _ _ _

theorem o8_v33 (g : Fin 128) (t : Fin 64) (h : Fin 4) (e : Fin 512) :
    (show EReal from after hostOps0_8 V (Proc.devRef .tc main_v33) (ix5 0 g t h e))
      = ∑ s : Fin 64, (show EReal from V (Proc.devRef .tc main_v15) (ix5 0 g s h e)) * (show EReal from V (Proc.devRef .tc main_v31) (ix5 0 g h t s)) := by
  after_reads_simp
  have k (x : FVec Ideal S1x128x64x4x512 .f32) (y : FVec Ideal S1x128x4x64x64 .f32) :
      transpose S1x128x64x4x512 [0, 1, 4, 2, 3] (Host.dotGeneral dot_S1x128x64x4x512_S1x128x4x64x64_S1x128x4x512x64_2_4_4_3_013_012 none x y)
        transposes_S1x128x4x512x64_S1x128x64x4x512_0_1_4_2_3 (ix5 0 g t h e)
      = ∑ s : Fin 64, (x (ix5 0 g s h e) : EReal) * y (ix5 0 g h t s) := by pointwise
  exact k _ _

theorem o8_q (g : Fin 128) (t : Fin 64) (h : Fin 4) (d : Fin 256) :
    after hostOps0_8 V (Proc.devRef .tc main_v42_0) (ix5 g 0 t h d) = V (Proc.devRef .tc main_v20) (ix5 0 g t h d) := by
  after_reads_simp
  have e (x : FVec Ideal S1x128x64x4x256 .f32) : transpose S128x1x64x4x256 [1, 0, 2, 3, 4] x transposes_S1x128x64x4x256_S128x1x64x4x256_1_0_2_3_4 (ix5 g 0 t h d)
      = x (ix5 0 g t h d) := by pointwise
  exact e _

theorem o8_k (g : Fin 128) (t : Fin 64) (h : Fin 4) (d : Fin 256) :
    after hostOps0_8 V (Proc.devRef .tc main_v42_1) (ix5 g 0 t h d) = V (Proc.devRef .tc main_v27) (ix5 0 g t h d) := by
  after_reads_simp
  have e (x : FVec Ideal S1x128x64x4x256 .f32) : transpose S128x1x64x4x256 [1, 0, 2, 3, 4] x transposes_S1x128x64x4x256_S128x1x64x4x256_1_0_2_3_4 (ix5 g 0 t h d)
      = x (ix5 0 g t h d) := by pointwise
  exact e _

theorem o8_v (g : Fin 128) (t : Fin 64) (h : Fin 4) (e : Fin 512) :
    after hostOps0_8 V (Proc.devRef .tc main_v42_2) (ix5 g 0 t h e) = V (Proc.devRef .tc main_v15) (ix5 0 g t h e) := by
  after_reads_simp
  have k (x : FVec Ideal S1x128x64x4x512 .f32) : transpose S128x1x64x4x512 [1, 0, 2, 3, 4] x transposes_S1x128x64x4x512_S128x1x64x4x512_1_0_2_3_4 (ix5 g 0 t h e)
      = x (ix5 0 g t h e) := by pointwise
  exact k _

theorem o8_dec (g : Fin 128) (h : Fin 4) (d : Fin 256) :
    (show EReal from after hostOps0_8 V (Proc.devRef .tc main_v42_3) (ix4 g 0 h d)) = Ideal.exp (V (Proc.devRef .tc main_v18) (ix5 0 g 0 h d)) := by
  after_reads_simp
  have e (x : FVec Ideal S1x128x1x4x256 .f32) : transpose S128x1x4x256 [1, 0, 2, 3] (Host.exp (shapeCast S1x128x4x256 x shapeCasts_S1x128x1x4x256_S1x128x4x256))
        transposes_S1x128x4x256_S128x1x4x256_1_0_2_3 (ix4 g 0 h d) = Ideal.exp (x (ix5 0 g 0 h d)) := by pointwise
  exact e _

theorem o8_st (i : S1x4x256x512.Idx) : (show EReal from after hostOps0_8 V (Proc.devRef .tc main_v42_5) i) = 0 := by
  after_reads_simp
  show Ideal.ofBits .f32 0x00000000#32 = 0
  simp [Ideal.ofBits, Ideal.ieee]

end stretches

/-- The logarithm of the logistic function over 16, with negation and division as the reference writes them. -/
theorem lsg_eq (z : EReal) : Ideal.div (-(max (-z) 0 + Ideal.log1p (Ideal.exp (-(FloatOps.absf (F := Ideal) (φ := .f32) (-z) : EReal)))))
    (Ideal.ofBits .f32 0x41800000#32) = Gla.lsg z := by
  unfold Gla.lsg
  rw [Gla.sixteen_eq, Ideal.div_coe (by norm_num), Gla.cS_eq]
  simp only [zero_sub]

variable (m : (ℓ : Loc nD τ sig) → Buf (Elt Ideal) ℓ) (c : Dev nD)

abbrev B0 : FVec Ideal S1x8192x6144 .f32 := m ((c : Thread nD τ).loc main_arg0)
abbrev B1 : FVec Ideal S1x8192x16 .f32 := m ((c : Thread nD τ).loc main_arg1)
abbrev B2 : FVec Ideal S16x1024 .f32 := m ((c : Thread nD τ).loc main_arg2)
abbrev B3 : FVec Ideal S1024 .f32 := m ((c : Thread nD τ).loc main_arg3)
abbrev B4 : FVec Ideal S512 .f32 := m ((c : Thread nD τ).loc main_arg4)

/-- The arrays after each stretch of operations. -/
def E0 : Valuation τ sig (Elt Ideal) := after hostOps0 (launchContents m c)
def E1 : Valuation τ sig (Elt Ideal) := after hostOps0_1 (E0 m c)
def E2 : Valuation τ sig (Elt Ideal) := after hostOps0_2 (E1 m c)
def E3 : Valuation τ sig (Elt Ideal) := after hostOps0_3 (E2 m c)
def E4 : Valuation τ sig (Elt Ideal) := after hostOps0_4 (E3 m c)
def E5 : Valuation τ sig (Elt Ideal) := after hostOps0_5 (E4 m c)
def E6 : Valuation τ sig (Elt Ideal) := after hostOps0_6 (E5 m c)
def E7 : Valuation τ sig (Elt Ideal) := after hostOps0_7 (E6 m c)
def E8 : Valuation τ sig (Elt Ideal) := after hostOps0_8 (E7 m c)

theorem E8_eq : entryContents preI m c = E8 m c := rfl

theorem k1 (r : Ref sig .tc) (h : r ∉ hostOps0_1_W) : E1 m c (Proc.devRef .tc r) = E0 m c (Proc.devRef .tc r) := after_of_writes_sub _ _ hostOps0_1_writes h
theorem k2 (r : Ref sig .tc) (h : r ∉ hostOps0_2_W) : E2 m c (Proc.devRef .tc r) = E1 m c (Proc.devRef .tc r) := after_of_writes_sub _ _ hostOps0_2_writes h
theorem k3 (r : Ref sig .tc) (h : r ∉ hostOps0_3_W) : E3 m c (Proc.devRef .tc r) = E2 m c (Proc.devRef .tc r) := after_of_writes_sub _ _ hostOps0_3_writes h
theorem k4 (r : Ref sig .tc) (h : r ∉ hostOps0_4_W) : E4 m c (Proc.devRef .tc r) = E3 m c (Proc.devRef .tc r) := after_of_writes_sub _ _ hostOps0_4_writes h
theorem k5 (r : Ref sig .tc) (h : r ∉ hostOps0_5_W) : E5 m c (Proc.devRef .tc r) = E4 m c (Proc.devRef .tc r) := after_of_writes_sub _ _ hostOps0_5_writes h
theorem k6 (r : Ref sig .tc) (h : r ∉ hostOps0_6_W) : E6 m c (Proc.devRef .tc r) = E5 m c (Proc.devRef .tc r) := after_of_writes_sub _ _ hostOps0_6_writes h
theorem k7 (r : Ref sig .tc) (h : r ∉ hostOps0_7_W) : E7 m c (Proc.devRef .tc r) = E6 m c (Proc.devRef .tc r) := after_of_writes_sub _ _ hostOps0_7_writes h

theorem la_at (g : Fin 128) (s : Fin 64) (h : Fin 4) (d : Fin 256) :
    (show EReal from E2 m c (Proc.devRef .tc main_v16) (ix5 0 g s h d)) = Gla.la (B1 m c) (B2 m c) (B3 m c) g s h d := by
  refine (o2_v16 (E1 m c) g s h d).trans ?_
  rw [show E1 m c (Proc.devRef .tc main_v8) (ix3 0 (Gla.row g s) (Gla.colK h d)) = _ from o1_v8 (E0 m c) _,
    show E0 m c (Proc.devRef .tc main_v7) (ix3 0 (Gla.row g s) (Gla.colK h d)) = _ from o0_v7 (launchContents m c) _ _]
  exact lsg_eq _

theorem cum_at (g : Fin 128) (t : Fin 64) (h : Fin 4) (d : Fin 256) :
    (show EReal from E3 m c (Proc.devRef .tc main_v17) (ix5 0 g t h d)) = Gla.cum (B1 m c) (B2 m c) (B3 m c) g t h d := by
  refine (o3_v17 (E2 m c) g t h d).trans (Finset.sum_congr rfl fun s _ => ?_)
  rw [la_at]

theorem v13_at (g : Fin 128) (s : Fin 64) (h : Fin 4) (d : Fin 256) :
    (show EReal from E3 m c (Proc.devRef .tc main_v13) (ix5 0 g s h d)) = Gla.qf (B0 m c) g s h d * Gla.cS := by
  rw [k3 m c main_v13 (by decide +kernel)]
  refine (o2_v13 (E1 m c) g s h d).trans ?_
  rw [k1 m c main_v1 (by decide +kernel)]
  exact congrArg (· * Gla.cS) (o0_v1 (launchContents m c) (Gla.row g s) (Gla.colK h d))

theorem v14_at (g : Fin 128) (s : Fin 64) (h : Fin 4) (d : Fin 256) :
    (show EReal from E3 m c (Proc.devRef .tc main_v14) (ix5 0 g s h d)) = Gla.kf (B0 m c) g s h d := by
  rw [k3 m c main_v14 (by decide +kernel)]
  refine (o2_v14 (E1 m c) g s h d).trans ?_
  rw [k1 m c main_v2 (by decide +kernel)]
  exact o0_v2 (launchContents m c) (Gla.row g s) (Gla.colK h d)

theorem v15_at (g : Fin 128) (s : Fin 64) (h : Fin 4) (e : Fin 512) :
    (show EReal from E7 m c (Proc.devRef .tc main_v15) (ix5 0 g s h e)) = Gla.vf (B0 m c) g s h e := by
  rw [k7 m c main_v15 (by decide +kernel), k6 m c main_v15 (by decide +kernel), k5 m c main_v15 (by decide +kernel),
    k4 m c main_v15 (by decide +kernel), k3 m c main_v15 (by decide +kernel)]
  refine (o2_v15 (E1 m c) g s h e).trans ?_
  rw [k1 m c main_v3 (by decide +kernel)]
  exact o0_v3 (launchContents m c) (Gla.row g s) ⟨512 * h.val + e.val, by omega⟩

theorem qd_at (g : Fin 128) (s : Fin 64) (h : Fin 4) (d : Fin 256) :
    (show EReal from E4 m c (Proc.devRef .tc main_v20) (ix5 0 g s h d)) = Gla.qd (B0 m c) (B1 m c) (B2 m c) (B3 m c) g s h d :=
  (o4_v20 (E3 m c) g s h d).trans (congrArg₂ (· * ·) (v13_at m c g s h d) (congrArg Ideal.exp (cum_at m c g s h d)))

theorem ki_at (g : Fin 128) (s : Fin 64) (h : Fin 4) (d : Fin 256) :
    (show EReal from E4 m c (Proc.devRef .tc main_v23) (ix5 0 g s h d)) = Gla.ki (B0 m c) (B1 m c) (B2 m c) (B3 m c) g s h d := by
  refine (o4_v23 (E3 m c) g s h d).trans (congrArg₂ (· * ·) (v14_at m c g s h d) (congrArg Ideal.exp ?_))
  rw [cum_at, zero_sub]

theorem ks_at (g : Fin 128) (s : Fin 64) (h : Fin 4) (d : Fin 256) :
    (show EReal from E4 m c (Proc.devRef .tc main_v27) (ix5 0 g s h d)) = Gla.ks (B0 m c) (B1 m c) (B2 m c) (B3 m c) g s h d :=
  (o4_v27 (E3 m c) g s h d).trans (congrArg₂ (· * ·) (v14_at m c g s h d)
    (congrArg Ideal.exp (congrArg₂ (· - ·) (cum_at m c g 63 h d) (cum_at m c g s h d))))

theorem att_at (g : Fin 128) (h : Fin 4) (t s : Fin 64) :
    (show EReal from E7 m c (Proc.devRef .tc main_v31) (ix5 0 g h t s)) = Gla.att (B0 m c) (B1 m c) (B2 m c) (B3 m c) g h t s := by
  refine (o7_v31 (E6 m c) g h t s).trans ?_
  have e1 : E6 m c (Proc.devRef .tc main_v29) (ix2 t s) = if s ≤ t then 1#1 else 0#1 := by
    rw [k6 m c main_v29 (by decide +kernel)]
    refine (o5_v29 (E4 m c) t s).trans ?_
    rw [show E4 m c (Proc.devRef .tc main_v28) (ix2 t s) = 1#1 from o4_v28 (E3 m c) _]
  have e2 : (show EReal from E6 m c (Proc.devRef .tc main_v30) (ix5 0 g h t s))
      = ∑ d : Fin 256, Gla.qd (B0 m c) (B1 m c) (B2 m c) (B3 m c) g t h d * Gla.ki (B0 m c) (B1 m c) (B2 m c) (B3 m c) g s h d := by
    refine (o6_v30 (E5 m c) g h t s).trans (Finset.sum_congr rfl fun d _ => ?_)
    rw [k5 m c main_v20 (by decide +kernel), k5 m c main_v23 (by decide +kernel), qd_at, ki_at]
  have e3 : (show EReal from E6 m c (Proc.devRef .tc main_cst_1) ix0) = 0 := o6_cst (E5 m c) _
  rw [e1, e2, e3]
  unfold Gla.att
  by_cases hs : s ≤ t
  · rw [if_pos hs, if_pos hs]; rfl
  · rw [if_neg hs, if_neg hs]; rfl

/-- The part of the output that attends inside a chunk. -/
theorem intra_at (g : Fin 128) (t : Fin 64) (h : Fin 4) (e : Fin 512) :
    (show EReal from E8 m c (Proc.devRef .tc main_v33) (ix5 0 g t h e))
      = ∑ s : Fin 64, Gla.att (B0 m c) (B1 m c) (B2 m c) (B3 m c) g h t s * Gla.vf (B0 m c) g s h e := by
  refine (o8_v33 (E7 m c) g t h e).trans (Finset.sum_congr rfl fun s _ => ?_)
  rw [v15_at, att_at]
  exact mul_comm _ _

/-- The loop's inputs. -/
theorem inQ_at (g : Fin 128) (t : Fin 64) (h : Fin 4) (d : Fin 256) :
    (show EReal from E8 m c (Proc.devRef .tc main_v42_0) (ix5 g 0 t h d)) = Gla.qd (B0 m c) (B1 m c) (B2 m c) (B3 m c) g t h d := by
  refine (o8_q (E7 m c) g t h d).trans ?_
  rw [k7 m c main_v20 (by decide +kernel), k6 m c main_v20 (by decide +kernel), k5 m c main_v20 (by decide +kernel)]
  exact qd_at m c g t h d

theorem inK_at (g : Fin 128) (t : Fin 64) (h : Fin 4) (d : Fin 256) :
    (show EReal from E8 m c (Proc.devRef .tc main_v42_1) (ix5 g 0 t h d)) = Gla.ks (B0 m c) (B1 m c) (B2 m c) (B3 m c) g t h d := by
  refine (o8_k (E7 m c) g t h d).trans ?_
  rw [k7 m c main_v27 (by decide +kernel), k6 m c main_v27 (by decide +kernel), k5 m c main_v27 (by decide +kernel)]
  exact ks_at m c g t h d

theorem inV_at (g : Fin 128) (t : Fin 64) (h : Fin 4) (e : Fin 512) :
    (show EReal from E8 m c (Proc.devRef .tc main_v42_2) (ix5 g 0 t h e)) = Gla.vf (B0 m c) g t h e :=
  (o8_v (E7 m c) g t h e).trans (v15_at m c g t h e)

theorem inD_at (g : Fin 128) (h : Fin 4) (d : Fin 256) :
    (show EReal from E8 m c (Proc.devRef .tc main_v42_3) (ix4 g 0 h d)) = Ideal.exp (Gla.cum (B1 m c) (B2 m c) (B3 m c) g 63 h d) := by
  refine (o8_dec (E7 m c) g h d).trans (congrArg Ideal.exp ?_)
  rw [k7 m c main_v18 (by decide +kernel), k6 m c main_v18 (by decide +kernel), k5 m c main_v18 (by decide +kernel)]
  exact (o4_v18 (E3 m c) g h d).trans (cum_at m c g 63 h d)

theorem inS_at (i : S1x4x256x512.Idx) : (show EReal from E8 m c (Proc.devRef .tc main_v42_5) i) = 0 := o8_st (E7 m c) i

end Cert.ReferenceIdeal.Side

end
-- ==== Proof.RefLoop.lean ====
module

public import proofs.«01_k».proof.Proof.RefEntry
public import Idealize.ShloMosaic.Lib.DynamicIndex

/-! The reference's loop: one trip per chunk, which reads the chunk's arrays, hands its output to the result array and
moves the state on. -/

@[expose] public section

set_option maxRecDepth 16384

noncomputable section

namespace Cert.ReferenceIdeal.Side

open Idealize.ShloMosaic Idealize.ShloMosaic.TcCoe Idealize.ShloMosaic.StableHlo
open Cert.ReferenceIdeal Cert.ReferenceIdeal.Gen Cert.ReferenceIdeal.Value

/-- One chunk read out of an array of chunks. -/
theorem cut5K_at (x : (⟨5, ![128, 1, 64, 4, 256]⟩ : Shape).Idx → EReal) (b : Fin 5 → Int) (k : Fin 128)
    (hb : ∀ a, b a = ((![k.val, 0, 0, 0, 0] : Fin 5 → ℕ) a : Int))
    (hf : (⟨5, ![128, 1, 64, 4, 256]⟩ : Shape).Slices (fun _ => 0) ⟨5, ![1, 1, 64, 4, 256]⟩)
    (hs : (⟨5, ![1, 1, 64, 4, 256]⟩ : Shape).ShapeCasts ⟨4, ![1, 64, 4, 256]⟩) (s : Fin 64) (h : Fin 4) (d : Fin 256) :
    shapeCast ⟨4, ![1, 64, 4, 256]⟩ (Host.dynamicSlice ⟨5, ![1, 1, 64, 4, 256]⟩ x b hf) hs (ix4 0 s h d) = x (ix5 k 0 s h d) := by
  have hk : (⟨5, ![128, 1, 64, 4, 256]⟩ : Shape).Slices (![k.val, 0, 0, 0, 0] : Fin 5 → ℕ) ⟨5, ![1, 1, 64, 4, 256]⟩ := by
    refine ⟨rfl, fun a => ?_⟩
    match a with
    | ⟨0, _⟩ => show k.val + 1 ≤ 128; omega
    | ⟨1, _⟩ => show 0 + 1 ≤ 1; omega
    | ⟨2, _⟩ => show 0 + 64 ≤ 64; omega
    | ⟨3, _⟩ => show 0 + 4 ≤ 4; omega
    | ⟨4, _⟩ => show 0 + 256 ≤ 256; omega
  rw [Host.dynamicSlice_eq_extractStridedSlice _ x b _ hf hk hb]
  pointwise

theorem cut5V_at (x : (⟨5, ![128, 1, 64, 4, 512]⟩ : Shape).Idx → EReal) (b : Fin 5 → Int) (k : Fin 128)
    (hb : ∀ a, b a = ((![k.val, 0, 0, 0, 0] : Fin 5 → ℕ) a : Int))
    (hf : (⟨5, ![128, 1, 64, 4, 512]⟩ : Shape).Slices (fun _ => 0) ⟨5, ![1, 1, 64, 4, 512]⟩)
    (hs : (⟨5, ![1, 1, 64, 4, 512]⟩ : Shape).ShapeCasts ⟨4, ![1, 64, 4, 512]⟩) (s : Fin 64) (h : Fin 4) (d : Fin 512) :
    shapeCast ⟨4, ![1, 64, 4, 512]⟩ (Host.dynamicSlice ⟨5, ![1, 1, 64, 4, 512]⟩ x b hf) hs (ix4 0 s h d) = x (ix5 k 0 s h d) := by
  have hk : (⟨5, ![128, 1, 64, 4, 512]⟩ : Shape).Slices (![k.val, 0, 0, 0, 0] : Fin 5 → ℕ) ⟨5, ![1, 1, 64, 4, 512]⟩ := by
    refine ⟨rfl, fun a => ?_⟩
    match a with
    | ⟨0, _⟩ => show k.val + 1 ≤ 128; omega
    | ⟨1, _⟩ => show 0 + 1 ≤ 1; omega
    | ⟨2, _⟩ => show 0 + 64 ≤ 64; omega
    | ⟨3, _⟩ => show 0 + 4 ≤ 4; omega
    | ⟨4, _⟩ => show 0 + 512 ≤ 512; omega
  rw [Host.dynamicSlice_eq_extractStridedSlice _ x b _ hf hk hb]
  pointwise

theorem cut4_at (x : (⟨4, ![128, 1, 4, 256]⟩ : Shape).Idx → EReal) (b : Fin 4 → Int) (k : Fin 128)
    (hb : ∀ a, b a = ((![k.val, 0, 0, 0] : Fin 4 → ℕ) a : Int))
    (hf : (⟨4, ![128, 1, 4, 256]⟩ : Shape).Slices (fun _ => 0) ⟨4, ![1, 1, 4, 256]⟩)
    (hs : (⟨4, ![1, 1, 4, 256]⟩ : Shape).ShapeCasts ⟨3, ![1, 4, 256]⟩) (h : Fin 4) (d : Fin 256) :
    shapeCast ⟨3, ![1, 4, 256]⟩ (Host.dynamicSlice ⟨4, ![1, 1, 4, 256]⟩ x b hf) hs (ix3 0 h d) = x (ix4 k 0 h d) := by
  have hk : (⟨4, ![128, 1, 4, 256]⟩ : Shape).Slices (![k.val, 0, 0, 0] : Fin 4 → ℕ) ⟨4, ![1, 1, 4, 256]⟩ := by
    refine ⟨rfl, fun a => ?_⟩
    match a with
    | ⟨0, _⟩ => show k.val + 1 ≤ 128; omega
    | ⟨1, _⟩ => show 0 + 1 ≤ 1; omega
    | ⟨2, _⟩ => show 0 + 4 ≤ 4; omega
    | ⟨3, _⟩ => show 0 + 256 ≤ 256; omega
  rw [Host.dynamicSlice_eq_extractStridedSlice _ x b _ hf hk hb]
  pointwise

/-- One chunk written into an array of chunks. -/
theorem put5_at (x : S128x1x64x4x512.Idx → EReal) (y : S1x1x64x4x512.Idx → EReal) (b : Fin 5 → Int) (k : Fin 128)
    (hb : ∀ a, b a = ((![k.val, 0, 0, 0, 0] : Fin 5 → ℕ) a : Int))
    (hf : S128x1x64x4x512.Slices (fun _ => 0) S1x1x64x4x512) (g : Fin 128) (s : Fin 64) (h : Fin 4) (e : Fin 512) :
    Host.dynamicUpdateSlice x y b hf (ix5 g 0 s h e) = if g = k then y (ix5 0 0 s h e) else x (ix5 g 0 s h e) := by
  have hk : S128x1x64x4x512.Slices (![k.val, 0, 0, 0, 0] : Fin 5 → ℕ) S1x1x64x4x512 := by
    refine ⟨rfl, fun a => ?_⟩
    match a with
    | ⟨0, _⟩ => show k.val + 1 ≤ 128; omega
    | ⟨1, _⟩ => show 0 + 1 ≤ 1; omega
    | ⟨2, _⟩ => show 0 + 64 ≤ 64; omega
    | ⟨3, _⟩ => show 0 + 4 ≤ 4; omega
    | ⟨4, _⟩ => show 0 + 512 ≤ 512; omega
  rw [WordCmp.dynamicUpdateSlice_eq_update x y b hf _ hk hb]
  pointwise
  by_cases hg : g = k
  · subst hg
    rw [dif_pos ⟨le_rfl, Nat.lt_succ_self _⟩, if_pos rfl]
    exact congrArg (fun z : Fin 1 => y (ix5 z 0 s h e)) (Subsingleton.elim _ _)
  · rw [dif_neg (fun hh => hg (Fin.ext (by omega))), if_neg hg]

section step

variable (V : Valuation τ sig (Elt Ideal)) (k : Fin 128) (hc : V (Proc.devRef .tc main_v42_4) = fun _ => BitVec.ofNat 32 k.val)

include hc

theorem start5 (a : Fin 5) : (((![V (Proc.devRef .tc main_v42_4), constantI S_ 32 0#32, constantI S_ 32 0#32, constantI S_ 32 0#32, constantI S_ 32 0#32]
      : Fin 5 → (⟨S_, .i32⟩ : BufTy).Contents (Elt Ideal))) a (Shape.Idx.first h_S_)).toInt = ((![k.val, 0, 0, 0, 0] : Fin 5 → ℕ) a : Int) := by
  match a with
  | ⟨0, _⟩ =>
    show (V (Proc.devRef .tc main_v42_4) (Shape.Idx.first h_S_)).toInt = (k.val : Int)
    rw [hc]
    exact toInt_ofNat_of_lt (by omega)
  | ⟨1, _⟩ => rfl
  | ⟨2, _⟩ => rfl
  | ⟨3, _⟩ => rfl
  | ⟨4, _⟩ => rfl

theorem start4 (a : Fin 4) : (((![V (Proc.devRef .tc main_v42_4), constantI S_ 32 0#32, constantI S_ 32 0#32, constantI S_ 32 0#32]
      : Fin 4 → (⟨S_, .i32⟩ : BufTy).Contents (Elt Ideal))) a (Shape.Idx.first h_S_)).toInt = ((![k.val, 0, 0, 0] : Fin 4 → ℕ) a : Int) := by
  match a with
  | ⟨0, _⟩ =>
    show (V (Proc.devRef .tc main_v42_4) (Shape.Idx.first h_S_)).toInt = (k.val : Int)
    rw [hc]
    exact toInt_ofNat_of_lt (by omega)
  | ⟨1, _⟩ => rfl
  | ⟨2, _⟩ => rfl
  | ⟨3, _⟩ => rfl

/-- The state after a trip. -/
theorem step5_at (h : Fin 4) (d : Fin 256) (e : Fin 512) : (show EReal from step_main_v42_5 V (ix4 0 h d e))
    = (show EReal from V (Proc.devRef .tc main_v42_5) (ix4 0 h d e)) * (show EReal from V (Proc.devRef .tc main_v42_3) (ix4 k 0 h d))
      + ∑ s : Fin 64, (show EReal from V (Proc.devRef .tc main_v42_1) (ix5 k 0 s h d)) * (show EReal from V (Proc.devRef .tc main_v42_2) (ix5 k 0 s h e)) := by
  have p (S : FVec Ideal S1x4x256x512 .f32) (D : FVec Ideal S1x4x256 .f32) (K : FVec Ideal S1x64x4x256 .f32) (W : FVec Ideal S1x64x4x512 .f32) :
      addf (mulf S (broadcastInDim S1x4x256x512 ![0, 1, 2, 3] bcast_S1x4x256x1_S1x4x256x512_0_1_2_3
          (broadcastInDim S1x4x256x1 ![0, 1, 2] bcast_S1x4x256_S1x4x256x1_0_1_2 D)))
        (Host.dotGeneral dot_S1x64x4x256_S1x64x4x512_S1x4x256x512_1_1_3_3_02_02 none K W) (ix4 0 h d e)
      = (S (ix4 0 h d e) : EReal) * D (ix3 0 h d) + ∑ s : Fin 64, (K (ix4 0 s h d) : EReal) * W (ix4 0 s h e) := by pointwise
  refine (p _ _ _ _).trans (congrArg₂ (· + ·) (congrArg₂ (· * ·) rfl ?_) (Finset.sum_congr rfl fun s _ => congrArg₂ (· * ·) ?_ ?_))
  · exact cut4_at _ _ k (start4 V k hc) sliceFits_S128x1x4x256_S1x1x4x256 shapeCasts_S1x1x4x256_S1x4x256 h d
  · exact cut5K_at _ _ k (start5 V k hc) sliceFits_S128x1x64x4x256_S1x1x64x4x256 shapeCasts_S1x1x64x4x256_S1x64x4x256 s h d
  · exact cut5V_at _ _ k (start5 V k hc) sliceFits_S128x1x64x4x512_S1x1x64x4x512 shapeCasts_S1x1x64x4x512_S1x64x4x512 s h e

/-- The results after a trip. -/
theorem step6_at (g : Fin 128) (t : Fin 64) (h : Fin 4) (e : Fin 512) : (show EReal from step_main_v42_6 V (ix5 g 0 t h e))
    = if g = k then ∑ d : Fin 256, (show EReal from V (Proc.devRef .tc main_v42_5) (ix4 0 h d e)) * (show EReal from V (Proc.devRef .tc main_v42_0) (ix5 k 0 t h d))
      else (show EReal from V (Proc.devRef .tc main_v42_6) (ix5 g 0 t h e)) := by
  refine (put5_at _ _ _ k (start5 V k hc) updateFits_S128x1x64x4x512_S1x1x64x4x512 g t h e).trans ?_
  by_cases hg : g = k
  · rw [if_pos hg, if_pos hg]
    have p (S : FVec Ideal S1x4x256x512 .f32) (Q : FVec Ideal S1x64x4x256 .f32) :
        broadcastInDim S1x1x64x4x512 ![1, 2, 3, 4] bcast_S1x64x4x512_S1x1x64x4x512_1_2_3_4 (transpose S1x64x4x512 [0, 3, 1, 2]
          (Host.dotGeneral dot_S1x4x256x512_S1x64x4x256_S1x4x512x64_2_3_3_1_01_02 none S Q) transposes_S1x4x512x64_S1x64x4x512_0_3_1_2) (ix5 0 0 t h e)
        = ∑ d : Fin 256, (S (ix4 0 h d e) : EReal) * Q (ix4 0 t h d) := by pointwise
    exact (p _ _).trans (Finset.sum_congr rfl fun d _ => congrArg₂ (· * ·) rfl (cut5K_at _ _ k (start5 V k hc) sliceFits_S128x1x64x4x256_S1x1x64x4x256 shapeCasts_S1x1x64x4x256_S1x64x4x256 t h d))
  · rw [if_neg hg, if_neg hg]

end step

variable (m : (ℓ : Loc nD τ sig) → Buf (Elt Ideal) ℓ) (c : Dev nD)

/-- The carried arrays after `n` trips. -/
def Wn (n : ℕ) : Valuation τ sig (Elt Ideal) := STEP^[n] (E8 m c)

theorem Wn_succ (n : ℕ) : Wn m c (n + 1) = STEP (Wn m c n) := Function.iterate_succ_apply' _ _ _

theorem W0_at (n : ℕ) : Wn m c n (Proc.devRef .tc main_v42_0) = E8 m c (Proc.devRef .tc main_v42_0) := by
  induction n with
  | zero => rfl
  | succ n ih => rw [Wn_succ, STEP_main_v42_0, ih]
theorem W1_at (n : ℕ) : Wn m c n (Proc.devRef .tc main_v42_1) = E8 m c (Proc.devRef .tc main_v42_1) := by
  induction n with
  | zero => rfl
  | succ n ih => rw [Wn_succ, STEP_main_v42_1, ih]
theorem W2_at (n : ℕ) : Wn m c n (Proc.devRef .tc main_v42_2) = E8 m c (Proc.devRef .tc main_v42_2) := by
  induction n with
  | zero => rfl
  | succ n ih => rw [Wn_succ, STEP_main_v42_2, ih]
theorem W3_at (n : ℕ) : Wn m c n (Proc.devRef .tc main_v42_3) = E8 m c (Proc.devRef .tc main_v42_3) := by
  induction n with
  | zero => rfl
  | succ n ih => rw [Wn_succ, STEP_main_v42_3, ih]

/-- The trip counter. -/
theorem W4_at (n : ℕ) : Wn m c n (Proc.devRef .tc main_v42_4) = fun _ => BitVec.ofNat 32 n := by
  induction n with
  | zero => exact ctr_entry m c
  | succ n ih =>
    rw [Wn_succ, STEP_main_v42_4]
    unfold step_main_v42_4
    rw [ih]
    funext i
    exact (BitVec.ofNat_add n 1).symm

/-- The state before the `n`-th trip is the recurrence's. -/
theorem W5_at (n : ℕ) (hn : n ≤ 128) (h : Fin 4) (d : Fin 256) (e : Fin 512) :
    (show EReal from Wn m c n (Proc.devRef .tc main_v42_5) (ix4 0 h d e)) = Gla.st (B0 m c) (B1 m c) (B2 m c) (B3 m c) n h d e := by
  induction n with
  | zero => exact inS_at m c _
  | succ n ih =>
    rw [Wn_succ, STEP_main_v42_5]
    have hg : Gla.g128 n = ⟨n, hn⟩ := Fin.ext (Nat.mod_eq_of_lt hn)
    refine (step5_at (Wn m c n) ⟨n, hn⟩ (W4_at m c n) h d e).trans ?_
    rw [W1_at, W2_at, W3_at]
    unfold Gla.st
    rw [hg]
    refine congrArg₂ (· + ·) (congrArg₂ (· * ·) (ih (by omega)) (inD_at m c _ h d)) (Finset.sum_congr rfl fun s _ => ?_)
    rw [inK_at, inV_at]
    exact mul_comm _ _

/-- The results of the trips done. -/
theorem W6_at (n : ℕ) (hn : n ≤ 128) (g : Fin 128) (hg : g.val < n) (t : Fin 64) (h : Fin 4) (e : Fin 512) :
    (show EReal from Wn m c n (Proc.devRef .tc main_v42_6) (ix5 g 0 t h e))
      = ∑ d : Fin 256, Gla.qd (B0 m c) (B1 m c) (B2 m c) (B3 m c) g t h d * Gla.st (B0 m c) (B1 m c) (B2 m c) (B3 m c) g.val h d e := by
  induction n with
  | zero => omega
  | succ n ih =>
    rw [Wn_succ, STEP_main_v42_6]
    refine (step6_at (Wn m c n) ⟨n, hn⟩ (W4_at m c n) g t h e).trans ?_
    by_cases h' : g = ⟨n, hn⟩
    · rw [if_pos h', W0_at]
      subst h'
      refine Finset.sum_congr rfl fun d _ => ?_
      rw [W5_at m c n (by omega), inQ_at]
      exact mul_comm _ _
    · rw [if_neg h']
      exact ih (by omega) (by have : g.val ≠ n := fun q => h' (Fin.ext q); omega)

end Cert.ReferenceIdeal.Side

end
-- ==== Proof.RefOut.lean ====
module

public import proofs.«01_k».proof.Proof.RefLoop

/-! The reference's result. -/

@[expose] public section

set_option maxRecDepth 16384

noncomputable section

namespace Cert.ReferenceIdeal.Side

open Idealize.ShloMosaic Idealize.ShloMosaic.TcCoe Idealize.ShloMosaic.StableHlo
open Cert.ReferenceIdeal Cert.ReferenceIdeal.Gen Cert.ReferenceIdeal.Value

/-- The last stretch: the two parts added, normalised by their mean square and scaled. -/
theorem o9_v60 (V : Valuation τ sig (Elt Ideal)) (o : Fin 512 → EReal) (g : Fin 128) (t : Fin 64) (h : Fin 4)
    (ho : ∀ e, (show EReal from V (Proc.devRef .tc main_v33) (ix5 0 g t h e)) + (show EReal from V (Proc.devRef .tc main_v42_6) (ix5 g 0 t h e)) = o e) (e : Fin 512) :
    (show EReal from after hostOps0_9 V (Proc.devRef .tc main_v60) (ix2 (Gla.row g t) ⟨512 * h.val + e.val, by omega⟩))
      = o e * Ideal.rsqrt (Ideal.div (∑ i : Fin 512, o i * o i) (Ideal.ofBits .f32 0x44000000#32) + Ideal.ofBits .f32 0x358637BD#32)
        * (show EReal from V (Proc.devRef .tc main_arg4) (ix1 e)) := by
  after_reads_simp
  have e1 (x : FVec Ideal S1x128x64x4x512 .f32) (y : FVec Ideal S128x1x64x4x512 .f32) (i : Fin 512) :
      shapeCast S1x8192x4x512 (addf x (transpose S1x128x64x4x512 [1, 0, 2, 3, 4] y transposes_S128x1x64x4x512_S1x128x64x4x512_1_0_2_3_4))
        shapeCasts_S1x128x64x4x512_S1x8192x4x512 (ix4 0 (Gla.row g t) h i) = (x (ix5 0 g t h i) : EReal) + y (ix5 g 0 t h i) := by
    pointwise [Gla.row]
  have e2 (z : FVec Ideal S1x8192x4x512 .f32) (w : FVec Ideal S512 .f32) :
      truncf .bf16 (shapeCast S8192x2048 (mulf (mulf z (broadcastInDim S1x8192x4x512 ![0, 1, 2, 3] bcast_S1x8192x4x1_S1x8192x4x512_0_1_2_3
          (Host.rsqrt (addf (Host.divf (broadcastInDim S1x8192x4x1 ![0, 1, 2] bcast_S1x8192x4_S1x8192x4x1_0_1_2
              (Host.reduceAdd (mulf z z) (constant S_ .f32 0x00000000#32) reducesTo_S1x8192x4x512_S1x8192x4_d3 h_S_))
            (broadcastInDim S1x8192x4x1 ![] bcast_S_S1x8192x4x1 (constant S_ .f32 0x44000000#32)))
            (broadcastInDim S1x8192x4x1 ![] bcast_S_S1x8192x4x1 (constant S_ .f32 0x358637BD#32))))))
          (broadcastInDim S1x8192x4x512 ![0, 1, 2, 3] bcast_S1x1x1x512_S1x8192x4x512_0_1_2_3 (broadcastInDim S1x1x1x512 ![3] bcast_S512_S1x1x1x512_3 w)))
        shapeCasts_S1x8192x4x512_S8192x2048) bitsLt_bf16_f32 (ix2 (Gla.row g t) ⟨512 * h.val + e.val, by omega⟩)
      = (z (ix4 0 (Gla.row g t) h e) : EReal)
        * Ideal.rsqrt (Ideal.div (∑ i : Fin 512, (z (ix4 0 (Gla.row g t) h i) : EReal) * z (ix4 0 (Gla.row g t) h i)) (Ideal.ofBits .f32 0x44000000#32)
            + Ideal.ofBits .f32 0x358637BD#32) * w (ix1 e) := by
    pointwise [Gla.row]
  refine (e2 _ _).trans ?_
  have e3 := fun i => (e1 (V (Proc.devRef .tc main_v33)) (V (Proc.devRef .tc main_v42_6)) i).trans (ho i)
  refine congrArg₂ (· * ·) (congrArg₂ (· * ·) (e3 e) ?_) rfl
  exact congrArg (fun z => Ideal.rsqrt (Ideal.div z _ + _)) (Finset.sum_congr rfl fun i _ => congrArg₂ (· * ·) (e3 i) (e3 i))

/-- A buffer no operation of the loop writes is kept by it. -/
theorem trip_keep (V : Valuation τ sig (Elt Ideal)) (r : Ref sig .tc) (hc : r ∉ condOps_W) (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W) (h6 : r ∉ while0Ops0_6_W) :
    afterL bodyI (after condOps V) (Proc.devRef .tc r) = V (Proc.devRef .tc r) := by
  show after while0Ops0_6 (after while0Ops0_5 (after while0Ops0_4 (after while0Ops0_3 (after while0Ops0_2 (after while0Ops0_1 (after while0Ops0
    (after condOps V))))))) (Proc.devRef .tc r) = _
  rw [after_of_writes_sub _ _ while0Ops0_6_writes h6, after_of_writes_sub _ _ while0Ops0_5_writes h5, after_of_writes_sub _ _ while0Ops0_4_writes h4,
    after_of_writes_sub _ _ while0Ops0_3_writes h3, after_of_writes_sub _ _ while0Ops0_2_writes h2, after_of_writes_sub _ _ while0Ops0_1_writes h1,
    after_of_writes_sub _ _ while0Ops0_writes h0, after_of_writes_sub _ _ condOps_writes hc]

variable (m : (ℓ : Loc nD τ sig) → Buf (Elt Ideal) ℓ) (c : Dev nD)

theorem keep33 (n : ℕ) : atK m n c (Proc.devRef .tc main_v33) = E8 m c (Proc.devRef .tc main_v33) := by
  induction n with
  | zero => rfl
  | succ n ih =>
    refine Eq.trans ?_ ih
    exact trip_keep (atK m n c) main_v33 (by decide +kernel) (by decide +kernel) (by decide +kernel) (by decide +kernel) (by decide +kernel) (by decide +kernel)
      (by decide +kernel) (by decide +kernel)

theorem keep_nw (n : ℕ) : atK m n c (Proc.devRef .tc main_arg4) = B4 m c := by
  induction n with
  | zero =>
    show E8 m c (Proc.devRef .tc main_arg4) = _
    refine (after_of_writes_sub _ _ hostOps0_8_writes (by decide +kernel)).trans ?_
    rw [k7 m c main_arg4 (by decide +kernel), k6 m c main_arg4 (by decide +kernel), k5 m c main_arg4 (by decide +kernel),
      k4 m c main_arg4 (by decide +kernel), k3 m c main_arg4 (by decide +kernel), k2 m c main_arg4 (by decide +kernel), k1 m c main_arg4 (by decide +kernel)]
    exact after_of_writes_sub _ _ hostOps0_writes (by decide +kernel)
  | succ n ih =>
    refine Eq.trans ?_ ih
    exact trip_keep (atK m n c) main_arg4 (by decide +kernel) (by decide +kernel) (by decide +kernel) (by decide +kernel) (by decide +kernel) (by decide +kernel)
      (by decide +kernel) (by decide +kernel)

/-- The reference's result, entry by entry. -/
theorem R_at (g : Fin 128) (t : Fin 64) (h : Fin 4) (e : Fin 512) :
    (show EReal from finalContents condOps preI bodyI postI 128 m c (Proc.devRef .tc main_v60) (ix2 (Gla.row g t) ⟨512 * h.val + e.val, by omega⟩))
      = Gla.out (B0 m c) (B1 m c) (B2 m c) (B3 m c) (B4 m c) g t h e := by
  have hk (r : Ref sig .tc) (hr : r ∉ condOps_W) : after condOps (atK m 128 c) (Proc.devRef .tc r) = atK m 128 c (Proc.devRef .tc r) :=
    after_of_writes_sub _ _ condOps_writes hr
  refine (o9_v60 (after condOps (atK m 128 c)) (fun e => Gla.ro (B0 m c) (B1 m c) (B2 m c) (B3 m c) g t h e) g t h (fun e => ?_) e).trans ?_
  · rw [hk main_v33 (by decide +kernel), hk main_v42_6 (by decide +kernel), keep33, intra_at,
      show atK m 128 c (Proc.devRef .tc main_v42_6) = Wn m c 128 (Proc.devRef .tc main_v42_6) from atK_agree m c 128 main_v42_6 (by decide),
      W6_at m c 128 le_rfl g g.isLt]
    rfl
  · rw [hk main_arg4 (by decide +kernel), keep_nw]
    rfl

end Cert.ReferenceIdeal.Side

end
-- ==== Proof.Body.lean ====
module

public import proofs.«01_k».proof.Proof.Gen.KernelIdeal.Value
public import Idealize.ShloMosaic.Lib.Pipeline.ValueKit

/-! The body of one grid point of the gated linear attention kernel, written once for every chunk and head.
A grid point takes 512 rows, that is 8 chunks of 64 rows, and 4 heads. The printed body is straight-line code for
the 32 pairs of a chunk and a head; here each of its stores is shown to be one of two model operations,
`stM` (the head's new state) and `ouM` (the head's output rows), at that pair. -/

@[expose] public section

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]

theorem slC : ∀ c : Fin 8, S512x1024.Slices ![64 * c.val, 0] S64x1024 := by decide
theorem slH : ∀ h : Fin 4, S64x1024.Slices ![0, 256 * h.val] S64x256 := by decide
theorem slL : ∀ h : Fin 4, S1x1024.Slices ![0, 256 * h.val] S1x256 := by decide
theorem inbQ : ∀ c : Fin 8, ∀ a, (![64 * c.val, 0] : Fin 2 → ℕ) a + S64x1024.size a ≤ S512x1024.size a := by decide
theorem inbV : ∀ (c : Fin 8) (h : Fin 4), ∀ a, (![64 * c.val, 512 * h.val] : Fin 2 → ℕ) a + S64x512.size a ≤ S512x2048.size a := by decide
theorem inbS : ∀ h : Fin 4, ∀ a, (![h.val, 0, 0] : Fin 3 → ℕ) a + S1x512x256.size a ≤ S4x512x256.size a := by decide

/-- The rows of chunk `c` in a block of 512 rows of 1024 columns. -/
abbrev rQ (c : Fin 8) : Rect S512x1024 := Rect.unit ![64 * c.val, 0] S64x1024.size (inbQ c)
/-- The rows of chunk `c` and the columns of head `h` in a block of 512 rows of 2048 columns. -/
abbrev rV (c : Fin 8) (h : Fin 4) : Rect S512x2048 := Rect.unit ![64 * c.val, 512 * h.val] S64x512.size (inbV c h)
/-- Head `h` of the stacked states. -/
abbrev rS (h : Fin 4) : Rect S4x512x256 := Rect.unit ![h.val, 0, 0] S1x512x256.size (inbS h)

/-- The running sums of the log decays inside chunk `c`. -/
def cumM (u : FVec F S512x1024 .f32) (c : Fin 8) : FVec F S64x1024 .f32 :=
  addf (matmul dot_S64x64_S64x1024_S64x1024_1_0_0_1_n_n none (k0_pay5 (F := F))
      (truncf .bf16 (extractStridedSlice S64x1024 ![64 * c.val, 0] u (slC c)) bitsLt_bf16_f32)
      (constant S64x1024 .f32 0x00000000#32))
    (matmul dot_S64x64_S64x1024_S64x1024_1_0_0_1_n_n none (k0_pay5 (F := F))
      (truncf .bf16 (subf (extractStridedSlice S64x1024 ![64 * c.val, 0] u (slC c))
        (extf .f32 (truncf .bf16 (extractStridedSlice S64x1024 ![64 * c.val, 0] u (slC c)) bitsLt_bf16_f32) bitsLt_bf16_f32))
        bitsLt_bf16_f32)
      (constant S64x1024 .f32 0x00000000#32))

/-- The chunk's last running sum. -/
def lastM (u : FVec F S512x1024 .f32) (c : Fin 8) : FVec F S1x1024 .f32 :=
  extractStridedSlice S1x1024 ![63, 0] (cumM u c) slices_S64x1024_o63_0_S1x1024

/-- The decayed queries. -/
def qdM (u : FVec F S512x1024 .f32) (c : Fin 8) (q : Vec F S64x1024 .bf16) : FVec F S64x1024 .bf16 :=
  truncf .bf16 (mulf (mulf (extf .f32 (shapeCast S64x1024 q shapeCasts_S64x1024_S64x1024 : FVec F S64x1024 .bf16) bitsLt_bf16_f32)
    (broadcast S64x1024 (Scalar.ofBits .f32 0x3D800000#32 : F .f32))) (exp (cumM u c))) bitsLt_bf16_f32

/-- The keys with the decay undone. -/
def kiM (u : FVec F S512x1024 .f32) (c : Fin 8) (k : Vec F S64x1024 .bf16) : FVec F S64x1024 .bf16 :=
  truncf .bf16 (mulf (extf .f32 (shapeCast S64x1024 k shapeCasts_S64x1024_S64x1024 : FVec F S64x1024 .bf16) bitsLt_bf16_f32)
    (exp (subf (broadcast S64x1024 (Scalar.ofBits .f32 0x00000000#32 : F .f32)) (cumM u c)))) bitsLt_bf16_f32

/-- The keys decayed to the chunk's end. -/
def ksM (u : FVec F S512x1024 .f32) (c : Fin 8) (k : Vec F S64x1024 .bf16) : FVec F S64x1024 .bf16 :=
  truncf .bf16 (mulf (extf .f32 (shapeCast S64x1024 k shapeCasts_S64x1024_S64x1024 : FVec F S64x1024 .bf16) bitsLt_bf16_f32)
    (exp (subf (broadcastTo S64x1024 (lastM u c) broadcasts_S1x1024_S64x1024) (cumM u c)))) bitsLt_bf16_f32

/-- A head's state after a chunk, from the state before it. -/
def stM (u : FVec F S512x1024 .f32) (k : Vec F S64x1024 .bf16) (v : Vec F S64x512 .bf16) (c : Fin 8) (h : Fin 4)
    (s : Vec F S1x512x256 .f32) : FVec F S1x512x256 .f32 :=
  shapeCast S1x512x256
    (addf (mulf (shapeCast S512x256 s shapeCasts_S1x512x256_S512x256 : FVec F S512x256 .f32)
        (broadcastTo S512x256 (extractStridedSlice S1x256 ![0, 256 * h.val] (exp (lastM u c)) (slL h)) broadcasts_S1x256_S512x256))
      (matmul dot_S64x512_S64x256_S512x256_0_0_1_1_n_n none (shapeCast S64x512 v shapeCasts_S64x512_S64x512 : FVec F S64x512 .bf16)
        (extractStridedSlice S64x256 ![0, 256 * h.val] (ksM u c k) (slH h)) (constant S512x256 .f32 0x00000000#32)))
    shapeCasts_S512x256_S1x512x256

/-- A head's output before its normalisation. -/
def roM (u : FVec F S512x1024 .f32) (q k : Vec F S64x1024 .bf16) (v : Vec F S64x512 .bf16) (c : Fin 8) (h : Fin 4)
    (s : Vec F S1x512x256 .f32) : FVec F S64x512 .f32 :=
  addf (matmul dot_S64x64_S64x512_S64x512_1_0_0_1_n_n none
      (truncf .bf16 (select k0_pay4
        (matmul dot_S64x256_S64x256_S64x64_1_1_0_0_n_n none (extractStridedSlice S64x256 ![0, 256 * h.val] (qdM u c q) (slH h))
          (extractStridedSlice S64x256 ![0, 256 * h.val] (kiM u c k) (slH h)) (constant S64x64 .f32 0x00000000#32))
        (broadcast S64x64 (Scalar.ofBits .f32 0x00000000#32 : F .f32))) bitsLt_bf16_f32)
      (shapeCast S64x512 v shapeCasts_S64x512_S64x512 : FVec F S64x512 .bf16) (constant S64x512 .f32 0x00000000#32))
    (matmul dot_S64x256_S512x256_S64x512_1_1_0_0_n_n none (extractStridedSlice S64x256 ![0, 256 * h.val] (qdM u c q) (slH h))
      (truncf .bf16 (shapeCast S512x256 s shapeCasts_S1x512x256_S512x256 : FVec F S512x256 .f32) bitsLt_bf16_f32)
      (constant S64x512 .f32 0x00000000#32))

/-- The normalisation of a head's output rows. -/
def nrM (w : Vec F S1x512 .f32) (o : FVec F S64x512 .f32) : FVec F S64x512 .bf16 :=
  truncf .bf16 (mulf (mulf o (broadcastTo S64x512
    (rsqrt (addf (divf (shapeCast S64x1 (multiReduction .add [1] S64 (mulf o o) 0x00000000#32 reduces_S64x512_S64 (.inl rfl) rfl)
        shapeCasts_S64_S64x1 : FVec F S64x1 .f32) (broadcast S64x1 (Scalar.ofBits .f32 0x44000000#32 : F .f32)))
      (broadcast S64x1 (Scalar.ofBits .f32 0x358637BD#32 : F .f32)))) broadcasts_S64x1_S64x512))
    (broadcastTo S64x512 (shapeCast S1x512 w shapeCasts_S1x512_S1x512 : FVec F S1x512 .f32) broadcasts_S1x512_S64x512)) bitsLt_bf16_f32

/-- A head's output rows of a chunk, from the state before the chunk. -/
def ouM (u : FVec F S512x1024 .f32) (w : Vec F S1x512 .f32) (q k : Vec F S64x1024 .bf16) (v : Vec F S64x512 .bf16)
    (c : Fin 8) (h : Fin 4) (s : Vec F S1x512x256 .f32) : FVec F S64x512 .bf16 := nrM w (roM u q k v c h s)

/-- A chunk number below 8. -/
def c8 (c : ℕ) : Fin 8 := ⟨c % 8, Nat.mod_lt _ (by decide)⟩

/-- A chunk's rows of a block of queries or keys. -/
def ldQ (x : Vec F S512x1024 .bf16) (c : Fin 8) : Vec F S64x1024 .bf16 := View.ld x (rQ c)
/-- A chunk's rows and a head's columns of a block of values. -/
def ldV (x : Vec F S512x2048 .bf16) (c : Fin 8) (h : Fin 4) : Vec F S64x512 .bf16 := View.ld x (rV c h)
/-- A head's state out of the stacked states. -/
def ldS (x : Vec F S4x512x256 .f32) (h : Fin 4) : Vec F S1x512x256 .f32 := View.ld x (rS h)

theorem readQ (a : Memref sig .tc .vmem S512x1024 .bf16) (ha : a.IsWhole) (x : Vec F S512x1024 .bf16) (c : Fin 8) :
    View.readAt (Elt F) a.view (rQ c).toLoadRect (ha.unread x) = ldQ x c := by
  rw [View.readAt_eq_ld, ha.read_unread]; rfl
theorem readV (a : Memref sig .tc .vmem S512x2048 .bf16) (ha : a.IsWhole) (x : Vec F S512x2048 .bf16) (c : Fin 8) (h : Fin 4) :
    View.readAt (Elt F) a.view (rV c h).toLoadRect (ha.unread x) = ldV x c h := by
  rw [View.readAt_eq_ld, ha.read_unread]; rfl
theorem readS (a : Memref sig .tc .vmem S4x512x256 .f32) (ha : a.IsWhole) (x : Vec F S4x512x256 .f32) (h : Fin 4) :
    View.readAt (Elt F) a.view (rS h).toLoadRect (ha.unread x) = ldS x h := by
  rw [View.readAt_eq_ld, ha.read_unread]; rfl

/-- A head's state before the point's chunk `c`, from the heads' states before the point. -/
def chain (u : FVec F S512x1024 .f32) (x1 : Vec F S512x1024 .bf16) (x2 : Vec F S512x2048 .bf16)
    (T : Fin 4 → Vec F S1x512x256 .f32) (h : Fin 4) : ℕ → Vec F S1x512x256 .f32
  | 0 => T h
  | c + 1 => stM u (ldQ x1 (c8 c)) (ldV x2 (c8 c) h) (c8 c) h (chain u x1 x2 T h c)

/-- The heads' states once the heads below `n` have passed chunk `c` and the others have not. -/
def stage (u : FVec F S512x1024 .f32) (x1 : Vec F S512x1024 .bf16) (x2 : Vec F S512x2048 .bf16)
    (T : Fin 4 → Vec F S1x512x256 .f32) (c n : ℕ) (h : Fin 4) : Vec F S1x512x256 .f32 :=
  chain u x1 x2 T h (if h.val < n then c + 1 else c)

/-- The stores `L` into the stacked states leave head `h`, for each head below `n`, holding `T h`. -/
def Holds (n : ℕ) (L : List (View.Piece (Elt F) S4x512x256 .f32)) (T : Fin 4 → Vec F S1x512x256 .f32) : Prop :=
  ∀ h : Fin 4, h.val < n → ∀ y : S1x512x256.Idx,
    (∃ p ∈ L, (rS h).emb y ∈ p.1.set) ∧ View.canon L ((rS h).emb y) = T h y

theorem not_mem_rS {h j : Fin 4} (hj : j ≠ h) (y : S1x512x256.Idx) : (rS j).emb y ∉ (rS h).set := by
  refine (rS h).not_mem_set_of_axis _ 0 h.val 1 rfl rfl rfl ?_
  have h0 : (y 0).val < 1 := (y 0).isLt
  have e : ((rS j).emb y 0).val = j.val + 1 * (y 0).val := rfl
  have : j.val ≠ h.val := fun e => hj (Fin.ext e)
  omega

/-- A load of head `h` reads what the stores left there. -/
theorem Holds.read {n : ℕ} {L : List (View.Piece (Elt F) S4x512x256 .f32)} {T : Fin 4 → Vec F S1x512x256 .f32}
    (H : Holds n L T) (arg9 : Memref sig .tc .vmem S4x512x256 .f32) (h : Fin 4) (hn : h.val < n) :
    arg9.view.readCov L (rS h).toLoadRect = T h := by
  rw [View.readCov_eq_canon _ _ _ (fun j => (H h hn j).1)]
  exact funext fun j => (H h hn j).2

/-- One more store, of head `h`'s next state. -/
theorem Holds.cons {n n' : ℕ} {L : List (View.Piece (Elt F) S4x512x256 .f32)} {T T' : Fin 4 → Vec F S1x512x256 .f32}
    (H : Holds n L T) (h : Fin 4) (w : Vec F S1x512x256 .f32) (hw : T' h = w) (hT : ∀ j, j ≠ h → T' j = T j)
    (hn : ∀ j : Fin 4, j.val < n' → j ≠ h → j.val < n) : Holds n' (⟨rS h, w⟩ :: L) T' := by
  intro j hj y
  by_cases e : j = h
  · subst e
    exact ⟨⟨_, List.mem_cons_self, (rS j).idx_mem y⟩, by rw [hw]; exact View.canon_cons_emb (rS j) w L y⟩
  · obtain ⟨⟨p, hp, hm⟩, hc⟩ := H j (hn j hj e) y
    exact ⟨⟨p, List.mem_cons_of_mem _ hp, hm⟩,
      by rw [hT j e, ← hc]; exact View.canon_cons_of_not_mem _ _ (not_mem_rS e y)⟩

/-- The stores a point begins with when it clears the states: every head holds zeros. -/
theorem Holds.zero : Holds 4 [(⟨Rect.unit ![0, 0, 0] S4x512x256.size inb_S4x512x256_S4x512x256_0_0_0, k0_pay2⟩ : View.Piece (Elt F) S4x512x256 .f32)]
    (fun h => ldS (k0_pay2 (F := F)) h) := by
  intro h _ y
  have e : (Rect.unit ![0, 0, 0] S4x512x256.size inb_S4x512x256_S4x512x256_0_0_0).emb ((rS h).emb y) = (rS h).emb y :=
    funext fun a => Fin.ext (by
      show (![0, 0, 0] : Fin 3 → ℕ) a + 1 * _ = _
      fin_cases a <;> simp)
  refine ⟨⟨_, List.mem_cons_self, ?_⟩, ?_⟩
  · rw [← e]; exact (Rect.unit ![0, 0, 0] S4x512x256.size inb_S4x512x256_S4x512x256_0_0_0).idx_mem _
  · refine Eq.trans (congrArg _ e.symm) ?_; exact (View.canon_cons_emb _ _ _ _).trans rfl

variable (u : FVec F S512x1024 .f32) (w : Vec F S1x512 .f32) (x0 x1 : Vec F S512x1024 .bf16) (x2 : Vec F S512x2048 .bf16)
  (T : Fin 4 → Vec F S1x512x256 .f32)

theorem stage_self (c n : ℕ) (h : Fin 4) (hn : h.val = n) : stage u x1 x2 T c n h = chain u x1 x2 T h c := by
  unfold stage; rw [if_neg (by omega)]

theorem stage_four (c : ℕ) : stage u x1 x2 T c 4 = stage u x1 x2 T (c + 1) 0 := by
  funext h; unfold stage; rw [if_pos h.isLt, if_neg (Nat.not_lt_zero _)]

/-- The store of the pair (`c`, `h`) in the printed body, over its loads. -/
theorem step {nn n' : ℕ} {L : List (View.Piece (Elt F) S4x512x256 .f32)} (c n : ℕ) (hc : c < 8) (hn : n < 4)
    (H : Holds nn L (stage u x1 x2 T c n)) (hnn : ∀ j : Fin 4, j.val < n' → j ≠ ⟨n, hn⟩ → j.val < nn)
    (k : Vec F S64x1024 .bf16) (hk : k = ldQ x1 ⟨c, hc⟩) (v : Vec F S64x512 .bf16) (hv : v = ldV x2 ⟨c, hc⟩ ⟨n, hn⟩)
    (s : Vec F S1x512x256 .f32) (hs : s = stage u x1 x2 T c n ⟨n, hn⟩) :
    Holds n' (⟨rS ⟨n, hn⟩, stM u k v ⟨c, hc⟩ ⟨n, hn⟩ s⟩ :: L)
      (stage u x1 x2 T c (n + 1)) := by
  have e8 : c8 c = ⟨c, hc⟩ := Fin.ext (Nat.mod_eq_of_lt hc)
  refine H.cons ⟨n, hn⟩ _ ?_ ?_ hnn
  · subst hs hk hv
    rw [stage_self u x1 x2 T c n ⟨n, hn⟩ rfl]
    unfold stage; rw [if_pos (by simp)]
    show stM u _ _ _ _ _ = _
    rw [e8]
  · intro j hj
    have : j.val ≠ n := fun e => hj (Fin.ext e)
    unfold stage
    by_cases hlt : j.val < n
    · rw [if_pos (by omega), if_pos hlt]
    · rw [if_neg (by omega), if_neg hlt]

/-- The point's output block at row `64 c + t`, column `512 h + v`. -/
def outG (y : S512x2048.Idx) : Elt F .bf16 :=
  have h0 : (y 0).val < 512 := (y 0).isLt
  have h1 : (y 1).val < 2048 := (y 1).isLt
  ouM u w (ldQ x0 (c8 ((y 0).val / 64))) (ldQ x1 (c8 ((y 0).val / 64)))
    (ldV x2 (c8 ((y 0).val / 64)) ⟨(y 1).val / 512, by omega⟩) (c8 ((y 0).val / 64)) ⟨(y 1).val / 512, by omega⟩
    (chain u x1 x2 T ⟨(y 1).val / 512, by omega⟩ ((y 0).val / 64))
    (ix2 ⟨(y 0).val % 64, by omega⟩ ⟨(y 1).val % 512, by omega⟩)

/-- The store of the output rows of the pair (`c`, `h`) in the printed body, over its loads. -/
theorem outp (c n : ℕ) (hc : c < 8) (hn : n < 4) (q : Vec F S64x1024 .bf16) (hq : q = ldQ x0 ⟨c, hc⟩)
    (k : Vec F S64x1024 .bf16) (hk : k = ldQ x1 ⟨c, hc⟩) (v : Vec F S64x512 .bf16) (hv : v = ldV x2 ⟨c, hc⟩ ⟨n, hn⟩)
    (s : Vec F S1x512x256 .f32) (hs : s = stage u x1 x2 T c n ⟨n, hn⟩) (x : S64x512.Idx) :
    ouM u w q k v ⟨c, hc⟩ ⟨n, hn⟩ s x
      = outG u w x0 x1 x2 T ((rV ⟨c, hc⟩ ⟨n, hn⟩).emb x) := by
  have e8 : c8 c = ⟨c, hc⟩ := Fin.ext (Nat.mod_eq_of_lt hc)
  have h0 : (x 0).val < 64 := (x 0).isLt
  have h1 : (x 1).val < 512 := (x 1).isLt
  have a0 : ((rV ⟨c, hc⟩ ⟨n, hn⟩).emb x 0).val = 64 * c + 1 * (x 0).val := rfl
  have a1 : ((rV ⟨c, hc⟩ ⟨n, hn⟩).emb x 1).val = 512 * n + 1 * (x 1).val := rfl
  subst hs hq hk hv
  rw [stage_self u x1 x2 T c n ⟨n, hn⟩ rfl]
  unfold outG
  have q0 : ((rV ⟨c, hc⟩ ⟨n, hn⟩).emb x 0).val / 64 = c := by omega
  have q1 : ((rV ⟨c, hc⟩ ⟨n, hn⟩).emb x 1).val / 512 = n := by omega
  have r0 : ((rV ⟨c, hc⟩ ⟨n, hn⟩).emb x 0).val % 64 = (x 0).val := by omega
  have r1 : ((rV ⟨c, hc⟩ ⟨n, hn⟩).emb x 1).val % 512 = (x 1).val := by omega
  have ex : x = ix2 (⟨((rV ⟨c, hc⟩ ⟨n, hn⟩).emb x 0).val % 64, by omega⟩ : Fin 64) (⟨((rV ⟨c, hc⟩ ⟨n, hn⟩).emb x 1).val % 512, by omega⟩ : Fin 512) := by
    funext a; refine Fin.cases ?_ (fun b => Fin.cases ?_ (fun b => b.elim0) b) a
    · exact Fin.ext r0.symm
    · exact Fin.ext r1.symm
  have eh : (⟨((rV ⟨c, hc⟩ ⟨n, hn⟩).emb x 1).val / 512, by omega⟩ : Fin 4) = ⟨n, hn⟩ := Fin.ext q1
  conv_lhs => rw [ex]
  simp only [eh, q0, e8]

section reads
variable (a1 : Memref sig .tc .vmem S512x1024 .bf16) (h1 : a1.IsWhole) (a2 : Memref sig .tc .vmem S512x1024 .bf16) (h2 : a2.IsWhole)
  (a3 : Memref sig .tc .vmem S512x2048 .bf16) (h3 : a3.IsWhole)

/-- `stM` over the loads of keys and values. -/
def stR (c : Fin 8) (h : Fin 4) (s : Vec F S1x512x256 .f32) : FVec F S1x512x256 .f32 :=
  stM u (View.readAt (Elt F) a2.view (rQ c).toLoadRect (h2.unread x1)) (View.readAt (Elt F) a3.view (rV c h).toLoadRect (h3.unread x2)) c h s

/-- `ouM` over the loads of queries, keys and values. -/
def ouR (c : Fin 8) (h : Fin 4) (s : Vec F S1x512x256 .f32) : FVec F S64x512 .bf16 :=
  ouM u w (View.readAt (Elt F) a1.view (rQ c).toLoadRect (h1.unread x0)) (View.readAt (Elt F) a2.view (rQ c).toLoadRect (h2.unread x1))
    (View.readAt (Elt F) a3.view (rV c h).toLoadRect (h3.unread x2)) c h s

/-- `step`, from a list of stores that begins with `stR`. -/
theorem stepR {nn n' : ℕ} {L L' : List (View.Piece (Elt F) S4x512x256 .f32)} (c n : ℕ) (hc : c < 8) (hn : n < 4)
    (H : Holds nn L (stage u x1 x2 T c n)) (hnn : ∀ j : Fin 4, j.val < n' → j ≠ ⟨n, hn⟩ → j.val < nn)
    {s : Vec F S1x512x256 .f32} (hs : s = stage u x1 x2 T c n ⟨n, hn⟩)
    (e : L' = ⟨rS ⟨n, hn⟩, stR u x1 x2 a2 h2 a3 h3 ⟨c, hc⟩ ⟨n, hn⟩ s⟩ :: L) : Holds n' L' (stage u x1 x2 T c (n + 1)) := by
  subst e
  exact step u x1 x2 T c n hc hn H hnn _ (readQ a2 h2 x1 _) _ (readV a3 h3 x2 _ _) s hs

/-- `outp`, over the loads. -/
theorem outR (c n : ℕ) (hc : c < 8) (hn : n < 4) {s : Vec F S1x512x256 .f32} (hs : s = stage u x1 x2 T c n ⟨n, hn⟩) (x : S64x512.Idx) :
    ouR u w x0 x1 x2 a1 h1 a2 h2 a3 h3 ⟨c, hc⟩ ⟨n, hn⟩ s x = outG u w x0 x1 x2 T ((rV ⟨c, hc⟩ ⟨n, hn⟩).emb x) :=
  outp u w x0 x1 x2 T c n hc hn _ (readQ a1 h1 x0 _) _ (readQ a2 h2 x1 _) _ (readV a3 h3 x2 _ _) s hs x
end reads

end Cert.KernelIdeal.Body

end
-- ==== Proof.StoresA.lean ====
module

public import proofs.«01_k».proof.Proof.Body

/-! The stores of a grid point that clears the states first, one after the other: after each, what every head's state holds; and every store of output rows. -/

@[expose] public section

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]
variable (c : Dev nD) (i : grid0.Coords) (arg1 : Memref sig .tc .vmem S512x1024 .bf16) (harg1 : arg1.IsWhole)
  (arg2 : Memref sig .tc .vmem S512x1024 .bf16) (harg2 : arg2.IsWhole) (arg3 : Memref sig .tc .vmem S512x2048 .bf16) (harg3 : arg3.IsWhole)
  (arg4 : Memref sig .tc .vmem S512x128 .bf16) (harg4 : arg4.IsWhole) (arg5 : Memref sig .tc .vmem S128x1024 .bf16) (harg5 : arg5.IsWhole)
  (arg6 : Memref sig .tc .vmem S1x1024 .f32) (harg6 : arg6.IsWhole) (arg7 : Memref sig .tc .vmem S1x512 .f32) (harg7 : arg7.IsWhole)
  (arg8 : Memref sig .tc .vmem S512x2048 .bf16) (harg8 : arg8.IsWhole) (arg9 : Memref sig .tc .vmem S4x512x256 .f32) (harg9 : arg9.IsWhole)
  (x0 x1 : Vec F S512x1024 .bf16) (x2 : Vec F S512x2048 .bf16) (x3 : Vec F S512x128 .bf16) (x4 : Vec F S128x1024 .bf16)
  (x5 : Vec F S1x1024 .f32) (x6 : Vec F S1x512 .f32) (xs0 : Vec F S4x512x256 .f32)

/-- Before the first chunk: the states are cleared. -/
theorem A_0 : Holds 4 (kernelRun0_A.sl.HS0_1 (F := F)) (stage (kernelRun0_A.sl.r c arg4 harg4 arg5 harg5 arg6 harg6 x3 x4 x5) x1 x2 (ldS (k0_pay2 (F := F))) 0 0) := Holds.zero

/-- After head 0 of chunk 0. -/
theorem A_1 : Holds 4 (kernelRun0_A.sl.HS0_2 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 0 1) := by
  have H := (A_0 c arg4 harg4 arg5 harg5 arg6 harg6 x1 x2 x3 x4 x5)
  exact stepR (kernelRun0_A.sl.r c arg4 harg4 arg5 harg5 arg6 harg6 x3 x4 x5) x1 x2 (ldS (k0_pay2 (F := F))) arg2 harg2 arg3 harg3 0 0 (by decide) (by decide) H (by decide) (H.read arg9 0 (by decide)) (by sl_kernel_rfl)

/-- After head 1 of chunk 0. -/
theorem A_2 : Holds 4 (kernelRun0_A.sl.HS0_3 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 0 2) := by
  have H := (A_1 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 0 1 (by decide) (by decide) H (by decide) (H.read arg9 1 (by decide)) (by sl_kernel_rfl)

/-- After head 2 of chunk 0. -/
theorem A_3 : Holds 4 (kernelRun0_A.sl.HS0_4 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 0 3) := by
  have H := (A_2 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 0 2 (by decide) (by decide) H (by decide) (H.read arg9 2 (by decide)) (by sl_kernel_rfl)

/-- After head 3 of chunk 0. -/
theorem A_4 : Holds 4 (kernelRun0_A.sl.HS0_5 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 1 0) := by
  rw [← stage_four]
  have H := (A_3 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 0 3 (by decide) (by decide) H (by decide) (H.read arg9 3 (by decide)) (by sl_kernel_rfl)

/-- After head 0 of chunk 1. -/
theorem A_5 : Holds 4 (kernelRun0_A.sl.HS0_6 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 1 1) := by
  have H := (A_4 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 1 0 (by decide) (by decide) H (by decide) (H.read arg9 0 (by decide)) (by sl_kernel_rfl)

/-- After head 1 of chunk 1. -/
theorem A_6 : Holds 4 (kernelRun0_A.sl.HS0_7 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 1 2) := by
  have H := (A_5 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 1 1 (by decide) (by decide) H (by decide) (H.read arg9 1 (by decide)) (by sl_kernel_rfl)

/-- After head 2 of chunk 1. -/
theorem A_7 : Holds 4 (kernelRun0_A.sl.HS0_8 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 1 3) := by
  have H := (A_6 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 1 2 (by decide) (by decide) H (by decide) (H.read arg9 2 (by decide)) (by sl_kernel_rfl)

/-- After head 3 of chunk 1. -/
theorem A_8 : Holds 4 (kernelRun0_A.sl.HS0_9 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 2 0) := by
  rw [← stage_four]
  have H := (A_7 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 1 3 (by decide) (by decide) H (by decide) (H.read arg9 3 (by decide)) (by sl_kernel_rfl)

/-- After head 0 of chunk 2. -/
theorem A_9 : Holds 4 (kernelRun0_A.sl.HS0_10 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 2 1) := by
  have H := (A_8 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 2 0 (by decide) (by decide) H (by decide) (H.read arg9 0 (by decide)) (by sl_kernel_rfl)

/-- After head 1 of chunk 2. -/
theorem A_10 : Holds 4 (kernelRun0_A.sl.HS0_11 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 2 2) := by
  have H := (A_9 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 2 1 (by decide) (by decide) H (by decide) (H.read arg9 1 (by decide)) (by sl_kernel_rfl)

/-- After head 2 of chunk 2. -/
theorem A_11 : Holds 4 (kernelRun0_A.sl.HS0_12 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 2 3) := by
  have H := (A_10 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 2 2 (by decide) (by decide) H (by decide) (H.read arg9 2 (by decide)) (by sl_kernel_rfl)

/-- After head 3 of chunk 2. -/
theorem A_12 : Holds 4 (kernelRun0_A.sl.HS0_13 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 3 0) := by
  rw [← stage_four]
  have H := (A_11 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 2 3 (by decide) (by decide) H (by decide) (H.read arg9 3 (by decide)) (by sl_kernel_rfl)

/-- After head 0 of chunk 3. -/
theorem A_13 : Holds 4 (kernelRun0_A.sl.HS0_14 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 3 1) := by
  have H := (A_12 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 3 0 (by decide) (by decide) H (by decide) (H.read arg9 0 (by decide)) (by sl_kernel_rfl)

/-- After head 1 of chunk 3. -/
theorem A_14 : Holds 4 (kernelRun0_A.sl.HS0_15 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 3 2) := by
  have H := (A_13 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 3 1 (by decide) (by decide) H (by decide) (H.read arg9 1 (by decide)) (by sl_kernel_rfl)

/-- After head 2 of chunk 3. -/
theorem A_15 : Holds 4 (kernelRun0_A.sl.HS0_16 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 3 3) := by
  have H := (A_14 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 3 2 (by decide) (by decide) H (by decide) (H.read arg9 2 (by decide)) (by sl_kernel_rfl)

/-- After head 3 of chunk 3. -/
theorem A_16 : Holds 4 (kernelRun0_A.sl.HS0_17 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 4 0) := by
  rw [← stage_four]
  have H := (A_15 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 3 3 (by decide) (by decide) H (by decide) (H.read arg9 3 (by decide)) (by sl_kernel_rfl)

/-- After head 0 of chunk 4. -/
theorem A_17 : Holds 4 (kernelRun0_A.sl.HS0_18 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 4 1) := by
  have H := (A_16 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 4 0 (by decide) (by decide) H (by decide) (H.read arg9 0 (by decide)) (by sl_kernel_rfl)

/-- After head 1 of chunk 4. -/
theorem A_18 : Holds 4 (kernelRun0_A.sl.HS0_19 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 4 2) := by
  have H := (A_17 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 4 1 (by decide) (by decide) H (by decide) (H.read arg9 1 (by decide)) (by sl_kernel_rfl)

/-- After head 2 of chunk 4. -/
theorem A_19 : Holds 4 (kernelRun0_A.sl.HS0_20 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 4 3) := by
  have H := (A_18 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 4 2 (by decide) (by decide) H (by decide) (H.read arg9 2 (by decide)) (by sl_kernel_rfl)

/-- After head 3 of chunk 4. -/
theorem A_20 : Holds 4 (kernelRun0_A.sl.HS0_21 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 5 0) := by
  rw [← stage_four]
  have H := (A_19 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 4 3 (by decide) (by decide) H (by decide) (H.read arg9 3 (by decide)) (by sl_kernel_rfl)

/-- After head 0 of chunk 5. -/
theorem A_21 : Holds 4 (kernelRun0_A.sl.HS0_22 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 5 1) := by
  have H := (A_20 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 5 0 (by decide) (by decide) H (by decide) (H.read arg9 0 (by decide)) (by sl_kernel_rfl)

/-- After head 1 of chunk 5. -/
theorem A_22 : Holds 4 (kernelRun0_A.sl.HS0_23 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 5 2) := by
  have H := (A_21 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 5 1 (by decide) (by decide) H (by decide) (H.read arg9 1 (by decide)) (by sl_kernel_rfl)

/-- After head 2 of chunk 5. -/
theorem A_23 : Holds 4 (kernelRun0_A.sl.HS0_24 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 5 3) := by
  have H := (A_22 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 5 2 (by decide) (by decide) H (by decide) (H.read arg9 2 (by decide)) (by sl_kernel_rfl)

/-- After head 3 of chunk 5. -/
theorem A_24 : Holds 4 (kernelRun0_A.sl.HS0_25 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 6 0) := by
  rw [← stage_four]
  have H := (A_23 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 5 3 (by decide) (by decide) H (by decide) (H.read arg9 3 (by decide)) (by sl_kernel_rfl)

/-- After head 0 of chunk 6. -/
theorem A_25 : Holds 4 (kernelRun0_A.sl.HS0_26 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 6 1) := by
  have H := (A_24 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 6 0 (by decide) (by decide) H (by decide) (H.read arg9 0 (by decide)) (by sl_kernel_rfl)

/-- After head 1 of chunk 6. -/
theorem A_26 : Holds 4 (kernelRun0_A.sl.HS0_27 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 6 2) := by
  have H := (A_25 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 6 1 (by decide) (by decide) H (by decide) (H.read arg9 1 (by decide)) (by sl_kernel_rfl)

/-- After head 2 of chunk 6. -/
theorem A_27 : Holds 4 (kernelRun0_A.sl.HS0_28 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 6 3) := by
  have H := (A_26 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 6 2 (by decide) (by decide) H (by decide) (H.read arg9 2 (by decide)) (by sl_kernel_rfl)

/-- After head 3 of chunk 6. -/
theorem A_28 : Holds 4 (kernelRun0_A.sl.HS0_29 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 7 0) := by
  rw [← stage_four]
  have H := (A_27 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 6 3 (by decide) (by decide) H (by decide) (H.read arg9 3 (by decide)) (by sl_kernel_rfl)

/-- After head 0 of chunk 7. -/
theorem A_29 : Holds 4 (kernelRun0_A.sl.HS0_30 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 7 1) := by
  have H := (A_28 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 7 0 (by decide) (by decide) H (by decide) (H.read arg9 0 (by decide)) (by sl_kernel_rfl)

/-- After head 1 of chunk 7. -/
theorem A_30 : Holds 4 (kernelRun0_A.sl.HS0_31 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 7 2) := by
  have H := (A_29 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 7 1 (by decide) (by decide) H (by decide) (H.read arg9 1 (by decide)) (by sl_kernel_rfl)

/-- After head 2 of chunk 7. -/
theorem A_31 : Holds 4 (kernelRun0_A.sl.HS0_32 c arg2 harg2 arg3 harg3 arg4 harg4 arg5 harg5 arg6 harg6 arg9 x1 x2 x3 x4 x5) (stage (kernelRun0_A.sl.r c arg4 harg4 arg5 harg5 arg6 harg6 x3 x4 x5) x1 x2 (ldS (k0_pay2 (F := F))) 7 3) := by
  have H := (A_30 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 7 2 (by decide) (by decide) H (by decide) (H.read arg9 2 (by decide)) (by sl_kernel_rfl)

/-- The states after the point's last chunk. -/
theorem finA (hc0 : cond0_0 i) : Holds 4 (kernelRun0_A c i arg1 harg1 arg2 harg2 arg3 harg3 arg4 harg4 arg5 harg5 arg6 harg6 arg7 harg7 arg8 harg8 arg9 harg9 hc0 x0 x1 x2 x3 x4 x5 x6).2.1 (stage (kernelRun0_A.sl.r c arg4 harg4 arg5 harg5 arg6 harg6 x3 x4 x5) x1 x2 (ldS (k0_pay2 (F := F))) 8 0) := by
  rw [← stage_four]
  have H := (A_31 c arg2 harg2 arg3 harg3 arg4 harg4 arg5 harg5 arg6 harg6 arg9 x1 x2 x3 x4 x5)
  exact stepR (kernelRun0_A.sl.r c arg4 harg4 arg5 harg5 arg6 harg6 x3 x4 x5) x1 x2 (ldS (k0_pay2 (F := F))) arg2 harg2 arg3 harg3 7 3 (by decide) (by decide) H (by decide) (H.read arg9 3 (by decide)) (by sl_kernel_rfl)

/-- The stores of output rows, the last first. -/
theorem listA (hc0 : cond0_0 i) : (kernelRun0_A c i arg1 harg1 arg2 harg2 arg3 harg3 arg4 harg4 arg5 harg5 arg6 harg6 arg7 harg7 arg8 harg8 arg9 harg9 hc0 x0 x1 x2 x3 x4 x5 x6).1 = [
    ⟨rV 7 3, ouR (kernelRun0_A.sl.r c arg4 harg4 arg5 harg5 arg6 harg6 x3 x4 x5) (kernelRun0_A.sl.r_1 c arg7 harg7 x6) x0 x1 x2 arg1 harg1 arg2 harg2 arg3 harg3 7 3 (arg9.view.readCov (kernelRun0_A.sl.HS0_32 c arg2 harg2 arg3 harg3 arg4 harg4 arg5 harg5 arg6 harg6 arg9 x1 x2 x3 x4 x5) (rS 3).toLoadRect)⟩,
    ⟨rV 7 2, ouR (kernelRun0_A.sl.r c arg4 harg4 arg5 harg5 arg6 harg6 x3 x4 x5) (kernelRun0_A.sl.r_1 c arg7 harg7 x6) x0 x1 x2 arg1 harg1 arg2 harg2 arg3 harg3 7 2 (arg9.view.readCov (kernelRun0_A.sl.HS0_31 c arg2 harg2 arg3 harg3 arg4 harg4 arg5 harg5 arg6 harg6 arg9 x1 x2 x3 x4 x5) (rS 2).toLoadRect)⟩,
    ⟨rV 7 1, ouR (kernelRun0_A.sl.r c arg4 harg4 arg5 harg5 arg6 harg6 x3 x4 x5) (kernelRun0_A.sl.r_1 c arg7 harg7 x6) x0 x1 x2 arg1 harg1 arg2 harg2 arg3 harg3 7 1 (arg9.view.readCov (kernelRun0_A.sl.HS0_30 c arg2 harg2 arg3 harg3 arg4 harg4 arg5 harg5 arg6 harg6 arg9 x1 x2 x3 x4 x5) (rS 1).toLoadRect)⟩,
    ⟨rV 7 0, ouR (kernelRun0_A.sl.r c arg4 harg4 arg5 harg5 arg6 harg6 x3 x4 x5) (kernelRun0_A.sl.r_1 c arg7 harg7 x6) x0 x1 x2 arg1 harg1 arg2 harg2 arg3 harg3 7 0 (arg9.view.readCov (kernelRun0_A.sl.HS0_29 c arg2 harg2 arg3 harg3 arg4 harg4 arg5 harg5 arg6 harg6 arg9 x1 x2 x3 x4 x5) (rS 0).toLoadRect)⟩,
    ⟨rV 6 3, ouR (kernelRun0_A.sl.r c arg4 harg4 arg5 harg5 arg6 harg6 x3 x4 x5) (kernelRun0_A.sl.r_1 c arg7 harg7 x6) x0 x1 x2 arg1 harg1 arg2 harg2 arg3 harg3 6 3 (arg9.view.readCov (kernelRun0_A.sl.HS0_28 c arg2 harg2 arg3 harg3 arg4 harg4 arg5 harg5 arg6 harg6 arg9 x1 x2 x3 x4 x5) (rS 3).toLoadRect)⟩,
    ⟨rV 6 2, ouR (kernelRun0_A.sl.r c arg4 harg4 arg5 harg5 arg6 harg6 x3 x4 x5) (kernelRun0_A.sl.r_1 c arg7 harg7 x6) x0 x1 x2 arg1 harg1 arg2 harg2 arg3 harg3 6 2 (arg9.view.readCov (kernelRun0_A.sl.HS0_27 c arg2 harg2 arg3 harg3 arg4 harg4 arg5 harg5 arg6 harg6 arg9 x1 x2 x3 x4 x5) (rS 2).toLoadRect)⟩,
    ⟨rV 6 1, ouR (kernelRun0_A.sl.r c arg4 harg4 arg5 harg5 arg6 harg6 x3 x4 x5) (kernelRun0_A.sl.r_1 c arg7 harg7 x6) x0 x1 x2 arg1 harg1 arg2 harg2 arg3 harg3 6 1 (arg9.view.readCov (kernelRun0_A.sl.HS0_26 c arg2 harg2 arg3 harg3 arg4 harg4 arg5 harg5 arg6 harg6 arg9 x1 x2 x3 x4 x5) (rS 1).toLoadRect)⟩,
    ⟨rV 6 0, ouR (kernelRun0_A.sl.r c arg4 harg4 arg5 harg5 arg6 harg6 x3 x4 x5) (kernelRun0_A.sl.r_1 c arg7 harg7 x6) x0 x1 x2 arg1 harg1 arg2 harg2 arg3 harg3 6 0 (arg9.view.readCov (kernelRun0_A.sl.HS0_25 c arg2 harg2 arg3 harg3 arg4 harg4 arg5 harg5 arg6 harg6 arg9 x1 x2 x3 x4 x5) (rS 0).toLoadRect)⟩,
    ⟨rV 5 3, ouR (kernelRun0_A.sl.r c arg4 harg4 arg5 harg5 arg6 harg6 x3 x4 x5) (kernelRun0_A.sl.r_1 c arg7 harg7 x6) x0 x1 x2 arg1 harg1 arg2 harg2 arg3 harg3 5 3 (arg9.view.readCov (kernelRun0_A.sl.HS0_24 c arg2 harg2 arg3 harg3 arg4 harg4 arg5 harg5 arg6 harg6 arg9 x1 x2 x3 x4 x5) (rS 3).toLoadRect)⟩,
    ⟨rV 5 2, ouR (kernelRun0_A.sl.r c arg4 harg4 arg5 harg5 arg6 harg6 x3 x4 x5) (kernelRun0_A.sl.r_1 c arg7 harg7 x6) x0 x1 x2 arg1 harg1 arg2 harg2 arg3 harg3 5 2 (arg9.view.readCov (kernelRun0_A.sl.HS0_23 c arg2 harg2 arg3 harg3 arg4 harg4 arg5 harg5 arg6 harg6 arg9 x1 x2 x3 x4 x5) (rS 2).toLoadRect)⟩,
    ⟨rV 5 1, ouR (kernelRun0_A.sl.r c arg4 harg4 arg5 harg5 arg6 harg6 x3 x4 x5) (kernelRun0_A.sl.r_1 c arg7 harg7 x6) x0 x1 x2 arg1 harg1 arg2 harg2 arg3 harg3 5 1 (arg9.view.readCov (kernelRun0_A.sl.HS0_22 c arg2 harg2 arg3 harg3 arg4 harg4 arg5 harg5 arg6 harg6 arg9 x1 x2 x3 x4 x5) (rS 1).toLoadRect)⟩,
    ⟨rV 5 0, ouR (kernelRun0_A.sl.r c arg4 harg4 arg5 harg5 arg6 harg6 x3 x4 x5) (kernelRun0_A.sl.r_1 c arg7 harg7 x6) x0 x1 x2 arg1 harg1 arg2 harg2 arg3 harg3 5 0 (arg9.view.readCov (kernelRun0_A.sl.HS0_21 c arg2 harg2 arg3 harg3 arg4 harg4 arg5 harg5 arg6 harg6 arg9 x1 x2 x3 x4 x5) (rS 0).toLoadRect)⟩,
    ⟨rV 4 3, ouR (kernelRun0_A.sl.r c arg4 harg4 arg5 harg5 arg6 harg6 x3 x4 x5) (kernelRun0_A.sl.r_1 c arg7 harg7 x6) x0 x1 x2 arg1 harg1 arg2 harg2 arg3 harg3 4 3 (arg9.view.readCov (kernelRun0_A.sl.HS0_20 c arg2 harg2 arg3 harg3 arg4 harg4 arg5 harg5 arg6 harg6 arg9 x1 x2 x3 x4 x5) (rS 3).toLoadRect)⟩,
    ⟨rV 4 2, ouR (kernelRun0_A.sl.r c arg4 harg4 arg5 harg5 arg6 harg6 x3 x4 x5) (kernelRun0_A.sl.r_1 c arg7 harg7 x6) x0 x1 x2 arg1 harg1 arg2 harg2 arg3 harg3 4 2 (arg9.view.readCov (kernelRun0_A.sl.HS0_19 c arg2 harg2 arg3 harg3 arg4 harg4 arg5 harg5 arg6 harg6 arg9 x1 x2 x3 x4 x5) (rS 2).toLoadRect)⟩,
    ⟨rV 4 1, ouR (kernelRun0_A.sl.r c arg4 harg4 arg5 harg5 arg6 harg6 x3 x4 x5) (kernelRun0_A.sl.r_1 c arg7 harg7 x6) x0 x1 x2 arg1 harg1 arg2 harg2 arg3 harg3 4 1 (arg9.view.readCov (kernelRun0_A.sl.HS0_18 c arg2 harg2 arg3 harg3 arg4 harg4 arg5 harg5 arg6 harg6 arg9 x1 x2 x3 x4 x5) (rS 1).toLoadRect)⟩,
    ⟨rV 4 0, ouR (kernelRun0_A.sl.r c arg4 harg4 arg5 harg5 arg6 harg6 x3 x4 x5) (kernelRun0_A.sl.r_1 c arg7 harg7 x6) x0 x1 x2 arg1 harg1 arg2 harg2 arg3 harg3 4 0 (arg9.view.readCov (kernelRun0_A.sl.HS0_17 c arg2 harg2 arg3 harg3 arg4 harg4 arg5 harg5 arg6 harg6 arg9 x1 x2 x3 x4 x5) (rS 0).toLoadRect)⟩,
    ⟨rV 3 3, ouR (kernelRun0_A.sl.r c arg4 harg4 arg5 harg5 arg6 harg6 x3 x4 x5) (kernelRun0_A.sl.r_1 c arg7 harg7 x6) x0 x1 x2 arg1 harg1 arg2 harg2 arg3 harg3 3 3 (arg9.view.readCov (kernelRun0_A.sl.HS0_16 c arg2 harg2 arg3 harg3 arg4 harg4 arg5 harg5 arg6 harg6 arg9 x1 x2 x3 x4 x5) (rS 3).toLoadRect)⟩,
    ⟨rV 3 2, ouR (kernelRun0_A.sl.r c arg4 harg4 arg5 harg5 arg6 harg6 x3 x4 x5) (kernelRun0_A.sl.r_1 c arg7 harg7 x6) x0 x1 x2 arg1 harg1 arg2 harg2 arg3 harg3 3 2 (arg9.view.readCov (kernelRun0_A.sl.HS0_15 c arg2 harg2 arg3 harg3 arg4 harg4 arg5 harg5 arg6 harg6 arg9 x1 x2 x3 x4 x5) (rS 2).toLoadRect)⟩,
    ⟨rV 3 1, ouR (kernelRun0_A.sl.r c arg4 harg4 arg5 harg5 arg6 harg6 x3 x4 x5) (kernelRun0_A.sl.r_1 c arg7 harg7 x6) x0 x1 x2 arg1 harg1 arg2 harg2 arg3 harg3 3 1 (arg9.view.readCov (kernelRun0_A.sl.HS0_14 c arg2 harg2 arg3 harg3 arg4 harg4 arg5 harg5 arg6 harg6 arg9 x1 x2 x3 x4 x5) (rS 1).toLoadRect)⟩,
    ⟨rV 3 0, ouR (kernelRun0_A.sl.r c arg4 harg4 arg5 harg5 arg6 harg6 x3 x4 x5) (kernelRun0_A.sl.r_1 c arg7 harg7 x6) x0 x1 x2 arg1 harg1 arg2 harg2 arg3 harg3 3 0 (arg9.view.readCov (kernelRun0_A.sl.HS0_13 c arg2 harg2 arg3 harg3 arg4 harg4 arg5 harg5 arg6 harg6 arg9 x1 x2 x3 x4 x5) (rS 0).toLoadRect)⟩,
    ⟨rV 2 3, ouR (kernelRun0_A.sl.r c arg4 harg4 arg5 harg5 arg6 harg6 x3 x4 x5) (kernelRun0_A.sl.r_1 c arg7 harg7 x6) x0 x1 x2 arg1 harg1 arg2 harg2 arg3 harg3 2 3 (arg9.view.readCov (kernelRun0_A.sl.HS0_12 c arg2 harg2 arg3 harg3 arg4 harg4 arg5 harg5 arg6 harg6 arg9 x1 x2 x3 x4 x5) (rS 3).toLoadRect)⟩,
    ⟨rV 2 2, ouR (kernelRun0_A.sl.r c arg4 harg4 arg5 harg5 arg6 harg6 x3 x4 x5) (kernelRun0_A.sl.r_1 c arg7 harg7 x6) x0 x1 x2 arg1 harg1 arg2 harg2 arg3 harg3 2 2 (arg9.view.readCov (kernelRun0_A.sl.HS0_11 c arg2 harg2 arg3 harg3 arg4 harg4 arg5 harg5 arg6 harg6 arg9 x1 x2 x3 x4 x5) (rS 2).toLoadRect)⟩,
    ⟨rV 2 1, ouR (kernelRun0_A.sl.r c arg4 harg4 arg5 harg5 arg6 harg6 x3 x4 x5) (kernelRun0_A.sl.r_1 c arg7 harg7 x6) x0 x1 x2 arg1 harg1 arg2 harg2 arg3 harg3 2 1 (arg9.view.readCov (kernelRun0_A.sl.HS0_10 c arg2 harg2 arg3 harg3 arg4 harg4 arg5 harg5 arg6 harg6 arg9 x1 x2 x3 x4 x5) (rS 1).toLoadRect)⟩,
    ⟨rV 2 0, ouR (kernelRun0_A.sl.r c arg4 harg4 arg5 harg5 arg6 harg6 x3 x4 x5) (kernelRun0_A.sl.r_1 c arg7 harg7 x6) x0 x1 x2 arg1 harg1 arg2 harg2 arg3 harg3 2 0 (arg9.view.readCov (kernelRun0_A.sl.HS0_9 c arg2 harg2 arg3 harg3 arg4 harg4 arg5 harg5 arg6 harg6 arg9 x1 x2 x3 x4 x5) (rS 0).toLoadRect)⟩,
    ⟨rV 1 3, ouR (kernelRun0_A.sl.r c arg4 harg4 arg5 harg5 arg6 harg6 x3 x4 x5) (kernelRun0_A.sl.r_1 c arg7 harg7 x6) x0 x1 x2 arg1 harg1 arg2 harg2 arg3 harg3 1 3 (arg9.view.readCov (kernelRun0_A.sl.HS0_8 c arg2 harg2 arg3 harg3 arg4 harg4 arg5 harg5 arg6 harg6 arg9 x1 x2 x3 x4 x5) (rS 3).toLoadRect)⟩,
    ⟨rV 1 2, ouR (kernelRun0_A.sl.r c arg4 harg4 arg5 harg5 arg6 harg6 x3 x4 x5) (kernelRun0_A.sl.r_1 c arg7 harg7 x6) x0 x1 x2 arg1 harg1 arg2 harg2 arg3 harg3 1 2 (arg9.view.readCov (kernelRun0_A.sl.HS0_7 c arg2 harg2 arg3 harg3 arg4 harg4 arg5 harg5 arg6 harg6 arg9 x1 x2 x3 x4 x5) (rS 2).toLoadRect)⟩,
    ⟨rV 1 1, ouR (kernelRun0_A.sl.r c arg4 harg4 arg5 harg5 arg6 harg6 x3 x4 x5) (kernelRun0_A.sl.r_1 c arg7 harg7 x6) x0 x1 x2 arg1 harg1 arg2 harg2 arg3 harg3 1 1 (arg9.view.readCov (kernelRun0_A.sl.HS0_6 c arg2 harg2 arg3 harg3 arg4 harg4 arg5 harg5 arg6 harg6 arg9 x1 x2 x3 x4 x5) (rS 1).toLoadRect)⟩,
    ⟨rV 1 0, ouR (kernelRun0_A.sl.r c arg4 harg4 arg5 harg5 arg6 harg6 x3 x4 x5) (kernelRun0_A.sl.r_1 c arg7 harg7 x6) x0 x1 x2 arg1 harg1 arg2 harg2 arg3 harg3 1 0 (arg9.view.readCov (kernelRun0_A.sl.HS0_5 c arg2 harg2 arg3 harg3 arg4 harg4 arg5 harg5 arg6 harg6 arg9 x1 x2 x3 x4 x5) (rS 0).toLoadRect)⟩,
    ⟨rV 0 3, ouR (kernelRun0_A.sl.r c arg4 harg4 arg5 harg5 arg6 harg6 x3 x4 x5) (kernelRun0_A.sl.r_1 c arg7 harg7 x6) x0 x1 x2 arg1 harg1 arg2 harg2 arg3 harg3 0 3 (arg9.view.readCov (kernelRun0_A.sl.HS0_4 c arg2 harg2 arg3 harg3 arg4 harg4 arg5 harg5 arg6 harg6 arg9 x1 x2 x3 x4 x5) (rS 3).toLoadRect)⟩,
    ⟨rV 0 2, ouR (kernelRun0_A.sl.r c arg4 harg4 arg5 harg5 arg6 harg6 x3 x4 x5) (kernelRun0_A.sl.r_1 c arg7 harg7 x6) x0 x1 x2 arg1 harg1 arg2 harg2 arg3 harg3 0 2 (arg9.view.readCov (kernelRun0_A.sl.HS0_3 c arg2 harg2 arg3 harg3 arg4 harg4 arg5 harg5 arg6 harg6 arg9 x1 x2 x3 x4 x5) (rS 2).toLoadRect)⟩,
    ⟨rV 0 1, ouR (kernelRun0_A.sl.r c arg4 harg4 arg5 harg5 arg6 harg6 x3 x4 x5) (kernelRun0_A.sl.r_1 c arg7 harg7 x6) x0 x1 x2 arg1 harg1 arg2 harg2 arg3 harg3 0 1 (arg9.view.readCov (kernelRun0_A.sl.HS0_2 c arg2 harg2 arg3 harg3 arg4 harg4 arg5 harg5 arg6 harg6 arg9 x1 x2 x3 x4 x5) (rS 1).toLoadRect)⟩,
    ⟨rV 0 0, ouR (kernelRun0_A.sl.r c arg4 harg4 arg5 harg5 arg6 harg6 x3 x4 x5) (kernelRun0_A.sl.r_1 c arg7 harg7 x6) x0 x1 x2 arg1 harg1 arg2 harg2 arg3 harg3 0 0 (arg9.view.readCov (kernelRun0_A.sl.HS0_1 (F := F)) (rS 0).toLoadRect)⟩] := by sl_kernel_rfl

/-- Every store of output rows is the model's rows at its place. -/
theorem outA (hc0 : cond0_0 i) : ∀ p ∈ (kernelRun0_A c i arg1 harg1 arg2 harg2 arg3 harg3 arg4 harg4 arg5 harg5 arg6 harg6 arg7 harg7 arg8 harg8 arg9 harg9 hc0 x0 x1 x2 x3 x4 x5 x6).1,
    ∀ x, p.2 x = outG (kernelRun0_A.sl.r c arg4 harg4 arg5 harg5 arg6 harg6 x3 x4 x5) (kernelRun0_A.sl.r_1 c arg7 harg7 x6) x0 x1 x2 (ldS (k0_pay2 (F := F))) (p.1.emb x) := by
  rw [listA]
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 7 3 (by decide) (by decide) ((A_31 c arg2 harg2 arg3 harg3 arg4 harg4 arg5 harg5 arg6 harg6 arg9 x1 x2 x3 x4 x5).read arg9 3 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 7 2 (by decide) (by decide) ((A_30 c arg2 harg2 arg3 harg3 arg4 harg4 arg5 harg5 arg6 harg6 arg9 x1 x2 x3 x4 x5).read arg9 2 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 7 1 (by decide) (by decide) ((A_29 c arg2 harg2 arg3 harg3 arg4 harg4 arg5 harg5 arg6 harg6 arg9 x1 x2 x3 x4 x5).read arg9 1 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 7 0 (by decide) (by decide) ((A_28 c arg2 harg2 arg3 harg3 arg4 harg4 arg5 harg5 arg6 harg6 arg9 x1 x2 x3 x4 x5).read arg9 0 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 6 3 (by decide) (by decide) ((A_27 c arg2 harg2 arg3 harg3 arg4 harg4 arg5 harg5 arg6 harg6 arg9 x1 x2 x3 x4 x5).read arg9 3 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 6 2 (by decide) (by decide) ((A_26 c arg2 harg2 arg3 harg3 arg4 harg4 arg5 harg5 arg6 harg6 arg9 x1 x2 x3 x4 x5).read arg9 2 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 6 1 (by decide) (by decide) ((A_25 c arg2 harg2 arg3 harg3 arg4 harg4 arg5 harg5 arg6 harg6 arg9 x1 x2 x3 x4 x5).read arg9 1 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 6 0 (by decide) (by decide) ((A_24 c arg2 harg2 arg3 harg3 arg4 harg4 arg5 harg5 arg6 harg6 arg9 x1 x2 x3 x4 x5).read arg9 0 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 5 3 (by decide) (by decide) ((A_23 c arg2 harg2 arg3 harg3 arg4 harg4 arg5 harg5 arg6 harg6 arg9 x1 x2 x3 x4 x5).read arg9 3 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 5 2 (by decide) (by decide) ((A_22 c arg2 harg2 arg3 harg3 arg4 harg4 arg5 harg5 arg6 harg6 arg9 x1 x2 x3 x4 x5).read arg9 2 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 5 1 (by decide) (by decide) ((A_21 c arg2 harg2 arg3 harg3 arg4 harg4 arg5 harg5 arg6 harg6 arg9 x1 x2 x3 x4 x5).read arg9 1 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 5 0 (by decide) (by decide) ((A_20 c arg2 harg2 arg3 harg3 arg4 harg4 arg5 harg5 arg6 harg6 arg9 x1 x2 x3 x4 x5).read arg9 0 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 4 3 (by decide) (by decide) ((A_19 c arg2 harg2 arg3 harg3 arg4 harg4 arg5 harg5 arg6 harg6 arg9 x1 x2 x3 x4 x5).read arg9 3 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 4 2 (by decide) (by decide) ((A_18 c arg2 harg2 arg3 harg3 arg4 harg4 arg5 harg5 arg6 harg6 arg9 x1 x2 x3 x4 x5).read arg9 2 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 4 1 (by decide) (by decide) ((A_17 c arg2 harg2 arg3 harg3 arg4 harg4 arg5 harg5 arg6 harg6 arg9 x1 x2 x3 x4 x5).read arg9 1 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 4 0 (by decide) (by decide) ((A_16 c arg2 harg2 arg3 harg3 arg4 harg4 arg5 harg5 arg6 harg6 arg9 x1 x2 x3 x4 x5).read arg9 0 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 3 3 (by decide) (by decide) ((A_15 c arg2 harg2 arg3 harg3 arg4 harg4 arg5 harg5 arg6 harg6 arg9 x1 x2 x3 x4 x5).read arg9 3 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 3 2 (by decide) (by decide) ((A_14 c arg2 harg2 arg3 harg3 arg4 harg4 arg5 harg5 arg6 harg6 arg9 x1 x2 x3 x4 x5).read arg9 2 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 3 1 (by decide) (by decide) ((A_13 c arg2 harg2 arg3 harg3 arg4 harg4 arg5 harg5 arg6 harg6 arg9 x1 x2 x3 x4 x5).read arg9 1 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 3 0 (by decide) (by decide) ((A_12 c arg2 harg2 arg3 harg3 arg4 harg4 arg5 harg5 arg6 harg6 arg9 x1 x2 x3 x4 x5).read arg9 0 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 2 3 (by decide) (by decide) ((A_11 c arg2 harg2 arg3 harg3 arg4 harg4 arg5 harg5 arg6 harg6 arg9 x1 x2 x3 x4 x5).read arg9 3 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 2 2 (by decide) (by decide) ((A_10 c arg2 harg2 arg3 harg3 arg4 harg4 arg5 harg5 arg6 harg6 arg9 x1 x2 x3 x4 x5).read arg9 2 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 2 1 (by decide) (by decide) ((A_9 c arg2 harg2 arg3 harg3 arg4 harg4 arg5 harg5 arg6 harg6 arg9 x1 x2 x3 x4 x5).read arg9 1 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 2 0 (by decide) (by decide) ((A_8 c arg2 harg2 arg3 harg3 arg4 harg4 arg5 harg5 arg6 harg6 arg9 x1 x2 x3 x4 x5).read arg9 0 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 1 3 (by decide) (by decide) ((A_7 c arg2 harg2 arg3 harg3 arg4 harg4 arg5 harg5 arg6 harg6 arg9 x1 x2 x3 x4 x5).read arg9 3 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 1 2 (by decide) (by decide) ((A_6 c arg2 harg2 arg3 harg3 arg4 harg4 arg5 harg5 arg6 harg6 arg9 x1 x2 x3 x4 x5).read arg9 2 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 1 1 (by decide) (by decide) ((A_5 c arg2 harg2 arg3 harg3 arg4 harg4 arg5 harg5 arg6 harg6 arg9 x1 x2 x3 x4 x5).read arg9 1 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 1 0 (by decide) (by decide) ((A_4 c arg2 harg2 arg3 harg3 arg4 harg4 arg5 harg5 arg6 harg6 arg9 x1 x2 x3 x4 x5).read arg9 0 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 0 3 (by decide) (by decide) ((A_3 c arg2 harg2 arg3 harg3 arg4 harg4 arg5 harg5 arg6 harg6 arg9 x1 x2 x3 x4 x5).read arg9 3 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 0 2 (by decide) (by decide) ((A_2 c arg2 harg2 arg3 harg3 arg4 harg4 arg5 harg5 arg6 harg6 arg9 x1 x2 x3 x4 x5).read arg9 2 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 0 1 (by decide) (by decide) ((A_1 c arg2 harg2 arg3 harg3 arg4 harg4 arg5 harg5 arg6 harg6 arg9 x1 x2 x3 x4 x5).read arg9 1 (by decide)), ?_⟩
  refine List.forall_mem_cons.2 ⟨outR (kernelRun0_A.sl.r c arg4 harg4 arg5 harg5 arg6 harg6 x3 x4 x5) (kernelRun0_A.sl.r_1 c arg7 harg7 x6) x0 x1 x2 (ldS (k0_pay2 (F := F))) arg1 harg1 arg2 harg2 arg3 harg3 0 0 (by decide) (by decide) ((A_0 c arg4 harg4 arg5 harg5 arg6 harg6 x1 x2 x3 x4 x5).read arg9 0 (by decide)), ?_⟩
  exact fun p hp => absurd hp List.not_mem_nil

end Cert.KernelIdeal.Body

end
-- ==== Proof.StoresB.lean ====
module

public import proofs.«01_k».proof.Proof.Body

/-! The stores of a grid point that keeps the states of the point before, one after the other: after each, what every head's state holds; and every store of output rows. -/

@[expose] public section

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]
variable (c : Dev nD) (i : grid0.Coords) (arg1 : Memref sig .tc .vmem S512x1024 .bf16) (harg1 : arg1.IsWhole)
  (arg2 : Memref sig .tc .vmem S512x1024 .bf16) (harg2 : arg2.IsWhole) (arg3 : Memref sig .tc .vmem S512x2048 .bf16) (harg3 : arg3.IsWhole)
  (arg4 : Memref sig .tc .vmem S512x128 .bf16) (harg4 : arg4.IsWhole) (arg5 : Memref sig .tc .vmem S128x1024 .bf16) (harg5 : arg5.IsWhole)
  (arg6 : Memref sig .tc .vmem S1x1024 .f32) (harg6 : arg6.IsWhole) (arg7 : Memref sig .tc .vmem S1x512 .f32) (harg7 : arg7.IsWhole)
  (arg8 : Memref sig .tc .vmem S512x2048 .bf16) (harg8 : arg8.IsWhole) (arg9 : Memref sig .tc .vmem S4x512x256 .f32) (harg9 : arg9.IsWhole)
  (x0 x1 : Vec F S512x1024 .bf16) (x2 : Vec F S512x2048 .bf16) (x3 : Vec F S512x128 .bf16) (x4 : Vec F S128x1024 .bf16)
  (x5 : Vec F S1x1024 .f32) (x6 : Vec F S1x512 .f32) (xs0 : Vec F S4x512x256 .f32)

/-- After the four heads of the first chunk. -/
theorem B_4 : Holds 4 (kernelRun0_B.sl.HS0_4 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 1 0) := by
  rw [← stage_four]
  have h0 : Holds 0 [] (stage (kernelRun0_B.sl.r c arg4 harg4 arg5 harg5 arg6 harg6 x3 x4 x5) x1 x2 (ldS xs0) 0 0) := fun h hh => absurd hh (Nat.not_lt_zero _)
  have h1 := stepR (n' := 1) (kernelRun0_B.sl.r c arg4 harg4 arg5 harg5 arg6 harg6 x3 x4 x5) x1 x2 (ldS xs0) arg2 harg2 arg3 harg3 0 0 (by decide) (by decide) h0 (by decide) (readS arg9 harg9 xs0 _) rfl
  have h2 := stepR (n' := 2) (kernelRun0_B.sl.r c arg4 harg4 arg5 harg5 arg6 harg6 x3 x4 x5) x1 x2 (ldS xs0) arg2 harg2 arg3 harg3 0 1 (by decide) (by decide) h1 (by decide) (readS arg9 harg9 xs0 _) rfl
  have h3 := stepR (n' := 3) (kernelRun0_B.sl.r c arg4 harg4 arg5 harg5 arg6 harg6 x3 x4 x5) x1 x2 (ldS xs0) arg2 harg2 arg3 harg3 0 2 (by decide) (by decide) h2 (by decide) (readS arg9 harg9 xs0 _) rfl
  exact stepR (n' := 4) (kernelRun0_B.sl.r c arg4 harg4 arg5 harg5 arg6 harg6 x3 x4 x5) x1 x2 (ldS xs0) arg2 harg2 arg3 harg3 0 3 (by decide) (by decide) h3 (by decide) (readS arg9 harg9 xs0 _) (by sl_kernel_rfl)

/-- After head 0 of chunk 1. -/
theorem B_5 : Holds 4 (kernelRun0_B.sl.HS0_5 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 1 1) := by
  have H := (B_4 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 1 0 (by decide) (by decide) H (by decide) (H.read arg9 0 (by decide)) (by sl_kernel_rfl)

/-- After head 1 of chunk 1. -/
theorem B_6 : Holds 4 (kernelRun0_B.sl.HS0_6 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 1 2) := by
  have H := (B_5 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 1 1 (by decide) (by decide) H (by decide) (H.read arg9 1 (by decide)) (by sl_kernel_rfl)

/-- After head 2 of chunk 1. -/
theorem B_7 : Holds 4 (kernelRun0_B.sl.HS0_7 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 1 3) := by
  have H := (B_6 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 1 2 (by decide) (by decide) H (by decide) (H.read arg9 2 (by decide)) (by sl_kernel_rfl)

/-- After head 3 of chunk 1. -/
theorem B_8 : Holds 4 (kernelRun0_B.sl.HS0_8 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 2 0) := by
  rw [← stage_four]
  have H := (B_7 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 1 3 (by decide) (by decide) H (by decide) (H.read arg9 3 (by decide)) (by sl_kernel_rfl)

/-- After head 0 of chunk 2. -/
theorem B_9 : Holds 4 (kernelRun0_B.sl.HS0_9 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 2 1) := by
  have H := (B_8 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 2 0 (by decide) (by decide) H (by decide) (H.read arg9 0 (by decide)) (by sl_kernel_rfl)

/-- After head 1 of chunk 2. -/
theorem B_10 : Holds 4 (kernelRun0_B.sl.HS0_10 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 2 2) := by
  have H := (B_9 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 2 1 (by decide) (by decide) H (by decide) (H.read arg9 1 (by decide)) (by sl_kernel_rfl)

/-- After head 2 of chunk 2. -/
theorem B_11 : Holds 4 (kernelRun0_B.sl.HS0_11 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 2 3) := by
  have H := (B_10 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 2 2 (by decide) (by decide) H (by decide) (H.read arg9 2 (by decide)) (by sl_kernel_rfl)

/-- After head 3 of chunk 2. -/
theorem B_12 : Holds 4 (kernelRun0_B.sl.HS0_12 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 3 0) := by
  rw [← stage_four]
  have H := (B_11 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 2 3 (by decide) (by decide) H (by decide) (H.read arg9 3 (by decide)) (by sl_kernel_rfl)

/-- After head 0 of chunk 3. -/
theorem B_13 : Holds 4 (kernelRun0_B.sl.HS0_13 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 3 1) := by
  have H := (B_12 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 3 0 (by decide) (by decide) H (by decide) (H.read arg9 0 (by decide)) (by sl_kernel_rfl)

/-- After head 1 of chunk 3. -/
theorem B_14 : Holds 4 (kernelRun0_B.sl.HS0_14 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 3 2) := by
  have H := (B_13 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 3 1 (by decide) (by decide) H (by decide) (H.read arg9 1 (by decide)) (by sl_kernel_rfl)

/-- After head 2 of chunk 3. -/
theorem B_15 : Holds 4 (kernelRun0_B.sl.HS0_15 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 3 3) := by
  have H := (B_14 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 3 2 (by decide) (by decide) H (by decide) (H.read arg9 2 (by decide)) (by sl_kernel_rfl)

/-- After head 3 of chunk 3. -/
theorem B_16 : Holds 4 (kernelRun0_B.sl.HS0_16 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 4 0) := by
  rw [← stage_four]
  have H := (B_15 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 3 3 (by decide) (by decide) H (by decide) (H.read arg9 3 (by decide)) (by sl_kernel_rfl)

/-- After head 0 of chunk 4. -/
theorem B_17 : Holds 4 (kernelRun0_B.sl.HS0_17 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 4 1) := by
  have H := (B_16 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 4 0 (by decide) (by decide) H (by decide) (H.read arg9 0 (by decide)) (by sl_kernel_rfl)

/-- After head 1 of chunk 4. -/
theorem B_18 : Holds 4 (kernelRun0_B.sl.HS0_18 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 4 2) := by
  have H := (B_17 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 4 1 (by decide) (by decide) H (by decide) (H.read arg9 1 (by decide)) (by sl_kernel_rfl)

/-- After head 2 of chunk 4. -/
theorem B_19 : Holds 4 (kernelRun0_B.sl.HS0_19 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 4 3) := by
  have H := (B_18 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 4 2 (by decide) (by decide) H (by decide) (H.read arg9 2 (by decide)) (by sl_kernel_rfl)

/-- After head 3 of chunk 4. -/
theorem B_20 : Holds 4 (kernelRun0_B.sl.HS0_20 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 5 0) := by
  rw [← stage_four]
  have H := (B_19 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 4 3 (by decide) (by decide) H (by decide) (H.read arg9 3 (by decide)) (by sl_kernel_rfl)

/-- After head 0 of chunk 5. -/
theorem B_21 : Holds 4 (kernelRun0_B.sl.HS0_21 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 5 1) := by
  have H := (B_20 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 5 0 (by decide) (by decide) H (by decide) (H.read arg9 0 (by decide)) (by sl_kernel_rfl)

/-- After head 1 of chunk 5. -/
theorem B_22 : Holds 4 (kernelRun0_B.sl.HS0_22 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 5 2) := by
  have H := (B_21 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 5 1 (by decide) (by decide) H (by decide) (H.read arg9 1 (by decide)) (by sl_kernel_rfl)

/-- After head 2 of chunk 5. -/
theorem B_23 : Holds 4 (kernelRun0_B.sl.HS0_23 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 5 3) := by
  have H := (B_22 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 5 2 (by decide) (by decide) H (by decide) (H.read arg9 2 (by decide)) (by sl_kernel_rfl)

/-- After head 3 of chunk 5. -/
theorem B_24 : Holds 4 (kernelRun0_B.sl.HS0_24 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 6 0) := by
  rw [← stage_four]
  have H := (B_23 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 5 3 (by decide) (by decide) H (by decide) (H.read arg9 3 (by decide)) (by sl_kernel_rfl)

/-- After head 0 of chunk 6. -/
theorem B_25 : Holds 4 (kernelRun0_B.sl.HS0_25 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 6 1) := by
  have H := (B_24 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 6 0 (by decide) (by decide) H (by decide) (H.read arg9 0 (by decide)) (by sl_kernel_rfl)

/-- After head 1 of chunk 6. -/
theorem B_26 : Holds 4 (kernelRun0_B.sl.HS0_26 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 6 2) := by
  have H := (B_25 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 6 1 (by decide) (by decide) H (by decide) (H.read arg9 1 (by decide)) (by sl_kernel_rfl)

/-- After head 2 of chunk 6. -/
theorem B_27 : Holds 4 (kernelRun0_B.sl.HS0_27 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 6 3) := by
  have H := (B_26 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 6 2 (by decide) (by decide) H (by decide) (H.read arg9 2 (by decide)) (by sl_kernel_rfl)

/-- After head 3 of chunk 6. -/
theorem B_28 : Holds 4 (kernelRun0_B.sl.HS0_28 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 7 0) := by
  rw [← stage_four]
  have H := (B_27 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 6 3 (by decide) (by decide) H (by decide) (H.read arg9 3 (by decide)) (by sl_kernel_rfl)

/-- After head 0 of chunk 7. -/
theorem B_29 : Holds 4 (kernelRun0_B.sl.HS0_29 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 7 1) := by
  have H := (B_28 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 7 0 (by decide) (by decide) H (by decide) (H.read arg9 0 (by decide)) (by sl_kernel_rfl)

/-- After head 1 of chunk 7. -/
theorem B_30 : Holds 4 (kernelRun0_B.sl.HS0_30 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 7 2) := by
  have H := (B_29 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 7 1 (by decide) (by decide) H (by decide) (H.read arg9 1 (by decide)) (by sl_kernel_rfl)

/-- After head 2 of chunk 7. -/
theorem B_31 : Holds 4 (kernelRun0_B.sl.HS0_31 c arg2 harg2 arg3 harg3 arg4 harg4 arg5 harg5 arg6 harg6 arg9 harg9 x1 x2 x3 x4 x5 xs0) (stage (kernelRun0_B.sl.r c arg4 harg4 arg5 harg5 arg6 harg6 x3 x4 x5) x1 x2 (ldS xs0) 7 3) := by
  have H := (B_30 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 7 2 (by decide) (by decide) H (by decide) (H.read arg9 2 (by decide)) (by sl_kernel_rfl)

/-- The states after the point's last chunk. -/
theorem finB (hc0 : ¬cond0_0 i) : Holds 4 (kernelRun0_B c i arg1 harg1 arg2 harg2 arg3 harg3 arg4 harg4 arg5 harg5 arg6 harg6 arg7 harg7 arg8 harg8 arg9 harg9 hc0 x0 x1 x2 x3 x4 x5 x6 xs0).2.1 (stage (kernelRun0_B.sl.r c arg4 harg4 arg5 harg5 arg6 harg6 x3 x4 x5) x1 x2 (ldS xs0) 8 0) := by
  rw [← stage_four]
  have H := (B_31 c arg2 harg2 arg3 harg3 arg4 harg4 arg5 harg5 arg6 harg6 arg9 harg9 x1 x2 x3 x4 x5 xs0)
  exact stepR (kernelRun0_B.sl.r c arg4 harg4 arg5 harg5 arg6 harg6 x3 x4 x5) x1 x2 (ldS xs0) arg2 harg2 arg3 harg3 7 3 (by decide) (by decide) H (by decide) (H.read arg9 3 (by decide)) (by sl_kernel_rfl)

/-- The stores of output rows, the last first. -/
theorem listB (hc0 : ¬cond0_0 i) : (kernelRun0_B c i arg1 harg1 arg2 harg2 arg3 harg3 arg4 harg4 arg5 harg5 arg6 harg6 arg7 harg7 arg8 harg8 arg9 harg9 hc0 x0 x1 x2 x3 x4 x5 x6 xs0).1 = [
    ⟨rV 7 3, ouR (kernelRun0_B.sl.r c arg4 harg4 arg5 harg5 arg6 harg6 x3 x4 x5) (kernelRun0_B.sl.r_1 c arg7 harg7 x6) x0 x1 x2 arg1 harg1 arg2 harg2 arg3 harg3 7 3 (arg9.view.readCov (kernelRun0_B.sl.HS0_31 c arg2 harg2 arg3 harg3 arg4 harg4 arg5 harg5 arg6 harg6 arg9 harg9 x1 x2 x3 x4 x5 xs0) (rS 3).toLoadRect)⟩,
    ⟨rV 7 2, ouR (kernelRun0_B.sl.r c arg4 harg4 arg5 harg5 arg6 harg6 x3 x4 x5) (kernelRun0_B.sl.r_1 c arg7 harg7 x6) x0 x1 x2 arg1 harg1 arg2 harg2 arg3 harg3 7 2 (arg9.view.readCov (kernelRun0_B.sl.HS0_30 c arg2 harg2 arg3 harg3 arg4 harg4 arg5 harg5 arg6 harg6 arg9 harg9 x1 x2 x3 x4 x5 xs0) (rS 2).toLoadRect)⟩,
    ⟨rV 7 1, ouR (kernelRun0_B.sl.r c arg4 harg4 arg5 harg5 arg6 harg6 x3 x4 x5) (kernelRun0_B.sl.r_1 c arg7 harg7 x6) x0 x1 x2 arg1 harg1 arg2 harg2 arg3 harg3 7 1 (arg9.view.readCov (kernelRun0_B.sl.HS0_29 c arg2 harg2 arg3 harg3 arg4 harg4 arg5 harg5 arg6 harg6 arg9 harg9 x1 x2 x3 x4 x5 xs0) (rS 1).toLoadRect)⟩,
    ⟨rV 7 0, ouR (kernelRun0_B.sl.r c arg4 harg4 arg5 harg5 arg6 harg6 x3 x4 x5) (kernelRun0_B.sl.r_1 c arg7 harg7 x6) x0 x1 x2 arg1 harg1 arg2 harg2 arg3 harg3 7 0 (arg9.view.readCov (kernelRun0_B.sl.HS0_28 c arg2 harg2 arg3 harg3 arg4 harg4 arg5 harg5 arg6 harg6 arg9 harg9 x1 x2 x3 x4 x5 xs0) (rS 0).toLoadRect)⟩,
    ⟨rV 6 3, ouR (kernelRun0_B.sl.r c arg4 harg4 arg5 harg5 arg6 harg6 x3 x4 x5) (kernelRun0_B.sl.r_1 c arg7 harg7 x6) x0 x1 x2 arg1 harg1 arg2 harg2 arg3 harg3 6 3 (arg9.view.readCov (kernelRun0_B.sl.HS0_27 c arg2 harg2 arg3 harg3 arg4 harg4 arg5 harg5 arg6 harg6 arg9 harg9 x1 x2 x3 x4 x5 xs0) (rS 3).toLoadRect)⟩,
    ⟨rV 6 2, ouR (kernelRun0_B.sl.r c arg4 harg4 arg5 harg5 arg6 harg6 x3 x4 x5) (kernelRun0_B.sl.r_1 c arg7 harg7 x6) x0 x1 x2 arg1 harg1 arg2 harg2 arg3 harg3 6 2 (arg9.view.readCov (kernelRun0_B.sl.HS0_26 c arg2 harg2 arg3 harg3 arg4 harg4 arg5 harg5 arg6 harg6 arg9 harg9 x1 x2 x3 x4 x5 xs0) (rS 2).toLoadRect)⟩,
    ⟨rV 6 1, ouR (kernelRun0_B.sl.r c arg4 harg4 arg5 harg5 arg6 harg6 x3 x4 x5) (kernelRun0_B.sl.r_1 c arg7 harg7 x6) x0 x1 x2 arg1 harg1 arg2 harg2 arg3 harg3 6 1 (arg9.view.readCov (kernelRun0_B.sl.HS0_25 c arg2 harg2 arg3 harg3 arg4 harg4 arg5 harg5 arg6 harg6 arg9 harg9 x1 x2 x3 x4 x5 xs0) (rS 1).toLoadRect)⟩,
    ⟨rV 6 0, ouR (kernelRun0_B.sl.r c arg4 harg4 arg5 harg5 arg6 harg6 x3 x4 x5) (kernelRun0_B.sl.r_1 c arg7 harg7 x6) x0 x1 x2 arg1 harg1 arg2 harg2 arg3 harg3 6 0 (arg9.view.readCov (kernelRun0_B.sl.HS0_24 c arg2 harg2 arg3 harg3 arg4 harg4 arg5 harg5 arg6 harg6 arg9 harg9 x1 x2 x3 x4 x5 xs0) (rS 0).toLoadRect)⟩,
    ⟨rV 5 3, ouR (kernelRun0_B.sl.r c arg4 harg4 arg5 harg5 arg6 harg6 x3 x4 x5) (kernelRun0_B.sl.r_1 c arg7 harg7 x6) x0 x1 x2 arg1 harg1 arg2 harg2 arg3 harg3 5 3 (arg9.view.readCov (kernelRun0_B.sl.HS0_23 c arg2 harg2 arg3 harg3 arg4 harg4 arg5 harg5 arg6 harg6 arg9 harg9 x1 x2 x3 x4 x5 xs0) (rS 3).toLoadRect)⟩,
    ⟨rV 5 2, ouR (kernelRun0_B.sl.r c arg4 harg4 arg5 harg5 arg6 harg6 x3 x4 x5) (kernelRun0_B.sl.r_1 c arg7 harg7 x6) x0 x1 x2 arg1 harg1 arg2 harg2 arg3 harg3 5 2 (arg9.view.readCov (kernelRun0_B.sl.HS0_22 c arg2 harg2 arg3 harg3 arg4 harg4 arg5 harg5 arg6 harg6 arg9 harg9 x1 x2 x3 x4 x5 xs0) (rS 2).toLoadRect)⟩,
    ⟨rV 5 1, ouR (kernelRun0_B.sl.r c arg4 harg4 arg5 harg5 arg6 harg6 x3 x4 x5) (kernelRun0_B.sl.r_1 c arg7 harg7 x6) x0 x1 x2 arg1 harg1 arg2 harg2 arg3 harg3 5 1 (arg9.view.readCov (kernelRun0_B.sl.HS0_21 c arg2 harg2 arg3 harg3 arg4 harg4 arg5 harg5 arg6 harg6 arg9 harg9 x1 x2 x3 x4 x5 xs0) (rS 1).toLoadRect)⟩,
    ⟨rV 5 0, ouR (kernelRun0_B.sl.r c arg4 harg4 arg5 harg5 arg6 harg6 x3 x4 x5) (kernelRun0_B.sl.r_1 c arg7 harg7 x6) x0 x1 x2 arg1 harg1 arg2 harg2 arg3 harg3 5 0 (arg9.view.readCov (kernelRun0_B.sl.HS0_20 c arg2 harg2 arg3 harg3 arg4 harg4 arg5 harg5 arg6 harg6 arg9 harg9 x1 x2 x3 x4 x5 xs0) (rS 0).toLoadRect)⟩,
    ⟨rV 4 3, ouR (kernelRun0_B.sl.r c arg4 harg4 arg5 harg5 arg6 harg6 x3 x4 x5) (kernelRun0_B.sl.r_1 c arg7 harg7 x6) x0 x1 x2 arg1 harg1 arg2 harg2 arg3 harg3 4 3 (arg9.view.readCov (kernelRun0_B.sl.HS0_19 c arg2 harg2 arg3 harg3 arg4 harg4 arg5 harg5 arg6 harg6 arg9 harg9 x1 x2 x3 x4 x5 xs0) (rS 3).toLoadRect)⟩,
    ⟨rV 4 2, ouR (kernelRun0_B.sl.r c arg4 harg4 arg5 harg5 arg6 harg6 x3 x4 x5) (kernelRun0_B.sl.r_1 c arg7 harg7 x6) x0 x1 x2 arg1 harg1 arg2 harg2 arg3 harg3 4 2 (arg9.view.readCov (kernelRun0_B.sl.HS0_18 c arg2 harg2 arg3 harg3 arg4 harg4 arg5 harg5 arg6 harg6 arg9 harg9 x1 x2 x3 x4 x5 xs0) (rS 2).toLoadRect)⟩,
    ⟨rV 4 1, ouR (kernelRun0_B.sl.r c arg4 harg4 arg5 harg5 arg6 harg6 x3 x4 x5) (kernelRun0_B.sl.r_1 c arg7 harg7 x6) x0 x1 x2 arg1 harg1 arg2 harg2 arg3 harg3 4 1 (arg9.view.readCov (kernelRun0_B.sl.HS0_17 c arg2 harg2 arg3 harg3 arg4 harg4 arg5 harg5 arg6 harg6 arg9 harg9 x1 x2 x3 x4 x5 xs0) (rS 1).toLoadRect)⟩,
    ⟨rV 4 0, ouR (kernelRun0_B.sl.r c arg4 harg4 arg5 harg5 arg6 harg6 x3 x4 x5) (kernelRun0_B.sl.r_1 c arg7 harg7 x6) x0 x1 x2 arg1 harg1 arg2 harg2 arg3 harg3 4 0 (arg9.view.readCov (kernelRun0_B.sl.HS0_16 c arg2 harg2 arg3 harg3 arg4 harg4 arg5 harg5 arg6 harg6 arg9 harg9 x1 x2 x3 x4 x5 xs0) (rS 0).toLoadRect)⟩,
    ⟨rV 3 3, ouR (kernelRun0_B.sl.r c arg4 harg4 arg5 harg5 arg6 harg6 x3 x4 x5) (kernelRun0_B.sl.r_1 c arg7 harg7 x6) x0 x1 x2 arg1 harg1 arg2 harg2 arg3 harg3 3 3 (arg9.view.readCov (kernelRun0_B.sl.HS0_15 c arg2 harg2 arg3 harg3 arg4 harg4 arg5 harg5 arg6 harg6 arg9 harg9 x1 x2 x3 x4 x5 xs0) (rS 3).toLoadRect)⟩,
    ⟨rV 3 2, ouR (kernelRun0_B.sl.r c arg4 harg4 arg5 harg5 arg6 harg6 x3 x4 x5) (kernelRun0_B.sl.r_1 c arg7 harg7 x6) x0 x1 x2 arg1 harg1 arg2 harg2 arg3 harg3 3 2 (arg9.view.readCov (kernelRun0_B.sl.HS0_14 c arg2 harg2 arg3 harg3 arg4 harg4 arg5 harg5 arg6 harg6 arg9 harg9 x1 x2 x3 x4 x5 xs0) (rS 2).toLoadRect)⟩,
    ⟨rV 3 1, ouR (kernelRun0_B.sl.r c arg4 harg4 arg5 harg5 arg6 harg6 x3 x4 x5) (kernelRun0_B.sl.r_1 c arg7 harg7 x6) x0 x1 x2 arg1 harg1 arg2 harg2 arg3 harg3 3 1 (arg9.view.readCov (kernelRun0_B.sl.HS0_13 c arg2 harg2 arg3 harg3 arg4 harg4 arg5 harg5 arg6 harg6 arg9 harg9 x1 x2 x3 x4 x5 xs0) (rS 1).toLoadRect)⟩,
    ⟨rV 3 0, ouR (kernelRun0_B.sl.r c arg4 harg4 arg5 harg5 arg6 harg6 x3 x4 x5) (kernelRun0_B.sl.r_1 c arg7 harg7 x6) x0 x1 x2 arg1 harg1 arg2 harg2 arg3 harg3 3 0 (arg9.view.readCov (kernelRun0_B.sl.HS0_12 c arg2 harg2 arg3 harg3 arg4 harg4 arg5 harg5 arg6 harg6 arg9 harg9 x1 x2 x3 x4 x5 xs0) (rS 0).toLoadRect)⟩,
    ⟨rV 2 3, ouR (kernelRun0_B.sl.r c arg4 harg4 arg5 harg5 arg6 harg6 x3 x4 x5) (kernelRun0_B.sl.r_1 c arg7 harg7 x6) x0 x1 x2 arg1 harg1 arg2 harg2 arg3 harg3 2 3 (arg9.view.readCov (kernelRun0_B.sl.HS0_11 c arg2 harg2 arg3 harg3 arg4 harg4 arg5 harg5 arg6 harg6 arg9 harg9 x1 x2 x3 x4 x5 xs0) (rS 3).toLoadRect)⟩,
    ⟨rV 2 2, ouR (kernelRun0_B.sl.r c arg4 harg4 arg5 harg5 arg6 harg6 x3 x4 x5) (kernelRun0_B.sl.r_1 c arg7 harg7 x6) x0 x1 x2 arg1 harg1 arg2 harg2 arg3 harg3 2 2 (arg9.view.readCov (kernelRun0_B.sl.HS0_10 c arg2 harg2 arg3 harg3 arg4 harg4 arg5 harg5 arg6 harg6 arg9 harg9 x1 x2 x3 x4 x5 xs0) (rS 2).toLoadRect)⟩,
    ⟨rV 2 1, ouR (kernelRun0_B.sl.r c arg4 harg4 arg5 harg5 arg6 harg6 x3 x4 x5) (kernelRun0_B.sl.r_1 c arg7 harg7 x6) x0 x1 x2 arg1 harg1 arg2 harg2 arg3 harg3 2 1 (arg9.view.readCov (kernelRun0_B.sl.HS0_9 c arg2 harg2 arg3 harg3 arg4 harg4 arg5 harg5 arg6 harg6 arg9 harg9 x1 x2 x3 x4 x5 xs0) (rS 1).toLoadRect)⟩,
    ⟨rV 2 0, ouR (kernelRun0_B.sl.r c arg4 harg4 arg5 harg5 arg6 harg6 x3 x4 x5) (kernelRun0_B.sl.r_1 c arg7 harg7 x6) x0 x1 x2 arg1 harg1 arg2 harg2 arg3 harg3 2 0 (arg9.view.readCov (kernelRun0_B.sl.HS0_8 c arg2 harg2 arg3 harg3 arg4 harg4 arg5 harg5 arg6 harg6 arg9 harg9 x1 x2 x3 x4 x5 xs0) (rS 0).toLoadRect)⟩,
    ⟨rV 1 3, ouR (kernelRun0_B.sl.r c arg4 harg4 arg5 harg5 arg6 harg6 x3 x4 x5) (kernelRun0_B.sl.r_1 c arg7 harg7 x6) x0 x1 x2 arg1 harg1 arg2 harg2 arg3 harg3 1 3 (arg9.view.readCov (kernelRun0_B.sl.HS0_7 c arg2 harg2 arg3 harg3 arg4 harg4 arg5 harg5 arg6 harg6 arg9 harg9 x1 x2 x3 x4 x5 xs0) (rS 3).toLoadRect)⟩,
    ⟨rV 1 2, ouR (kernelRun0_B.sl.r c arg4 harg4 arg5 harg5 arg6 harg6 x3 x4 x5) (kernelRun0_B.sl.r_1 c arg7 harg7 x6) x0 x1 x2 arg1 harg1 arg2 harg2 arg3 harg3 1 2 (arg9.view.readCov (kernelRun0_B.sl.HS0_6 c arg2 harg2 arg3 harg3 arg4 harg4 arg5 harg5 arg6 harg6 arg9 harg9 x1 x2 x3 x4 x5 xs0) (rS 2).toLoadRect)⟩,
    ⟨rV 1 1, ouR (kernelRun0_B.sl.r c arg4 harg4 arg5 harg5 arg6 harg6 x3 x4 x5) (kernelRun0_B.sl.r_1 c arg7 harg7 x6) x0 x1 x2 arg1 harg1 arg2 harg2 arg3 harg3 1 1 (arg9.view.readCov (kernelRun0_B.sl.HS0_5 c arg2 harg2 arg3 harg3 arg4 harg4 arg5 harg5 arg6 harg6 arg9 harg9 x1 x2 x3 x4 x5 xs0) (rS 1).toLoadRect)⟩,
    ⟨rV 1 0, ouR (kernelRun0_B.sl.r c arg4 harg4 arg5 harg5 arg6 harg6 x3 x4 x5) (kernelRun0_B.sl.r_1 c arg7 harg7 x6) x0 x1 x2 arg1 harg1 arg2 harg2 arg3 harg3 1 0 (arg9.view.readCov (kernelRun0_B.sl.HS0_4 c arg2 harg2 arg3 harg3 arg4 harg4 arg5 harg5 arg6 harg6 arg9 harg9 x1 x2 x3 x4 x5 xs0) (rS 0).toLoadRect)⟩,
    ⟨rV 0 3, ouR (kernelRun0_B.sl.r c arg4 harg4 arg5 harg5 arg6 harg6 x3 x4 x5) (kernelRun0_B.sl.r_1 c arg7 harg7 x6) x0 x1 x2 arg1 harg1 arg2 harg2 arg3 harg3 0 3 (View.readAt (Elt F) arg9.view (rS 3).toLoadRect (harg9.unread xs0))⟩,
    ⟨rV 0 2, ouR (kernelRun0_B.sl.r c arg4 harg4 arg5 harg5 arg6 harg6 x3 x4 x5) (kernelRun0_B.sl.r_1 c arg7 harg7 x6) x0 x1 x2 arg1 harg1 arg2 harg2 arg3 harg3 0 2 (View.readAt (Elt F) arg9.view (rS 2).toLoadRect (harg9.unread xs0))⟩,
    ⟨rV 0 1, ouR (kernelRun0_B.sl.r c arg4 harg4 arg5 harg5 arg6 harg6 x3 x4 x5) (kernelRun0_B.sl.r_1 c arg7 harg7 x6) x0 x1 x2 arg1 harg1 arg2 harg2 arg3 harg3 0 1 (View.readAt (Elt F) arg9.view (rS 1).toLoadRect (harg9.unread xs0))⟩,
    ⟨rV 0 0, ouR (kernelRun0_B.sl.r c arg4 harg4 arg5 harg5 arg6 harg6 x3 x4 x5) (kernelRun0_B.sl.r_1 c arg7 harg7 x6) x0 x1 x2 arg1 harg1 arg2 harg2 arg3 harg3 0 0 (View.readAt (Elt F) arg9.view (rS 0).toLoadRect (harg9.unread xs0))⟩] := by sl_kernel_rfl

/-- Every store of output rows is the model's rows at its place. -/
theorem outB (hc0 : ¬cond0_0 i) : ∀ p ∈ (kernelRun0_B c i arg1 harg1 arg2 harg2 arg3 harg3 arg4 harg4 arg5 harg5 arg6 harg6 arg7 harg7 arg8 harg8 arg9 harg9 hc0 x0 x1 x2 x3 x4 x5 x6 xs0).1,
    ∀ x, p.2 x = outG (kernelRun0_B.sl.r c arg4 harg4 arg5 harg5 arg6 harg6 x3 x4 x5) (kernelRun0_B.sl.r_1 c arg7 harg7 x6) x0 x1 x2 (ldS xs0) (p.1.emb x) := by
  rw [listB]
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 7 3 (by decide) (by decide) ((B_31 c arg2 harg2 arg3 harg3 arg4 harg4 arg5 harg5 arg6 harg6 arg9 harg9 x1 x2 x3 x4 x5 xs0).read arg9 3 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 7 2 (by decide) (by decide) ((B_30 c arg2 harg2 arg3 harg3 arg4 harg4 arg5 harg5 arg6 harg6 arg9 harg9 x1 x2 x3 x4 x5 xs0).read arg9 2 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 7 1 (by decide) (by decide) ((B_29 c arg2 harg2 arg3 harg3 arg4 harg4 arg5 harg5 arg6 harg6 arg9 harg9 x1 x2 x3 x4 x5 xs0).read arg9 1 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 7 0 (by decide) (by decide) ((B_28 c arg2 harg2 arg3 harg3 arg4 harg4 arg5 harg5 arg6 harg6 arg9 harg9 x1 x2 x3 x4 x5 xs0).read arg9 0 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 6 3 (by decide) (by decide) ((B_27 c arg2 harg2 arg3 harg3 arg4 harg4 arg5 harg5 arg6 harg6 arg9 harg9 x1 x2 x3 x4 x5 xs0).read arg9 3 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 6 2 (by decide) (by decide) ((B_26 c arg2 harg2 arg3 harg3 arg4 harg4 arg5 harg5 arg6 harg6 arg9 harg9 x1 x2 x3 x4 x5 xs0).read arg9 2 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 6 1 (by decide) (by decide) ((B_25 c arg2 harg2 arg3 harg3 arg4 harg4 arg5 harg5 arg6 harg6 arg9 harg9 x1 x2 x3 x4 x5 xs0).read arg9 1 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 6 0 (by decide) (by decide) ((B_24 c arg2 harg2 arg3 harg3 arg4 harg4 arg5 harg5 arg6 harg6 arg9 harg9 x1 x2 x3 x4 x5 xs0).read arg9 0 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 5 3 (by decide) (by decide) ((B_23 c arg2 harg2 arg3 harg3 arg4 harg4 arg5 harg5 arg6 harg6 arg9 harg9 x1 x2 x3 x4 x5 xs0).read arg9 3 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 5 2 (by decide) (by decide) ((B_22 c arg2 harg2 arg3 harg3 arg4 harg4 arg5 harg5 arg6 harg6 arg9 harg9 x1 x2 x3 x4 x5 xs0).read arg9 2 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 5 1 (by decide) (by decide) ((B_21 c arg2 harg2 arg3 harg3 arg4 harg4 arg5 harg5 arg6 harg6 arg9 harg9 x1 x2 x3 x4 x5 xs0).read arg9 1 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 5 0 (by decide) (by decide) ((B_20 c arg2 harg2 arg3 harg3 arg4 harg4 arg5 harg5 arg6 harg6 arg9 harg9 x1 x2 x3 x4 x5 xs0).read arg9 0 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 4 3 (by decide) (by decide) ((B_19 c arg2 harg2 arg3 harg3 arg4 harg4 arg5 harg5 arg6 harg6 arg9 harg9 x1 x2 x3 x4 x5 xs0).read arg9 3 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 4 2 (by decide) (by decide) ((B_18 c arg2 harg2 arg3 harg3 arg4 harg4 arg5 harg5 arg6 harg6 arg9 harg9 x1 x2 x3 x4 x5 xs0).read arg9 2 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 4 1 (by decide) (by decide) ((B_17 c arg2 harg2 arg3 harg3 arg4 harg4 arg5 harg5 arg6 harg6 arg9 harg9 x1 x2 x3 x4 x5 xs0).read arg9 1 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 4 0 (by decide) (by decide) ((B_16 c arg2 harg2 arg3 harg3 arg4 harg4 arg5 harg5 arg6 harg6 arg9 harg9 x1 x2 x3 x4 x5 xs0).read arg9 0 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 3 3 (by decide) (by decide) ((B_15 c arg2 harg2 arg3 harg3 arg4 harg4 arg5 harg5 arg6 harg6 arg9 harg9 x1 x2 x3 x4 x5 xs0).read arg9 3 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 3 2 (by decide) (by decide) ((B_14 c arg2 harg2 arg3 harg3 arg4 harg4 arg5 harg5 arg6 harg6 arg9 harg9 x1 x2 x3 x4 x5 xs0).read arg9 2 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 3 1 (by decide) (by decide) ((B_13 c arg2 harg2 arg3 harg3 arg4 harg4 arg5 harg5 arg6 harg6 arg9 harg9 x1 x2 x3 x4 x5 xs0).read arg9 1 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 3 0 (by decide) (by decide) ((B_12 c arg2 harg2 arg3 harg3 arg4 harg4 arg5 harg5 arg6 harg6 arg9 harg9 x1 x2 x3 x4 x5 xs0).read arg9 0 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 2 3 (by decide) (by decide) ((B_11 c arg2 harg2 arg3 harg3 arg4 harg4 arg5 harg5 arg6 harg6 arg9 harg9 x1 x2 x3 x4 x5 xs0).read arg9 3 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 2 2 (by decide) (by decide) ((B_10 c arg2 harg2 arg3 harg3 arg4 harg4 arg5 harg5 arg6 harg6 arg9 harg9 x1 x2 x3 x4 x5 xs0).read arg9 2 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 2 1 (by decide) (by decide) ((B_9 c arg2 harg2 arg3 harg3 arg4 harg4 arg5 harg5 arg6 harg6 arg9 harg9 x1 x2 x3 x4 x5 xs0).read arg9 1 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 2 0 (by decide) (by decide) ((B_8 c arg2 harg2 arg3 harg3 arg4 harg4 arg5 harg5 arg6 harg6 arg9 harg9 x1 x2 x3 x4 x5 xs0).read arg9 0 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 1 3 (by decide) (by decide) ((B_7 c arg2 harg2 arg3 harg3 arg4 harg4 arg5 harg5 arg6 harg6 arg9 harg9 x1 x2 x3 x4 x5 xs0).read arg9 3 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 1 2 (by decide) (by decide) ((B_6 c arg2 harg2 arg3 harg3 arg4 harg4 arg5 harg5 arg6 harg6 arg9 harg9 x1 x2 x3 x4 x5 xs0).read arg9 2 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 1 1 (by decide) (by decide) ((B_5 c arg2 harg2 arg3 harg3 arg4 harg4 arg5 harg5 arg6 harg6 arg9 harg9 x1 x2 x3 x4 x5 xs0).read arg9 1 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 1 0 (by decide) (by decide) ((B_4 c arg2 harg2 arg3 harg3 arg4 harg4 arg5 harg5 arg6 harg6 arg9 harg9 x1 x2 x3 x4 x5 xs0).read arg9 0 (by decide)), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 0 3 (by decide) (by decide) (readS arg9 harg9 xs0 _), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 0 2 (by decide) (by decide) (readS arg9 harg9 xs0 _), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 0 1 (by decide) (by decide) (readS arg9 harg9 xs0 _), ?_⟩
  refine List.forall_mem_cons.2 ⟨outR (kernelRun0_B.sl.r c arg4 harg4 arg5 harg5 arg6 harg6 x3 x4 x5) (kernelRun0_B.sl.r_1 c arg7 harg7 x6) x0 x1 x2 (ldS xs0) arg1 harg1 arg2 harg2 arg3 harg3 0 0 (by decide) (by decide) (readS arg9 harg9 xs0 _), ?_⟩
  exact fun p hp => absurd hp List.not_mem_nil

end Cert.KernelIdeal.Body

end
-- ==== Proof.Fold.lean ====
module

public import proofs.«01_k».proof.Proof.StoresA
public import proofs.«01_k».proof.Proof.StoresB

/-! What the kernel's points leave: the states after each point and the output block of each point, in the model's
terms, from the first point on. -/

@[expose] public section

set_option maxRecDepth 16384

noncomputable section

namespace Cert.KernelIdeal.Body

open Idealize.ShloMosaic Idealize.ShloMosaic.TcCoe Idealize.SL.Sem
open Cert.KernelIdeal Cert.KernelIdeal.Gen Cert.KernelIdeal.Value

variable {F : FTy → Type} [FloatOps F]

section words
variable (c : Dev nD) (a4 : Memref sig .tc .vmem S512x128 .bf16) (h4 : a4.IsWhole) (a5 : Memref sig .tc .vmem S128x1024 .bf16) (h5 : a5.IsWhole)
  (a6 : Memref sig .tc .vmem S1x1024 .f32) (h6 : a6.IsWhole) (a7 : Memref sig .tc .vmem S1x512 .f32) (h7 : a7.IsWhole)
  (x3 : Vec F S512x128 .bf16) (x4 : Vec F S128x1024 .bf16) (x5 : Vec F S1x1024 .f32) (x6 : Vec F S1x512 .f32)

theorem logA : kernelRun0_A.sl.r c a4 h4 a5 h5 a6 h6 x3 x4 x5 = k0_pay3 x3 x4 x5 := by
  unfold kernelRun0_A.sl.r
  rw [View.readAt_eq_ld, View.readAt_eq_ld, View.readAt_eq_ld, h4.read_unread, h5.read_unread, h6.read_unread,
    View.ld_unit_lit, View.ld_unit_lit, View.ld_unit_lit] <;> decide
theorem logB : kernelRun0_B.sl.r c a4 h4 a5 h5 a6 h6 x3 x4 x5 = k0_pay3 x3 x4 x5 := by
  unfold kernelRun0_B.sl.r
  rw [View.readAt_eq_ld, View.readAt_eq_ld, View.readAt_eq_ld, h4.read_unread, h5.read_unread, h6.read_unread,
    View.ld_unit_lit, View.ld_unit_lit, View.ld_unit_lit] <;> decide
theorem wtA : kernelRun0_A.sl.r_1 c a7 h7 x6 = x6 := by
  unfold kernelRun0_A.sl.r_1
  rw [View.readAt_eq_ld, h7.read_unread, View.ld_unit_lit]; decide
theorem wtB : kernelRun0_B.sl.r_1 c a7 h7 x6 = x6 := by
  unfold kernelRun0_B.sl.r_1
  rw [View.readAt_eq_ld, h7.read_unread, View.ld_unit_lit]; decide
end words

variable (m : (ℓ : Loc nD τ sig) → Buf (Elt F) ℓ) (c : Dev nD)

/-- The `n`-th point (of 16). -/
def pt (n : ℕ) : Fin cfg0.N := ⟨n % 16, lt_of_lt_of_eq (Nat.mod_lt _ (by decide)) N_0.symm⟩

/-- The blocks of queries, keys, values, log decays and norm weights at a point. -/
def X0 (t : Fin cfg0.N) : Vec F S512x1024 .bf16 := iblk m c 0 t
def X1 (t : Fin cfg0.N) : Vec F S512x1024 .bf16 := iblk m c 1 t
def X2 (t : Fin cfg0.N) : Vec F S512x2048 .bf16 := iblk m c 2 t
def U (t : Fin cfg0.N) : FVec F S512x1024 .f32 := k0_pay3 (iblk m c 3 t) (iblk m c 4 t) (iblk m c 5 t)
def Wt (t : Fin cfg0.N) : Vec F S1x512 .f32 := iblk m c 6 t

/-- Every head's state before the `n`-th point. -/
def pst : ℕ → Fin 4 → Vec F S1x512x256 .f32
  | 0 => ldS (k0_pay2 (F := F))
  | n + 1 => fun h => chain (U m c (pt n)) (X1 m c (pt n)) (X2 m c (pt n)) (pst n) h 8

theorem stage_zero (u : FVec F S512x1024 .f32) (x1 : Vec F S512x1024 .bf16) (x2 : Vec F S512x2048 .bf16)
    (T : Fin 4 → Vec F S1x512x256 .f32) (k : ℕ) : stage u x1 x2 T k 0 = fun h => chain u x1 x2 T h k := by
  funext h; unfold stage; rw [if_neg (Nat.not_lt_zero _)]

/-- From a covering list that leaves the heads at `T`, each head of the contents is `T`'s. -/
theorem ldS_of_holds {L : List (View.Piece (Elt F) S4x512x256 .f32)} {T : Fin 4 → Vec F S1x512x256 .f32} (H : Holds 4 L T)
    (hcov : ∀ y, ∃ p ∈ L, y ∈ p.1.set) : ldS (VS0_0.read (Elt F) (VS0_0.writes (Elt F) VS0_0.junk L)) = T := by
  rw [View.read_writes_eq_canon _ _ _ hcov]
  exact funext fun h => funext fun y => (H h h.isLt y).2

/-- What a point leaves: its output block and the heads' states. -/
theorem at_pt : ∀ n (hn : n < cfg0.N),
    ldS (outsAt0 m c n hn).2 = pst m c (n + 1)
    ∧ (outsAt0 m c n hn).1 = outG (U m c (pt n)) (Wt m c (pt n)) (X0 m c (pt n)) (X1 m c (pt n)) (X2 m c (pt n)) (pst m c n) := by
  intro n
  induction n with
  | zero =>
    intro hn
    have e : (⟨0, hn⟩ : Fin cfg0.N) = pt 0 := Fin.ext rfl
    have o := outsAt0_A m c ⟨0, hn⟩ (Nat.zero_mod _)
    rw [show outsAt0 m c 0 hn = _ from o]
    dsimp only
    constructor
    · unfold sout0_A_0
      rw [ldS_of_holds (finA _ _ _ _ _ _ _ _ _ _ _ _ _ _ _ _ _ _ _ _ _ _ _ _ _ _ _ _) (scover0_A_0 _ _ _ _ _ _ _ _ _ _ _ _ _ _ _ _ _ _ _ _ _ _ _ _ _ _ _ _)]
      rw [stage_zero, logA, e]; rfl
    · unfold out0_A_7
      rw [View.read_writes_eq_canon _ _ _ (cover0_A_7 _ _ _ _ _ _ _ _ _ _ _ _ _ _ _ _ _ _ _ _ _ _ _ _ _ _ _ _)]
      funext y
      rw [View.canon_apply_of_pieces _ _ (outA _ _ _ _ _ _ _ _ _ _ _ _ _ _ _ _ _ _ _ _ _ _ _ _ _ _ _ _) y (cover0_A_7 _ _ _ _ _ _ _ _ _ _ _ _ _ _ _ _ _ _ _ _ _ _ _ _ _ _ _ _ y)]
      rw [logA, wtA, ← e]; rfl
  | succ n ih =>
    intro hn
    obtain ⟨ih1, -⟩ := ih (Nat.lt_of_succ_lt hn)
    have ih2 : ∀ h, ldS (outsAt0 m c (n + 1 - 1) h).2 = pst m c (n + 1) := fun h => ih1
    have h16 : n + 1 < 16 := lt_of_lt_of_eq hn N_0
    have e : (⟨n + 1, hn⟩ : Fin cfg0.N) = pt (n + 1) := Fin.ext (Nat.mod_eq_of_lt h16).symm
    have o := outsAt0_B m c ⟨n + 1, hn⟩ (by show ¬(n + 1) % 16 = 0; omega)
    rw [show outsAt0 m c (n + 1) hn = _ from o]
    dsimp only
    constructor
    · unfold sout0_B_0
      rw [ldS_of_holds (finB _ _ _ _ _ _ _ _ _ _ _ _ _ _ _ _ _ _ _ _ _ _ _ _ _ _ _ _ _) (scover0_B_0 _ _ _ _ _ _ _ _ _ _ _ _ _ _ _ _ _ _ _ _ _ _ _ _ _ _ _ _ _)]
      rw [stage_zero, logB, ih2, e]; rfl
    · unfold out0_B_7
      rw [View.read_writes_eq_canon _ _ _ (cover0_B_7 _ _ _ _ _ _ _ _ _ _ _ _ _ _ _ _ _ _ _ _ _ _ _ _ _ _ _ _ _)]
      funext y
      rw [View.canon_apply_of_pieces _ _ (outB _ _ _ _ _ _ _ _ _ _ _ _ _ _ _ _ _ _ _ _ _ _ _ _ _ _ _ _ _) y (cover0_B_7 _ _ _ _ _ _ _ _ _ _ _ _ _ _ _ _ _ _ _ _ _ _ _ _ _ _ _ _ _ y)]
      rw [logB, wtB, ih2, ← e]; rfl

/-- The result array: at row `i` the point `i / 512`'s block. -/
theorem G7_at (i : S8192x2048.Idx) : G7 m c i
    = outG (U m c (pt ((i 0).val / 512))) (Wt m c (pt ((i 0).val / 512))) (X0 m c (pt ((i 0).val / 512)))
        (X1 m c (pt ((i 0).val / 512))) (X2 m c (pt ((i 0).val / 512))) (pst m c ((i 0).val / 512))
        (ix2 (⟨(i 0).val % 512, Nat.mod_lt _ (by decide)⟩ : Fin 512) (⟨(i 1).val % 2048, Nat.mod_lt _ (by decide)⟩ : Fin 2048)) := by
  have b0 : (i 0).val < 8192 := (i 0).isLt
  have b1 : (i 1).val < 2048 := (i 1).isLt
  have hp : pt7Of i = (i 0).val / 512 := by show 1 * ((i 0).val / 512 - 0) + 1 * ((i 1).val / 2048 - 0) = _; omega
  have hN : pt7Of i < cfg0.N := lt_of_lt_of_eq (by omega) N_0.symm
  unfold G7
  rw [dif_pos hN, ← outsAt0_sweep m c _ hN, (at_pt m c _ hN).2, hp]
  congr 1
  funext a; refine Fin.cases rfl (fun b => Fin.cases rfl (fun b => b.elim0) b) a

end Cert.KernelIdeal.Body

end
-- ==== Proof.Pure.lean ====
module

public import proofs.«01_k».proof.Proof.Body
public import proofs.«01_k».proof.Proof.Spec
public import Idealize.ShloMosaic.Lib.WordCmp

/-! The body's operations read entry by entry on extended reals. -/

@[expose] public section

set_option maxRecDepth 16384

noncomputable section

namespace Cert.KernelIdeal.Body

open Idealize.ShloMosaic Idealize.ShloMosaic.TcCoe Idealize.SL.Sem
open Cert.KernelIdeal Cert.KernelIdeal.Gen

theorem sel_if (a b : ℕ) (ha : a < 64) (hb : b < 64) (x y : EReal) :
    Scalar.select (IntOp.cmpi CmpIPredicate.sle (BitVec.ofNat 32 a) (BitVec.ofNat 32 b)) x y = if a ≤ b then x else y := by
  rw [WordCmp.cmpi_sle_ofNat (by omega) (by omega)]
  by_cases h : a ≤ b
  · rw [if_pos h, decide_eq_true h]; rfl
  · rw [if_neg h, decide_eq_false h]; rfl

/-- The log decays of a point. -/
theorem pay3_at (a : Vec Ideal S512x128 .bf16) (w : Vec Ideal S128x1024 .bf16) (b : Vec Ideal S1x1024 .f32) (r : Fin 512) (j : Fin 1024) :
    k0_pay3 (F := Ideal) a w b (ix2 r j)
      = Gla.lsg ((∑ x : Fin 128, (show EReal from a (ix2 r x)) * (show EReal from w (ix2 x j))) + (show EReal from b (ix2 0 j))) := by
  pointwise [k0_pay3, Gla.lsg, Gla.cS]
  rw [if_neg (by simp)]

/-- The running sums: the two halves of the split decays add up to the decays. -/
theorem cumM_at (u : FVec Ideal S512x1024 .f32) (hu : ∀ i, u i ≠ (⊤ : EReal)) (c : Fin 8) (t : Fin 64) (j : Fin 1024) :
    cumM u c (ix2 t j) = ∑ s : Fin 64, if s ≤ t then (show EReal from u (ix2 ⟨64 * c.val + s.val, by omega⟩ j)) else 0 := by
  pointwise [cumM, k0_pay5, k0_pay4]
  rw [← Finset.sum_add_distrib]
  refine Finset.sum_congr rfl fun s _ => ?_
  rw [sel_if _ _ s.isLt t.isLt, sel_if _ _ s.isLt t.isLt]
  by_cases h : s.val ≤ t.val
  · rw [if_pos h, if_pos h, if_pos (show s ≤ t from h)]
    exact Gla.add_sub_self (hu _)
  · rw [if_neg h, if_neg h, if_neg (show ¬ s ≤ t from h), add_zero]

theorem lastM_at (u : FVec Ideal S512x1024 .f32) (c : Fin 8) (s : Fin 1) (j : Fin 1024) : lastM u c (ix2 s j) = cumM u c (ix2 63 j) := by
  pointwise [lastM]

theorem qdM_at (u : FVec Ideal S512x1024 .f32) (c : Fin 8) (q : Vec Ideal S64x1024 .bf16) (s : Fin 64) (j : Fin 1024) :
    qdM u c q (ix2 s j) = (show EReal from q (ix2 s j)) * Ideal.ofBits .f32 0x3D800000#32 * Ideal.exp (cumM u c (ix2 s j)) := by
  pointwise [qdM]

theorem kiM_at (u : FVec Ideal S512x1024 .f32) (c : Fin 8) (k : Vec Ideal S64x1024 .bf16) (s : Fin 64) (j : Fin 1024) :
    kiM u c k (ix2 s j) = (show EReal from k (ix2 s j)) * Ideal.exp (0 - cumM u c (ix2 s j)) := by
  pointwise [kiM]

theorem ksM_at (u : FVec Ideal S512x1024 .f32) (c : Fin 8) (k : Vec Ideal S64x1024 .bf16) (s : Fin 64) (j : Fin 1024) :
    ksM u c k (ix2 s j) = (show EReal from k (ix2 s j)) * Ideal.exp (cumM u c (ix2 63 j) - cumM u c (ix2 s j)) := by
  pointwise [ksM, lastM]

/-- A head's state after a chunk. -/
theorem stM_at (u : FVec Ideal S512x1024 .f32) (k : Vec Ideal S64x1024 .bf16) (v : Vec Ideal S64x512 .bf16) (c : Fin 8) (h : Fin 4)
    (s : Vec Ideal S1x512x256 .f32) (e : Fin 512) (d : Fin 256) :
    stM u k v c h s (ix3 0 e d) = (show EReal from s (ix3 0 e d)) * Ideal.exp (cumM u c (ix2 63 (Gla.colK h d)))
      + ∑ x : Fin 64, (show EReal from v (ix2 x e)) * ksM u c k (ix2 x (Gla.colK h d)) := by
  pointwise [stM, Gla.colK, lastM]

/-- A head's output before its normalisation. -/
theorem roM_at (u : FVec Ideal S512x1024 .f32) (q k : Vec Ideal S64x1024 .bf16) (v : Vec Ideal S64x512 .bf16) (c : Fin 8) (h : Fin 4)
    (s : Vec Ideal S1x512x256 .f32) (t : Fin 64) (e : Fin 512) :
    roM u q k v c h s (ix2 t e) = (∑ x : Fin 64, (if x ≤ t then ∑ d : Fin 256, qdM u c q (ix2 t (Gla.colK h d)) * kiM u c k (ix2 x (Gla.colK h d)) else 0)
        * (show EReal from v (ix2 x e)))
      + ∑ d : Fin 256, qdM u c q (ix2 t (Gla.colK h d)) * (show EReal from s (ix3 0 e d)) := by
  pointwise [roM, k0_pay4, Gla.colK]
  refine congrArg₂ (· + ·) (Finset.sum_congr rfl fun x _ => ?_) rfl
  rw [sel_if _ _ x.isLt t.isLt]
  by_cases h : x.val ≤ t.val
  · rw [if_pos h, if_pos (show x ≤ t from h)]
  · rw [if_neg h, if_neg (show ¬ x ≤ t from h)]; exact (zero_mul _).symm

/-- The normalisation of a head's rows. -/
theorem nrM_at (w : Vec Ideal S1x512 .f32) (o : FVec Ideal S64x512 .f32) (t : Fin 64) (e : Fin 512) :
    nrM w o (ix2 t e) = (show EReal from o (ix2 t e))
      * Ideal.rsqrt (Ideal.div (∑ i : Fin 512, (show EReal from o (ix2 t i)) * (show EReal from o (ix2 t i))) (Ideal.ofBits .f32 0x44000000#32)
          + Ideal.ofBits .f32 0x358637BD#32)
      * (show EReal from w (ix2 0 e)) := by
  pointwise [nrM]

theorem ldQ_at (x : Vec Ideal S512x1024 .bf16) (c : Fin 8) (s : Fin 64) (j : Fin 1024) :
    ldQ x c (ix2 s j) = x (ix2 ⟨64 * c.val + s.val, by omega⟩ j) := by
  pointwise [ldQ]
theorem ldV_at (x : Vec Ideal S512x2048 .bf16) (c : Fin 8) (h : Fin 4) (s : Fin 64) (e : Fin 512) :
    ldV x c h (ix2 s e) = x (ix2 ⟨64 * c.val + s.val, by omega⟩ ⟨512 * h.val + e.val, by omega⟩) := by
  pointwise [ldV]
theorem ldS_at (x : Vec Ideal S4x512x256 .f32) (h : Fin 4) (e : Fin 512) (d : Fin 256) : ldS x h (ix3 0 e d) = x (ix3 h e d) := by
  pointwise [ldS]
theorem ldS_zero (h : Fin 4) (e : Fin 512) (d : Fin 256) :
    ldS (F := Ideal) (k0_pay2 (F := Ideal)) h (ix3 0 e d) = (show Elt Ideal EltTy.f32 from (0 : EReal)) := by
  refine (ldS_at _ h e d).trans ?_
  pointwise [k0_pay2]

end Cert.KernelIdeal.Body

end
-- ==== Proof.Blocks.lean ====
module

public import proofs.«01_k».proof.Proof.Fold
public import proofs.«01_k».proof.Proof.Pure
public import Idealize.ShloMosaic.Lib.StableHlo.RunRead

/-! The blocks of a grid point in terms of the kernel's arguments. -/

@[expose] public section

set_option maxRecDepth 16384

noncomputable section

namespace Cert.KernelIdeal.Body

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

abbrev A0 : FVec Ideal S1x8192x6144 .f32 := m ((c : Thread nD τ).loc main_arg0)
abbrev A1 : FVec Ideal S1x8192x16 .f32 := m ((c : Thread nD τ).loc main_arg1)
abbrev A2 : FVec Ideal S16x1024 .f32 := m ((c : Thread nD τ).loc main_arg2)
abbrev A3 : FVec Ideal S1024 .f32 := m ((c : Thread nD τ).loc main_arg3)
abbrev A4 : FVec Ideal S512 .f32 := m ((c : Thread nD τ).loc main_arg4)

theorem sitofp_zero : (FloatOps.sitofp (F := Ideal) .f32 (0#32 : BitVec 32) : EReal) = 0 := by
  show (((0#32 : BitVec 32).toInt : ℝ) : EReal) = 0
  simp

theorem V1_at (r : Fin 8192) (j : Fin 6144) : V m c main_v1 (ix2 r j) = A0 m c (ix3 0 r j) := by
  unfold V
  after_reads_simp
  have e (x : FVec Ideal S1x8192x6144 .f32) : truncf .bf16 (shapeCast S8192x6144 x shapeCasts_S1x8192x6144_S8192x6144) bitsLt_bf16_f32 (ix2 r j)
      = x (ix3 0 r j) := by pointwise
  exact e _

/-- The low-rank gate columns, padded by zeros. -/
theorem V4_at (r : Fin 8192) (j : Fin 128) : (show EReal from V m c main_v4 (ix2 r j)) = if h : j.val < 16 then A1 m c (ix3 0 r ⟨j.val, h⟩) else 0 := by
  unfold V
  after_reads_simp
  have e (x : FVec Ideal S1x8192x16 .f32) : truncf .bf16 (pad S8192x128 ![0, 0] ![0, 112] ![0, 0] (shapeCast S8192x16 x shapeCasts_S1x8192x16_S8192x16)
      (sitofp .f32 (constantI S_ 32 0#32) : FVec Ideal S_ .f32) pads_S8192x16_S8192x128_000_01120 h_S_) bitsLt_bf16_f32 (ix2 r j)
      = if h : j.val < 16 then x (ix3 0 r ⟨j.val, h⟩) else (0 : EReal) := by
    pointwise
    rw [sitofp_zero]
  exact e _

/-- The gate's weights, padded by zeros. -/
theorem V6_at (r : Fin 128) (j : Fin 1024) : (show EReal from V m c main_v6 (ix2 r j)) = if h : r.val < 16 then A2 m c (ix2 ⟨r.val, h⟩ j) else 0 := by
  unfold V
  after_reads_simp
  have e (x : FVec Ideal S16x1024 .f32) : truncf .bf16 (pad S128x1024 ![0, 0] ![112, 0] ![0, 0] x
      (sitofp .f32 (constantI S_ 32 0#32) : FVec Ideal S_ .f32) pads_S16x1024_S128x1024_01120_000 h_S_) bitsLt_bf16_f32 (ix2 r j)
      = if h : r.val < 16 then x (ix2 ⟨r.val, h⟩ j) else (0 : EReal) := by
    pointwise
    rw [sitofp_zero]
  exact e _

theorem V7_at (j : Fin 1024) : V m c main_v7 (ix2 0 j) = A3 m c (ix1 j) := by
  unfold V
  after_reads_simp
  have e (x : FVec Ideal S1024 .f32) : shapeCast S1x1024 x shapeCasts_S1024_S1x1024 (ix2 0 j) = x (ix1 j) := by pointwise
  exact e _

theorem V8_at (j : Fin 512) : V m c main_v8 (ix2 0 j) = A4 m c (ix1 j) := by
  unfold V
  after_reads_simp
  have e (x : FVec Ideal S512 .f32) : shapeCast S1x512 x shapeCasts_S512_S1x512 (ix2 0 j) = x (ix1 j) := by pointwise
  exact e _

theorem idx : ∀ t : Fin cfg0.N, win0_0.index t = ![t.val, 2] ∧ win0_1.index t = ![t.val, 3] ∧ win0_2.index t = ![t.val, 2]
    ∧ win0_3.index t = ![t.val, 0] ∧ win0_4.index t = ![0, 0] ∧ win0_5.index t = ![0, 0] ∧ win0_6.index t = ![0, 0] :=
  (by decide +kernel : ∀ t : Fin grid0.N, _)

theorem X0_at (t : Fin cfg0.N) (r : Fin 512) (j : Fin 1024) :
    X0 m c t (ix2 r j) = A0 m c (ix3 0 ⟨512 * t.val + r.val, by have := lt_of_lt_of_eq t.isLt N_0; omega⟩ ⟨2048 + j.val, by omega⟩) := by
  rw [← V1_at]; unfold X0
  blk_point [iblk, V, idx t]
theorem X1_at (t : Fin cfg0.N) (r : Fin 512) (j : Fin 1024) :
    X1 m c t (ix2 r j) = A0 m c (ix3 0 ⟨512 * t.val + r.val, by have := lt_of_lt_of_eq t.isLt N_0; omega⟩ ⟨3072 + j.val, by omega⟩) := by
  rw [← V1_at]; unfold X1
  blk_point [iblk, V, idx t]
theorem X2_at (t : Fin cfg0.N) (r : Fin 512) (j : Fin 2048) :
    X2 m c t (ix2 r j) = A0 m c (ix3 0 ⟨512 * t.val + r.val, by have := lt_of_lt_of_eq t.isLt N_0; omega⟩ ⟨4096 + j.val, by omega⟩) := by
  rw [← V1_at]; unfold X2
  blk_point [iblk, V, idx t]
theorem B3_at (t : Fin cfg0.N) (r : Fin 512) (j : Fin 128) :
    iblk m c 3 t (ix2 r j) = V m c main_v4 (ix2 ⟨512 * t.val + r.val, by have := lt_of_lt_of_eq t.isLt N_0; omega⟩ j) := by
  blk_point [iblk, V, idx t]
theorem B4_at (t : Fin cfg0.N) (r : Fin 128) (j : Fin 1024) : iblk m c 4 t (ix2 r j) = V m c main_v6 (ix2 r j) := by
  blk_point [iblk, V, idx t]
theorem B5_at (t : Fin cfg0.N) (j : Fin 1024) : iblk m c 5 t (ix2 0 j) = V m c main_v7 (ix2 0 j) := by
  blk_point [iblk, V, idx t]
theorem B6_at (t : Fin cfg0.N) (j : Fin 512) : iblk m c 6 t (ix2 0 j) = V m c main_v8 (ix2 0 j) := by
  blk_point [iblk, V, idx t]

/-- A point's log decays are the specification's. -/
theorem U_at (t : Fin cfg0.N) (g : Fin 128) (cc : Fin 8) (hg : g.val = 8 * t.val + cc.val) (s : Fin 64) (h : Fin 4) (d : Fin 256) :
    U m c t (ix2 ⟨64 * cc.val + s.val, by omega⟩ (Gla.colK h d)) = Gla.la (A1 m c) (A2 m c) (A3 m c) g s h d := by
  unfold U Gla.la
  rw [pay3_at]
  refine congrArg Gla.lsg (congrArg₂ (· + ·) ?_ ((B5_at m c t _).trans (V7_at m c _)))
  have e : ∀ x : Fin 128, (show EReal from iblk m c 3 t (ix2 ⟨64 * cc.val + s.val, by omega⟩ x)) * (show EReal from iblk m c 4 t (ix2 x (Gla.colK h d)))
      = if hx : x.val < 16 then A1 m c (ix3 0 (Gla.row g s) ⟨x.val, hx⟩) * A2 m c (ix2 ⟨x.val, hx⟩ (Gla.colK h d)) else 0 := by
    intro x
    have e3 := (B3_at m c t ⟨64 * cc.val + s.val, by omega⟩ x).trans (V4_at m c _ x)
    have e4 := (B4_at m c t x (Gla.colK h d)).trans (V6_at m c x _)
    rw [show (show EReal from iblk m c 3 t (ix2 ⟨64 * cc.val + s.val, by omega⟩ x)) = _ from e3, show (show EReal from iblk m c 4 t (ix2 x (Gla.colK h d))) = _ from e4]
    by_cases hx : x.val < 16
    · rw [dif_pos hx, dif_pos hx, dif_pos hx]
      congr 3
      exact Fin.ext (by show 512 * t.val + (64 * cc.val + s.val) = 64 * g.val + s.val; omega)
    · rw [dif_neg hx, dif_neg hx, dif_neg hx, zero_mul]
  rw [Finset.sum_congr rfl fun x _ => e x]
  rw [Fin.sum_univ_two_halves 16 112 rfl]
  rw [Finset.sum_eq_zero (s := (Finset.univ : Finset (Fin 112))) (fun x _ => dif_neg (by simp)), add_zero]
  exact Finset.sum_congr rfl fun x _ => dif_pos x.isLt

theorem U_ne_top (t : Fin cfg0.N) (i : S512x1024.Idx) : U m c t i ≠ (⊤ : EReal) := by
  obtain ⟨r, j, rfl⟩ : ∃ (r : Fin 512) (j : Fin 1024), i = ix2 r j := ⟨i 0, i 1, eq_ix2 i⟩
  unfold U; rw [pay3_at]; exact Gla.lsg_ne_top _

end Cert.KernelIdeal.Body

end
-- ==== Proof.KernelSum.lean ====
module

public import proofs.«01_k».proof.Proof.Blocks

/-! The kernel's result array is the specification's output of its arguments. -/

@[expose] public section

set_option maxRecDepth 16384

noncomputable section

namespace Cert.KernelIdeal.Body

open Idealize.ShloMosaic Idealize.ShloMosaic.TcCoe Idealize.SL.Sem
open Cert.KernelIdeal Cert.KernelIdeal.Gen

variable (m : (ℓ : Loc nD τ sig) → Buf (Elt Ideal) ℓ) (c : Dev nD)
section Chunk

variable (t : Fin cfg0.N) (g : Fin 128) (cc : Fin 8) (hg : g.val = 8 * t.val + cc.val)
include hg

theorem cum_eq (s : Fin 64) (h : Fin 4) (d : Fin 256) :
    cumM (U m c t) cc (ix2 s (Gla.colK h d)) = Gla.cum (A1 m c) (A2 m c) (A3 m c) g s h d := by
  rw [cumM_at _ (U_ne_top m c t)]
  refine Finset.sum_congr rfl fun x _ => ?_
  by_cases hx : x ≤ s
  · rw [if_pos hx, if_pos hx]; exact U_at m c t g cc hg x h d
  · rw [if_neg hx, if_neg hx]

theorem q_eq (s : Fin 64) (h : Fin 4) (d : Fin 256) : ldQ (X0 m c t) cc (ix2 s (Gla.colK h d)) = Gla.qf (A0 m c) g s h d := by
  rw [ldQ_at, X0_at]
  exact congrArg (A0 m c) ((ix3_inj ..).2 ⟨rfl, Fin.ext (by show 512 * t.val + (64 * cc.val + s.val) = 64 * g.val + s.val; omega), rfl⟩)
theorem k_eq (s : Fin 64) (h : Fin 4) (d : Fin 256) : ldQ (X1 m c t) cc (ix2 s (Gla.colK h d)) = Gla.kf (A0 m c) g s h d := by
  rw [ldQ_at, X1_at]
  exact congrArg (A0 m c) ((ix3_inj ..).2 ⟨rfl, Fin.ext (by show 512 * t.val + (64 * cc.val + s.val) = 64 * g.val + s.val; omega), rfl⟩)
theorem v_eq (s : Fin 64) (h : Fin 4) (e : Fin 512) : ldV (X2 m c t) cc h (ix2 s e) = Gla.vf (A0 m c) g s h e := by
  rw [ldV_at, X2_at]
  exact congrArg (A0 m c) ((ix3_inj ..).2 ⟨rfl, Fin.ext (by show 512 * t.val + (64 * cc.val + s.val) = 64 * g.val + s.val; omega), rfl⟩)

theorem qd_eq (s : Fin 64) (h : Fin 4) (d : Fin 256) :
    qdM (U m c t) cc (ldQ (X0 m c t) cc) (ix2 s (Gla.colK h d)) = Gla.qd (A0 m c) (A1 m c) (A2 m c) (A3 m c) g s h d := by
  rw [qdM_at, cum_eq m c t g cc hg]
  exact congrArg (fun z : EReal => z * _ * _) (q_eq m c t g cc hg s h d)
theorem ki_eq (s : Fin 64) (h : Fin 4) (d : Fin 256) :
    kiM (U m c t) cc (ldQ (X1 m c t) cc) (ix2 s (Gla.colK h d)) = Gla.ki (A0 m c) (A1 m c) (A2 m c) (A3 m c) g s h d := by
  rw [kiM_at, cum_eq m c t g cc hg]
  exact congrArg (fun z : EReal => z * _) (k_eq m c t g cc hg s h d)
theorem ks_eq (s : Fin 64) (h : Fin 4) (d : Fin 256) :
    ksM (U m c t) cc (ldQ (X1 m c t) cc) (ix2 s (Gla.colK h d)) = Gla.ks (A0 m c) (A1 m c) (A2 m c) (A3 m c) g s h d := by
  rw [ksM_at, cum_eq m c t g cc hg, cum_eq m c t g cc hg]
  exact congrArg (fun z : EReal => z * _) (k_eq m c t g cc hg s h d)
omit hg

/-- The state before a point's chunk `n`, from the states before the point. -/
theorem chain_eq (T : Fin 4 → Vec Ideal S1x512x256 .f32) (h : Fin 4)
    (hT : ∀ (e : Fin 512) (d : Fin 256), T h (ix3 0 e d) = Gla.st (A0 m c) (A1 m c) (A2 m c) (A3 m c) (8 * t.val) h d e) :
    ∀ n ≤ 8, ∀ (e : Fin 512) (d : Fin 256), chain (U m c t) (X1 m c t) (X2 m c t) T h n (ix3 0 e d)
      = Gla.st (A0 m c) (A1 m c) (A2 m c) (A3 m c) (8 * t.val + n) h d e := by
  intro n
  induction n with
  | zero => exact fun _ e d => hT e d
  | succ n ih =>
    intro hn e d
    have hN := lt_of_lt_of_eq t.isLt N_0
    have hg : (Gla.g128 (8 * t.val + n)).val = 8 * t.val + (c8 n).val := by
      show (8 * t.val + n) % 128 = 8 * t.val + n % 8; omega
    show stM (U m c t) (ldQ (X1 m c t) (c8 n)) (ldV (X2 m c t) (c8 n) h) (c8 n) h _ (ix3 0 e d) = _
    rw [stM_at, cum_eq m c t _ _ hg]
    refine congrArg₂ (· + ·) (congrArg (fun z : EReal => z * _) (ih (by omega) e d)) (Finset.sum_congr rfl fun x _ => ?_)
    rw [ks_eq m c t _ _ hg]
    exact congrArg (fun z : EReal => z * _) (v_eq m c t _ _ hg x h e)

/-- The states before a point. -/
theorem pst_eq : ∀ n ≤ 16, ∀ (h : Fin 4) (e : Fin 512) (d : Fin 256),
    pst m c n h (ix3 0 e d) = Gla.st (A0 m c) (A1 m c) (A2 m c) (A3 m c) (8 * n) h d e := by
  intro n
  induction n with
  | zero => exact fun _ h e d => ldS_zero h e d
  | succ n ih =>
    intro hn h e d
    have hp : (pt n).val = n := Nat.mod_eq_of_lt (by omega)
    have := chain_eq m c (pt n) (pst m c n) h (by rw [hp]; exact ih (by omega) h) 8 le_rfl e d
    rw [hp] at this
    exact this

include hg in
/-- A head's output rows before their normalisation. -/
theorem ro_eq (T : Fin 4 → Vec Ideal S1x512x256 .f32) (h : Fin 4)
    (hT : ∀ (e : Fin 512) (d : Fin 256), T h (ix3 0 e d) = Gla.st (A0 m c) (A1 m c) (A2 m c) (A3 m c) (8 * t.val) h d e)
    (s : Fin 64) (e : Fin 512) :
    roM (U m c t) (ldQ (X0 m c t) cc) (ldQ (X1 m c t) cc) (ldV (X2 m c t) cc h) cc h (chain (U m c t) (X1 m c t) (X2 m c t) T h cc.val) (ix2 s e)
      = Gla.ro (A0 m c) (A1 m c) (A2 m c) (A3 m c) g s h e := by
  rw [roM_at]
  unfold Gla.ro
  refine congrArg₂ (· + ·) (Finset.sum_congr rfl fun x _ => ?_) (Finset.sum_congr rfl fun d _ => ?_)
  · refine (congrArg (fun z : EReal => _ * z) (v_eq m c t g cc hg x h e)).trans (congrArg (fun z : EReal => z * _) ?_)
    unfold Gla.att
    by_cases hx : x ≤ s
    · rw [if_pos hx, if_pos hx]
      exact Finset.sum_congr rfl fun d _ => by rw [qd_eq m c t g cc hg, ki_eq m c t g cc hg]
    · rw [if_neg hx, if_neg hx]
  · rw [qd_eq m c t g cc hg, hg]
    exact congrArg (fun z : EReal => _ * z) (chain_eq m c t T h hT cc.val (by omega) e d)

theorem c8_val (cc : Fin 8) : c8 cc.val = cc := Fin.ext (Nat.mod_eq_of_lt cc.isLt)

/-- The output block at chunk `cc`, row `s`, head `h`, column `e`. -/
theorem outG_at (u : FVec Ideal S512x1024 .f32) (w : Vec Ideal S1x512 .f32) (x0 x1 : Vec Ideal S512x1024 .bf16) (x2 : Vec Ideal S512x2048 .bf16)
    (T : Fin 4 → Vec Ideal S1x512x256 .f32) (cc : Fin 8) (s : Fin 64) (h : Fin 4) (e : Fin 512) (a : Fin 512) (b : Fin 2048)
    (ha : a.val = 64 * cc.val + s.val) (hb : b.val = 512 * h.val + e.val) :
    outG u w x0 x1 x2 T (ix2 a b) = ouM u w (ldQ x0 cc) (ldQ x1 cc) (ldV x2 cc h) cc h (chain u x1 x2 T h cc.val) (ix2 s e) := by
  have key : ∀ (n : ℕ) (k : Fin 4) (i : Fin 64) (j : Fin 512), n = cc.val → k = h → i = s → j = e →
      ouM u w (ldQ x0 (c8 n)) (ldQ x1 (c8 n)) (ldV x2 (c8 n) k) (c8 n) k (chain u x1 x2 T k n) (ix2 i j)
        = ouM u w (ldQ x0 cc) (ldQ x1 cc) (ldV x2 cc h) cc h (chain u x1 x2 T h cc.val) (ix2 s e) := by
    rintro n k i j rfl rfl rfl rfl; rw [c8_val]
  exact key _ _ _ _ (by show a.val / 64 = _; omega) (Fin.ext (by show b.val / 512 = _; omega))
    (Fin.ext (by show a.val % 64 = _; omega)) (Fin.ext (by show b.val % 512 = _; omega))

end Chunk

/-- The kernel's result array, entry by entry. -/
theorem G7_eq (g : Fin 128) (s : Fin 64) (h : Fin 4) (e : Fin 512) :
    Value.G7 m c (ix2 (Gla.row g s) ⟨512 * h.val + e.val, by omega⟩)
      = Gla.out (A0 m c) (A1 m c) (A2 m c) (A3 m c) (A4 m c) g s h e := by
  have hn16 : (64 * g.val + s.val) / 512 < 16 := by omega
  rw [G7_at, outG_at _ _ _ _ _ _ (c8 ((64 * g.val + s.val) % 512 / 64)) s h e _ _
    (by show (64 * g.val + s.val) % 512 = 64 * ((64 * g.val + s.val) % 512 / 64 % 8) + s.val; omega)
    (by show (512 * h.val + e.val) % 2048 = _; omega)]
  show nrM (Wt m c (pt ((64 * g.val + s.val) / 512))) (roM (U m c (pt ((64 * g.val + s.val) / 512))) _ _ _ _ _
    (chain _ _ _ (pst m c ((64 * g.val + s.val) / 512)) _ _)) (ix2 s e) = _
  have hT := pst_eq m c _ (le_of_lt hn16)
  have hp : (pt ((64 * g.val + s.val) / 512)).val = (64 * g.val + s.val) / 512 := Nat.mod_eq_of_lt hn16
  have hg : g.val = 8 * (pt ((64 * g.val + s.val) / 512)).val + (c8 ((64 * g.val + s.val) % 512 / 64)).val := by
    rw [hp]; show g.val = 8 * ((64 * g.val + s.val) / 512) + (64 * g.val + s.val) % 512 / 64 % 8; omega
  have hro := fun i => ro_eq m c _ g _ hg (pst m c ((64 * g.val + s.val) / 512)) h (by rw [hp]; exact hT h) s i
  rw [nrM_at]
  unfold Gla.out
  refine congrArg₂ (· * ·) (congrArg₂ (· * ·) (hro e) ?_) ((B6_at m c _ e).trans (V8_at m c e))
  refine congrArg (fun z => Ideal.rsqrt (Ideal.div z _ + _)) (Finset.sum_congr rfl fun i _ => congrArg₂ (· * ·) (hro i) (hro i))

end Cert.KernelIdeal.Body

end
-- ==== Proof.Equation.lean ====
module

public import proofs.«01_k».proof.Proof.RefOut
public import proofs.«01_k».proof.Proof.KernelSum
public import Idealize.ShloMosaic.Lib.Quiescent

/-! The gated linear attention: the reference keeps its arguments, and its result is the kernel's. -/

@[expose] public section

set_option maxRecDepth 16384

noncomputable section

namespace Cert.ReferenceIdeal.Side

open Idealize.ShloMosaic Idealize.ShloMosaic.TcCoe Idealize.ShloMosaic.StableHlo Idealize.SL.Sem
open Cert.ReferenceIdeal Cert.ReferenceIdeal.Gen Cert.ReferenceIdeal.Value

variable (m : (ℓ : Loc nD τ sig) → Buf (Elt Ideal) ℓ) (c : Dev nD)

/-- A buffer that no operation before the last stretch writes is, at the end of the loop, as at the start. -/
theorem keep_upto (r : Ref sig .tc) (p0 : r ∉ hostOps0_W) (p1 : r ∉ hostOps0_1_W) (p2 : r ∉ hostOps0_2_W) (p3 : r ∉ hostOps0_3_W) (p4 : r ∉ hostOps0_4_W)
    (p5 : r ∉ hostOps0_5_W) (p6 : r ∉ hostOps0_6_W) (p7 : r ∉ hostOps0_7_W) (p8 : r ∉ hostOps0_8_W)
    (hc : r ∉ condOps_W) (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W) (h6 : r ∉ while0Ops0_6_W) :
    after condOps (atK m 128 c) (Proc.devRef .tc r) = m ((c : Thread nD τ).loc r) := by
  have hn : ∀ n : ℕ, atK m n c (Proc.devRef .tc r) = m ((c : Thread nD τ).loc r) := by
    intro n
    induction n with
    | zero =>
      show E8 m c (Proc.devRef .tc r) = _
      refine (after_of_writes_sub _ _ hostOps0_8_writes p8).trans ?_
      rw [k7 m c r p7, k6 m c r p6, k5 m c r p5, k4 m c r p4, k3 m c r p3, k2 m c r p2, k1 m c r p1]
      exact after_of_writes_sub _ _ hostOps0_writes p0
    | succ n ih => exact (trip_keep (atK m n c) r hc h0 h1 h2 h3 h4 h5 h6).trans ih
  exact (after_of_writes_sub _ _ condOps_writes hc).trans (hn 128)

theorem o9_args (V : Valuation τ sig (Elt Ideal)) :
    after hostOps0_9 V (Proc.devRef .tc main_arg0) = V (Proc.devRef .tc main_arg0)
    ∧ after hostOps0_9 V (Proc.devRef .tc main_arg1) = V (Proc.devRef .tc main_arg1)
    ∧ after hostOps0_9 V (Proc.devRef .tc main_arg2) = V (Proc.devRef .tc main_arg2)
    ∧ after hostOps0_9 V (Proc.devRef .tc main_arg3) = V (Proc.devRef .tc main_arg3)
    ∧ after hostOps0_9 V (Proc.devRef .tc main_arg4) = V (Proc.devRef .tc main_arg4) := by
  refine ⟨?_, ?_, ?_, ?_, ?_⟩ <;> after_reads_simp

/-- The reference's run: its result at the fold, its arguments as they were, every counter at zero. -/
theorem run_all (ρ : Dev nD → PrngReg) :
    θ_run (defs (F := Ideal)) (onTc (τ := τ) (main (F := Ideal))) ⟨m, fun _ => 0, ρ⟩ (fun r => (∀ c : Dev nD,
      r.2.mem ((c.tc : Thread nD τ).loc main_v60) = finalContents condOps preI bodyI postI 128 m c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run (defs (F := Ideal)) _ _).mono (fun r h => ⟨fun c => ⟨h c main_v60 (by decide), ?_, ?_, ?_, ?_, ?_⟩, sem_eq_zero_of_no_sems (by decide) _⟩) (run_fold m ρ)
  · refine (h c main_arg0 (by decide)).trans ((o9_args _).1.trans (keep_upto m c main_arg0 ?_ ?_ ?_ ?_ ?_ ?_ ?_ ?_ ?_ ?_ ?_ ?_ ?_ ?_ ?_ ?_ ?_)) <;> decide +kernel
  · refine (h c main_arg1 (by decide)).trans ((o9_args _).2.1.trans (keep_upto m c main_arg1 ?_ ?_ ?_ ?_ ?_ ?_ ?_ ?_ ?_ ?_ ?_ ?_ ?_ ?_ ?_ ?_ ?_)) <;> decide +kernel
  · refine (h c main_arg2 (by decide)).trans ((o9_args _).2.2.1.trans (keep_upto m c main_arg2 ?_ ?_ ?_ ?_ ?_ ?_ ?_ ?_ ?_ ?_ ?_ ?_ ?_ ?_ ?_ ?_ ?_)) <;> decide +kernel
  · refine (h c main_arg3 (by decide)).trans ((o9_args _).2.2.2.1.trans (keep_upto m c main_arg3 ?_ ?_ ?_ ?_ ?_ ?_ ?_ ?_ ?_ ?_ ?_ ?_ ?_ ?_ ?_ ?_ ?_)) <;> decide +kernel
  · refine (h c main_arg4 (by decide)).trans ((o9_args _).2.2.2.2.trans (keep_upto m c main_arg4 ?_ ?_ ?_ ?_ ?_ ?_ ?_ ?_ ?_ ?_ ?_ ?_ ?_ ?_ ?_ ?_ ?_)) <;> decide +kernel

end Cert.ReferenceIdeal.Side

namespace Cert.GlaEq

open Idealize.ShloMosaic Idealize.ShloMosaic.TcCoe Idealize.ShloMosaic.StableHlo
open Cert.ReferenceIdeal.Value

/-- From equal arguments the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (c' : Dev Cert.ReferenceIdeal.nD)
    (h0 : Cert.ReferenceIdeal.Side.B0 m' c' = Cert.KernelIdeal.Body.A0 m c) (h1 : Cert.ReferenceIdeal.Side.B1 m' c' = Cert.KernelIdeal.Body.A1 m c)
    (h2 : Cert.ReferenceIdeal.Side.B2 m' c' = Cert.KernelIdeal.Body.A2 m c) (h3 : Cert.ReferenceIdeal.Side.B3 m' c' = Cert.KernelIdeal.Body.A3 m c)
    (h4 : Cert.ReferenceIdeal.Side.B4 m' c' = Cert.KernelIdeal.Body.A4 m c) :
    (finalContents condOps preI bodyI postI 128 m' c' (Proc.devRef .tc Cert.ReferenceIdeal.main_v60) : FVec Ideal Cert.ReferenceIdeal.S8192x2048 .bf16)
      = Cert.KernelIdeal.Value.G7 m c := by
  funext i
  have hi : i = ix2 (Gla.row ⟨(i 0).val / 64, by have := (i 0).isLt; simp at this; omega⟩ ⟨(i 0).val % 64, by omega⟩)
      ⟨512 * (⟨(i 1).val / 512, by have := (i 1).isLt; simp at this; omega⟩ : Fin 4).val + (⟨(i 1).val % 512, by omega⟩ : Fin 512).val, by
        have := (i 1).isLt; simp at this ⊢; omega⟩ := by
    refine (ix2_eta i).symm.trans (congrArg₂ ix2 (Fin.ext ?_) (Fin.ext ?_)) <;> simp only [Gla.row] <;> omega
  rw [hi]
  refine (Cert.ReferenceIdeal.Side.R_at m' c' _ _ _ _).trans ?_
  rw [h0, h1, h2, h3, h4]
  exact (Cert.KernelIdeal.Body.G7_eq m c _ _ _ _).symm

end Cert.GlaEq

end
-- ==== Proof.OutSpec.lean ====
module

public import Idealize.ShloMosaic.Lib.Pointwise

/-! The output projection of a row, with the gated product of mixer B before it and the final norm after it, as plain functions
on extended reals. -/

@[expose] public section

noncomputable section

namespace Cert.OutP

open Idealize.ShloMosaic

/-- The merged mixers of a row: the part of mixer A, and the gate times mixer B's gated output through its projection. -/
def mix (ya ob z g : Fin 2048 → EReal) (pb : Fin 2048 → Fin 2048 → EReal) (k : Fin 2048) : EReal :=
  ya k + Ideal.logistic (g k) * ∑ i, ob i * (z i * Ideal.logistic (z i)) * pb i k

/-- The row after the residual addition. -/
def res (x ya ob z g : Fin 2048 → EReal) (pb w : Fin 2048 → Fin 2048 → EReal) (j : Fin 2048) : EReal :=
  x j + ∑ k, mix ya ob z g pb k * w k j

/-- A row normalised by its root mean square and scaled. -/
def nrm (x nw : Fin 2048 → EReal) (j : Fin 2048) : EReal :=
  x j * Ideal.rsqrt (Ideal.div (∑ i, x i * x i) (Ideal.ofBits .f32 0x45000000#32) + Ideal.ofBits .f32 0x358637BD#32) * nw j

end Cert.OutP

end
-- ==== Proof.OutKernel.lean ====
module

public import proofs.«01_k».proof.Proof.OutSpec
public import proofs.«01_k».proof.Proof.Gen.Kernel2Ideal.Value
public import Idealize.ShloMosaic.Lib.Pipeline.ValueKit
public import Idealize.ShloMosaic.Lib.StableHlo.RunRead

/-! What the output projection's kernel leaves in its result. -/

@[expose] public section

set_option maxRecDepth 16384

noncomputable section

namespace Cert.Kernel2Ideal.Side

open Idealize.ShloMosaic Idealize.ShloMosaic.TcCoe Idealize.SL.Sem Idealize.ShloMosaic.StableHlo
open Idealize.ShloMosaic.Pipeline (Dat)
open Cert.Kernel2Ideal Cert.Kernel2Ideal.Gen

theorem pay2_at (v0 v3 : Vec Ideal S256x2048 .bf16) (v10 : Vec Ideal S1x2048x2048 .bf16) (v13 v16 : Vec Ideal S256x2048 .bf16) (v23 : Vec Ideal S256x2048 .f32)
    (v25 : Vec Ideal S1x2048x2048 .bf16) (r : Fin 256) (j : Fin 2048) :
    (show EReal from k0_pay2 v0 v3 v10 v13 v16 v23 v25 (ix2 r j))
      = OutP.res (fun k => v23 (ix2 r k)) (fun k => v13 (ix2 r k)) (fun k => v0 (ix2 r k)) (fun k => v3 (ix2 r k)) (fun k => v16 (ix2 r k))
          (fun i k => v10 (ix3 0 i k)) (fun k j => v25 (ix3 0 k j)) j := by
  pointwise [k0_pay2, OutP.res, OutP.mix]

theorem pay1_at (v0 v3 : Vec Ideal S256x2048 .bf16) (v10 : Vec Ideal S1x2048x2048 .bf16) (v13 v16 : Vec Ideal S256x2048 .bf16) (v23 : Vec Ideal S256x2048 .f32)
    (v25 : Vec Ideal S1x2048x2048 .bf16) (v39 : Vec Ideal S1x2048 .f32) (r : Fin 256) (j : Fin 2048) :
    (show EReal from k0_pay1 (k0_pay2 v0 v3 v10 v13 v16 v23 v25) (k0_pay3 v0 v3 v10 v13 v16 v23 v25) v39 (ix2 r j))
      = OutP.nrm (OutP.res (fun k => v23 (ix2 r k)) (fun k => v13 (ix2 r k)) (fun k => v0 (ix2 r k)) (fun k => v3 (ix2 r k)) (fun k => v16 (ix2 r k))
          (fun i k => v10 (ix3 0 i k)) (fun k j => v25 (ix3 0 k j))) (fun j => v39 (ix2 0 j)) j := by
  have e (y : FVec Ideal S256x2048 .f32) (hy : y = k0_pay2 v0 v3 v10 v13 v16 v23 v25) :
      (show EReal from k0_pay1 y (k0_pay3 v0 v3 v10 v13 v16 v23 v25) v39 (ix2 r j)) = OutP.nrm (fun k => y (ix2 r k)) (fun j => v39 (ix2 0 j)) j := by
    unfold k0_pay3
    rw [← hy]
    pointwise [k0_pay1, OutP.nrm]
  refine (e _ rfl).trans ?_
  exact congrArg (fun z => OutP.nrm z _ j) (funext fun k => pay2_at v0 v3 v10 v13 v16 v23 v25 r k)

variable (m : (ℓ : Loc nD τ sig) → Buf (Elt Ideal) ℓ) (c : Dev nD)

abbrev A0 : FVec Ideal S1x8192x2048 .f32 := m ((c : Thread nD τ).loc main_arg0)
abbrev A1 : FVec Ideal S1x8192x2048 .f32 := m ((c : Thread nD τ).loc main_arg1)
abbrev A2 : FVec Ideal S1x8192x2048 .f32 := m ((c : Thread nD τ).loc main_arg2)
abbrev A3 : FVec Ideal S1x8192x6144 .f32 := m ((c : Thread nD τ).loc main_arg3)
abbrev A4 : FVec Ideal S4x2048x2048 .f32 := m ((c : Thread nD τ).loc main_arg4)
abbrev A5 : FVec Ideal S4x2048x2048 .f32 := m ((c : Thread nD τ).loc main_arg5)
abbrev A6 : FVec Ideal S2048 .f32 := m ((c : Thread nD τ).loc main_arg6)

theorem V0_at (r : Fin 8192) (j : Fin 2048) : V m c main_v0 (ix2 r j) = A0 m c (ix3 0 r j) := by
  unfold V
  after_reads_simp
  have e (x : FVec Ideal S1x8192x2048 .f32) : shapeCast S8192x2048 x shapeCasts_S1x8192x2048_S8192x2048 (ix2 r j) = x (ix3 0 r j) := by pointwise
  exact e _

theorem V2_at (r : Fin 8192) (j : Fin 2048) : V m c main_v2 (ix2 r j) = A1 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

theorem V4_at (r : Fin 8192) (j : Fin 2048) : V m c main_v4 (ix2 r j) = A2 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

theorem V6_at (r : Fin 8192) (j : Fin 6144) : V m c main_v6 (ix2 r j) = A3 m c (ix3 0 r j) := by
  unfold V
  after_reads_simp
  have e (x : FVec Ideal S1x8192x6144 .f32) : truncf .bf16 (shapeCast S8192x6144 x shapeCasts_S1x8192x6144_S8192x6144) bitsLt_bf16_f32 (ix2 r j) = x (ix3 0 r j) := by pointwise
  exact e _

theorem V7_at (i : S4x2048x2048.Idx) : V m c main_v7 i = A4 m c i := by
  unfold V
  after_reads_simp
  rfl

theorem V8_at (i : S4x2048x2048.Idx) : V m c main_v8 i = A5 m c i := by
  unfold V
  after_reads_simp
  rfl

theorem V9_at (j : Fin 2048) : V m c main_v9 (ix2 0 j) = A6 m c (ix1 j) := by
  unfold V
  after_reads_simp
  have e (x : FVec Ideal S2048 .f32) : shapeCast S1x2048 x shapeCasts_S2048_S1x2048 (ix2 0 j) = x (ix1 j) := by pointwise
  exact e _

theorem idx : ∀ t : Fin cfg0.N, win0_0.index t = ![t.val, 0] ∧ win0_1.index t = ![t.val, 0] ∧ win0_2.index t = ![t.val, 0]
    ∧ win0_3.index t = ![t.val, 0] ∧ win0_4.index t = ![t.val, 2] ∧ win0_5.index t = ![3, 0, 0] ∧ win0_6.index t = ![3, 0, 0]
    ∧ win0_7.index t = ![0, 0] ∧ win0_8.index t = ![t.val, 0] :=
  (by decide +kernel : ∀ t : Fin grid0.N, _)

abbrev row (t : Fin cfg0.N) (r : Fin 256) : Fin 8192 := ⟨256 * t.val + r.val, by have := lt_of_lt_of_eq t.isLt N_0; omega⟩

theorem X0_at (t : Fin cfg0.N) (r : Fin 256) (j : Fin 2048) : (show Vec Ideal S256x2048 .f32 from iblk m c 0 t) (ix2 r j) = A0 m c (ix3 0 (row t r) j) := by
  rw [← V0_at]
  blk_point [iblk, V, idx t]
theorem X1_at (t : Fin cfg0.N) (r : Fin 256) (j : Fin 2048) : (show Vec Ideal S256x2048 .bf16 from iblk m c 1 t) (ix2 r j) = A1 m c (ix3 0 (row t r) j) := by
  rw [← V2_at]
  blk_point [iblk, V, idx t]
theorem X2_at (t : Fin cfg0.N) (r : Fin 256) (j : Fin 2048) : (show Vec Ideal S256x2048 .bf16 from iblk m c 2 t) (ix2 r j) = A2 m c (ix3 0 (row t r) j) := by
  rw [← V4_at]
  blk_point [iblk, V, idx t]
theorem X3_at (t : Fin cfg0.N) (r : Fin 256) (j : Fin 2048) : (show Vec Ideal S256x2048 .bf16 from iblk m c 3 t) (ix2 r j) = A3 m c (ix3 0 (row t r) ⟨j.val, by omega⟩) := by
  rw [← V6_at]
  blk_point [iblk, V, idx t]
theorem X4_at (t : Fin cfg0.N) (r : Fin 256) (j : Fin 2048) : (show Vec Ideal S256x2048 .bf16 from iblk m c 4 t) (ix2 r j) = A3 m c (ix3 0 (row t r) ⟨4096 + j.val, by omega⟩) := by
  rw [← V6_at]
  blk_point [iblk, V, idx t]
theorem X5_at (t : Fin cfg0.N) (i j : Fin 2048) : (show Vec Ideal S1x2048x2048 .bf16 from iblk m c 5 t) (ix3 0 i j) = A4 m c (ix3 3 i j) := by
  rw [← V7_at]
  blk_point [iblk, V, idx t]
theorem X6_at (t : Fin cfg0.N) (i j : Fin 2048) : (show Vec Ideal S1x2048x2048 .bf16 from iblk m c 6 t) (ix3 0 i j) = A5 m c (ix3 3 i j) := by
  rw [← V8_at]
  blk_point [iblk, V, idx t]
theorem X7_at (t : Fin cfg0.N) (j : Fin 2048) : (show Vec Ideal S1x2048 .f32 from iblk m c 7 t) (ix2 0 j) = A6 m c (ix1 j) := by
  rw [← V9_at]
  blk_point [iblk, V, idx t]

/-- The result of the arguments, entry by entry. -/
def G (a0 a1 a2 : FVec Ideal S1x8192x2048 .f32) (a3 : FVec Ideal S1x8192x6144 .f32) (a4 a5 : FVec Ideal S4x2048x2048 .f32) (a6 : FVec Ideal S2048 .f32)
    (r : Fin 8192) (j : Fin 2048) : EReal :=
  OutP.nrm (OutP.res (fun k => a0 (ix3 0 r k)) (fun k => a1 (ix3 0 r k)) (fun k => a2 (ix3 0 r k)) (fun k => a3 (ix3 0 r ⟨k.val, by omega⟩))
    (fun k => a3 (ix3 0 r ⟨4096 + k.val, by omega⟩)) (fun i k => a4 (ix3 3 i k)) (fun k j => a5 (ix3 3 k j))) (fun j => a6 (ix1 j)) j

/-- A block of the result. -/
theorem point (t : Fin cfg0.N) (r : Fin 256) (j : Fin 2048) :
    (show EReal from k0_pay1 (k0_pay2 (iblk m c 2 t) (iblk m c 3 t) (iblk m c 5 t) (iblk m c 1 t) (iblk m c 4 t) (iblk m c 0 t) (iblk m c 6 t))
      (k0_pay3 (iblk m c 2 t) (iblk m c 3 t) (iblk m c 5 t) (iblk m c 1 t) (iblk m c 4 t) (iblk m c 0 t) (iblk m c 6 t)) (iblk m c 7 t) (ix2 r j))
      = G (A0 m c) (A1 m c) (A2 m c) (A3 m c) (A4 m c) (A5 m c) (A6 m c) (row t r) j := by
  refine (pay1_at _ _ _ _ _ _ _ _ r j).trans ?_
  unfold G
  have h0 := fun k => X0_at m c t r k
  have h1 := fun k => X1_at m c t r k
  have h2 := fun k => X2_at m c t r k
  have h3 := fun k => X3_at m c t r k
  have h4 := fun k => X4_at m c t r k
  have h5 := fun i k => X5_at m c t i k
  have h6 := fun i k => X6_at m c t i k
  have h7 := fun k => X7_at m c t k
  have h0' := funext h0
  have h1' := funext h1
  have h2' := funext h2
  have h3' := funext h3
  have h4' := funext h4
  have h5' := funext fun i => funext (h5 i)
  have h6' := funext fun i => funext (h6 i)
  have h7' := funext h7
  refine congrArg₂ (fun a b => OutP.nrm a b j) ?_ h7'
  exact congr (congr (congr (congr (congr (congr (congrArg OutP.res h0') h1') h2') h3') h4') h5') h6'

/-- The kernel's result array. -/
theorem final : (dats m 0 c).arrAt 8 (cfgs 0).N = (fun i => G (A0 m c) (A1 m c) (A2 m c) (A3 m c) (A4 m c) (A5 m c) (A6 m c) (i 0) (i 1) : FVec Ideal S8192x2048 .f32) := by
  refine (dats m 0 c).arrAt_eq_of_covers 8 _ (by decide +kernel) fun t _ y => ?_
  blk_simp
  rw [after0_8]; frame_out
  refine (congrArg _ (ix2_eta y).symm).trans ((point m c t (y 0) (y 1)).trans ?_)
  refine congrArg₂ (G _ _ _ _ _ _ _) (Fin.ext ?_) (Fin.ext ?_) <;> blk_simp [idx t] <;> idx_bounds <;> simp [row] <;> omega

end Cert.Kernel2Ideal.Side

end
-- ==== Proof.OutRef.lean ====
module

public import proofs.«01_k».proof.Proof.OutKernel
public import proofs.«01_k».proof.Proof.Gen.Reference2Ideal.Run
public import proofs.«01_k».proof.Proof.Gen.Reference2Ideal
public import proofs.«01_k».proof.Defs
public import Idealize.ShloMosaic.Lib.Quiescent

/-! The output projection's reference, entry by entry, and its equality with the kernel's result. -/

@[expose] public section

set_option maxRecDepth 16384

noncomputable section

namespace Cert.Reference2Ideal.Side

open Idealize.ShloMosaic Idealize.ShloMosaic.TcCoe Idealize.SL.Sem Idealize.ShloMosaic.StableHlo
open Cert.Reference2Ideal Cert.Reference2Ideal.Gen Cert.Reference2Ideal.Value

theorem one_word : (Ideal.ofBits .f32 0x3F800000#32 : EReal) = 1 := Ideal.ofBits_one_f32

/-- The quotient that spells the logistic function. -/
theorem lg_at (z : FVec Ideal S1x8192x2048 .f32) (i : S1x8192x2048.Idx) :
    (show EReal from Host.divf (broadcastInDim S1x8192x2048 ![] bcast_S_S1x8192x2048 (constant S_ .f32 0x3F800000#32))
      (addf (broadcastInDim S1x8192x2048 ![] bcast_S_S1x8192x2048 (constant S_ .f32 0x3F800000#32)) (Host.exp (Host.negf z))) i)
    = Ideal.logistic (z i) := by
  show Ideal.div (Ideal.ofBits .f32 0x3F800000#32) (Ideal.ofBits .f32 0x3F800000#32 + Ideal.exp (-(z i))) = _
  rw [one_word]; rfl

/-- The merged mixers. -/
abbrev mixR (a1 a2 : FVec Ideal S1x8192x2048 .f32) (a3 : FVec Ideal S1x8192x6144 .f32) (a4 : FVec Ideal S4x2048x2048 .f32) (lz lg : FVec Ideal S1x8192x2048 .f32) :
    FVec Ideal S1x8192x2048 .f32 :=
  addf a1 (mulf lg (Host.dotGeneral dot_S1x8192x2048_S2048x2048_S1x8192x2048_2_0_01_1_n_n none
    (mulf a2 (mulf (extractStridedSlice S1x8192x2048 ![0, 0, 0] a3 slices_S1x8192x6144_S1x8192x2048_0_0_0) lz))
    (shapeCast S2048x2048 (extractStridedSlice S1x2048x2048 ![3, 0, 0] a4 slices_S4x2048x2048_S1x2048x2048_3_0_0) shapeCasts_S1x2048x2048_S2048x2048)))

theorem mixR_at (a1 a2 : FVec Ideal S1x8192x2048 .f32) (a3 : FVec Ideal S1x8192x6144 .f32) (a4 : FVec Ideal S4x2048x2048 .f32) (lz lg : FVec Ideal S1x8192x2048 .f32)
    (r : Fin 8192) (hz : ∀ k : Fin 2048, (lz (ix3 0 r k) : EReal) = Ideal.logistic (a3 (ix3 0 r ⟨k.val, by omega⟩)))
    (hg : ∀ k : Fin 2048, (lg (ix3 0 r k) : EReal) = Ideal.logistic (a3 (ix3 0 r ⟨4096 + k.val, by omega⟩))) (k : Fin 2048) :
    (show EReal from mixR a1 a2 a3 a4 lz lg (ix3 0 r k))
      = OutP.mix (fun k => a1 (ix3 0 r k)) (fun k => a2 (ix3 0 r k)) (fun k => a3 (ix3 0 r ⟨k.val, by omega⟩))
        (fun k => a3 (ix3 0 r ⟨4096 + k.val, by omega⟩)) (fun i k => a4 (ix3 3 i k)) k := by
  have e : (show EReal from mixR a1 a2 a3 a4 lz lg (ix3 0 r k)) = (a1 (ix3 0 r k) : EReal) + (lg (ix3 0 r k) : EReal) * ∑ i : Fin 2048,
      (a2 (ix3 0 r i) : EReal) * ((a3 (ix3 0 r ⟨i.val, by omega⟩) : EReal) * lz (ix3 0 r i)) * a4 (ix3 3 i k) := by
    pointwise
  rw [e, hg]
  exact congrArg (fun z : EReal => _ + _ * z) (Finset.sum_congr rfl fun i _ => by rw [hz])

/-- The rows after the residual addition. -/
abbrev resR (a0 y : FVec Ideal S1x8192x2048 .f32) (a5 : FVec Ideal S4x2048x2048 .f32) : FVec Ideal S1x8192x2048 .f32 :=
  addf a0 (Host.dotGeneral dot_S1x8192x2048_S2048x2048_S1x8192x2048_2_0_01_1_n_n none y
    (shapeCast S2048x2048 (extractStridedSlice S1x2048x2048 ![3, 0, 0] a5 slices_S4x2048x2048_S1x2048x2048_3_0_0) shapeCasts_S1x2048x2048_S2048x2048))

theorem resR_at (a0 y : FVec Ideal S1x8192x2048 .f32) (a5 : FVec Ideal S4x2048x2048 .f32) (r : Fin 8192) (j : Fin 2048) :
    (show EReal from resR a0 y a5 (ix3 0 r j)) = (a0 (ix3 0 r j) : EReal) + ∑ k : Fin 2048, (y (ix3 0 r k) : EReal) * a5 (ix3 3 k j) := by
  pointwise

/-- The final norm. -/
abbrev nrmR (x : FVec Ideal S1x8192x2048 .f32) (a6 : FVec Ideal S2048 .f32) : FVec Ideal S8192x2048 .f32 :=
  shapeCast S8192x2048 (mulf (mulf x (broadcastInDim S1x8192x2048 ![0, 1, 2] bcast_S1x8192x1_S1x8192x2048_0_1_2
      (Host.rsqrt (addf (Host.divf (broadcastInDim S1x8192x1 ![0, 1] bcast_S1x8192_S1x8192x1_0_1
          (Host.reduceAdd (mulf x x) (constant S_ .f32 0x00000000#32) reducesTo_S1x8192x2048_S1x8192_d2 h_S_))
        (broadcastInDim S1x8192x1 ![] bcast_S_S1x8192x1 (constant S_ .f32 0x45000000#32)))
        (broadcastInDim S1x8192x1 ![] bcast_S_S1x8192x1 (constant S_ .f32 0x358637BD#32))))))
      (broadcastInDim S1x8192x2048 ![0, 1, 2] bcast_S1x1x2048_S1x8192x2048_0_1_2 (broadcastInDim S1x1x2048 ![2] bcast_S2048_S1x1x2048_2 a6)))
    shapeCasts_S1x8192x2048_S8192x2048

theorem nrmR_at (x : FVec Ideal S1x8192x2048 .f32) (a6 : FVec Ideal S2048 .f32) (r : Fin 8192) (j : Fin 2048) :
    (show EReal from nrmR x a6 (ix2 r j)) = OutP.nrm (fun k => x (ix3 0 r k)) (fun j => a6 (ix1 j)) j := by
  pointwise [OutP.nrm]

variable (m : (ℓ : Loc nD τ sig) → Buf (Elt Ideal) ℓ) (c : Dev nD)

abbrev A0 : FVec Ideal S1x8192x2048 .f32 := m ((c : Thread nD τ).loc main_arg0)
abbrev A1 : FVec Ideal S1x8192x2048 .f32 := m ((c : Thread nD τ).loc main_arg1)
abbrev A2 : FVec Ideal S1x8192x2048 .f32 := m ((c : Thread nD τ).loc main_arg2)
abbrev A3 : FVec Ideal S1x8192x6144 .f32 := m ((c : Thread nD τ).loc main_arg3)
abbrev A4 : FVec Ideal S4x2048x2048 .f32 := m ((c : Thread nD τ).loc main_arg4)
abbrev A5 : FVec Ideal S4x2048x2048 .f32 := m ((c : Thread nD τ).loc main_arg5)
abbrev A6 : FVec Ideal S2048 .f32 := m ((c : Thread nD τ).loc main_arg6)

/-- The quotient that spells the logistic function, as an array. -/
abbrev lgR (z : FVec Ideal S1x8192x2048 .f32) : FVec Ideal S1x8192x2048 .f32 :=
  Host.divf (broadcastInDim S1x8192x2048 ![] bcast_S_S1x8192x2048 (constant S_ .f32 0x3F800000#32))
      (addf (broadcastInDim S1x8192x2048 ![] bcast_S_S1x8192x2048 (constant S_ .f32 0x3F800000#32)) (Host.exp (Host.negf z)))

theorem res_eq : res_main_v33 m c = nrmR (resR (A0 m c) (mixR (A1 m c) (A2 m c) (A3 m c) (A4 m c)
    (lgR (extractStridedSlice S1x8192x2048 ![0, 0, 0] (A3 m c) slices_S1x8192x6144_S1x8192x2048_0_0_0))
    (lgR (extractStridedSlice S1x8192x2048 ![0, 0, 4096] (A3 m c) slices_S1x8192x6144_S1x8192x2048_0_0_4096))) (A5 m c)) (A6 m c) := by
  unfold res_main_v33
  rfl

/-- The reference's result. -/
theorem R_at (r : Fin 8192) (j : Fin 2048) :
    (show EReal from res_main_v33 m c (ix2 r j)) = Cert.Kernel2Ideal.Side.G (A0 m c) (A1 m c) (A2 m c) (A3 m c) (A4 m c) (A5 m c) (A6 m c) r j := by
  rw [res_eq]
  refine (nrmR_at _ _ r j).trans ?_
  unfold Cert.Kernel2Ideal.Side.G
  refine congrArg (fun z => OutP.nrm z _ j) (funext fun k => ?_)
  refine (resR_at _ _ _ r k).trans ?_
  unfold OutP.res
  refine congrArg (fun z : EReal => _ + z) (Finset.sum_congr rfl fun i _ => congrArg (fun z : EReal => z * _) ?_)
  refine mixR_at _ _ _ _ _ _ r (fun k => (lg_at _ _).trans (congrArg Ideal.logistic ?_)) (fun k => (lg_at _ _).trans (congrArg Ideal.logistic ?_)) i
  · pointwise
  · pointwise

/-- The reference runs to its result, its arguments unchanged and its semaphores at zero. -/
theorem run_all (ρ : Dev nD → PrngReg) : θ_run (defs (F := Ideal)) (onTc (τ := τ) (main (F := Ideal))) ⟨m, fun _ => 0, ρ⟩ fun r =>
    (∀ c : Dev nD, r.2.mem ((c.tc : Thread nD τ).loc main_v33) = res_main_v33 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  (θ_run _ _ _).mono (fun _ h => ⟨h, sem_eq_zero_of_no_sems (show sig.nSem + sig.nDmaSem = 0 by decide) _⟩) (run m ρ)

end Cert.Reference2Ideal.Side

namespace Cert.OutEq

open Idealize.ShloMosaic Idealize.ShloMosaic.TcCoe Idealize.SL.Sem

/-- From memories that agree on the arguments, the two programs' results are the same array. -/
theorem result_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD) (c' : Dev Cert.Reference2Ideal.nD)
    (h0 : Cert.Reference2Ideal.Side.A0 m' c' = Cert.Kernel2Ideal.Side.A0 m c) (h1 : Cert.Reference2Ideal.Side.A1 m' c' = Cert.Kernel2Ideal.Side.A1 m c)
    (h2 : Cert.Reference2Ideal.Side.A2 m' c' = Cert.Kernel2Ideal.Side.A2 m c) (h3 : Cert.Reference2Ideal.Side.A3 m' c' = Cert.Kernel2Ideal.Side.A3 m c)
    (h4 : Cert.Reference2Ideal.Side.A4 m' c' = Cert.Kernel2Ideal.Side.A4 m c) (h5 : Cert.Reference2Ideal.Side.A5 m' c' = Cert.Kernel2Ideal.Side.A5 m c)
    (h6 : Cert.Reference2Ideal.Side.A6 m' c' = Cert.Kernel2Ideal.Side.A6 m c) :
    (Cert.Reference2Ideal.Value.res_main_v33 m' c' : FVec Ideal Cert.Reference2Ideal.S8192x2048 .f32)
      = (Cert.Kernel2Ideal.Gen.dats m 0 c).arrAt 8 (Cert.Kernel2Ideal.cfgs 0).N := by
  rw [Cert.Kernel2Ideal.Side.final]
  funext i
  refine (congrArg _ (ix2_eta i).symm).trans ((Cert.Reference2Ideal.Side.R_at m' c' (i 0) (i 1)).trans ?_)
  rw [h0, h1, h2, h3, h4, h5, h6]

/-- The last layer's output projection: the kernel and the reference end with the same result. -/
theorem algebraic : Cert.algebraic_Kernel2Ideal_Reference2Ideal (hKernel2Ideal := Cert.Kernel2Ideal.Gen.facts) (hReference2Ideal := Cert.Reference2Ideal.Gen.facts) := by
  intro m g m' g' _ hA
  refine ⟨fun c => (Cert.Kernel2Ideal.Gen.dats m 0 c).arrAt 8 (Cert.Kernel2Ideal.cfgs 0).N, Cert.Kernel2Ideal.Value.run_blocks m g, ?_⟩
  refine (θ_run _ _ _).mono (fun r h c => ?_) (Cert.Reference2Ideal.Side.run_all m' g')
  obtain ⟨h0, h1, h2, h3, h4, h5, h6⟩ := hA c
  exact ⟨(h.1 c).1.trans (result_eq m m' c c h0 h1 h2 h3 h4 h5 h6), (h.1 c).2⟩

end Cert.OutEq

end
-- ==== Proof.ColsKernel.lean ====
module

public import proofs.«01_k».proof.Proof.Gen.Kernel3Ideal.Value
public import Idealize.ShloMosaic.Lib.Pipeline.ValueKit
public import Idealize.ShloMosaic.Lib.StableHlo.RunRead

/-! What the second input projection's kernel leaves in its result. -/

@[expose] public section

set_option maxRecDepth 16384

noncomputable section

namespace Cert.Kernel3Ideal.Side

open Idealize.ShloMosaic Idealize.ShloMosaic.TcCoe Idealize.SL.Sem Idealize.ShloMosaic.StableHlo
open Idealize.ShloMosaic.Pipeline (Dat)
open Cert.Kernel3Ideal Cert.Kernel3Ideal.Gen

theorem pay1_at (v : Vec Ideal S1x464x2048 .f32) (j : Fin 464) (k : Fin 2048) : (show EReal from k0_pay1 v (ix2 j k)) = v (ix3 0 j k) := by
  pointwise [k0_pay1]
theorem pay2_at (v : Vec Ideal S1x48x2048 .f32) (j : Fin 48) (k : Fin 2048) : (show EReal from k0_pay2 v (ix2 j k)) = v (ix3 0 j k) := by
  pointwise [k0_pay2]
theorem pay3_at (x : Vec Ideal S2048x2048 .bf16) (w : Vec Ideal S512x2048 .bf16) (r : Fin 2048) (j : Fin 512) :
    (show EReal from k0_pay3 x w (ix2 r j)) = ∑ k : Fin 2048, (x (ix2 r k) : EReal) * w (ix2 j k) := by
  pointwise [k0_pay3]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

theorem V1_at (r : Fin 8192) (j : Fin 2048) : V m c main_v1 (ix2 r j) = A0 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

theorem V2_at (l : Fin 4) (j : Fin 17472) (k : Fin 2048) : V m c main_v2 (ix3 l j k) = A1 m c (ix3 l k j) := by
  unfold V
  after_reads_simp
  have e (x : FVec Ideal S4x2048x17472 .f32) : transpose S4x17472x2048 [0, 2, 1] x transposes_S4x2048x17472_S4x17472x2048_0_2_1 (ix3 l j k) = x (ix3 l k j) := by pointwise
  exact e _

theorem idx : ∀ t : Fin cfg0.N, win0_0.index t = ![t.val % 4, 0] ∧ win0_1.index t = ![0, 10 + t.val / 4, 0] ∧ win0_2.index t = ![0, 4 * (11 + t.val / 4), 0]
    ∧ win0_3.index t = ![t.val % 4, t.val / 4] :=
  (by decide +kernel : ∀ t : Fin grid0.N, _)

theorem X0_at (t : Fin cfg0.N) (r : Fin 2048) (k : Fin 2048) : (show Vec Ideal S2048x2048 .bf16 from iblk m c 0 t) (ix2 r k) = A0 m c (ix3 0 ⟨2048 * (t.val % 4) + r.val, by omega⟩ k) := by
  rw [← V1_at]
  blk_point [iblk, V, idx t]

theorem X1_at (t : Fin cfg0.N) (j : Fin 512) (k : Fin 2048) (hj : 512 * (10 + t.val / 4) + j.val < 17472) :
    (show Vec Ideal S1x512x2048 .f32 from X0_1 m c t) (ix3 0 j k) = A1 m c (ix3 0 k ⟨512 * (10 + t.val / 4) + j.val, hj⟩) := by
  rw [← V2_at]
  unfold X0_1 Pipeline.Window.fill
  refine (dif_pos (moved0_1 t (ix3 0 j k))).trans ?_
  blk_point [iblk, V, idx t]

theorem X2_at (t : Fin cfg0.N) (j : Fin 128) (k : Fin 2048) (hj : 512 * (11 + t.val / 4) + j.val < 17472) :
    (show Vec Ideal S1x128x2048 .f32 from X0_2 m c t) (ix3 0 j k) = A1 m c (ix3 0 k ⟨512 * (11 + t.val / 4) + j.val, hj⟩) := by
  rw [← V2_at]
  unfold X0_2 Pipeline.Window.fill
  refine (dif_pos (moved0_2 t (ix3 0 j k))).trans ?_
  blk_point [iblk, V, idx t]

/-- The rows of the weights that a column block's first point keeps. -/
def wts (x1 : Vec Ideal S1x512x2048 .f32) (x2 : Vec Ideal S1x128x2048 .f32) : Vec Ideal S512x2048 .bf16 := fun y =>
  if h : (y 0).val < 464 then x1 (ix3 0 ⟨48 + (y 0).val, by omega⟩ (y 1)) else x2 (ix3 0 ⟨(y 0).val - 464, by have : (y 0).val < 512 := (y 0).isLt; omega⟩ (y 1))

abbrev rLo : Rect S512x2048 := Rect.unit ![0, 0] ![464, 2048] inb_S512x2048_S464x2048_0_0
abbrev rHi : Rect S512x2048 := Rect.unit ![464, 0] ![48, 2048] inb_S512x2048_S48x2048_464_0

theorem eta_lo (y : S512x2048.Idx) (h : (y 0).val < 464) : rLo.emb (ix2 (⟨(y 0).val, h⟩ : Fin 464) (y 1 : Fin 2048) : S464x2048.Idx) = y := by
  funext a; refine Fin.cases (Fin.ext ?_) (fun b => Fin.cases (Fin.ext ?_) (fun b => b.elim0) b) a
  · show 0 + 1 * (y 0).val = (y 0).val; omega
  · show 0 + 1 * (y 1).val = (y 1).val; omega

theorem eta_hi (y : S512x2048.Idx) (h : ¬(y 0).val < 464) (h' : (y 0).val - 464 < 48) : rHi.emb (ix2 (⟨(y 0).val - 464, h'⟩ : Fin 48) (y 1 : Fin 2048) : S48x2048.Idx) = y := by
  funext a; refine Fin.cases (Fin.ext ?_) (fun b => Fin.cases (Fin.ext ?_) (fun b => b.elim0) b) a
  · show 464 + 1 * ((y 0).val - 464) = (y 0).val; omega
  · show 0 + 1 * (y 1).val = (y 1).val; omega

theorem not_hi (y : S512x2048.Idx) (h : (y 0).val < 464) : y ∉ rHi.set := by
  intro hm
  have h0 : 464 ≤ (y 0).val := (Rect.mem_set_unit.mp hm 0).1
  omega

theorem canon_lo_emb (w1 : Vec Ideal S464x2048 .bf16) (w2 : Vec Ideal S48x2048 .bf16) (x : S464x2048.Idx) (hn : rLo.emb x ∉ rHi.set) :
    View.canon [(⟨rHi, w2⟩ : View.Piece (Elt Ideal) S512x2048 .bf16), ⟨rLo, w1⟩] (rLo.emb x) = w1 x :=
  (View.canon_cons_of_not_mem (⟨rHi, w2⟩ : View.Piece (Elt Ideal) S512x2048 .bf16) [⟨rLo, w1⟩] hn).trans (View.canon_cons_emb rLo w1 [] x)

theorem canon_lo (w1 : Vec Ideal S464x2048 .bf16) (w2 : Vec Ideal S48x2048 .bf16) (y : S512x2048.Idx) (h : (y 0).val < 464) :
    View.canon [(⟨rHi, w2⟩ : View.Piece (Elt Ideal) S512x2048 .bf16), ⟨rLo, w1⟩] y = w1 (ix2 (⟨(y 0).val, h⟩ : Fin 464) (y 1 : Fin 2048)) := by
  have e := canon_lo_emb w1 w2 (ix2 (⟨(y 0).val, h⟩ : Fin 464) (y 1 : Fin 2048)) (by rw [eta_lo y h]; exact not_hi y h)
  rw [eta_lo y h] at e
  exact e

theorem canon_hi (w1 : Vec Ideal S464x2048 .bf16) (w2 : Vec Ideal S48x2048 .bf16) (y : S512x2048.Idx) (h : ¬(y 0).val < 464) (h' : (y 0).val - 464 < 48) :
    View.canon [(⟨rHi, w2⟩ : View.Piece (Elt Ideal) S512x2048 .bf16), ⟨rLo, w1⟩] y = w2 (ix2 (⟨(y 0).val - 464, h'⟩ : Fin 48) (y 1 : Fin 2048)) := by
  refine (congrArg _ (eta_hi y h h').symm).trans ?_
  exact View.canon_cons_emb rHi w2 _ _

theorem ld_lo (x1 : Vec Ideal S1x512x2048 .f32) (j : Fin 464) (k : Fin 2048) :
    (View.ld x1 (Rect.unit ![0, 48, 0] ![1, 464, 2048] inb_S1x512x2048_S1x464x2048_0_48_0) : Vec Ideal S1x464x2048 .f32) (ix3 0 j k) = x1 (ix3 0 ⟨48 + j.val, by omega⟩ k) := by
  refine congrArg x1 (funext fun a => ?_)
  refine Fin.cases (Fin.ext ?_) (fun b => Fin.cases (Fin.ext ?_) (fun b => Fin.cases (Fin.ext ?_) (fun b => b.elim0) b) b) a
  · rfl
  · show 48 + 1 * j.val = 48 + j.val; omega
  · show 0 + 1 * k.val = k.val; omega

theorem ld_hi (x2 : Vec Ideal S1x128x2048 .f32) (j : Fin 48) (k : Fin 2048) :
    (View.ld x2 (Rect.unit ![0, 0, 0] ![1, 48, 2048] inb_S1x128x2048_S1x48x2048_0_0_0) : Vec Ideal S1x48x2048 .f32) (ix3 0 j k) = x2 (ix3 0 ⟨j.val, by omega⟩ k) := by
  refine congrArg x2 (funext fun a => ?_)
  refine Fin.cases (Fin.ext ?_) (fun b => Fin.cases (Fin.ext ?_) (fun b => Fin.cases (Fin.ext ?_) (fun b => b.elim0) b) b) a
  · rfl
  · show 0 + 1 * j.val = j.val; omega
  · show 0 + 1 * k.val = k.val; omega

theorem canon_two (x1 : Vec Ideal S1x512x2048 .f32) (x2 : Vec Ideal S1x128x2048 .f32) :
    (View.canon
      [(⟨Rect.unit ![464, 0] ![48, 2048] inb_S512x2048_S48x2048_464_0,
          k0_pay2 (View.ld x2 (Rect.unit ![0, 0, 0] ![1, 48, 2048] inb_S1x128x2048_S1x48x2048_0_0_0))⟩ : View.Piece (Elt Ideal) S512x2048 .bf16),
        ⟨Rect.unit ![0, 0] ![464, 2048] inb_S512x2048_S464x2048_0_0,
          k0_pay1 (View.ld x1 (Rect.unit ![0, 48, 0] ![1, 464, 2048] inb_S1x512x2048_S1x464x2048_0_48_0))⟩]) = wts x1 x2 := by
  funext y
  have hy0 : (y 0).val < 512 := (y 0).isLt
  by_cases h : (y 0).val < 464
  · refine (canon_lo _ _ y h).trans ((pay1_at _ _ _).trans ((ld_lo x1 _ _).trans ?_))
    unfold wts
    rw [dif_pos h]
  · refine (canon_hi _ _ y h (by omega)).trans ((pay2_at _ _ _).trans ((ld_hi x2 _ _).trans ?_))
    unfold wts
    rw [dif_neg h]

section cases
variable (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole)
  (x0 : Vec Ideal S2048x2048 .bf16) (x1 : Vec Ideal S1x512x2048 .f32) (x2 : Vec Ideal S1x128x2048 .f32) (xs : Vec Ideal S512x2048 .bf16)

theorem scA (hc0 : cond0_0 i) : sout0_A_0 c i arg2 harg2 arg3 harg3 arg4 harg4 arg5 harg5 arg6 harg6 hc0 x0 x1 x2 = wts x1 x2 := by
  frame_out
  exact canon_two x1 x2

theorem outA (hc0 : cond0_0 i) : out0_A_3 c i arg2 harg2 arg3 harg3 arg4 harg4 arg5 harg5 arg6 harg6 hc0 x0 x1 x2 = k0_pay3 x0 (wts x1 x2) := by
  frame_out
  refine congrArg (k0_pay3 x0) ?_
  rw [View.readCov_eq_canon', canon_two]
  refine funext fun y => congrArg (wts x1 x2) (funext fun a => Fin.ext ?_)
  match a with
  | ⟨0, _⟩ => show 0 + 1 * (y 0).val = (y 0).val; omega
  | ⟨1, _⟩ => show 0 + 1 * (y 1).val = (y 1).val; omega

theorem outB (hc0 : ¬cond0_0 i) : out0_B_3 c i arg2 harg2 arg3 harg3 arg4 harg4 arg5 harg5 arg6 harg6 hc0 x0 x1 x2 xs = k0_pay3 x0 xs := by
  frame_out
end cases

/-- The weights of column block `b`: row `j` is column `5168 + 512 b + j`. -/
def blkW (a1 : FVec Ideal S4x2048x17472 .f32) (b : ℕ) (hb : b < 12) : Vec Ideal S512x2048 .bf16 := fun y =>
  a1 (ix3 0 (y 1) ⟨5168 + 512 * b + (y 0).val, by have : (y 0).val < 512 := (y 0).isLt; omega⟩)

theorem lt12 (n : ℕ) (hn : n < cfg0.N) : n / 4 < 12 := by have := lt_of_lt_of_eq hn N_0; omega

theorem wts_eq (t : Fin cfg0.N) : wts (X0_1 m c t) (X0_2 m c t) = blkW (A1 m c) (t.val / 4) (lt12 t.val t.isLt) := by
  have ht := lt12 t.val t.isLt
  funext y
  have hy0 : (y 0).val < 512 := (y 0).isLt
  unfold wts blkW
  split
  · refine (X1_at m c t _ _ (by show 512 * (10 + t.val / 4) + (48 + (y 0).val) < 17472; omega)).trans (congrArg (fun z => A1 m c (ix3 0 (y 1) z)) (Fin.ext ?_))
    show 512 * (10 + t.val / 4) + (48 + (y 0).val) = 5168 + 512 * (t.val / 4) + (y 0).val
    omega
  · refine (X2_at m c t _ _ (by show 512 * (11 + t.val / 4) + ((y 0).val - 464) < 17472; omega)).trans (congrArg (fun z => A1 m c (ix3 0 (y 1) z)) (Fin.ext ?_))
    show 512 * (11 + t.val / 4) + ((y 0).val - 464) = 5168 + 512 * (t.val / 4) + (y 0).val
    omega

/-- What every point leaves: the kept weights are its column block's, and the output block is the product with them. -/
theorem at_pt : ∀ n (hn : n < cfg0.N), (outsAt0 m c n hn).2 = blkW (A1 m c) (n / 4) (lt12 n hn)
    ∧ (outsAt0 m c n hn).1 = k0_pay3 (iblk m c 0 ⟨n, hn⟩) (blkW (A1 m c) (n / 4) (lt12 n hn)) := by
  intro n
  induction n with
  | zero =>
    intro hn
    have o := outsAt0_A m c ⟨0, hn⟩ (Nat.zero_mod _)
    rw [show outsAt0 m c 0 hn = _ from o]
    dsimp only
    rw [scA, outA, wts_eq]
    exact ⟨rfl, rfl⟩
  | succ n ih =>
    intro hn
    by_cases h : (n + 1) % 4 = 0
    · have o := outsAt0_A m c ⟨n + 1, hn⟩ h
      rw [show outsAt0 m c (n + 1) hn = _ from o]
      dsimp only
      rw [scA, outA, wts_eq]
      exact ⟨rfl, rfl⟩
    · have ih1 := (ih (Nat.lt_of_succ_lt hn)).1
      have eq : n / 4 = (n + 1) / 4 := by omega
      have ih2 : ∀ h', (outsAt0 m c (n + 1 - 1) h').2 = blkW (A1 m c) ((n + 1) / 4) (lt12 _ hn) := fun _ => by
        refine Eq.trans ih1 ?_
        congr 1
      have o := outsAt0_B m c ⟨n + 1, hn⟩ h
      rw [show outsAt0 m c (n + 1) hn = _ from o]
      dsimp only
      rw [outB, ih2]
      exact ⟨rfl, rfl⟩

/-- The result, entry by entry. -/
def G (a0 : FVec Ideal S1x8192x2048 .f32) (a1 : FVec Ideal S4x2048x17472 .f32) (r : Fin 8192) (j : Fin 6144) : EReal :=
  ∑ k : Fin 2048, (a0 (ix3 0 r k) : EReal) * a1 (ix3 0 k ⟨5168 + j.val, by omega⟩)

theorem point (t : Fin cfg0.N) (r : Fin 2048) (j : Fin 512) :
    (show EReal from (outsAt0 m c t.val t.isLt).1 (ix2 r j))
      = G (A0 m c) (A1 m c) ⟨2048 * (t.val % 4) + r.val, by omega⟩ ⟨512 * (t.val / 4) + j.val, by have := lt12 t.val t.isLt; omega⟩ := by
  rw [(at_pt m c t.val t.isLt).2]
  refine (pay3_at _ _ r j).trans ?_
  unfold G
  refine Finset.sum_congr rfl fun k _ => congrArg₂ (fun x y : EReal => x * y) (X0_at m c t r k) ?_
  refine congrArg (fun z => A1 m c (ix3 0 k z)) (Fin.ext ?_)
  show 5168 + 512 * (t.val / 4) + j.val = 5168 + (512 * (t.val / 4) + j.val)
  omega

theorem final : (dats m 0 c).arrAt 3 (cfgs 0).N = (fun i => G (A0 m c) (A1 m c) (i 0) (i 1) : FVec Ideal S8192x6144 .bf16) := by
  refine (dats m 0 c).arrAt_eq_of_covers 3 _ (by decide +kernel) fun t _ y => ?_
  blk_simp
  rw [after0_3]
  refine (congrArg _ (ix2_eta y).symm).trans ((point m c t (y 0) (y 1)).trans ?_)
  refine congrArg₂ (G _ _) (Fin.ext ?_) (Fin.ext ?_) <;> blk_simp [idx t] <;> idx_bounds <;> simp <;> omega

end Cert.Kernel3Ideal.Side

end
-- ==== Proof.ColsRef.lean ====
module

public import proofs.«01_k».proof.Proof.ColsKernel
public import proofs.«01_k».proof.Proof.Gen.Reference3Ideal.Run
public import proofs.«01_k».proof.Proof.Gen.Reference3Ideal
public import proofs.«01_k».proof.Defs
public import Idealize.ShloMosaic.Lib.Quiescent

/-! The second input projection's reference, entry by entry, and its equality with the kernel's result. -/

@[expose] public section

set_option maxRecDepth 16384

noncomputable section

namespace Cert.Reference3Ideal.Side

open Idealize.ShloMosaic Idealize.ShloMosaic.TcCoe Idealize.SL.Sem Idealize.ShloMosaic.StableHlo
open Cert.Reference3Ideal Cert.Reference3Ideal.Gen Cert.Reference3Ideal.Value

/-- The columns of the product, as the reference's operations compose it. -/
abbrev prod (a0 : FVec Ideal S1x8192x2048 .f32) (a1 : FVec Ideal S4x2048x17472 .f32) : FVec Ideal S8192x6144 .bf16 :=
  truncf .bf16 (shapeCast S8192x6144 (extractStridedSlice S1x8192x6144 ![0, 0, 5168]
        (Host.dotGeneral dot_S1x8192x2048_S2048x17472_S1x8192x17472_2_0_01_1_n_n none a0
          (shapeCast S2048x17472 (extractStridedSlice S1x2048x17472 ![0, 0, 0] a1 slices_S4x2048x17472_S1x2048x17472_0_0_0) shapeCasts_S1x2048x17472_S2048x17472 : FVec Ideal S2048x17472 .f32) : FVec Ideal S1x8192x17472 .f32)
        slices_S1x8192x17472_S1x8192x6144_0_0_5168) shapeCasts_S1x8192x6144_S8192x6144) bitsLt_bf16_f32

theorem prod_at (a0 : FVec Ideal S1x8192x2048 .f32) (a1 : FVec Ideal S4x2048x17472 .f32) (r : Fin 8192) (j : Fin 6144) :
    (show EReal from prod a0 a1 (ix2 r j)) = Cert.Kernel3Ideal.Side.G a0 a1 r j := by
  pointwise [Cert.Kernel3Ideal.Side.G]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

/-- The reference's result. -/
abbrev res : FVec Ideal S8192x6144 .bf16 := prod (A0 m c) (A1 m c)

/-- The reference runs to its result, its arguments unchanged and its semaphores at zero. -/
theorem run_all (ρ : Dev nD → PrngReg) : θ_run (defs (F := Ideal)) (onTc (τ := τ) (main (F := Ideal))) ⟨m, fun _ => 0, ρ⟩ fun r =>
    (∀ c : Dev nD, r.2.mem ((c.tc : Thread nD τ).loc main_v5) = res m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run _ _ _).mono (fun _ h => ⟨h, sem_eq_zero_of_no_sems (show sig.nSem + sig.nDmaSem = 0 by decide) _⟩) (run m ρ)

end Cert.Reference3Ideal.Side

namespace Cert.ColsEq

open Idealize.ShloMosaic Idealize.ShloMosaic.TcCoe Idealize.SL.Sem

/-- From memories that agree on the arguments, the two programs' results are the same array. -/
theorem result_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD) (c' : Dev Cert.Reference3Ideal.nD)
    (h0 : Cert.Reference3Ideal.Side.A0 m' c' = Cert.Kernel3Ideal.Side.A0 m c) (h1 : Cert.Reference3Ideal.Side.A1 m' c' = Cert.Kernel3Ideal.Side.A1 m c) :
    (Cert.Reference3Ideal.Side.res m' c' : FVec Ideal Cert.Reference3Ideal.S8192x6144 .bf16)
      = (Cert.Kernel3Ideal.Gen.dats m 0 c).arrAt 3 (Cert.Kernel3Ideal.cfgs 0).N := by
  rw [Cert.Kernel3Ideal.Side.final]
  funext i
  refine (congrArg _ (ix2_eta i).symm).trans ((Cert.Reference3Ideal.Side.prod_at _ _ (i 0) (i 1)).trans ?_)
  rw [h0, h1]

/-- The kernel and the reference end with the same result. -/
theorem algebraic : Cert.algebraic_Kernel3Ideal_Reference3Ideal (hKernel3Ideal := Cert.Kernel3Ideal.Gen.facts) (hReference3Ideal := Cert.Reference3Ideal.Gen.facts) := by
  intro m g m' g' _ hA
  refine ⟨fun c => (Cert.Kernel3Ideal.Gen.dats m 0 c).arrAt 3 (Cert.Kernel3Ideal.cfgs 0).N, Cert.Kernel3Ideal.Value.run_blocks m g, ?_⟩
  refine (θ_run _ _ _).mono (fun r h c => ?_) (Cert.Reference3Ideal.Side.run_all m' g')
  obtain ⟨h0, h1⟩ := hA c
  exact ⟨(h.1 c).1.trans (result_eq m m' c c h0 h1), (h.1 c).2⟩

end Cert.ColsEq

end
-- ==== Proof.KvKernel.lean ====
module

public import proofs.«01_k».proof.Proof.Gen.Kernel4Ideal.Value
public import Idealize.ShloMosaic.Lib.Pipeline.ValueKit
public import Idealize.ShloMosaic.Lib.StableHlo.RunRead

/-! What the keys and values' input projection's kernel leaves in its result. -/

@[expose] public section

set_option maxRecDepth 16384

noncomputable section

namespace Cert.Kernel4Ideal.Side

open Idealize.ShloMosaic Idealize.ShloMosaic.TcCoe Idealize.SL.Sem Idealize.ShloMosaic.StableHlo
open Idealize.ShloMosaic.Pipeline (Dat)
open Cert.Kernel4Ideal Cert.Kernel4Ideal.Gen

theorem pay1_at (v : Vec Ideal S1x512x2048 .f32) (j : Fin 512) (k : Fin 2048) : (show EReal from k0_pay1 v (ix2 j k)) = v (ix3 0 j k) := by
  pointwise [k0_pay1]
theorem pay2_at (x : Vec Ideal S2048x2048 .bf16) (w : Vec Ideal S512x2048 .bf16) (r : Fin 2048) (j : Fin 512) :
    (show EReal from k0_pay2 x w (ix2 r j)) = ∑ k : Fin 2048, (x (ix2 r k) : EReal) * w (ix2 j k) := by
  pointwise [k0_pay2]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

theorem V1_at (r : Fin 8192) (j : Fin 2048) : V m c main_v1 (ix2 r j) = A0 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

theorem V2_at (l : Fin 4) (j : Fin 17472) (k : Fin 2048) : V m c main_v2 (ix3 l j k) = A1 m c (ix3 l k j) := by
  unfold V
  after_reads_simp
  have e (x : FVec Ideal S4x2048x17472 .f32) : transpose S4x17472x2048 [0, 2, 1] x transposes_S4x2048x17472_S4x17472x2048_0_2_1 (ix3 l j k) = x (ix3 l k j) := by pointwise
  exact e _

theorem idx : ∀ t : Fin cfg0.N, win0_0.index t = ![t.val % 4, 0] ∧ win0_1.index t = ![0, 6 + t.val / 4, 0] ∧ win0_2.index t = ![t.val % 4, t.val / 4] :=
  (by decide +kernel : ∀ t : Fin grid0.N, _)

theorem X0_at (t : Fin cfg0.N) (r : Fin 2048) (k : Fin 2048) : (show Vec Ideal S2048x2048 .bf16 from iblk m c 0 t) (ix2 r k) = A0 m c (ix3 0 ⟨2048 * (t.val % 4) + r.val, by omega⟩ k) := by
  rw [← V1_at]
  blk_point [iblk, V, idx t]

theorem X1_at (t : Fin cfg0.N) (j : Fin 512) (k : Fin 2048) (hj : 512 * (6 + t.val / 4) + j.val < 17472) :
    (show Vec Ideal S1x512x2048 .f32 from X0_1 m c t) (ix3 0 j k) = A1 m c (ix3 0 k ⟨512 * (6 + t.val / 4) + j.val, hj⟩) := by
  rw [← V2_at]
  unfold X0_1 Pipeline.Window.fill
  refine (dif_pos (moved0_1 t (ix3 0 j k))).trans ?_
  blk_point [iblk, V, idx t]

/-- The rows of the weights that a column block's first point keeps. -/
def wts (x1 : Vec Ideal S1x512x2048 .f32) : Vec Ideal S512x2048 .bf16 := fun y => x1 (ix3 0 (y 0) (y 1))

theorem pay1_wts (x1 : Vec Ideal S1x512x2048 .f32) : k0_pay1 x1 = wts x1 := by
  funext y
  exact (congrArg _ (ix2_eta y).symm).trans (pay1_at x1 (y 0) (y 1))

section cases
variable (i : grid0.Coords) (arg2 : Memref sig .tc .vmem S2048x2048 .bf16) (harg2 : arg2.IsWhole) (arg3 : Memref sig .tc .vmem S1x512x2048 .f32) (harg3 : arg3.IsWhole) (arg4 : Memref sig .tc .vmem S2048x512 .bf16) (harg4 : arg4.IsWhole) (arg5 : Memref sig .tc .vmem S512x2048 .bf16) (harg5 : arg5.IsWhole)
  (x0 : Vec Ideal S2048x2048 .bf16) (x1 : Vec Ideal S1x512x2048 .f32) (xs : Vec Ideal S512x2048 .bf16)

theorem scA (hc0 : cond0_0 i) : sout0_A_0 c i arg2 harg2 arg3 harg3 arg4 harg4 arg5 harg5 hc0 x0 x1 = wts x1 := by
  frame_out
  exact pay1_wts x1

theorem outA (hc0 : cond0_0 i) : out0_A_2 c i arg2 harg2 arg3 harg3 arg4 harg4 arg5 harg5 hc0 x0 x1 = k0_pay2 x0 (wts x1) := by
  frame_out
  rw [pay1_wts]

theorem outB (hc0 : ¬cond0_0 i) : out0_B_2 c i arg2 harg2 arg3 harg3 arg4 harg4 arg5 harg5 hc0 x0 x1 xs = k0_pay2 x0 xs := by
  frame_out
end cases

/-- The weights of column block `b`: row `j` is column `3072 + 512 b + j`. -/
def blkW (a1 : FVec Ideal S4x2048x17472 .f32) (b : ℕ) (hb : b < 4) : Vec Ideal S512x2048 .bf16 := fun y =>
  a1 (ix3 0 (y 1) ⟨3072 + 512 * b + (y 0).val, by have : (y 0).val < 512 := (y 0).isLt; omega⟩)

theorem lt4 (n : ℕ) (hn : n < cfg0.N) : n / 4 < 4 := by have := lt_of_lt_of_eq hn N_0; omega

theorem wts_eq (t : Fin cfg0.N) : wts (X0_1 m c t) = blkW (A1 m c) (t.val / 4) (lt4 t.val t.isLt) := by
  have ht := lt4 t.val t.isLt
  funext y
  have hy0 : (y 0).val < 512 := (y 0).isLt
  unfold wts blkW
  refine (X1_at m c t _ _ (by show 512 * (6 + t.val / 4) + (y 0).val < 17472; omega)).trans (congrArg (fun z => A1 m c (ix3 0 (y 1) z)) (Fin.ext ?_))
  show 512 * (6 + t.val / 4) + (y 0).val = 3072 + 512 * (t.val / 4) + (y 0).val
  omega

/-- What every point leaves: the kept weights are its column block's, and the output block is the product with them. -/
theorem at_pt : ∀ n (hn : n < cfg0.N), (outsAt0 m c n hn).2 = blkW (A1 m c) (n / 4) (lt4 n hn)
    ∧ (outsAt0 m c n hn).1 = k0_pay2 (iblk m c 0 ⟨n, hn⟩) (blkW (A1 m c) (n / 4) (lt4 n hn)) := by
  intro n
  induction n with
  | zero =>
    intro hn
    have o := outsAt0_A m c ⟨0, hn⟩ (Nat.zero_mod _)
    rw [show outsAt0 m c 0 hn = _ from o]
    dsimp only
    rw [scA, outA, wts_eq]
    exact ⟨rfl, rfl⟩
  | succ n ih =>
    intro hn
    by_cases h : (n + 1) % 4 = 0
    · have o := outsAt0_A m c ⟨n + 1, hn⟩ h
      rw [show outsAt0 m c (n + 1) hn = _ from o]
      dsimp only
      rw [scA, outA, wts_eq]
      exact ⟨rfl, rfl⟩
    · have ih1 := (ih (Nat.lt_of_succ_lt hn)).1
      have eq : n / 4 = (n + 1) / 4 := by omega
      have ih2 : ∀ h', (outsAt0 m c (n + 1 - 1) h').2 = blkW (A1 m c) ((n + 1) / 4) (lt4 _ hn) := fun _ => by
        refine Eq.trans ih1 ?_
        congr 1
      have o := outsAt0_B m c ⟨n + 1, hn⟩ h
      rw [show outsAt0 m c (n + 1) hn = _ from o]
      dsimp only
      rw [outB, ih2]
      exact ⟨rfl, rfl⟩

/-- The result, entry by entry. -/
def G (a0 : FVec Ideal S1x8192x2048 .f32) (a1 : FVec Ideal S4x2048x17472 .f32) (r : Fin 8192) (j : Fin 2048) : EReal :=
  ∑ k : Fin 2048, (a0 (ix3 0 r k) : EReal) * a1 (ix3 0 k ⟨3072 + j.val, by omega⟩)

theorem point (t : Fin cfg0.N) (r : Fin 2048) (j : Fin 512) :
    (show EReal from (outsAt0 m c t.val t.isLt).1 (ix2 r j))
      = G (A0 m c) (A1 m c) ⟨2048 * (t.val % 4) + r.val, by omega⟩ ⟨512 * (t.val / 4) + j.val, by have := lt4 t.val t.isLt; omega⟩ := by
  rw [(at_pt m c t.val t.isLt).2]
  refine (pay2_at _ _ r j).trans ?_
  unfold G
  refine Finset.sum_congr rfl fun k _ => congrArg₂ (fun x y : EReal => x * y) (X0_at m c t r k) ?_
  refine congrArg (fun z => A1 m c (ix3 0 k z)) (Fin.ext ?_)
  show 3072 + 512 * (t.val / 4) + j.val = 3072 + (512 * (t.val / 4) + j.val)
  omega

theorem final : (dats m 0 c).arrAt 2 (cfgs 0).N = (fun i => G (A0 m c) (A1 m c) (i 0) (i 1) : FVec Ideal S8192x2048 .bf16) := by
  refine (dats m 0 c).arrAt_eq_of_covers 2 _ (by decide +kernel) fun t _ y => ?_
  blk_simp
  rw [after0_2]
  refine (congrArg _ (ix2_eta y).symm).trans ((point m c t (y 0) (y 1)).trans ?_)
  refine congrArg₂ (G _ _) (Fin.ext ?_) (Fin.ext ?_) <;> blk_simp [idx t] <;> idx_bounds <;> simp <;> omega

end Cert.Kernel4Ideal.Side

end
-- ==== Proof.KvRef.lean ====
module

public import proofs.«01_k».proof.Proof.KvKernel
public import proofs.«01_k».proof.Proof.Gen.Reference4Ideal.Run
public import proofs.«01_k».proof.Proof.Gen.Reference4Ideal
public import proofs.«01_k».proof.Defs
public import Idealize.ShloMosaic.Lib.Quiescent

/-! The keys and values' input projection's reference, entry by entry, and its equality with the kernel's result. -/

@[expose] public section

set_option maxRecDepth 16384

noncomputable section

namespace Cert.Reference4Ideal.Side

open Idealize.ShloMosaic Idealize.ShloMosaic.TcCoe Idealize.SL.Sem Idealize.ShloMosaic.StableHlo
open Cert.Reference4Ideal Cert.Reference4Ideal.Gen Cert.Reference4Ideal.Value

/-- The columns of the product, as the reference's operations compose it. -/
abbrev prod (a0 : FVec Ideal S1x8192x2048 .f32) (a1 : FVec Ideal S4x2048x17472 .f32) : FVec Ideal S8192x2048 .bf16 :=
  truncf .bf16 (shapeCast S8192x2048 (extractStridedSlice S1x8192x2048 ![0, 0, 3072]
        (Host.dotGeneral dot_S1x8192x2048_S2048x17472_S1x8192x17472_2_0_01_1_n_n none a0
          (shapeCast S2048x17472 (extractStridedSlice S1x2048x17472 ![0, 0, 0] a1 slices_S4x2048x17472_S1x2048x17472_0_0_0) shapeCasts_S1x2048x17472_S2048x17472 : FVec Ideal S2048x17472 .f32) : FVec Ideal S1x8192x17472 .f32)
        slices_S1x8192x17472_S1x8192x2048_0_0_3072) shapeCasts_S1x8192x2048_S8192x2048) bitsLt_bf16_f32

theorem prod_at (a0 : FVec Ideal S1x8192x2048 .f32) (a1 : FVec Ideal S4x2048x17472 .f32) (r : Fin 8192) (j : Fin 2048) :
    (show EReal from prod a0 a1 (ix2 r j)) = Cert.Kernel4Ideal.Side.G a0 a1 r j := by
  pointwise [Cert.Kernel4Ideal.Side.G]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

/-- The reference's result. -/
abbrev res : FVec Ideal S8192x2048 .bf16 := prod (A0 m c) (A1 m c)

/-- The reference runs to its result, its arguments unchanged and its semaphores at zero. -/
theorem run_all (ρ : Dev nD → PrngReg) : θ_run (defs (F := Ideal)) (onTc (τ := τ) (main (F := Ideal))) ⟨m, fun _ => 0, ρ⟩ fun r =>
    (∀ c : Dev nD, r.2.mem ((c.tc : Thread nD τ).loc main_v5) = res m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run _ _ _).mono (fun _ h => ⟨h, sem_eq_zero_of_no_sems (show sig.nSem + sig.nDmaSem = 0 by decide) _⟩) (run m ρ)

end Cert.Reference4Ideal.Side

namespace Cert.KvEq

open Idealize.ShloMosaic Idealize.ShloMosaic.TcCoe Idealize.SL.Sem

/-- From memories that agree on the arguments, the two programs' results are the same array. -/
theorem result_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD) (c' : Dev Cert.Reference4Ideal.nD)
    (h0 : Cert.Reference4Ideal.Side.A0 m' c' = Cert.Kernel4Ideal.Side.A0 m c) (h1 : Cert.Reference4Ideal.Side.A1 m' c' = Cert.Kernel4Ideal.Side.A1 m c) :
    (Cert.Reference4Ideal.Side.res m' c' : FVec Ideal Cert.Reference4Ideal.S8192x2048 .bf16)
      = (Cert.Kernel4Ideal.Gen.dats m 0 c).arrAt 2 (Cert.Kernel4Ideal.cfgs 0).N := by
  rw [Cert.Kernel4Ideal.Side.final]
  funext i
  refine (congrArg _ (ix2_eta i).symm).trans ((Cert.Reference4Ideal.Side.prod_at _ _ (i 0) (i 1)).trans ?_)
  rw [h0, h1]

/-- The kernel and the reference end with the same result. -/
theorem algebraic : Cert.algebraic_Kernel4Ideal_Reference4Ideal (hKernel4Ideal := Cert.Kernel4Ideal.Gen.facts) (hReference4Ideal := Cert.Reference4Ideal.Gen.facts) := by
  intro m g m' g' _ hA
  refine ⟨fun c => (Cert.Kernel4Ideal.Gen.dats m 0 c).arrAt 2 (Cert.Kernel4Ideal.cfgs 0).N, Cert.Kernel4Ideal.Value.run_blocks m g, ?_⟩
  refine (θ_run _ _ _).mono (fun r h c => ?_) (Cert.Reference4Ideal.Side.run_all m' g')
  obtain ⟨h0, h1⟩ := hA c
  exact ⟨(h.1 c).1.trans (result_eq m m' c c h0 h1), (h.1 c).2⟩

end Cert.KvEq

end
-- ==== Proof.CmpColsKernel.lean ====
module

public import proofs.«01_k».proof.Proof.Gen.Kernel5Ideal.Value
public import Idealize.ShloMosaic.Lib.Pipeline.ValueKit
public import Idealize.ShloMosaic.Lib.StableHlo.RunRead

/-! What the compressed branch's input projection's kernel leaves in its result. -/

@[expose] public section

set_option maxRecDepth 16384

noncomputable section

namespace Cert.Kernel5Ideal.Side

open Idealize.ShloMosaic Idealize.ShloMosaic.TcCoe Idealize.SL.Sem Idealize.ShloMosaic.StableHlo
open Idealize.ShloMosaic.Pipeline (Dat)
open Cert.Kernel5Ideal Cert.Kernel5Ideal.Gen

theorem pay1_at (v : Vec Ideal S1x512x2048 .f32) (j : Fin 512) (k : Fin 2048) : (show EReal from k0_pay1 v (ix2 j k)) = v (ix3 0 j k) := by
  pointwise [k0_pay1]
theorem pay2_at (x : Vec Ideal S2048x2048 .bf16) (w : Vec Ideal S512x2048 .bf16) (r : Fin 2048) (j : Fin 512) :
    (show EReal from k0_pay2 x w (ix2 r j)) = ∑ k : Fin 2048, (x (ix2 r k) : EReal) * w (ix2 j k) := by
  pointwise [k0_pay2]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

theorem V1_at (r : Fin 8192) (j : Fin 2048) : V m c main_v1 (ix2 r j) = A0 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

theorem V2_at (l : Fin 4) (j : Fin 17472) (k : Fin 2048) : V m c main_v2 (ix3 l j k) = A1 m c (ix3 l k j) := by
  unfold V
  after_reads_simp
  have e (x : FVec Ideal S4x2048x17472 .f32) : transpose S4x17472x2048 [0, 2, 1] x transposes_S4x2048x17472_S4x17472x2048_0_2_1 (ix3 l j k) = x (ix3 l k j) := by pointwise
  exact e _

theorem idx : ∀ t : Fin cfg0.N, win0_0.index t = ![t.val % 4, 0] ∧ win0_1.index t = ![0, 4 + t.val / 4, 0] ∧ win0_2.index t = ![t.val % 4, t.val / 4] :=
  (by decide +kernel : ∀ t : Fin grid0.N, _)

theorem X0_at (t : Fin cfg0.N) (r : Fin 2048) (k : Fin 2048) : (show Vec Ideal S2048x2048 .bf16 from iblk m c 0 t) (ix2 r k) = A0 m c (ix3 0 ⟨2048 * (t.val % 4) + r.val, by omega⟩ k) := by
  rw [← V1_at]
  blk_point [iblk, V, idx t]

theorem X1_at (t : Fin cfg0.N) (j : Fin 512) (k : Fin 2048) (hj : 512 * (4 + t.val / 4) + j.val < 17472) :
    (show Vec Ideal S1x512x2048 .f32 from X0_1 m c t) (ix3 0 j k) = A1 m c (ix3 0 k ⟨512 * (4 + t.val / 4) + j.val, hj⟩) := by
  rw [← V2_at]
  unfold X0_1 Pipeline.Window.fill
  refine (dif_pos (moved0_1 t (ix3 0 j k))).trans ?_
  blk_point [iblk, V, idx t]

/-- The rows of the weights that a column block's first point keeps. -/
def wts (x1 : Vec Ideal S1x512x2048 .f32) : Vec Ideal S512x2048 .bf16 := fun y => x1 (ix3 0 (y 0) (y 1))

theorem pay1_wts (x1 : Vec Ideal S1x512x2048 .f32) : k0_pay1 x1 = wts x1 := by
  funext y
  exact (congrArg _ (ix2_eta y).symm).trans (pay1_at x1 (y 0) (y 1))

section cases
variable (i : grid0.Coords) (arg2 : Memref sig .tc .vmem S2048x2048 .bf16) (harg2 : arg2.IsWhole) (arg3 : Memref sig .tc .vmem S1x512x2048 .f32) (harg3 : arg3.IsWhole) (arg4 : Memref sig .tc .vmem S2048x512 .f32) (harg4 : arg4.IsWhole) (arg5 : Memref sig .tc .vmem S512x2048 .bf16) (harg5 : arg5.IsWhole)
  (x0 : Vec Ideal S2048x2048 .bf16) (x1 : Vec Ideal S1x512x2048 .f32) (xs : Vec Ideal S512x2048 .bf16)

theorem scA (hc0 : cond0_0 i) : sout0_A_0 c i arg2 harg2 arg3 harg3 arg4 harg4 arg5 harg5 hc0 x0 x1 = wts x1 := by
  frame_out
  exact pay1_wts x1

theorem outA (hc0 : cond0_0 i) : out0_A_2 c i arg2 harg2 arg3 harg3 arg4 harg4 arg5 harg5 hc0 x0 x1 = k0_pay2 x0 (wts x1) := by
  frame_out
  rw [pay1_wts]

theorem outB (hc0 : ¬cond0_0 i) : out0_B_2 c i arg2 harg2 arg3 harg3 arg4 harg4 arg5 harg5 hc0 x0 x1 xs = k0_pay2 x0 xs := by
  frame_out
end cases

/-- The weights of column block `b`: row `j` is column `2048 + 512 b + j`. -/
def blkW (a1 : FVec Ideal S4x2048x17472 .f32) (b : ℕ) (hb : b < 2) : Vec Ideal S512x2048 .bf16 := fun y =>
  a1 (ix3 0 (y 1) ⟨2048 + 512 * b + (y 0).val, by have : (y 0).val < 512 := (y 0).isLt; omega⟩)

theorem lt2 (n : ℕ) (hn : n < cfg0.N) : n / 4 < 2 := by have := lt_of_lt_of_eq hn N_0; omega

theorem wts_eq (t : Fin cfg0.N) : wts (X0_1 m c t) = blkW (A1 m c) (t.val / 4) (lt2 t.val t.isLt) := by
  have ht := lt2 t.val t.isLt
  funext y
  have hy0 : (y 0).val < 512 := (y 0).isLt
  unfold wts blkW
  refine (X1_at m c t _ _ (by show 512 * (4 + t.val / 4) + (y 0).val < 17472; omega)).trans (congrArg (fun z => A1 m c (ix3 0 (y 1) z)) (Fin.ext ?_))
  show 512 * (4 + t.val / 4) + (y 0).val = 2048 + 512 * (t.val / 4) + (y 0).val
  omega

/-- What every point leaves: the kept weights are its column block's, and the output block is the product with them. -/
theorem at_pt : ∀ n (hn : n < cfg0.N), (outsAt0 m c n hn).2 = blkW (A1 m c) (n / 4) (lt2 n hn)
    ∧ (outsAt0 m c n hn).1 = k0_pay2 (iblk m c 0 ⟨n, hn⟩) (blkW (A1 m c) (n / 4) (lt2 n hn)) := by
  intro n
  induction n with
  | zero =>
    intro hn
    have o := outsAt0_A m c ⟨0, hn⟩ (Nat.zero_mod _)
    rw [show outsAt0 m c 0 hn = _ from o]
    dsimp only
    rw [scA, outA, wts_eq]
    exact ⟨rfl, rfl⟩
  | succ n ih =>
    intro hn
    by_cases h : (n + 1) % 4 = 0
    · have o := outsAt0_A m c ⟨n + 1, hn⟩ h
      rw [show outsAt0 m c (n + 1) hn = _ from o]
      dsimp only
      rw [scA, outA, wts_eq]
      exact ⟨rfl, rfl⟩
    · have ih1 := (ih (Nat.lt_of_succ_lt hn)).1
      have eq : n / 4 = (n + 1) / 4 := by omega
      have ih2 : ∀ h', (outsAt0 m c (n + 1 - 1) h').2 = blkW (A1 m c) ((n + 1) / 4) (lt2 _ hn) := fun _ => by
        refine Eq.trans ih1 ?_
        congr 1
      have o := outsAt0_B m c ⟨n + 1, hn⟩ h
      rw [show outsAt0 m c (n + 1) hn = _ from o]
      dsimp only
      rw [outB, ih2]
      exact ⟨rfl, rfl⟩

/-- The result, entry by entry. -/
def G (a0 : FVec Ideal S1x8192x2048 .f32) (a1 : FVec Ideal S4x2048x17472 .f32) (r : Fin 8192) (j : Fin 1024) : EReal :=
  ∑ k : Fin 2048, (a0 (ix3 0 r k) : EReal) * a1 (ix3 0 k ⟨2048 + j.val, by omega⟩)

theorem point (t : Fin cfg0.N) (r : Fin 2048) (j : Fin 512) :
    (show EReal from (outsAt0 m c t.val t.isLt).1 (ix2 r j))
      = G (A0 m c) (A1 m c) ⟨2048 * (t.val % 4) + r.val, by omega⟩ ⟨512 * (t.val / 4) + j.val, by have := lt2 t.val t.isLt; omega⟩ := by
  rw [(at_pt m c t.val t.isLt).2]
  refine (pay2_at _ _ r j).trans ?_
  unfold G
  refine Finset.sum_congr rfl fun k _ => congrArg₂ (fun x y : EReal => x * y) (X0_at m c t r k) ?_
  refine congrArg (fun z => A1 m c (ix3 0 k z)) (Fin.ext ?_)
  show 2048 + 512 * (t.val / 4) + j.val = 2048 + (512 * (t.val / 4) + j.val)
  omega

theorem final : (dats m 0 c).arrAt 2 (cfgs 0).N = (fun i => G (A0 m c) (A1 m c) (i 0) (i 1) : FVec Ideal S8192x1024 .f32) := by
  refine (dats m 0 c).arrAt_eq_of_covers 2 _ (by decide +kernel) fun t _ y => ?_
  blk_simp
  rw [after0_2]
  refine (congrArg _ (ix2_eta y).symm).trans ((point m c t (y 0) (y 1)).trans ?_)
  refine congrArg₂ (G _ _) (Fin.ext ?_) (Fin.ext ?_) <;> blk_simp [idx t] <;> idx_bounds <;> simp <;> omega

end Cert.Kernel5Ideal.Side

end
-- ==== Proof.CmpColsRef.lean ====
module

public import proofs.«01_k».proof.Proof.CmpColsKernel
public import proofs.«01_k».proof.Proof.Gen.Reference5Ideal.Run
public import proofs.«01_k».proof.Proof.Gen.Reference5Ideal
public import proofs.«01_k».proof.Defs
public import Idealize.ShloMosaic.Lib.Quiescent

/-! The compressed branch's input projection's reference, entry by entry, and its equality with the kernel's result. -/

@[expose] public section

set_option maxRecDepth 16384

noncomputable section

namespace Cert.Reference5Ideal.Side

open Idealize.ShloMosaic Idealize.ShloMosaic.TcCoe Idealize.SL.Sem Idealize.ShloMosaic.StableHlo
open Cert.Reference5Ideal Cert.Reference5Ideal.Gen Cert.Reference5Ideal.Value

/-- The columns of the product, as the reference's operations compose it. -/
abbrev prod (a0 : FVec Ideal S1x8192x2048 .f32) (a1 : FVec Ideal S4x2048x17472 .f32) : FVec Ideal S8192x1024 .f32 :=
  shapeCast S8192x1024 (extractStridedSlice S1x8192x1024 ![0, 0, 2048]
        (Host.dotGeneral dot_S1x8192x2048_S2048x17472_S1x8192x17472_2_0_01_1_n_n none a0
          (shapeCast S2048x17472 (extractStridedSlice S1x2048x17472 ![0, 0, 0] a1 slices_S4x2048x17472_S1x2048x17472_0_0_0) shapeCasts_S1x2048x17472_S2048x17472 : FVec Ideal S2048x17472 .f32) : FVec Ideal S1x8192x17472 .f32)
        slices_S1x8192x17472_S1x8192x1024_0_0_2048) shapeCasts_S1x8192x1024_S8192x1024

theorem prod_at (a0 : FVec Ideal S1x8192x2048 .f32) (a1 : FVec Ideal S4x2048x17472 .f32) (r : Fin 8192) (j : Fin 1024) :
    (show EReal from prod a0 a1 (ix2 r j)) = Cert.Kernel5Ideal.Side.G a0 a1 r j := by
  pointwise [Cert.Kernel5Ideal.Side.G]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

/-- The reference's result. -/
abbrev res : FVec Ideal S8192x1024 .f32 := prod (A0 m c) (A1 m c)

/-- The reference runs to its result, its arguments unchanged and its semaphores at zero. -/
theorem run_all (ρ : Dev nD → PrngReg) : θ_run (defs (F := Ideal)) (onTc (τ := τ) (main (F := Ideal))) ⟨m, fun _ => 0, ρ⟩ fun r =>
    (∀ c : Dev nD, r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run _ _ _).mono (fun _ h => ⟨h, sem_eq_zero_of_no_sems (show sig.nSem + sig.nDmaSem = 0 by decide) _⟩) (run m ρ)

end Cert.Reference5Ideal.Side

namespace Cert.CmpColsEq

open Idealize.ShloMosaic Idealize.ShloMosaic.TcCoe Idealize.SL.Sem

/-- From memories that agree on the arguments, the two programs' results are the same array. -/
theorem result_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD) (c' : Dev Cert.Reference5Ideal.nD)
    (h0 : Cert.Reference5Ideal.Side.A0 m' c' = Cert.Kernel5Ideal.Side.A0 m c) (h1 : Cert.Reference5Ideal.Side.A1 m' c' = Cert.Kernel5Ideal.Side.A1 m c) :
    (Cert.Reference5Ideal.Side.res m' c' : FVec Ideal Cert.Reference5Ideal.S8192x1024 .f32)
      = (Cert.Kernel5Ideal.Gen.dats m 0 c).arrAt 2 (Cert.Kernel5Ideal.cfgs 0).N := by
  rw [Cert.Kernel5Ideal.Side.final]
  funext i
  refine (congrArg _ (ix2_eta i).symm).trans ((Cert.Reference5Ideal.Side.prod_at _ _ (i 0) (i 1)).trans ?_)
  rw [h0, h1]

/-- The kernel and the reference end with the same result. -/
theorem algebraic : Cert.algebraic_Kernel5Ideal_Reference5Ideal (hKernel5Ideal := Cert.Kernel5Ideal.Gen.facts) (hReference5Ideal := Cert.Reference5Ideal.Gen.facts) := by
  intro m g m' g' _ hA
  refine ⟨fun c => (Cert.Kernel5Ideal.Gen.dats m 0 c).arrAt 2 (Cert.Kernel5Ideal.cfgs 0).N, Cert.Kernel5Ideal.Value.run_blocks m g, ?_⟩
  refine (θ_run _ _ _).mono (fun r h c => ?_) (Cert.Reference5Ideal.Side.run_all m' g')
  obtain ⟨h0, h1⟩ := hA c
  exact ⟨(h.1 c).1.trans (result_eq m m' c c h0 h1), (h.1 c).2⟩

end Cert.CmpColsEq

end
-- ==== Proof.MidKernel.lean ====
module

public import proofs.«01_k».proof.Proof.OutSpec
public import proofs.«01_k».proof.Proof.Gen.Kernel6Ideal.Value
public import Idealize.ShloMosaic.Lib.Pipeline.ValueKit
public import Idealize.ShloMosaic.Lib.StableHlo.RunRead

/-! What the output projection's kernel leaves in its two results in a layer before the last: the rows and the next layer's normalised rows. -/

@[expose] public section

set_option maxRecDepth 16384

noncomputable section

namespace Cert.Kernel6Ideal.Side

open Idealize.ShloMosaic Idealize.ShloMosaic.TcCoe Idealize.SL.Sem Idealize.ShloMosaic.StableHlo
open Idealize.ShloMosaic.Pipeline (Dat)
open Cert.Kernel6Ideal Cert.Kernel6Ideal.Gen

theorem pay2_at (v0 v3 : Vec Ideal S256x2048 .bf16) (v10 : Vec Ideal S1x2048x2048 .bf16) (v13 v16 : Vec Ideal S256x2048 .bf16) (v23 : Vec Ideal S256x2048 .f32)
    (v25 : Vec Ideal S1x2048x2048 .bf16) (r : Fin 256) (j : Fin 2048) :
    (show EReal from k0_pay2 v0 v3 v10 v13 v16 v23 v25 (ix2 r j))
      = OutP.res (fun k => v23 (ix2 r k)) (fun k => v13 (ix2 r k)) (fun k => v0 (ix2 r k)) (fun k => v3 (ix2 r k)) (fun k => v16 (ix2 r k))
          (fun i k => v10 (ix3 0 i k)) (fun k j => v25 (ix3 0 k j)) j := by
  pointwise [k0_pay2, OutP.res, OutP.mix]

theorem pay1_at (v0 v3 : Vec Ideal S256x2048 .bf16) (v10 : Vec Ideal S1x2048x2048 .bf16) (v13 v16 : Vec Ideal S256x2048 .bf16) (v23 : Vec Ideal S256x2048 .f32)
    (v25 : Vec Ideal S1x2048x2048 .bf16) (v39 : Vec Ideal S1x2048 .f32) (r : Fin 256) (j : Fin 2048) :
    (show EReal from k0_pay1 (k0_pay2 v0 v3 v10 v13 v16 v23 v25) (k0_pay3 v0 v3 v10 v13 v16 v23 v25) v39 (ix2 r j))
      = OutP.nrm (OutP.res (fun k => v23 (ix2 r k)) (fun k => v13 (ix2 r k)) (fun k => v0 (ix2 r k)) (fun k => v3 (ix2 r k)) (fun k => v16 (ix2 r k))
          (fun i k => v10 (ix3 0 i k)) (fun k j => v25 (ix3 0 k j))) (fun j => v39 (ix2 0 j)) j := by
  have e (y : FVec Ideal S256x2048 .f32) (hy : y = k0_pay2 v0 v3 v10 v13 v16 v23 v25) :
      (show EReal from k0_pay1 y (k0_pay3 v0 v3 v10 v13 v16 v23 v25) v39 (ix2 r j)) = OutP.nrm (fun k => y (ix2 r k)) (fun j => v39 (ix2 0 j)) j := by
    unfold k0_pay3
    rw [← hy]
    pointwise [k0_pay1, OutP.nrm]
  refine (e _ rfl).trans ?_
  exact congrArg (fun z => OutP.nrm z _ j) (funext fun k => pay2_at v0 v3 v10 v13 v16 v23 v25 r k)

variable (m : (ℓ : Loc nD τ sig) → Buf (Elt Ideal) ℓ) (c : Dev nD)

abbrev A0 : FVec Ideal S1x8192x2048 .f32 := m ((c : Thread nD τ).loc main_arg0)
abbrev A1 : FVec Ideal S1x8192x2048 .f32 := m ((c : Thread nD τ).loc main_arg1)
abbrev A2 : FVec Ideal S1x8192x2048 .f32 := m ((c : Thread nD τ).loc main_arg2)
abbrev A3 : FVec Ideal S1x8192x6144 .f32 := m ((c : Thread nD τ).loc main_arg3)
abbrev A4 : FVec Ideal S4x2048x2048 .f32 := m ((c : Thread nD τ).loc main_arg4)
abbrev A5 : FVec Ideal S4x2048x2048 .f32 := m ((c : Thread nD τ).loc main_arg5)
abbrev A6 : FVec Ideal S4x2048 .f32 := m ((c : Thread nD τ).loc main_arg6)

theorem V0_at (r : Fin 8192) (j : Fin 2048) : V m c main_v0 (ix2 r j) = A0 m c (ix3 0 r j) := by
  unfold V
  after_reads_simp
  have e (x : FVec Ideal S1x8192x2048 .f32) : shapeCast S8192x2048 x shapeCasts_S1x8192x2048_S8192x2048 (ix2 r j) = x (ix3 0 r j) := by pointwise
  exact e _

theorem V2_at (r : Fin 8192) (j : Fin 2048) : V m c main_v2 (ix2 r j) = A1 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

theorem V4_at (r : Fin 8192) (j : Fin 2048) : V m c main_v4 (ix2 r j) = A2 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

theorem V6_at (r : Fin 8192) (j : Fin 6144) : V m c main_v6 (ix2 r j) = A3 m c (ix3 0 r j) := by
  unfold V
  after_reads_simp
  have e (x : FVec Ideal S1x8192x6144 .f32) : truncf .bf16 (shapeCast S8192x6144 x shapeCasts_S1x8192x6144_S8192x6144) bitsLt_bf16_f32 (ix2 r j) = x (ix3 0 r j) := by pointwise
  exact e _

theorem V7_at (i : S4x2048x2048.Idx) : V m c main_v7 i = A4 m c i := by
  unfold V
  after_reads_simp
  rfl

theorem V8_at (i : S4x2048x2048.Idx) : V m c main_v8 i = A5 m c i := by
  unfold V
  after_reads_simp
  rfl

theorem V11_at (j : Fin 2048) : V m c main_v11 (ix2 0 j) = A6 m c (ix2 1 j) := by
  unfold V
  after_reads_simp
  have e (x : FVec Ideal S4x2048 .f32) : shapeCast S1x2048 (shapeCast S2048 (extractStridedSlice S1x2048 ![1, 0] x slices_S4x2048_S1x2048_1_0) shapeCasts_S1x2048_S2048) shapeCasts_S2048_S1x2048 (ix2 0 j) = x (ix2 1 j) := by pointwise
  exact e _

theorem idx : ∀ t : Fin cfg0.N, win0_0.index t = ![t.val, 0] ∧ win0_1.index t = ![t.val, 0] ∧ win0_2.index t = ![t.val, 0]
    ∧ win0_3.index t = ![t.val, 0] ∧ win0_4.index t = ![t.val, 2] ∧ win0_5.index t = ![0, 0, 0] ∧ win0_6.index t = ![0, 0, 0]
    ∧ win0_7.index t = ![0, 0] ∧ win0_8.index t = ![t.val, 0] ∧ win0_9.index t = ![t.val, 0] :=
  (by decide +kernel : ∀ t : Fin grid0.N, _)

abbrev row (t : Fin cfg0.N) (r : Fin 256) : Fin 8192 := ⟨256 * t.val + r.val, by have := lt_of_lt_of_eq t.isLt N_0; omega⟩

theorem X0_at (t : Fin cfg0.N) (r : Fin 256) (j : Fin 2048) : (show Vec Ideal S256x2048 .f32 from iblk m c 0 t) (ix2 r j) = A0 m c (ix3 0 (row t r) j) := by
  rw [← V0_at]
  blk_point [iblk, V, idx t]
theorem X1_at (t : Fin cfg0.N) (r : Fin 256) (j : Fin 2048) : (show Vec Ideal S256x2048 .bf16 from iblk m c 1 t) (ix2 r j) = A1 m c (ix3 0 (row t r) j) := by
  rw [← V2_at]
  blk_point [iblk, V, idx t]
theorem X2_at (t : Fin cfg0.N) (r : Fin 256) (j : Fin 2048) : (show Vec Ideal S256x2048 .bf16 from iblk m c 2 t) (ix2 r j) = A2 m c (ix3 0 (row t r) j) := by
  rw [← V4_at]
  blk_point [iblk, V, idx t]
theorem X3_at (t : Fin cfg0.N) (r : Fin 256) (j : Fin 2048) : (show Vec Ideal S256x2048 .bf16 from iblk m c 3 t) (ix2 r j) = A3 m c (ix3 0 (row t r) ⟨j.val, by omega⟩) := by
  rw [← V6_at]
  blk_point [iblk, V, idx t]
theorem X4_at (t : Fin cfg0.N) (r : Fin 256) (j : Fin 2048) : (show Vec Ideal S256x2048 .bf16 from iblk m c 4 t) (ix2 r j) = A3 m c (ix3 0 (row t r) ⟨4096 + j.val, by omega⟩) := by
  rw [← V6_at]
  blk_point [iblk, V, idx t]
theorem X5_at (t : Fin cfg0.N) (i j : Fin 2048) : (show Vec Ideal S1x2048x2048 .bf16 from iblk m c 5 t) (ix3 0 i j) = A4 m c (ix3 0 i j) := by
  rw [← V7_at]
  blk_point [iblk, V, idx t]
theorem X6_at (t : Fin cfg0.N) (i j : Fin 2048) : (show Vec Ideal S1x2048x2048 .bf16 from iblk m c 6 t) (ix3 0 i j) = A5 m c (ix3 0 i j) := by
  rw [← V8_at]
  blk_point [iblk, V, idx t]
theorem X7_at (t : Fin cfg0.N) (j : Fin 2048) : (show Vec Ideal S1x2048 .f32 from iblk m c 7 t) (ix2 0 j) = A6 m c (ix2 1 j) := by
  rw [← V11_at]
  blk_point [iblk, V, idx t]

/-- The rows after the residual addition, of the arguments. -/
def H (a0 a1 a2 : FVec Ideal S1x8192x2048 .f32) (a3 : FVec Ideal S1x8192x6144 .f32) (a4 a5 : FVec Ideal S4x2048x2048 .f32) (r : Fin 8192) (j : Fin 2048) : EReal :=
  OutP.res (fun k => a0 (ix3 0 r k)) (fun k => a1 (ix3 0 r k)) (fun k => a2 (ix3 0 r k)) (fun k => a3 (ix3 0 r ⟨k.val, by omega⟩))
    (fun k => a3 (ix3 0 r ⟨4096 + k.val, by omega⟩)) (fun i k => a4 (ix3 0 i k)) (fun k j => a5 (ix3 0 k j)) j

/-- The normalised rows, of the arguments. -/
def G (a0 a1 a2 : FVec Ideal S1x8192x2048 .f32) (a3 : FVec Ideal S1x8192x6144 .f32) (a4 a5 : FVec Ideal S4x2048x2048 .f32) (a6 : FVec Ideal S4x2048 .f32)
    (r : Fin 8192) (j : Fin 2048) : EReal :=
  OutP.nrm (H a0 a1 a2 a3 a4 a5 r) (fun j => a6 (ix2 1 j)) j

/-- The rows a block's windows make are the rows of the arguments. -/
theorem rows_eq (t : Fin cfg0.N) (r : Fin 256) :
    OutP.res (fun k => (show Vec Ideal S256x2048 .f32 from iblk m c 0 t) (ix2 r k)) (fun k => (show Vec Ideal S256x2048 .bf16 from iblk m c 1 t) (ix2 r k))
      (fun k => (show Vec Ideal S256x2048 .bf16 from iblk m c 2 t) (ix2 r k)) (fun k => (show Vec Ideal S256x2048 .bf16 from iblk m c 3 t) (ix2 r k))
      (fun k => (show Vec Ideal S256x2048 .bf16 from iblk m c 4 t) (ix2 r k)) (fun i k => (show Vec Ideal S1x2048x2048 .bf16 from iblk m c 5 t) (ix3 0 i k))
      (fun k j => (show Vec Ideal S1x2048x2048 .bf16 from iblk m c 6 t) (ix3 0 k j))
      = H (A0 m c) (A1 m c) (A2 m c) (A3 m c) (A4 m c) (A5 m c) (row t r) := by
  have h0' := funext fun k => X0_at m c t r k
  have h1' := funext fun k => X1_at m c t r k
  have h2' := funext fun k => X2_at m c t r k
  have h3' := funext fun k => X3_at m c t r k
  have h4' := funext fun k => X4_at m c t r k
  have h5' := funext fun i => funext fun k => X5_at m c t i k
  have h6' := funext fun i => funext fun k => X6_at m c t i k
  exact congr (congr (congr (congr (congr (congr (congrArg OutP.res h0') h1') h2') h3') h4') h5') h6'

/-- A block of the rows. -/
theorem point_row (t : Fin cfg0.N) (r : Fin 256) (j : Fin 2048) :
    (show EReal from k0_pay2 (iblk m c 2 t) (iblk m c 3 t) (iblk m c 5 t) (iblk m c 1 t) (iblk m c 4 t) (iblk m c 0 t) (iblk m c 6 t) (ix2 r j))
      = H (A0 m c) (A1 m c) (A2 m c) (A3 m c) (A4 m c) (A5 m c) (row t r) j :=
  (pay2_at _ _ _ _ _ _ _ r j).trans (congrFun (rows_eq m c t r) j)

/-- A block of the normalised rows. -/
theorem point (t : Fin cfg0.N) (r : Fin 256) (j : Fin 2048) :
    (show EReal from k0_pay1 (k0_pay2 (iblk m c 2 t) (iblk m c 3 t) (iblk m c 5 t) (iblk m c 1 t) (iblk m c 4 t) (iblk m c 0 t) (iblk m c 6 t))
      (k0_pay3 (iblk m c 2 t) (iblk m c 3 t) (iblk m c 5 t) (iblk m c 1 t) (iblk m c 4 t) (iblk m c 0 t) (iblk m c 6 t)) (iblk m c 7 t) (ix2 r j))
      = G (A0 m c) (A1 m c) (A2 m c) (A3 m c) (A4 m c) (A5 m c) (A6 m c) (row t r) j := by
  refine (pay1_at _ _ _ _ _ _ _ _ r j).trans ?_
  unfold G
  exact congrArg₂ (fun a b => OutP.nrm a b j) (rows_eq m c t r) (funext fun k => X7_at m c t k)

/-- The kernel's two result arrays. -/
theorem final_row : (dats m 0 c).arrAt 8 (cfgs 0).N = (fun i => H (A0 m c) (A1 m c) (A2 m c) (A3 m c) (A4 m c) (A5 m c) (i 0) (i 1) : FVec Ideal S8192x2048 .f32) := by
  refine (dats m 0 c).arrAt_eq_of_covers 8 _ (by decide +kernel) fun t _ y => ?_
  blk_simp
  rw [after0_8]; unfold out0_8 k0_pay4; frame_out
  refine (congrArg _ (ix2_eta y).symm).trans ((point_row m c t (y 0) (y 1)).trans ?_)
  refine congrArg₂ (H _ _ _ _ _ _) (Fin.ext ?_) (Fin.ext ?_) <;> blk_simp [idx t] <;> idx_bounds <;> simp [row] <;> omega

theorem final : (dats m 0 c).arrAt 9 (cfgs 0).N = (fun i => G (A0 m c) (A1 m c) (A2 m c) (A3 m c) (A4 m c) (A5 m c) (A6 m c) (i 0) (i 1) : FVec Ideal S8192x2048 .bf16) := by
  refine (dats m 0 c).arrAt_eq_of_covers 9 _ (by decide +kernel) fun t _ y => ?_
  blk_simp
  rw [after0_9]; unfold out0_9 k0_pay4; frame_out
  refine (congrArg _ (ix2_eta y).symm).trans ((point m c t (y 0) (y 1)).trans ?_)
  refine congrArg₂ (G _ _ _ _ _ _ _) (Fin.ext ?_) (Fin.ext ?_) <;> blk_simp [idx t] <;> idx_bounds <;> simp [row] <;> omega

end Cert.Kernel6Ideal.Side

end
-- ==== Proof.MidRef.lean ====
module

public import proofs.«01_k».proof.Proof.MidKernel
public import proofs.«01_k».proof.Proof.Gen.Reference6Ideal.Run
public import proofs.«01_k».proof.Proof.Gen.Reference6Ideal
public import proofs.«01_k».proof.Defs
public import Idealize.ShloMosaic.Lib.Quiescent

/-! The reference of the output projection in a layer before the last, entry by entry, and its equality with the kernel's results. -/

@[expose] public section

set_option maxRecDepth 16384

noncomputable section

namespace Cert.Reference6Ideal.Side

open Idealize.ShloMosaic Idealize.ShloMosaic.TcCoe Idealize.SL.Sem Idealize.ShloMosaic.StableHlo
open Cert.Reference6Ideal Cert.Reference6Ideal.Gen Cert.Reference6Ideal.Value

theorem one_word : (Ideal.ofBits .f32 0x3F800000#32 : EReal) = 1 := Ideal.ofBits_one_f32

/-- The quotient that spells the logistic function. -/
theorem lg_at (z : FVec Ideal S1x8192x2048 .f32) (i : S1x8192x2048.Idx) :
    (show EReal from Host.divf (broadcastInDim S1x8192x2048 ![] bcast_S_S1x8192x2048 (constant S_ .f32 0x3F800000#32))
      (addf (broadcastInDim S1x8192x2048 ![] bcast_S_S1x8192x2048 (constant S_ .f32 0x3F800000#32)) (Host.exp (Host.negf z))) i)
    = Ideal.logistic (z i) := by
  show Ideal.div (Ideal.ofBits .f32 0x3F800000#32) (Ideal.ofBits .f32 0x3F800000#32 + Ideal.exp (-(z i))) = _
  rw [one_word]; rfl

/-- The merged mixers. -/
abbrev mixR (a1 a2 : FVec Ideal S1x8192x2048 .f32) (a3 : FVec Ideal S1x8192x6144 .f32) (a4 : FVec Ideal S4x2048x2048 .f32) (lz lg : FVec Ideal S1x8192x2048 .f32) :
    FVec Ideal S1x8192x2048 .f32 :=
  addf a1 (mulf lg (Host.dotGeneral dot_S1x8192x2048_S2048x2048_S1x8192x2048_2_0_01_1_n_n none
    (mulf a2 (mulf (extractStridedSlice S1x8192x2048 ![0, 0, 0] a3 slices_S1x8192x6144_S1x8192x2048_0_0_0) lz))
    (shapeCast S2048x2048 (extractStridedSlice S1x2048x2048 ![0, 0, 0] a4 slices_S4x2048x2048_S1x2048x2048_0_0_0) shapeCasts_S1x2048x2048_S2048x2048)))

theorem mixR_at (a1 a2 : FVec Ideal S1x8192x2048 .f32) (a3 : FVec Ideal S1x8192x6144 .f32) (a4 : FVec Ideal S4x2048x2048 .f32) (lz lg : FVec Ideal S1x8192x2048 .f32)
    (r : Fin 8192) (hz : ∀ k : Fin 2048, (lz (ix3 0 r k) : EReal) = Ideal.logistic (a3 (ix3 0 r ⟨k.val, by omega⟩)))
    (hg : ∀ k : Fin 2048, (lg (ix3 0 r k) : EReal) = Ideal.logistic (a3 (ix3 0 r ⟨4096 + k.val, by omega⟩))) (k : Fin 2048) :
    (show EReal from mixR a1 a2 a3 a4 lz lg (ix3 0 r k))
      = OutP.mix (fun k => a1 (ix3 0 r k)) (fun k => a2 (ix3 0 r k)) (fun k => a3 (ix3 0 r ⟨k.val, by omega⟩))
        (fun k => a3 (ix3 0 r ⟨4096 + k.val, by omega⟩)) (fun i k => a4 (ix3 0 i k)) k := by
  have e : (show EReal from mixR a1 a2 a3 a4 lz lg (ix3 0 r k)) = (a1 (ix3 0 r k) : EReal) + (lg (ix3 0 r k) : EReal) * ∑ i : Fin 2048,
      (a2 (ix3 0 r i) : EReal) * ((a3 (ix3 0 r ⟨i.val, by omega⟩) : EReal) * lz (ix3 0 r i)) * a4 (ix3 0 i k) := by
    pointwise
  rw [e, hg]
  exact congrArg (fun z : EReal => _ + _ * z) (Finset.sum_congr rfl fun i _ => by rw [hz])

/-- The rows after the residual addition. -/
abbrev resR (a0 y : FVec Ideal S1x8192x2048 .f32) (a5 : FVec Ideal S4x2048x2048 .f32) : FVec Ideal S1x8192x2048 .f32 :=
  addf a0 (Host.dotGeneral dot_S1x8192x2048_S2048x2048_S1x8192x2048_2_0_01_1_n_n none y
    (shapeCast S2048x2048 (extractStridedSlice S1x2048x2048 ![0, 0, 0] a5 slices_S4x2048x2048_S1x2048x2048_0_0_0) shapeCasts_S1x2048x2048_S2048x2048))

theorem resR_at (a0 y : FVec Ideal S1x8192x2048 .f32) (a5 : FVec Ideal S4x2048x2048 .f32) (r : Fin 8192) (j : Fin 2048) :
    (show EReal from resR a0 y a5 (ix3 0 r j)) = (a0 (ix3 0 r j) : EReal) + ∑ k : Fin 2048, (y (ix3 0 r k) : EReal) * a5 (ix3 0 k j) := by
  pointwise

/-- The next layer's norm. -/
abbrev nrmR (x : FVec Ideal S1x8192x2048 .f32) (a6 : FVec Ideal S4x2048 .f32) : FVec Ideal S8192x2048 .bf16 :=
  truncf .bf16 (shapeCast S8192x2048 (mulf (mulf x (broadcastInDim S1x8192x2048 ![0, 1, 2] bcast_S1x8192x1_S1x8192x2048_0_1_2
      (Host.rsqrt (addf (Host.divf (broadcastInDim S1x8192x1 ![0, 1] bcast_S1x8192_S1x8192x1_0_1
          (Host.reduceAdd (mulf x x) (constant S_ .f32 0x00000000#32) reducesTo_S1x8192x2048_S1x8192_d2 h_S_))
        (broadcastInDim S1x8192x1 ![] bcast_S_S1x8192x1 (constant S_ .f32 0x45000000#32)))
        (broadcastInDim S1x8192x1 ![] bcast_S_S1x8192x1 (constant S_ .f32 0x358637BD#32))))))
      (broadcastInDim S1x8192x2048 ![0, 1, 2] bcast_S1x1x2048_S1x8192x2048_0_1_2 (broadcastInDim S1x1x2048 ![2] bcast_S2048_S1x1x2048_2
        (shapeCast S2048 (extractStridedSlice S1x2048 ![1, 0] a6 slices_S4x2048_S1x2048_1_0) shapeCasts_S1x2048_S2048))))
    shapeCasts_S1x8192x2048_S8192x2048) bitsLt_bf16_f32

theorem nrmR_at (x : FVec Ideal S1x8192x2048 .f32) (a6 : FVec Ideal S4x2048 .f32) (r : Fin 8192) (j : Fin 2048) :
    (show EReal from nrmR x a6 (ix2 r j)) = OutP.nrm (fun k => x (ix3 0 r k)) (fun j => a6 (ix2 1 j)) j := by
  pointwise [OutP.nrm]

variable (m : (ℓ : Loc nD τ sig) → Buf (Elt Ideal) ℓ) (c : Dev nD)

abbrev A0 : FVec Ideal S1x8192x2048 .f32 := m ((c : Thread nD τ).loc main_arg0)
abbrev A1 : FVec Ideal S1x8192x2048 .f32 := m ((c : Thread nD τ).loc main_arg1)
abbrev A2 : FVec Ideal S1x8192x2048 .f32 := m ((c : Thread nD τ).loc main_arg2)
abbrev A3 : FVec Ideal S1x8192x6144 .f32 := m ((c : Thread nD τ).loc main_arg3)
abbrev A4 : FVec Ideal S4x2048x2048 .f32 := m ((c : Thread nD τ).loc main_arg4)
abbrev A5 : FVec Ideal S4x2048x2048 .f32 := m ((c : Thread nD τ).loc main_arg5)
abbrev A6 : FVec Ideal S4x2048 .f32 := m ((c : Thread nD τ).loc main_arg6)

/-- The quotient that spells the logistic function, as an array. -/
abbrev lgR (z : FVec Ideal S1x8192x2048 .f32) : FVec Ideal S1x8192x2048 .f32 :=
  Host.divf (broadcastInDim S1x8192x2048 ![] bcast_S_S1x8192x2048 (constant S_ .f32 0x3F800000#32))
      (addf (broadcastInDim S1x8192x2048 ![] bcast_S_S1x8192x2048 (constant S_ .f32 0x3F800000#32)) (Host.exp (Host.negf z)))

/-- The rows after the residual addition, of the arguments. -/
abbrev rows : FVec Ideal S1x8192x2048 .f32 := resR (A0 m c) (mixR (A1 m c) (A2 m c) (A3 m c) (A4 m c)
    (lgR (extractStridedSlice S1x8192x2048 ![0, 0, 0] (A3 m c) slices_S1x8192x6144_S1x8192x2048_0_0_0))
    (lgR (extractStridedSlice S1x8192x2048 ![0, 0, 4096] (A3 m c) slices_S1x8192x6144_S1x8192x2048_0_0_4096))) (A5 m c)

/-- The two results. -/
abbrev res0 : FVec Ideal S8192x2048 .f32 := shapeCast S8192x2048 (rows m c) shapeCasts_S1x8192x2048_S8192x2048
abbrev res1 : FVec Ideal S8192x2048 .bf16 := nrmR (rows m c) (A6 m c)

theorem res_eq : res_main_v37 m c = res1 m c := by
  unfold res_main_v37
  rfl

theorem rows_at (r : Fin 8192) (j : Fin 2048) :
    (show EReal from rows m c (ix3 0 r j)) = Cert.Kernel6Ideal.Side.H (A0 m c) (A1 m c) (A2 m c) (A3 m c) (A4 m c) (A5 m c) r j := by
  refine (resR_at _ _ _ r j).trans ?_
  unfold Cert.Kernel6Ideal.Side.H OutP.res
  refine congrArg (fun z : EReal => _ + z) (Finset.sum_congr rfl fun i _ => congrArg (fun z : EReal => z * _) ?_)
  refine mixR_at _ _ _ _ _ _ r (fun k => (lg_at _ _).trans (congrArg Ideal.logistic ?_)) (fun k => (lg_at _ _).trans (congrArg Ideal.logistic ?_)) i
  · pointwise
  · pointwise

/-- The results, entry by entry. -/
theorem R0_at (r : Fin 8192) (j : Fin 2048) :
    (show EReal from res0 m c (ix2 r j)) = Cert.Kernel6Ideal.Side.H (A0 m c) (A1 m c) (A2 m c) (A3 m c) (A4 m c) (A5 m c) r j := by
  have e (x : FVec Ideal S1x8192x2048 .f32) : shapeCast S8192x2048 x shapeCasts_S1x8192x2048_S8192x2048 (ix2 r j) = x (ix3 0 r j) := by pointwise
  exact (e _).trans (rows_at m c r j)

theorem R1_at (r : Fin 8192) (j : Fin 2048) :
    (show EReal from res1 m c (ix2 r j)) = Cert.Kernel6Ideal.Side.G (A0 m c) (A1 m c) (A2 m c) (A3 m c) (A4 m c) (A5 m c) (A6 m c) r j := by
  refine (nrmR_at _ _ r j).trans ?_
  unfold Cert.Kernel6Ideal.Side.G
  exact congrArg (fun z => OutP.nrm z _ j) (funext fun k => rows_at m c r k)

/-- The reference runs to its result, its arguments unchanged and its semaphores at zero. -/
theorem run_all (ρ : Dev nD → PrngReg) : θ_run (defs (F := Ideal)) (onTc (τ := τ) (main (F := Ideal))) ⟨m, fun _ => 0, ρ⟩ fun r =>
    (∀ c : Dev nD, r.2.mem ((c.tc : Thread nD τ).loc main_v35) = res0 m c
      ∧ r.2.mem ((c.tc : Thread nD τ).loc main_v37) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  (θ_run _ _ _).mono (fun _ h => ⟨fun c => ⟨(h c).1, (h c).2.1.trans (res_eq m c), (h c).2.2⟩, sem_eq_zero_of_no_sems (show sig.nSem + sig.nDmaSem = 0 by decide) _⟩) (run m ρ)

end Cert.Reference6Ideal.Side

namespace Cert.MidEq

open Idealize.ShloMosaic Idealize.ShloMosaic.TcCoe Idealize.SL.Sem

/-- From memories that agree on the arguments, the two programs' results are the same array. -/
theorem result_eq (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD) (c' : Dev Cert.Reference6Ideal.nD)
    (h0 : Cert.Reference6Ideal.Side.A0 m' c' = Cert.Kernel6Ideal.Side.A0 m c) (h1 : Cert.Reference6Ideal.Side.A1 m' c' = Cert.Kernel6Ideal.Side.A1 m c)
    (h2 : Cert.Reference6Ideal.Side.A2 m' c' = Cert.Kernel6Ideal.Side.A2 m c) (h3 : Cert.Reference6Ideal.Side.A3 m' c' = Cert.Kernel6Ideal.Side.A3 m c)
    (h4 : Cert.Reference6Ideal.Side.A4 m' c' = Cert.Kernel6Ideal.Side.A4 m c) (h5 : Cert.Reference6Ideal.Side.A5 m' c' = Cert.Kernel6Ideal.Side.A5 m c)
    (h6 : Cert.Reference6Ideal.Side.A6 m' c' = Cert.Kernel6Ideal.Side.A6 m c) :
    (Cert.Reference6Ideal.Side.res0 m' c' : FVec Ideal Cert.Reference6Ideal.S8192x2048 .f32) = (Cert.Kernel6Ideal.Gen.dats m 0 c).arrAt 8 (Cert.Kernel6Ideal.cfgs 0).N
    ∧ (Cert.Reference6Ideal.Side.res1 m' c' : FVec Ideal Cert.Reference6Ideal.S8192x2048 .bf16) = (Cert.Kernel6Ideal.Gen.dats m 0 c).arrAt 9 (Cert.Kernel6Ideal.cfgs 0).N := by
  constructor
  · rw [Cert.Kernel6Ideal.Side.final_row]
    funext i
    refine (congrArg _ (ix2_eta i).symm).trans ((Cert.Reference6Ideal.Side.R0_at m' c' (i 0) (i 1)).trans ?_)
    rw [h0, h1, h2, h3, h4, h5]
  · rw [Cert.Kernel6Ideal.Side.final]
    funext i
    refine (congrArg _ (ix2_eta i).symm).trans ((Cert.Reference6Ideal.Side.R1_at m' c' (i 0) (i 1)).trans ?_)
    rw [h0, h1, h2, h3, h4, h5, h6]

/-- The output projection of a layer before the last: the kernel and the reference end with the same results. -/
theorem algebraic : Cert.algebraic_Kernel6Ideal_Reference6Ideal (hKernel6Ideal := Cert.Kernel6Ideal.Gen.facts) (hReference6Ideal := Cert.Reference6Ideal.Gen.facts) := by
  intro m g m' g' _ hA
  refine ⟨fun c => (Cert.Kernel6Ideal.Gen.dats m 0 c).arrAt 8 (Cert.Kernel6Ideal.cfgs 0).N, fun c => (Cert.Kernel6Ideal.Gen.dats m 0 c).arrAt 9 (Cert.Kernel6Ideal.cfgs 0).N,
    Cert.Kernel6Ideal.Value.run_blocks m g, ?_⟩
  refine (θ_run _ _ _).mono (fun r h c => ?_) (Cert.Reference6Ideal.Side.run_all m' g')
  obtain ⟨h0, h1, h2, h3, h4, h5, h6⟩ := hA c
  have e := result_eq m m' c c h0 h1 h2 h3 h4 h5 h6
  exact ⟨(h.1 c).1.trans e.1, (h.1 c).2.1.trans e.2, (h.1 c).2.2⟩

end Cert.MidEq

end
-- ==== Proof.MergeKernel.lean ====
module

public import proofs.«01_k».proof.Proof.Gen.Kernel7Ideal.Value
public import Idealize.ShloMosaic.Lib.Pipeline.ValueKit
public import Idealize.ShloMosaic.Lib.StableHlo.RunRead
public import Idealize.ShloMosaic.Lib.WritesUnit

/-! What the gated merge's kernel leaves in its result. -/

@[expose] public section

set_option maxRecDepth 16384

noncomputable section

namespace Cert.Kernel7Ideal.Side

open Idealize.ShloMosaic Idealize.ShloMosaic.TcCoe Idealize.SL.Sem Idealize.ShloMosaic.StableHlo
open Idealize.ShloMosaic.Pipeline (Dat)
open Cert.Kernel7Ideal Cert.Kernel7Ideal.Gen

/-- The gated and modulated sum of the three branches at an entry: `g0`, `g1`, `g2` are the branches' gates, `z` the modulation. -/
def un (g0 g1 g2 a b d z : EReal) : EReal :=
  (Ideal.logistic g0 * a + Ideal.logistic g1 * b + Ideal.logistic g2 * d) * (z * Ideal.logistic z)

/-- The merged rows of a block. -/
def U (x0 x1 x2 : Vec Ideal S512x2048 .bf16) (x3 : Vec Ideal S512x128 .bf16) (x4 : Vec Ideal S512x2048 .bf16) (r : Fin 512) (j : Fin 2048) : EReal :=
  un (x3 (ix2 r ⟨3 * (j.val / 128), by omega⟩)) (x3 (ix2 r ⟨3 * (j.val / 128) + 1, by omega⟩)) (x3 (ix2 r ⟨3 * (j.val / 128) + 2, by omega⟩))
    (x0 (ix2 r j)) (x1 (ix2 r j)) (x2 (ix2 r j)) (x4 (ix2 r j))

/-- One more head's columns in half `s` of the buffer. -/
theorem step (v : View sig .tc .vmem S2x512x2048 .bf16) (f : v.ty.Contents (Elt Ideal)) (s : Fin 2) (o : ℕ) (ho : o + 128 ≤ 2048) {off : Fin 3 → ℕ}
    (inb : ∀ a, off a + (![1, 512, 128] : Fin 3 → ℕ) a ≤ S2x512x2048.size a)
    (w : FVec Ideal S1x512x128 .bf16) (L : List (View.Piece (Elt Ideal) S2x512x2048 .bf16)) (W : Fin 512 → Fin 2048 → EReal) (heq : off = ![s.val, 0, o])
    (hL : ∀ r j, j.val < o → (show EReal from v.read (Elt Ideal) (v.writes (Elt Ideal) f L) (ix3 s r j)) = W r j)
    (hw : ∀ (r : Fin 512) (d : Fin 128), (show EReal from w (ix3 0 r d)) = W r ⟨o + d.val, by omega⟩) :
    ∀ r j, j.val < o + 128 →
      (show EReal from v.read (Elt Ideal) (v.writes (Elt Ideal) f ((⟨Rect.unit (s := S2x512x2048) off ![1, 512, 128] inb, w⟩ : View.Piece (Elt Ideal) S2x512x2048 .bf16) :: L)) (ix3 s r j)) = W r j := by
  intro r j hj
  by_cases h : j.val < o
  · refine Eq.trans ?_ (hL r j h)
    exact View.read_writes_cons_unit_of_not_mem v f inb w L (ix3 s r j) heq (2 : Fin 3) (Or.inl h)
  · refine (View.read_writes_cons_unit_of_mem v f inb w L (ix3 s r j) (ix3 0 r (⟨j.val - o, by omega⟩ : Fin 128)) heq ?_).trans ?_
    · intro a
      match a with
      | ⟨0, _⟩ => rfl
      | ⟨1, _⟩ => exact (Nat.zero_add _).symm
      | ⟨2, _⟩ => show j.val = o + (j.val - o); omega
    · refine (hw r ⟨j.val - o, by omega⟩).trans (congrArg (W r) (Fin.ext ?_))
      show o + (j.val - o) = j.val
      omega

theorem U_head (x0 x1 x2 : Vec Ideal S512x2048 .bf16) (x3 : Vec Ideal S512x128 .bf16) (x4 : Vec Ideal S512x2048 .bf16) (k : ℕ) (hk : k < 16) (r : Fin 512) (d : Fin 128) :
    U x0 x1 x2 x3 x4 r ⟨128 * k + d.val, by omega⟩ = un (x3 (ix2 r ⟨3 * k, by omega⟩)) (x3 (ix2 r ⟨3 * k + 1, by omega⟩)) (x3 (ix2 r ⟨3 * k + 2, by omega⟩))
      (x0 (ix2 r ⟨128 * k + d.val, by omega⟩)) (x1 (ix2 r ⟨128 * k + d.val, by omega⟩)) (x2 (ix2 r ⟨128 * k + d.val, by omega⟩)) (x4 (ix2 r ⟨128 * k + d.val, by omega⟩)) := by
  have e : (128 * k + d.val) / 128 = k := by omega
  unfold U
  simp only [e]

/-- The product with the second half's rows, or the first's. -/
theorem pay5_at (xs : Vec Ideal S2x512x2048 .bf16) (x6 : Vec Ideal S1x2048x2048 .bf16) (x5 : Vec Ideal S512x2048 .bf16) (r : Fin 512) (j : Fin 2048) :
    (show EReal from k0_pay5 (View.ld xs (Rect.unit ![0, 0, 0] ![1, 512, 2048] inb_S2x512x2048_S1x512x2048_0_0_0)) x6 x5 (ix2 r j))
      = Ideal.logistic (x5 (ix2 r j)) * ∑ k : Fin 2048, (xs (ix3 0 r k) : EReal) * x6 (ix3 0 k j) := by
  pointwise [k0_pay5]

theorem pay3_at (xs : Vec Ideal S2x512x2048 .bf16) (x6 : Vec Ideal S1x2048x2048 .bf16) (x5 : Vec Ideal S512x2048 .bf16) (r : Fin 512) (j : Fin 2048) :
    (show EReal from k0_pay3 (View.ld xs (Rect.unit ![1, 0, 0] ![1, 512, 2048] inb_S2x512x2048_S1x512x2048_1_0_0)) x6 x5 (ix2 r j))
      = Ideal.logistic (x5 (ix2 r j)) * ∑ k : Fin 2048, (xs (ix3 1 r k) : EReal) * x6 (ix3 0 k j) := by
  pointwise [k0_pay3]

variable (m : (ℓ : Loc nD τ sig) → Buf (Elt Ideal) ℓ) (c : Dev nD)

abbrev A0 : FVec Ideal S1x8192x2048 .f32 := m ((c : Thread nD τ).loc main_arg0)
abbrev A1 : FVec Ideal S1x8192x2048 .f32 := m ((c : Thread nD τ).loc main_arg1)
abbrev A2 : FVec Ideal S1x8192x2048 .f32 := m ((c : Thread nD τ).loc main_arg2)
abbrev A3 : FVec Ideal S1x8192x48 .f32 := m ((c : Thread nD τ).loc main_arg3)
abbrev A4 : FVec Ideal S1x8192x6144 .f32 := m ((c : Thread nD τ).loc main_arg4)
abbrev A5 : FVec Ideal S1x8192x6144 .f32 := m ((c : Thread nD τ).loc main_arg5)
abbrev A6 : FVec Ideal S4x2048x2048 .f32 := m ((c : Thread nD τ).loc main_arg6)

theorem sitofp_zero : (FloatOps.sitofp (F := Ideal) .f32 (0#32 : BitVec 32) : EReal) = 0 := by
  show (((0#32 : BitVec 32).toInt : ℝ) : EReal) = 0
  simp

theorem V4_at (r : Fin 8192) (j : Fin 2048) : V m c main_v4 (ix2 r j) = A0 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

theorem V6_at (r : Fin 8192) (j : Fin 2048) : V m c main_v6 (ix2 r j) = A1 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

theorem V8_at (r : Fin 8192) (j : Fin 2048) : V m c main_v8 (ix2 r j) = A2 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

/-- The branch gates, padded by zeros. -/
theorem V2_at (r : Fin 8192) (j : Fin 128) : (show EReal from V m c main_v2 (ix2 r j)) = if h : j.val < 48 then A3 m c (ix3 0 r ⟨j.val, h⟩) else 0 := by
  unfold V
  after_reads_simp
  have e (x : FVec Ideal S1x8192x48 .f32) : truncf .bf16 (pad S8192x128 ![0, 0] ![0, 80] ![0, 0] (shapeCast S8192x48 x shapeCasts_S1x8192x48_S8192x48)
      (sitofp .f32 (constantI S_ 32 0#32) : FVec Ideal S_ .f32) pads_S8192x48_S8192x128_000_0800 h_S_) bitsLt_bf16_f32 (ix2 r j)
      = if h : j.val < 48 then x (ix3 0 r ⟨j.val, h⟩) else (0 : EReal) := by
    pointwise
    rw [sitofp_zero]
  exact e _

theorem V10_at (r : Fin 8192) (j : Fin 6144) : V m c main_v10 (ix2 r j) = A4 m c (ix3 0 r j) := by
  unfold V
  after_reads_simp
  have e (x : FVec Ideal S1x8192x6144 .f32) : truncf .bf16 (shapeCast S8192x6144 x shapeCasts_S1x8192x6144_S8192x6144) bitsLt_bf16_f32 (ix2 r j) = x (ix3 0 r j) := by pointwise
  exact e _

theorem V12_at (r : Fin 8192) (j : Fin 6144) : V m c main_v12 (ix2 r j) = A5 m c (ix3 0 r j) := by
  unfold V
  after_reads_simp
  have e (x : FVec Ideal S1x8192x6144 .f32) : truncf .bf16 (shapeCast S8192x6144 x shapeCasts_S1x8192x6144_S8192x6144) bitsLt_bf16_f32 (ix2 r j) = x (ix3 0 r j) := by pointwise
  exact e _

theorem V13_at (l : Fin 4) (j : Fin 2048) (k : Fin 2048) : V m c main_v13 (ix3 l j k) = A6 m c (ix3 l j k) := by
  unfold V
  after_reads_simp
  have e (x : FVec Ideal S4x2048x2048 .f32) : truncf .bf16 x bitsLt_bf16_f32 (ix3 l j k) = x (ix3 l j k) := by pointwise
  exact e _

theorem idx : ∀ t : Fin cfg0.N, win0_0.index t = ![min t.val 15, 0] ∧ win0_1.index t = ![min t.val 15, 0] ∧ win0_2.index t = ![min t.val 15, 0]
    ∧ win0_3.index t = ![min t.val 15, 0] ∧ win0_4.index t = ![min t.val 15, 0] ∧ win0_5.index t = ![t.val - 1, 1] ∧ win0_6.index t = ![0, 0, 0]
    ∧ win0_7.index t = ![t.val - 1, 0] :=
  (by decide +kernel : ∀ t : Fin grid0.N, _)

/-- The row of the arrays that row `r` of a point's block is. -/
abbrev row (n : ℕ) (r : Fin 512) : Fin 8192 := ⟨512 * min n 15 + r.val, by omega⟩
abbrev prow (n : ℕ) (hn : n < 17) (r : Fin 512) : Fin 8192 := ⟨512 * (n - 1) + r.val, by omega⟩

theorem X0_at (t : Fin cfg0.N) (r : Fin 512) (j : Fin 2048) : (show Vec Ideal S512x2048 .bf16 from iblk m c 0 t) (ix2 r j) = A0 m c (ix3 0 (row t.val r) j) := by
  rw [← V4_at]
  blk_point [iblk, V, idx t]

theorem X1_at (t : Fin cfg0.N) (r : Fin 512) (j : Fin 2048) : (show Vec Ideal S512x2048 .bf16 from iblk m c 1 t) (ix2 r j) = A1 m c (ix3 0 (row t.val r) j) := by
  rw [← V6_at]
  blk_point [iblk, V, idx t]

theorem X2_at (t : Fin cfg0.N) (r : Fin 512) (j : Fin 2048) : (show Vec Ideal S512x2048 .bf16 from iblk m c 2 t) (ix2 r j) = A2 m c (ix3 0 (row t.val r) j) := by
  rw [← V8_at]
  blk_point [iblk, V, idx t]

theorem X3_at (t : Fin cfg0.N) (r : Fin 512) (j : Fin 128) (hj : j.val < 48) : (show Vec Ideal S512x128 .bf16 from iblk m c 3 t) (ix2 r j) = A3 m c (ix3 0 (row t.val r) ⟨j.val, hj⟩) := by
  refine Eq.trans ?_ ((V2_at m c (row t.val r) j).trans (dif_pos hj))
  blk_point [iblk, V, idx t]

theorem X4_at (t : Fin cfg0.N) (r : Fin 512) (j : Fin 2048) : (show Vec Ideal S512x2048 .bf16 from iblk m c 4 t) (ix2 r j) = A4 m c (ix3 0 (row t.val r) ⟨j.val, by omega⟩) := by
  rw [← V10_at]
  blk_point [iblk, V, idx t]

theorem X5_at (t : Fin cfg0.N) (r : Fin 512) (j : Fin 2048) : (show Vec Ideal S512x2048 .bf16 from iblk m c 5 t) (ix2 r j)
    = A5 m c (ix3 0 (prow t.val (lt_of_lt_of_eq t.isLt N_0) r) ⟨2048 + j.val, by omega⟩) := by
  rw [← V12_at]
  blk_point [iblk, V, idx t]

theorem X6_at (t : Fin cfg0.N) (k j : Fin 2048) : (show Vec Ideal S1x2048x2048 .bf16 from iblk m c 6 t) (ix3 0 k j) = A6 m c (ix3 0 k j) := by
  rw [← V13_at]
  blk_point [iblk, V, idx t]

section cases
variable (i : grid0.Coords) (arg1 : Memref sig .tc .vmem S512x2048 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x128 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048x2048 .bf16) (harg7 : arg7.IsWhole) (arg8 : Memref sig .tc .vmem S512x2048 .bf16) (harg8 : arg8.IsWhole) (arg9 : Memref sig .tc .vmem S2x512x2048 .bf16) (harg9 : arg9.IsWhole)
  (x0 x1 x2 : Vec Ideal S512x2048 .bf16) (x3 : Vec Ideal S512x128 .bf16) (x4 x5 : Vec Ideal S512x2048 .bf16) (x6 : Vec Ideal S1x2048x2048 .bf16) (xs : Vec Ideal S2x512x2048 .bf16)

theorem scA (hc0 : cond0_0 i) (hc1 : cond0_1 i) (hc2 : ¬cond0_2 i) (r : Fin 512) (j : Fin 2048) : (show EReal from sout0_A_0 c i arg1 harg1 arg2 harg2 arg3 harg3 arg4 harg4 arg5 harg5 arg6 harg6 arg7 harg7 arg8 harg8 arg9 harg9 hc0 hc1 hc2 x0 x1 x2 x3 x4 x5 x6 (ix3 0 r j)) = U x0 x1 x2 x3 x4 r j := by
  unfold sout0_A_0
  frame_out
  rw [← View.read_writes_junk_eq_canon arg9.view]
  refine step arg9.view _ 0 1920 (by decide) _ _ _ _ rfl ?_ ?w15 r j ?lt
  refine step arg9.view _ 0 1792 (by decide) _ _ _ _ rfl ?_ ?w14
  refine step arg9.view _ 0 1664 (by decide) _ _ _ _ rfl ?_ ?w13
  refine step arg9.view _ 0 1536 (by decide) _ _ _ _ rfl ?_ ?w12
  refine step arg9.view _ 0 1408 (by decide) _ _ _ _ rfl ?_ ?w11
  refine step arg9.view _ 0 1280 (by decide) _ _ _ _ rfl ?_ ?w10
  refine step arg9.view _ 0 1152 (by decide) _ _ _ _ rfl ?_ ?w9
  refine step arg9.view _ 0 1024 (by decide) _ _ _ _ rfl ?_ ?w8
  refine step arg9.view _ 0 896 (by decide) _ _ _ _ rfl ?_ ?w7
  refine step arg9.view _ 0 768 (by decide) _ _ _ _ rfl ?_ ?w6
  refine step arg9.view _ 0 640 (by decide) _ _ _ _ rfl ?_ ?w5
  refine step arg9.view _ 0 512 (by decide) _ _ _ _ rfl ?_ ?w4
  refine step arg9.view _ 0 384 (by decide) _ _ _ _ rfl ?_ ?w3
  refine step arg9.view _ 0 256 (by decide) _ _ _ _ rfl ?_ ?w2
  refine step arg9.view _ 0 128 (by decide) _ _ _ _ rfl ?_ ?w1
  refine step arg9.view _ 0 0 (by decide) _ _ _ _ rfl ?_ ?w0
  · exact fun r j h => absurd h (Nat.not_lt_zero _)
  case lt => exact j.isLt
  case w0 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 0 (by decide) r d).symm
  case w1 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 1 (by decide) r d).symm
  case w2 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 2 (by decide) r d).symm
  case w3 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 3 (by decide) r d).symm
  case w4 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 4 (by decide) r d).symm
  case w5 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 5 (by decide) r d).symm
  case w6 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 6 (by decide) r d).symm
  case w7 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 7 (by decide) r d).symm
  case w8 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 8 (by decide) r d).symm
  case w9 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 9 (by decide) r d).symm
  case w10 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 10 (by decide) r d).symm
  case w11 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 11 (by decide) r d).symm
  case w12 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 12 (by decide) r d).symm
  case w13 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 13 (by decide) r d).symm
  case w14 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 14 (by decide) r d).symm
  case w15 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 15 (by decide) r d).symm

theorem scB (hc0 : ¬cond0_0 i) (hc1 : ¬cond0_1 i) (hc2 : cond0_2 i) (r : Fin 512) (j : Fin 2048) : (show EReal from sout0_B_0 c i arg1 harg1 arg2 harg2 arg3 harg3 arg4 harg4 arg5 harg5 arg6 harg6 arg7 harg7 arg8 harg8 arg9 harg9 hc0 hc1 hc2 x0 x1 x2 x3 x4 x5 x6 xs (ix3 1 r j)) = U x0 x1 x2 x3 x4 r j := by
  unfold sout0_B_0
  frame_out
  refine step arg9.view _ 1 1920 (by decide) _ _ _ _ rfl ?_ ?w15 r j ?lt
  refine step arg9.view _ 1 1792 (by decide) _ _ _ _ rfl ?_ ?w14
  refine step arg9.view _ 1 1664 (by decide) _ _ _ _ rfl ?_ ?w13
  refine step arg9.view _ 1 1536 (by decide) _ _ _ _ rfl ?_ ?w12
  refine step arg9.view _ 1 1408 (by decide) _ _ _ _ rfl ?_ ?w11
  refine step arg9.view _ 1 1280 (by decide) _ _ _ _ rfl ?_ ?w10
  refine step arg9.view _ 1 1152 (by decide) _ _ _ _ rfl ?_ ?w9
  refine step arg9.view _ 1 1024 (by decide) _ _ _ _ rfl ?_ ?w8
  refine step arg9.view _ 1 896 (by decide) _ _ _ _ rfl ?_ ?w7
  refine step arg9.view _ 1 768 (by decide) _ _ _ _ rfl ?_ ?w6
  refine step arg9.view _ 1 640 (by decide) _ _ _ _ rfl ?_ ?w5
  refine step arg9.view _ 1 512 (by decide) _ _ _ _ rfl ?_ ?w4
  refine step arg9.view _ 1 384 (by decide) _ _ _ _ rfl ?_ ?w3
  refine step arg9.view _ 1 256 (by decide) _ _ _ _ rfl ?_ ?w2
  refine step arg9.view _ 1 128 (by decide) _ _ _ _ rfl ?_ ?w1
  refine step arg9.view _ 1 0 (by decide) _ _ _ _ rfl ?_ ?w0
  · exact fun r j h => absurd h (Nat.not_lt_zero _)
  case lt => exact j.isLt
  case w0 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 0 (by decide) r d).symm
  case w1 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 1 (by decide) r d).symm
  case w2 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 2 (by decide) r d).symm
  case w3 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 3 (by decide) r d).symm
  case w4 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 4 (by decide) r d).symm
  case w5 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 5 (by decide) r d).symm
  case w6 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 6 (by decide) r d).symm
  case w7 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 7 (by decide) r d).symm
  case w8 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 8 (by decide) r d).symm
  case w9 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 9 (by decide) r d).symm
  case w10 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 10 (by decide) r d).symm
  case w11 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 11 (by decide) r d).symm
  case w12 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 12 (by decide) r d).symm
  case w13 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 13 (by decide) r d).symm
  case w14 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 14 (by decide) r d).symm
  case w15 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 15 (by decide) r d).symm

theorem scC (hc0 : ¬cond0_0 i) (hc1 : cond0_1 i) (hc2 : ¬cond0_2 i) (r : Fin 512) (j : Fin 2048) : (show EReal from sout0_C_0 c i arg1 harg1 arg2 harg2 arg3 harg3 arg4 harg4 arg5 harg5 arg6 harg6 arg7 harg7 arg8 harg8 arg9 harg9 hc0 hc1 hc2 x0 x1 x2 x3 x4 x5 x6 xs (ix3 0 r j)) = U x0 x1 x2 x3 x4 r j := by
  unfold sout0_C_0
  frame_out
  refine step arg9.view _ 0 1920 (by decide) _ _ _ _ rfl ?_ ?w15 r j ?lt
  refine step arg9.view _ 0 1792 (by decide) _ _ _ _ rfl ?_ ?w14
  refine step arg9.view _ 0 1664 (by decide) _ _ _ _ rfl ?_ ?w13
  refine step arg9.view _ 0 1536 (by decide) _ _ _ _ rfl ?_ ?w12
  refine step arg9.view _ 0 1408 (by decide) _ _ _ _ rfl ?_ ?w11
  refine step arg9.view _ 0 1280 (by decide) _ _ _ _ rfl ?_ ?w10
  refine step arg9.view _ 0 1152 (by decide) _ _ _ _ rfl ?_ ?w9
  refine step arg9.view _ 0 1024 (by decide) _ _ _ _ rfl ?_ ?w8
  refine step arg9.view _ 0 896 (by decide) _ _ _ _ rfl ?_ ?w7
  refine step arg9.view _ 0 768 (by decide) _ _ _ _ rfl ?_ ?w6
  refine step arg9.view _ 0 640 (by decide) _ _ _ _ rfl ?_ ?w5
  refine step arg9.view _ 0 512 (by decide) _ _ _ _ rfl ?_ ?w4
  refine step arg9.view _ 0 384 (by decide) _ _ _ _ rfl ?_ ?w3
  refine step arg9.view _ 0 256 (by decide) _ _ _ _ rfl ?_ ?w2
  refine step arg9.view _ 0 128 (by decide) _ _ _ _ rfl ?_ ?w1
  refine step arg9.view _ 0 0 (by decide) _ _ _ _ rfl ?_ ?w0
  · exact fun r j h => absurd h (Nat.not_lt_zero _)
  case lt => exact j.isLt
  case w0 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 0 (by decide) r d).symm
  case w1 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 1 (by decide) r d).symm
  case w2 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 2 (by decide) r d).symm
  case w3 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 3 (by decide) r d).symm
  case w4 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 4 (by decide) r d).symm
  case w5 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 5 (by decide) r d).symm
  case w6 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 6 (by decide) r d).symm
  case w7 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 7 (by decide) r d).symm
  case w8 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 8 (by decide) r d).symm
  case w9 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 9 (by decide) r d).symm
  case w10 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 10 (by decide) r d).symm
  case w11 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 11 (by decide) r d).symm
  case w12 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 12 (by decide) r d).symm
  case w13 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 13 (by decide) r d).symm
  case w14 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 14 (by decide) r d).symm
  case w15 => exact fun r d => Eq.trans (by pointwise [un, k0_pay2, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]) (U_head x0 x1 x2 x3 x4 15 (by decide) r d).symm

theorem outB (hc0 : ¬cond0_0 i) (hc1 : ¬cond0_1 i) (hc2 : cond0_2 i) : out0_B_7 c i arg1 harg1 arg2 harg2 arg3 harg3 arg4 harg4 arg5 harg5 arg6 harg6 arg7 harg7 arg8 harg8 arg9 harg9 hc0 hc1 hc2 x0 x1 x2 x3 x4 x5 x6 xs = k0_pay5 (View.ld xs (Rect.unit ![0, 0, 0] ![1, 512, 2048] inb_S2x512x2048_S1x512x2048_0_0_0)) x6 x5 := by
  frame_out

theorem outC (hc0 : ¬cond0_0 i) (hc1 : cond0_1 i) (hc2 : ¬cond0_2 i) : out0_C_7 c i arg1 harg1 arg2 harg2 arg3 harg3 arg4 harg4 arg5 harg5 arg6 harg6 arg7 harg7 arg8 harg8 arg9 harg9 hc0 hc1 hc2 x0 x1 x2 x3 x4 x5 x6 xs = k0_pay3 (View.ld xs (Rect.unit ![1, 0, 0] ![1, 512, 2048] inb_S2x512x2048_S1x512x2048_1_0_0)) x6 x5 := by
  frame_out
end cases

/-- The merged rows, of the arguments. -/
def ua (a0 a1 a2 : FVec Ideal S1x8192x2048 .f32) (a3 : FVec Ideal S1x8192x48 .f32) (a4 : FVec Ideal S1x8192x6144 .f32) (r : Fin 8192) (j : Fin 2048) : EReal :=
  un (a3 (ix3 0 r ⟨3 * (j.val / 128), by omega⟩)) (a3 (ix3 0 r ⟨3 * (j.val / 128) + 1, by omega⟩)) (a3 (ix3 0 r ⟨3 * (j.val / 128) + 2, by omega⟩))
    (a0 (ix3 0 r j)) (a1 (ix3 0 r j)) (a2 (ix3 0 r j)) (a4 (ix3 0 r ⟨j.val, by omega⟩))

/-- The result, entry by entry. -/
def G (a0 a1 a2 : FVec Ideal S1x8192x2048 .f32) (a3 : FVec Ideal S1x8192x48 .f32) (a4 a5 : FVec Ideal S1x8192x6144 .f32) (a6 : FVec Ideal S4x2048x2048 .f32) (r : Fin 8192) (j : Fin 2048) : EReal :=
  Ideal.logistic (a5 (ix3 0 r ⟨2048 + j.val, by omega⟩)) * ∑ k : Fin 2048, ua a0 a1 a2 a3 a4 r k * a6 (ix3 0 k j)

theorem U_eq (t : Fin cfg0.N) (r : Fin 512) (j : Fin 2048) :
    U (iblk m c 0 t) (iblk m c 1 t) (iblk m c 2 t) (iblk m c 3 t) (iblk m c 4 t) r j = ua (A0 m c) (A1 m c) (A2 m c) (A3 m c) (A4 m c) (row t.val r) j := by
  unfold U ua
  have e0 := X0_at m c t r j
  have e1 := X1_at m c t r j
  have e2 := X2_at m c t r j
  have e4 := X4_at m c t r j
  have g0 := X3_at m c t r ⟨3 * (j.val / 128), by omega⟩ (by show 3 * (j.val / 128) < 48; omega)
  have g1 := X3_at m c t r ⟨3 * (j.val / 128) + 1, by omega⟩ (by show 3 * (j.val / 128) + 1 < 48; omega)
  have g2 := X3_at m c t r ⟨3 * (j.val / 128) + 2, by omega⟩ (by show 3 * (j.val / 128) + 2 < 48; omega)
  dsimp only at e0 e1 e2 e4 g0 g1 g2
  rw [e0, e1, e2, e4, g0, g1, g2]

/-- What a point leaves in its half of the buffer. -/
theorem half (t : Fin cfg0.N) (r : Fin 512) (j : Fin 2048) :
    (show EReal from (outsAt0 m c t.val t.isLt).2 (ix3 (⟨t.val % 2, Nat.mod_lt _ (by decide)⟩ : Fin 2) r j))
      = ua (A0 m c) (A1 m c) (A2 m c) (A3 m c) (A4 m c) (row t.val r) j := by
  rw [← U_eq]
  by_cases h1 : t.val % 2 = 0
  · have e : (⟨t.val % 2, Nat.mod_lt _ (by decide)⟩ : Fin 2) = 0 := Fin.ext h1
    rw [e]
    by_cases h0 : t.val % 17 = 0
    · rw [outsAt0_A m c t h0 h1 (by omega)]
      dsimp only
      exact scA _ _ _ _ _ _ _ _ _ _ _ _ _ _ _ _ _ _ _ _ _ _ _ _ _ _ _ _ _ _ _ _
    · rw [outsAt0_C m c t h0 h1 (by omega)]
      dsimp only
      exact scC _ _ _ _ _ _ _ _ _ _ _ _ _ _ _ _ _ _ _ _ _ _ _ _ _ _ _ _ _ _ _ _ _
  · have h2 : t.val % 2 = 1 := by omega
    have e : (⟨t.val % 2, Nat.mod_lt _ (by decide)⟩ : Fin 2) = 1 := Fin.ext h2
    rw [e]
    have := lt_of_lt_of_eq t.isLt N_0
    rw [outsAt0_B m c t (by omega) h1 h2]
    dsimp only
    exact scB _ _ _ _ _ _ _ _ _ _ _ _ _ _ _ _ _ _ _ _ _ _ _ _ _ _ _ _ _ _ _ _ _

/-- What a point after the first leaves in the output block. -/
theorem point (t : Fin cfg0.N) (ht : t.val ≠ 0) (r : Fin 512) (j : Fin 2048) :
    (show EReal from (outsAt0 m c t.val t.isLt).1 (ix2 r j))
      = G (A0 m c) (A1 m c) (A2 m c) (A3 m c) (A4 m c) (A5 m c) (A6 m c) (prow t.val (lt_of_lt_of_eq t.isLt N_0) r) j := by
  have hN := lt_of_lt_of_eq t.isLt N_0
  have hp : ∀ (s : Fin 2), s.val = (t.val - 1) % 2 → ∀ k : Fin 2048,
      (show EReal from (outsAt0 m c (t.val - 1) (Nat.lt_of_le_of_lt (Nat.sub_le _ _) t.isLt)).2 (ix3 s r k))
        = ua (A0 m c) (A1 m c) (A2 m c) (A3 m c) (A4 m c) (prow t.val hN r) k := by
    intro s hs k
    have e := half m c ⟨t.val - 1, Nat.lt_of_le_of_lt (Nat.sub_le _ _) t.isLt⟩ r k
    have es : s = (⟨(t.val - 1) % 2, Nat.mod_lt _ (by decide)⟩ : Fin 2) := Fin.ext hs
    have er : row (t.val - 1) r = prow t.val hN r := Fin.ext (by show 512 * min (t.val - 1) 15 + r.val = 512 * (t.val - 1) + r.val; omega)
    rw [es, ← er]
    exact e
  have fin : ∀ s : Fin 2, s.val = (t.val - 1) % 2 →
      Ideal.logistic ((show Vec Ideal S512x2048 .bf16 from iblk m c 5 t) (ix2 r j))
        * ∑ k : Fin 2048, ((outsAt0 m c (t.val - 1) (Nat.lt_of_le_of_lt (Nat.sub_le _ _) t.isLt)).2 (ix3 s r k) : EReal) * (show Vec Ideal S1x2048x2048 .bf16 from iblk m c 6 t) (ix3 0 k j)
      = G (A0 m c) (A1 m c) (A2 m c) (A3 m c) (A4 m c) (A5 m c) (A6 m c) (prow t.val hN r) j := by
    intro s hs
    unfold G
    refine congrArg₂ (fun x y : EReal => x * y) (congrArg Ideal.logistic (X5_at m c t r j)) (Finset.sum_congr rfl fun k _ => ?_)
    exact congrArg₂ (fun x y : EReal => x * y) (hp s hs k) (X6_at m c t k j)
  by_cases h1 : t.val % 2 = 0
  · rw [outsAt0_C m c t (by omega) h1 (by omega)]
    dsimp only
    rw [outC]
    exact (pay3_at _ _ _ r j).trans (fin 1 (by show 1 = (t.val - 1) % 2; omega))
  · rw [outsAt0_B m c t (by omega) h1 (by omega)]
    dsimp only
    rw [outB]
    exact (pay5_at _ _ _ r j).trans (fin 0 (by show 0 = (t.val - 1) % 2; omega))

theorem flush_ne : ∀ t : Fin cfg0.N, (cfg0.win 7).flush t = true → t.val ≠ 0 :=
  (by decide +kernel : ∀ t : Fin grid0.N, win0_7.flush t = true → t.val ≠ 0)

theorem final : (dats m 0 c).arrAt 7 (cfgs 0).N
    = (fun i => G (A0 m c) (A1 m c) (A2 m c) (A3 m c) (A4 m c) (A5 m c) (A6 m c) (i 0) (i 1) : FVec Ideal S8192x2048 .bf16) := by
  refine (dats m 0 c).arrAt_eq_of_covers 7 _ (by decide +kernel) fun t hf y => ?_
  have ht : t.val ≠ 0 := flush_ne t hf
  blk_simp
  rw [after0_7]
  refine (congrArg _ (ix2_eta y).symm).trans ((point m c t ht (y 0) (y 1)).trans ?_)
  refine congrArg₂ (G _ _ _ _ _ _ _) (Fin.ext ?_) (Fin.ext ?_) <;> blk_simp [idx t] <;> idx_bounds <;> simp <;> omega

end Cert.Kernel7Ideal.Side

end
-- ==== Proof.MergeRef.lean ====
module

public import proofs.«01_k».proof.Proof.MergeKernel
public import proofs.«01_k».proof.Proof.Gen.Reference7Ideal.Run
public import proofs.«01_k».proof.Proof.Gen.Reference7Ideal
public import proofs.«01_k».proof.Defs
public import Idealize.ShloMosaic.Lib.Quiescent

/-! The gated merge's reference, entry by entry, and its equality with the kernel's result. -/

@[expose] public section

set_option maxRecDepth 16384

noncomputable section

namespace Cert.Reference7Ideal.Side

open Idealize.ShloMosaic Idealize.ShloMosaic.TcCoe Idealize.SL.Sem Idealize.ShloMosaic.StableHlo
open Cert.Reference7Ideal Cert.Reference7Ideal.Gen Cert.Reference7Ideal.Value

theorem one_word : (Ideal.ofBits .f32 0x3F800000#32 : EReal) = 1 := Ideal.ofBits_one_f32

/-- The quotient that spells the logistic function. -/
abbrev lgR (z : FVec Ideal S1x8192x2048 .f32) : FVec Ideal S1x8192x2048 .f32 :=
  Host.divf (broadcastInDim S1x8192x2048 ![] bcast_S_S1x8192x2048 (constant S_ .f32 0x3F800000#32))
    (addf (broadcastInDim S1x8192x2048 ![] bcast_S_S1x8192x2048 (constant S_ .f32 0x3F800000#32)) (Host.exp (Host.negf z)))
abbrev lgG (z : FVec Ideal S1x8192x48 .f32) : FVec Ideal S1x8192x48 .f32 :=
  Host.divf (broadcastInDim S1x8192x48 ![] bcast_S_S1x8192x48 (constant S_ .f32 0x3F800000#32))
    (addf (broadcastInDim S1x8192x48 ![] bcast_S_S1x8192x48 (constant S_ .f32 0x3F800000#32)) (Host.exp (Host.negf z)))

theorem lgR_at (z : FVec Ideal S1x8192x2048 .f32) (i : S1x8192x2048.Idx) : (show EReal from lgR z i) = Ideal.logistic (z i) := by
  show Ideal.div (Ideal.ofBits .f32 0x3F800000#32) (Ideal.ofBits .f32 0x3F800000#32 + Ideal.exp (-(z i))) = _
  rw [one_word]; rfl

theorem lgG_at (z : FVec Ideal S1x8192x48 .f32) (i : S1x8192x48.Idx) : (show EReal from lgG z i) = Ideal.logistic (z i) := by
  show Ideal.div (Ideal.ofBits .f32 0x3F800000#32) (Ideal.ofBits .f32 0x3F800000#32 + Ideal.exp (-(z i))) = _
  rw [one_word]; rfl

/-- The gated sum of the branches, gates given. -/
abbrev sumR (g : FVec Ideal S1x8192x48 .f32) (a0 a1 a2 : FVec Ideal S1x8192x2048 .f32) : FVec Ideal S1x8192x2048 .f32 :=
  shapeCast S1x8192x2048 (addf (addf (mulf (broadcastInDim S1x8192x16x128 ![0, 1, 2, 3] bcast_S1x8192x16x1_S1x8192x16x128_0_1_2_3 (extractStridedSlice S1x8192x16x1 ![0, 0, 0, 0] (shapeCast S1x8192x16x3 g shapeCasts_S1x8192x48_S1x8192x16x3) slices_S1x8192x16x3_S1x8192x16x1_0_0_0_0)) (shapeCast S1x8192x16x128 a0 shapeCasts_S1x8192x2048_S1x8192x16x128))
      (mulf (broadcastInDim S1x8192x16x128 ![0, 1, 2, 3] bcast_S1x8192x16x1_S1x8192x16x128_0_1_2_3 (extractStridedSlice S1x8192x16x1 ![0, 0, 0, 1] (shapeCast S1x8192x16x3 g shapeCasts_S1x8192x48_S1x8192x16x3) slices_S1x8192x16x3_S1x8192x16x1_0_0_0_1)) (shapeCast S1x8192x16x128 a1 shapeCasts_S1x8192x2048_S1x8192x16x128)))
      (mulf (broadcastInDim S1x8192x16x128 ![0, 1, 2, 3] bcast_S1x8192x16x1_S1x8192x16x128_0_1_2_3 (extractStridedSlice S1x8192x16x1 ![0, 0, 0, 2] (shapeCast S1x8192x16x3 g shapeCasts_S1x8192x48_S1x8192x16x3) slices_S1x8192x16x3_S1x8192x16x1_0_0_0_2)) (shapeCast S1x8192x16x128 a2 shapeCasts_S1x8192x2048_S1x8192x16x128)))
    shapeCasts_S1x8192x16x128_S1x8192x2048

theorem sumR_at (g : FVec Ideal S1x8192x48 .f32) (a0 a1 a2 : FVec Ideal S1x8192x2048 .f32) (r : Fin 8192) (j : Fin 2048) :
    (show EReal from sumR g a0 a1 a2 (ix3 0 r j)) = (g (ix3 0 r ⟨3 * (j.val / 128), by omega⟩) : EReal) * a0 (ix3 0 r j)
      + (g (ix3 0 r ⟨3 * (j.val / 128) + 1, by omega⟩) : EReal) * a1 (ix3 0 r j) + (g (ix3 0 r ⟨3 * (j.val / 128) + 2, by omega⟩) : EReal) * a2 (ix3 0 r j) := by
  pointwise
  simp only [Nat.mul_comm]

/-- The gated and modulated sum. -/
abbrev uaR (g : FVec Ideal S1x8192x48 .f32) (a0 a1 a2 : FVec Ideal S1x8192x2048 .f32) (z lz : FVec Ideal S1x8192x2048 .f32) : FVec Ideal S1x8192x2048 .f32 :=
  mulf (sumR g a0 a1 a2) (mulf z lz)

/-- The product with p_a, gated. -/
abbrev outR (u lg : FVec Ideal S1x8192x2048 .f32) (a6 : FVec Ideal S4x2048x2048 .f32) : FVec Ideal S8192x2048 .bf16 :=
  truncf .bf16 (shapeCast S8192x2048 (mulf lg (Host.dotGeneral dot_S1x8192x2048_S2048x2048_S1x8192x2048_2_0_01_1_n_n none u
    (shapeCast S2048x2048 (extractStridedSlice S1x2048x2048 ![0, 0, 0] a6 slices_S4x2048x2048_S1x2048x2048_0_0_0) shapeCasts_S1x2048x2048_S2048x2048)))
    shapeCasts_S1x8192x2048_S8192x2048) bitsLt_bf16_f32

theorem outR_at (u lg : FVec Ideal S1x8192x2048 .f32) (a6 : FVec Ideal S4x2048x2048 .f32) (r : Fin 8192) (j : Fin 2048) :
    (show EReal from outR u lg a6 (ix2 r j)) = (lg (ix3 0 r j) : EReal) * ∑ k : Fin 2048, (u (ix3 0 r k) : EReal) * a6 (ix3 0 k j) := by
  pointwise

/-- The reference's operations, of its arguments. -/
abbrev all (a0 a1 a2 : FVec Ideal S1x8192x2048 .f32) (a3 : FVec Ideal S1x8192x48 .f32) (a4 a5 : FVec Ideal S1x8192x6144 .f32) (a6 : FVec Ideal S4x2048x2048 .f32) : FVec Ideal S8192x2048 .bf16 :=
  outR (uaR (lgG a3) a0 a1 a2 (extractStridedSlice S1x8192x2048 ![0, 0, 0] a4 slices_S1x8192x6144_S1x8192x2048_0_0_0)
      (lgR (extractStridedSlice S1x8192x2048 ![0, 0, 0] a4 slices_S1x8192x6144_S1x8192x2048_0_0_0)))
    (lgR (extractStridedSlice S1x8192x2048 ![0, 0, 2048] a5 slices_S1x8192x6144_S1x8192x2048_0_0_2048)) a6

theorem all_at (a0 a1 a2 : FVec Ideal S1x8192x2048 .f32) (a3 : FVec Ideal S1x8192x48 .f32) (a4 a5 : FVec Ideal S1x8192x6144 .f32) (a6 : FVec Ideal S4x2048x2048 .f32) (r : Fin 8192) (j : Fin 2048) :
    (show EReal from all a0 a1 a2 a3 a4 a5 a6 (ix2 r j)) = Cert.Kernel7Ideal.Side.G a0 a1 a2 a3 a4 a5 a6 r j := by
  have ez (k : Fin 2048) : extractStridedSlice S1x8192x2048 ![0, 0, 0] a4 slices_S1x8192x6144_S1x8192x2048_0_0_0 (ix3 0 r k) = a4 (ix3 0 r ⟨k.val, by omega⟩) := by pointwise
  have eg (k : Fin 2048) : extractStridedSlice S1x8192x2048 ![0, 0, 2048] a5 slices_S1x8192x6144_S1x8192x2048_0_0_2048 (ix3 0 r k) = a5 (ix3 0 r ⟨2048 + k.val, by omega⟩) := by pointwise
  refine (outR_at _ _ _ r j).trans ?_
  unfold Cert.Kernel7Ideal.Side.G
  refine congrArg₂ (fun x y : EReal => x * y) ((lgR_at _ _).trans (congrArg Ideal.logistic (eg j))) (Finset.sum_congr rfl fun k _ => congrArg (fun z : EReal => z * _) ?_)
  unfold Cert.Kernel7Ideal.Side.ua Cert.Kernel7Ideal.Side.un
  refine congrArg₂ (fun x y : EReal => x * y) ((sumR_at _ _ _ _ r k).trans ?_) (congrArg₂ (fun x y : EReal => x * y) (ez k) ((lgR_at _ _).trans (congrArg Ideal.logistic (ez k))))
  exact congrArg₂ (fun x y : EReal => x + y) (congrArg₂ (fun x y : EReal => x + y) (congrArg (fun x : EReal => x * _) (lgG_at _ _)) (congrArg (fun x : EReal => x * _) (lgG_at _ _)))
    (congrArg (fun x : EReal => x * _) (lgG_at _ _))

variable (m : (ℓ : Loc nD τ sig) → Buf (Elt Ideal) ℓ) (c : Dev nD)

abbrev A0 : FVec Ideal S1x8192x2048 .f32 := m ((c : Thread nD τ).loc main_arg0)
abbrev A1 : FVec Ideal S1x8192x2048 .f32 := m ((c : Thread nD τ).loc main_arg1)
abbrev A2 : FVec Ideal S1x8192x2048 .f32 := m ((c : Thread nD τ).loc main_arg2)
abbrev A3 : FVec Ideal S1x8192x48 .f32 := m ((c : Thread nD τ).loc main_arg3)
abbrev A4 : FVec Ideal S1x8192x6144 .f32 := m ((c : Thread nD τ).loc main_arg4)
abbrev A5 : FVec Ideal S1x8192x6144 .f32 := m ((c : Thread nD τ).loc main_arg5)
abbrev A6 : FVec Ideal S4x2048x2048 .f32 := m ((c : Thread nD τ).loc main_arg6)

/-- The reference's result. -/
abbrev res : FVec Ideal S8192x2048 .bf16 := all (A0 m c) (A1 m c) (A2 m c) (A3 m c) (A4 m c) (A5 m c) (A6 m c)

/-- The reference runs to its result, its arguments unchanged and its semaphores at zero. -/
theorem run_all (ρ : Dev nD → PrngReg) : θ_run (defs (F := Ideal)) (onTc (τ := τ) (main (F := Ideal))) ⟨m, fun _ => 0, ρ⟩ fun r =>
    (∀ c : Dev nD, r.2.mem ((c.tc : Thread nD τ).loc main_v37) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  (θ_run _ _ _).mono (fun _ h => ⟨h, sem_eq_zero_of_no_sems (show sig.nSem + sig.nDmaSem = 0 by decide) _⟩) (run m ρ)

end Cert.Reference7Ideal.Side

namespace Cert.MergeEq

open Idealize.ShloMosaic Idealize.ShloMosaic.TcCoe Idealize.SL.Sem

/-- From memories that agree on the arguments, the two programs' results are the same array. -/
theorem result_eq (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD) (c' : Dev Cert.Reference7Ideal.nD)
    (h0 : Cert.Reference7Ideal.Side.A0 m' c' = Cert.Kernel7Ideal.Side.A0 m c) (h1 : Cert.Reference7Ideal.Side.A1 m' c' = Cert.Kernel7Ideal.Side.A1 m c) (h2 : Cert.Reference7Ideal.Side.A2 m' c' = Cert.Kernel7Ideal.Side.A2 m c) (h3 : Cert.Reference7Ideal.Side.A3 m' c' = Cert.Kernel7Ideal.Side.A3 m c) (h4 : Cert.Reference7Ideal.Side.A4 m' c' = Cert.Kernel7Ideal.Side.A4 m c) (h5 : Cert.Reference7Ideal.Side.A5 m' c' = Cert.Kernel7Ideal.Side.A5 m c) (h6 : Cert.Reference7Ideal.Side.A6 m' c' = Cert.Kernel7Ideal.Side.A6 m c) :
    (Cert.Reference7Ideal.Side.res m' c' : FVec Ideal Cert.Reference7Ideal.S8192x2048 .bf16)
      = (Cert.Kernel7Ideal.Gen.dats m 0 c).arrAt 7 (Cert.Kernel7Ideal.cfgs 0).N := by
  rw [Cert.Kernel7Ideal.Side.final]
  funext i
  refine (congrArg _ (ix2_eta i).symm).trans ((Cert.Reference7Ideal.Side.all_at _ _ _ _ _ _ _ (i 0) (i 1)).trans ?_)
  rw [h0, h1, h2, h3, h4, h5, h6]

/-- The kernel and the reference end with the same result. -/
theorem algebraic : Cert.algebraic_Kernel7Ideal_Reference7Ideal (hKernel7Ideal := Cert.Kernel7Ideal.Gen.facts) (hReference7Ideal := Cert.Reference7Ideal.Gen.facts) := by
  intro m g m' g' _ hA
  refine ⟨fun c => (Cert.Kernel7Ideal.Gen.dats m 0 c).arrAt 7 (Cert.Kernel7Ideal.cfgs 0).N, Cert.Kernel7Ideal.Value.run_blocks m g, ?_⟩
  refine (θ_run _ _ _).mono (fun r h c => ?_) (Cert.Reference7Ideal.Side.run_all m' g')
  obtain ⟨h0, h1, h2, h3, h4, h5, h6⟩ := hA c
  exact ⟨(h.1 c).1.trans (result_eq m m' c c h0 h1 h2 h3 h4 h5 h6), (h.1 c).2⟩

end Cert.MergeEq

end
-- ==== Proof.GatesFrameIdeal.lean ====
module

public import proofs.«01_k».proof.Proof.Gen.Kernel8Ideal.Launch
public import proofs.«01_k».proof.Proof.Gen.Kernel8Ideal.Skeleton
public import proofs.«01_k».proof.Proof.Gen.Kernel8Ideal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

/-! The frame of the third input projection (over the reals). It follows the frame of the second one, but the
last block of its second weights window reaches past the array's end: what its buffer holds there is not named, and the kernel
does not read it. -/

@[expose] public section

set_option maxRecDepth 16384

noncomputable section

namespace Cert.Kernel8Ideal.Side

open Idealize.ShloMosaic Idealize.ShloMosaic.TcCoe Idealize.ShloMosaic.Tactic
open Cert.Kernel8Ideal Cert.Kernel8Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core's buffers hold when the pipeline starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations lead to the pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
def dflt0_1 : (cfg0.win 1).block.Idx → Elt F (cfg0.win 1).elt := fun _ => Classical.choice inferInstance
def X0_1 (c : Dev nD) (t : Fin cfg0.N) : (cfg0.win 1).block.Idx → Elt F (cfg0.win 1).elt :=
  (cfg0.win 1).fill (cfg0.grid.coords t) dflt0_1 (iblk m c 1 t)
theorem xsize0_1 : ∀ t : Fin cfg0.N, ∀ a, (cfg0.win 1).xsize (cfg0.grid.coords t) a = (cfg0.win 1).size a := by decide +kernel
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]
theorem before0_1_of {c : Dev nD} (dat : Dat τ (Elt F) Unit ℕ (UR sig nD τ) ℕ cfg0 c) (hA : dat.A 1 = V m c (Pipeline.arrRef spec0 1))
    (hafter : ∀ t, dat.after 1 t = X0_1 m c t) (t : Fin cfg0.N) (d) : dat.before 1 t d = X0_1 m c t :=
  (dat.before_in_eq_fetched 1 rfl (fun _ => rfl)
      (fun t t' h => funext fun a => congrArg (fun n => Pipeline.Clip.of n ((cfg0.win 1).size a) (S4x17472x2048.size a)) (congrFun h a))
      (fun t => by rw [hafter]; unfold X0_1; rw [Pipeline.Window.cut_fill]; unfold Dat.blockOf iblk; rw [hA]; try rfl) t d).trans
    (by unfold Dat.fetched X0_1; rw [fill0_1 t d dflt0_1]; unfold Dat.blockOf iblk; rw [hA]; try rfl)
/-- The default for the part of the second weights window that its last fetch leaves unfilled; no result depends on it. -/
def dflt0_2 : (cfg0.win 2).block.Idx → Elt F (cfg0.win 2).elt := fun _ => Classical.choice inferInstance
/-- The second weights window's block, over that default. -/
def X0_2 (c : Dev nD) (t : Fin cfg0.N) : (cfg0.win 2).block.Idx → Elt F (cfg0.win 2).elt :=
  (cfg0.win 2).fill (cfg0.grid.coords t) dflt0_2 (iblk m c 2 t)
/-- The second weights window's buffer holds its block, over whatever the buffer held before. -/
theorem before0_2_of {c : Dev nD} (dat : Dat τ (Elt F) Unit ℕ (UR sig nD τ) ℕ cfg0 c) (hA : dat.A 2 = V m c (Pipeline.arrRef spec0 2))
    (hafter : ∀ t, dat.after 2 t = X0_2 m c t) (t : Fin cfg0.N) (d) : dat.before 2 t d = (cfg0.win 2).fill (cfg0.grid.coords t) d (iblk m c 2 t) :=
  (dat.before_in_eq_fetched 2 rfl (fun _ => rfl)
      (fun t t' h => funext fun a => congrArg (fun n => Pipeline.Clip.of n ((cfg0.win 2).size a) (S4x17472x2048.size a)) (congrFun h a))
      (fun t => by rw [hafter]; unfold X0_2; rw [Pipeline.Window.cut_fill]; unfold Dat.blockOf iblk; rw [hA]; try rfl) t d).trans
    (by unfold Dat.fetched; unfold Dat.blockOf iblk; rw [hA]; try rfl)
/-- At every point the fetch fills at least the first 64 rows of the second weights window. -/
theorem xsize0_2 : ∀ t : Fin cfg0.N, 1 ≤ (cfg0.win 2).xsize (cfg0.grid.coords t) 0 ∧ 64 ≤ (cfg0.win 2).xsize (cfg0.grid.coords t) 1
    ∧ 2048 ≤ (cfg0.win 2).xsize (cfg0.grid.coords t) 2 := by decide +kernel
theorem moved0_2 (t : Fin cfg0.N) (j : S1x128x2048.Idx) (h : (j 1).val < 64) : (cfg0.win 2).moved (cfg0.grid.coords t) j = true :=
  ((cfg0.win 2).moved_iff _ j).mpr fun a => by
    obtain ⟨h0, h1, h2⟩ := xsize0_2 t
    match a with
    | ⟨0, _⟩ => exact lt_of_lt_of_le (j 0).isLt h0
    | ⟨1, _⟩ => exact lt_of_lt_of_le h h1
    | ⟨2, _⟩ => exact lt_of_lt_of_le (j 2).isLt h2
/-- The rows the kernel reads of the second weights window. -/
abbrev rTail : Rect S1x128x2048 := Rect.unit ![0, 0, 0] ![1, 64, 2048] inb_S1x128x2048_S1x64x2048_0_0_0
/-- They do not depend on what the fetch left unfilled. -/
theorem ld_fill (t : Fin cfg0.N) (d d' : (cfg0.win 2).block.Idx → Elt F (cfg0.win 2).elt) (g) :
    (View.ld (show Vec F S1x128x2048 .f32 from (cfg0.win 2).fill (cfg0.grid.coords t) d g) rTail : Vec F S1x64x2048 .f32)
      = View.ld (show Vec F S1x128x2048 .f32 from (cfg0.win 2).fill (cfg0.grid.coords t) d' g) rTail := by
  funext y
  have hm : (cfg0.win 2).moved (cfg0.grid.coords t) (rTail.emb y) = true := moved0_2 t _ (by
    show 0 + 1 * (y 1).val < 64
    have : (y 1).val < 64 := (y 1).isLt
    omega)
  show (cfg0.win 2).fill (cfg0.grid.coords t) d g (rTail.emb y) = (cfg0.win 2).fill (cfg0.grid.coords t) d' g (rTail.emb y)
  unfold Pipeline.Window.fill; rw [dif_pos hm, dif_pos hm]

/-- A run of the pipeline leaves the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

abbrev cond0_0 (i : grid0.Coords) : Prop := (Scalar.cmpi .ne (Scalar.extui (Scalar.cmpi .eq (BitVec.ofNat 32 (i 1).val) 0#32)) 0#32) = 1#1
/-- The weights are joined at every fourth point, the first of a column block. -/
theorem hcond0_0 : ∀ t : Fin cfg0.N, cond0_0 (grid0.coords t) ↔ t.val % 4 = 0 :=
  (fun t => by
    have ht : t.val < 48 := Nat.lt_of_lt_of_eq t.isLt N_0
    have e0 : (grid0.coords t 0).val = t.val / 4 % 12 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

abbrev VO0_3 : View sig .tc .vmem S2048x512 .bf16 := (Memref.whole cc0_stg3_0 : Memref sig .tc .vmem S2048x512 .bf16).view
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev scM0_0 : Memref sig .tc .vmem S512x2048 .bf16 := Memref.whole cc0_scratch0
abbrev VS0_0 : View sig .tc .vmem S512x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at a point that joins the weights: the pieces it stores, with its triple. -/
noncomputable def kernelRun0_A (c : Dev nD) (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole) (hc0 : cond0_0 i)
    (x0 : Vec F S2048x2048 .bf16) (x1 : Vec F S1x512x2048 .f32) (x2 : Vec F S1x128x2048 .f32) :
    Σ' (L3 : List (View.Piece (Elt F) S2048x512 .bf16)), { LS0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_proj i arg2 harg2 arg3 harg3 arg4 harg4 arg5 harg5 arg6 harg6) K } := by
  refine ⟨?_, ?_, fun E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

set_option maxHeartbeats 1000000 in
/-- The body at the other points. -/
noncomputable def kernelRun0_B (c : Dev nD) (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole) (hc0 : ¬cond0_0 i)
    (x0 : Vec F S2048x2048 .bf16) (x1 : Vec F S1x512x2048 .f32) (x2 : Vec F S1x128x2048 .f32) (xs0 : Vec F S512x2048 .bf16) :
    Σ' (L3 : List (View.Piece (Elt F) S2048x512 .bf16)), { LS0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0) -∗ K ⟨⟩))
          ⊢ wp frame (wpE (defs₀ (F := F)) Variants.none c none) E (cc0_proj i arg2 harg2 arg3 harg3 arg4 harg4 arg5 harg5 arg6 harg6) K } := by
  refine ⟨?_, [], fun E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0

theorem cover0_A_3 (c : Dev nD) (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole) (hc0 : cond0_0 i)
    (x0 : Vec F S2048x2048 .bf16) (x1 : Vec F S1x512x2048 .f32) (x2 : Vec F S1x128x2048 .f32) (y : S2048x512.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S2048x512.size (by sl_kernel_rfl) y

def out0_A_3 (c : Dev nD) (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole) (hc0 : cond0_0 i)
    (x0 : Vec F S2048x2048 .bf16) (x1 : Vec F S1x512x2048 .f32) (x2 : Vec F S1x128x2048 .f32) : Vec F S2048x512 .bf16 :=
  VO0_3.read (Elt F) (VO0_3.writes (Elt F) VO0_3.junk (kernelRun0_A c i arg2 harg2 arg3 harg3 arg4 harg4 arg5 harg5 arg6 harg6 hc0 x0 x1 x2).1)

theorem scover0_A_0 (c : Dev nD) (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole) (hc0 : cond0_0 i)
    (x0 : Vec F S2048x2048 .bf16) (x1 : Vec F S1x512x2048 .f32) (x2 : Vec F S1x128x2048 .f32) (y : S512x2048.Idx) :
    ∃ pc ∈ (kernelRun0_A c i arg2 harg2 arg3 harg3 arg4 harg4 arg5 harg5 arg6 harg6 hc0 x0 x1 x2).2.1, y ∈ pc.1.set :=
  View.cover_of_tiledBy (kernelRun0_A c i arg2 harg2 arg3 harg3 arg4 harg4 arg5 harg5 arg6 harg6 hc0 x0 x1 x2).2.1 ![16, 2048] (by sl_kernel_rfl) y

def sout0_A_0 (c : Dev nD) (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole) (hc0 : cond0_0 i)
    (x0 : Vec F S2048x2048 .bf16) (x1 : Vec F S1x512x2048 .f32) (x2 : Vec F S1x128x2048 .f32) : Vec F S512x2048 .bf16 :=
  VS0_0.read (Elt F) (VS0_0.writes (Elt F) VS0_0.junk (kernelRun0_A c i arg2 harg2 arg3 harg3 arg4 harg4 arg5 harg5 arg6 harg6 hc0 x0 x1 x2).2.1)

theorem cover0_B_3 (c : Dev nD) (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole) (hc0 : ¬cond0_0 i)
    (x0 : Vec F S2048x2048 .bf16) (x1 : Vec F S1x512x2048 .f32) (x2 : Vec F S1x128x2048 .f32) (xs0 : Vec F S512x2048 .bf16) (y : S2048x512.Idx) :
    ∃ pc ∈ (kernelRun0_B c i arg2 harg2 arg3 harg3 arg4 harg4 arg5 harg5 arg6 harg6 hc0 x0 x1 x2 xs0).1, y ∈ pc.1.set :=
  View.cover_of_tiledL (kernelRun0_B c i arg2 harg2 arg3 harg3 arg4 harg4 arg5 harg5 arg6 harg6 hc0 x0 x1 x2 xs0).1 S2048x512.size (by sl_kernel_rfl) y

def out0_B_3 (c : Dev nD) (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole) (hc0 : ¬cond0_0 i)
    (x0 : Vec F S2048x2048 .bf16) (x1 : Vec F S1x512x2048 .f32) (x2 : Vec F S1x128x2048 .f32) (xs0 : Vec F S512x2048 .bf16) : Vec F S2048x512 .bf16 :=
  VO0_3.read (Elt F) (VO0_3.writes (Elt F) VO0_3.junk (kernelRun0_B c i arg2 harg2 arg3 harg3 arg4 harg4 arg5 harg5 arg6 harg6 hc0 x0 x1 x2 xs0).1)

def sout0_B_0 (c : Dev nD) (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole) (hc0 : ¬cond0_0 i)
    (x0 : Vec F S2048x2048 .bf16) (x1 : Vec F S1x512x2048 .f32) (x2 : Vec F S1x128x2048 .f32) (xs0 : Vec F S512x2048 .bf16) : Vec F S512x2048 .bf16 := xs0

/-- What the case that joins the weights leaves depends on the second window by the rows it reads only. -/
theorem sout0_A_0_congr (c : Dev nD) (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole) (hc0 : cond0_0 i)
    (x0 : Vec F S2048x2048 .bf16) (x1 : Vec F S1x512x2048 .f32) (x2 x2' : Vec F S1x128x2048 .f32) (h : (View.ld x2 rTail : Vec F S1x64x2048 .f32) = View.ld x2' rTail) :
    sout0_A_0 c i arg2 harg2 arg3 harg3 arg4 harg4 arg5 harg5 arg6 harg6 hc0 x0 x1 x2 = sout0_A_0 c i arg2 harg2 arg3 harg3 arg4 harg4 arg5 harg5 arg6 harg6 hc0 x0 x1 x2' := by
  frame_out
  rw [show View.ld x2 (Rect.unit ![0, 0, 0] ![1, 64, 2048] inb_S1x128x2048_S1x64x2048_0_0_0) = _ from h]
theorem out0_A_3_congr (c : Dev nD) (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole) (hc0 : cond0_0 i)
    (x0 : Vec F S2048x2048 .bf16) (x1 : Vec F S1x512x2048 .f32) (x2 x2' : Vec F S1x128x2048 .f32) (h : (View.ld x2 rTail : Vec F S1x64x2048 .f32) = View.ld x2' rTail) :
    out0_A_3 c i arg2 harg2 arg3 harg3 arg4 harg4 arg5 harg5 arg6 harg6 hc0 x0 x1 x2 = out0_A_3 c i arg2 harg2 arg3 harg3 arg4 harg4 arg5 harg5 arg6 harg6 hc0 x0 x1 x2' := by
  frame_out
  rw [show View.ld x2 (Rect.unit ![0, 0, 0] ![1, 64, 2048] inb_S1x128x2048_S1x64x2048_0_0_0) = _ from h]
theorem out0_B_3_congr (c : Dev nD) (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole) (hc0 : ¬cond0_0 i)
    (x0 : Vec F S2048x2048 .bf16) (x1 : Vec F S1x512x2048 .f32) (x2 x2' : Vec F S1x128x2048 .f32) (xs0 : Vec F S512x2048 .bf16) :
    out0_B_3 c i arg2 harg2 arg3 harg3 arg4 harg4 arg5 harg5 arg6 harg6 hc0 x0 x1 x2 xs0 = out0_B_3 c i arg2 harg2 arg3 harg3 arg4 harg4 arg5 harg5 arg6 harg6 hc0 x0 x1 x2' xs0 := by
  frame_out

/-- What the output block and the joined weights hold after each point. -/
def outsAt0 (c : Dev nD) : (n : ℕ) → n < cfg0.N → Vec F S2048x512 .bf16 × Vec F S512x2048 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk m c 0 ⟨0, hn⟩) (X0_1 m c ⟨0, hn⟩) (X0_2 m c ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk m c 0 ⟨0, hn⟩) (X0_1 m c ⟨0, hn⟩) (X0_2 m c ⟨0, hn⟩))
  | n + 1, hn =>
    if h0 : (n + 1) % 4 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk m c 0 ⟨n + 1, hn⟩) (X0_1 m c ⟨n + 1, hn⟩) (X0_2 m c ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk m c 0 ⟨n + 1, hn⟩) (X0_1 m c ⟨n + 1, hn⟩) (X0_2 m c ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk m c 0 ⟨n + 1, hn⟩) (X0_1 m c ⟨n + 1, hn⟩) (X0_2 m c ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk m c 0 ⟨n + 1, hn⟩) (X0_1 m c ⟨n + 1, hn⟩) (X0_2 m c ⟨n + 1, hn⟩) (outsAt0 c n (Nat.lt_of_succ_lt hn)).2)

theorem outsAt0_A (c : Dev nD) (t : Fin cfg0.N) (h0 : t.val % 4 = 0) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (X0_1 m c t) (X0_2 m c t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (X0_1 m c t) (X0_2 m c t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (X0_1 m c t) (X0_2 m c t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (X0_1 m c t) (X0_2 m c t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant: the scratch buffer holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => (outsAt0 m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = (cfg0.win 2).fill (cfg0.grid.coords t) d (iblk m c 2 t) :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare ((cfg0.win 1).fill (cfg0.grid.coords t) d ((cfg0.win 1).cut (cfg0.grid.coords t) ((dats m 0 c).after 1 t))))
    ∗ (∃ d, owns (c : Thread nD τ) (ms0_2 t) fullShare ((cfg0.win 2).fill (cfg0.grid.coords t) d ((cfg0.win 2).cut (cfg0.grid.coords t) ((dats m 0 c).after 2 t))))
    ∗ owns (c : Thread nD τ) (ms0_3 t) fullShare ((dats m 0 c).after 3 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 48 := lt_of_lt_of_eq t.isLt (show cfg0.N = 48 from N_0)
  by_cases h0 : t.val % 4 = 0
  · by_cases hz : t.val = 0
    · rw [PhiS_castSucc m c t, PhiS_zero m c _ _ hz, PhiA0_eq]
      rw [outsAt0_A m c t h0]
      unfold out0_A_3 sout0_A_0; (try dsimp only)
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk m c 0 t) (X0_1 m c t) ((cfg0.win 2).fill (cfg0.grid.coords t) d2 (iblk m c 2 t))).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact (View.read_writes_of_cover _ _ _ _ _ (scover0_A_0 c _ _ _ _ _ _ _ _ _ _ _ _ _ _ _)).trans (sout0_A_0_congr c _ _ _ _ _ _ _ _ _ _ _ _ _ _ _ _ (ld_fill t _ _ _))
        iexact Hg
      isplitl [Ho]; · iexact Ho
      isplitl [H0]; · iexact H0
      isplitl [H1]; · iexists (X0_1 m c t); rw [Pipeline.Window.fill_cut]; iexact H1
      isplitl [H2]; · iexists d2; rw [show X0_2 m c t = (cfg0.win 2).fill (cfg0.grid.coords t) dflt0_2 (iblk m c 2 t) from rfl, Pipeline.Window.cut_fill]; iexact H2
      unfold owns; iexists _; isplitr
      swap; · iexact H3
      ipureintro; exact (View.read_writes_of_cover _ _ _ _ _ (cover0_A_3 c _ _ _ _ _ _ _ _ _ _ _ _ _ _ _)).trans (out0_A_3_congr c _ _ _ _ _ _ _ _ _ _ _ _ _ _ _ _ (ld_fill t _ _ _))
    · rw [PhiS_castSucc m c t, PhiS_pos m c _ _ hz]
      rw [outsAt0_A m c t h0]
      unfold out0_A_3 sout0_A_0; (try dsimp only)
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk m c 0 t) (X0_1 m c t) ((cfg0.win 2).fill (cfg0.grid.coords t) d2 (iblk m c 2 t))).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hg]
      · isplitl [HS0]
        · unfold owns; iexists _; isplitr
          swap; · iexact HS0
          ipureintro; exact (View.read_writes_of_cover _ _ _ _ _ (scover0_A_0 c _ _ _ _ _ _ _ _ _ _ _ _ _ _ _)).trans (sout0_A_0_congr c _ _ _ _ _ _ _ _ _ _ _ _ _ _ _ _ (ld_fill t _ _ _))
        iexact Hg
      isplitl [Ho]; · iexact Ho
      isplitl [H0]; · iexact H0
      isplitl [H1]; · iexists (X0_1 m c t); rw [Pipeline.Window.fill_cut]; iexact H1
      isplitl [H2]; · iexists d2; rw [show X0_2 m c t = (cfg0.win 2).fill (cfg0.grid.coords t) dflt0_2 (iblk m c 2 t) from rfl, Pipeline.Window.cut_fill]; iexact H2
      unfold owns; iexists _; isplitr
      swap; · iexact H3
      ipureintro; exact (View.read_writes_of_cover _ _ _ _ _ (cover0_A_3 c _ _ _ _ _ _ _ _ _ _ _ _ _ _ _)).trans (out0_A_3_congr c _ _ _ _ _ _ _ _ _ _ _ _ _ _ _ _ (ld_fill t _ _ _))
  · by_cases hz : t.val = 0
    · exfalso; have hN : t.val < 48 := lt_of_lt_of_eq t.isLt (show cfg0.N = 48 from N_0); omega
    · rw [PhiS_castSucc m c t, PhiS_pos m c _ _ hz]
      rw [outsAt0_B m c t h0]
      unfold out0_B_3 sout0_B_0; (try dsimp only)
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (iblk m c 0 t) (X0_1 m c t) ((cfg0.win 2).fill (cfg0.grid.coords t) d2 (iblk m c 2 t)) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, HS0⟩
      isplitl [HS0 Hg]
      · isplitl [HS0]
        · iexact HS0
        iexact Hg
      isplitl [Ho]; · iexact Ho
      isplitl [H0]; · iexact H0
      isplitl [H1]; · iexists (X0_1 m c t); rw [Pipeline.Window.fill_cut]; iexact H1
      isplitl [H2]; · iexists d2; rw [show X0_2 m c t = (cfg0.win 2).fill (cfg0.grid.coords t) dflt0_2 (iblk m c 2 t) from rfl, Pipeline.Window.cut_fill]; iexact H2
      unfold owns; iexists _; isplitr
      swap; · iexact H3
      ipureintro; exact (View.read_writes_of_cover _ _ _ _ _ (cover0_B_3 c _ _ _ _ _ _ _ _ _ _ _ _ _ _ _ _)).trans (out0_B_3_congr c _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The body obligation; of the weights' windows it names only the part that is fetched. -/
theorem body_obligation (c : Dev nD) : Pipeline.BodyObligationLoose (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 48 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := body_obligation m) (hq := fun _ _ _ => rfl)
    (howed := fun _ _ => rfl) (V := V m) (hmain := hmain m Variants.none) (hA := A_eq m) (hin := hin m) (hout := hout m)

/-- The run of the whole program. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The program ends with its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

/-- The run, with the result named. -/
theorem run_blocks : θ_run defs (onTc (τ := τ) (main (F := F))) ⟨m, fun _ => 0, ρ⟩ fun r => ∀ c : Dev nD,
      r.2.mem ((c : Thread nD τ).loc main_v3) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.Kernel8Ideal.Side

end
-- ==== Proof.GatesKernel.lean ====
module

public import proofs.«01_k».proof.Proof.GatesFrameIdeal
public import Idealize.ShloMosaic.Lib.Pipeline.ValueKit
public import Idealize.ShloMosaic.Lib.StableHlo.RunRead

/-! What the third input projection's kernel leaves in its result. -/

@[expose] public section

set_option maxRecDepth 16384

noncomputable section

namespace Cert.Kernel8Ideal.Side

open Idealize.ShloMosaic Idealize.ShloMosaic.TcCoe Idealize.SL.Sem Idealize.ShloMosaic.StableHlo
open Idealize.ShloMosaic.Pipeline (Dat)
open Cert.Kernel8Ideal Cert.Kernel8Ideal.Gen

theorem pay1_at (v : Vec Ideal S1x448x2048 .f32) (j : Fin 448) (k : Fin 2048) : (show EReal from k0_pay1 v (ix2 j k)) = v (ix3 0 j k) := by
  pointwise [k0_pay1]
theorem pay2_at (v : Vec Ideal S1x64x2048 .f32) (j : Fin 64) (k : Fin 2048) : (show EReal from k0_pay2 v (ix2 j k)) = v (ix3 0 j k) := by
  pointwise [k0_pay2]
theorem pay3_at (x : Vec Ideal S2048x2048 .bf16) (w : Vec Ideal S512x2048 .bf16) (r : Fin 2048) (j : Fin 512) :
    (show EReal from k0_pay3 x w (ix2 r j)) = ∑ k : Fin 2048, (x (ix2 r k) : EReal) * w (ix2 j k) := by
  pointwise [k0_pay3]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

theorem V1_at (r : Fin 8192) (j : Fin 2048) : V m c main_v1 (ix2 r j) = A0 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

theorem V2_at (l : Fin 4) (j : Fin 17472) (k : Fin 2048) : V m c main_v2 (ix3 l j k) = A1 m c (ix3 l k j) := by
  unfold V
  after_reads_simp
  have e (x : FVec Ideal S4x2048x17472 .f32) : transpose S4x17472x2048 [0, 2, 1] x transposes_S4x2048x17472_S4x17472x2048_0_2_1 (ix3 l j k) = x (ix3 l k j) := by pointwise
  exact e _

theorem idx : ∀ t : Fin cfg0.N, win0_0.index t = ![t.val % 4, 0] ∧ win0_1.index t = ![0, 22 + t.val / 4, 0] ∧ win0_2.index t = ![0, 4 * (23 + t.val / 4), 0]
    ∧ win0_3.index t = ![t.val % 4, t.val / 4] :=
  (by decide +kernel : ∀ t : Fin grid0.N, _)

theorem X0_at (t : Fin cfg0.N) (r : Fin 2048) (k : Fin 2048) : (show Vec Ideal S2048x2048 .bf16 from iblk m c 0 t) (ix2 r k) = A0 m c (ix3 0 ⟨2048 * (t.val % 4) + r.val, by omega⟩ k) := by
  rw [← V1_at]
  blk_point [iblk, V, idx t]

theorem X1_at (t : Fin cfg0.N) (j : Fin 512) (k : Fin 2048) (hj : 512 * (22 + t.val / 4) + j.val < 17472) :
    (show Vec Ideal S1x512x2048 .f32 from X0_1 m c t) (ix3 0 j k) = A1 m c (ix3 0 k ⟨512 * (22 + t.val / 4) + j.val, hj⟩) := by
  rw [← V2_at]
  unfold X0_1 Pipeline.Window.fill
  refine (dif_pos (moved0_1 t (ix3 0 j k))).trans ?_
  blk_point [iblk, V, idx t]

/-- The rows read of the second window are filled by its fetch. -/
theorem X2_at (t : Fin cfg0.N) (j : Fin 128) (k : Fin 2048) (h : j.val < 64) (hj : 512 * (23 + t.val / 4) + j.val < 17472) :
    (show Vec Ideal S1x128x2048 .f32 from X0_2 m c t) (ix3 0 j k) = A1 m c (ix3 0 k ⟨512 * (23 + t.val / 4) + j.val, hj⟩) := by
  rw [← V2_at]
  unfold X0_2 Pipeline.Window.fill
  refine (dif_pos (moved0_2 t (ix3 0 j k) h)).trans ?_
  blk_point [iblk, V, idx t]

/-- The rows of the weights that a column block's first point keeps. -/
def wts (x1 : Vec Ideal S1x512x2048 .f32) (x2 : Vec Ideal S1x128x2048 .f32) : Vec Ideal S512x2048 .bf16 := fun y =>
  if h : (y 0).val < 448 then x1 (ix3 0 ⟨64 + (y 0).val, by omega⟩ (y 1)) else x2 (ix3 0 ⟨(y 0).val - 448, by have : (y 0).val < 512 := (y 0).isLt; omega⟩ (y 1))

abbrev rLo : Rect S512x2048 := Rect.unit ![0, 0] ![448, 2048] inb_S512x2048_S448x2048_0_0
abbrev rHi : Rect S512x2048 := Rect.unit ![448, 0] ![64, 2048] inb_S512x2048_S64x2048_448_0

theorem eta_lo (y : S512x2048.Idx) (h : (y 0).val < 448) : rLo.emb (ix2 (⟨(y 0).val, h⟩ : Fin 448) (y 1 : Fin 2048) : S448x2048.Idx) = y := by
  funext a; refine Fin.cases (Fin.ext ?_) (fun b => Fin.cases (Fin.ext ?_) (fun b => b.elim0) b) a
  · show 0 + 1 * (y 0).val = (y 0).val; omega
  · show 0 + 1 * (y 1).val = (y 1).val; omega

theorem eta_hi (y : S512x2048.Idx) (h : ¬(y 0).val < 448) (h' : (y 0).val - 448 < 64) : rHi.emb (ix2 (⟨(y 0).val - 448, h'⟩ : Fin 64) (y 1 : Fin 2048) : S64x2048.Idx) = y := by
  funext a; refine Fin.cases (Fin.ext ?_) (fun b => Fin.cases (Fin.ext ?_) (fun b => b.elim0) b) a
  · show 448 + 1 * ((y 0).val - 448) = (y 0).val; omega
  · show 0 + 1 * (y 1).val = (y 1).val; omega

theorem not_hi (y : S512x2048.Idx) (h : (y 0).val < 448) : y ∉ rHi.set := by
  intro hm
  have h0 : 448 ≤ (y 0).val := (Rect.mem_set_unit.mp hm 0).1
  omega

theorem canon_lo_emb (w1 : Vec Ideal S448x2048 .bf16) (w2 : Vec Ideal S64x2048 .bf16) (x : S448x2048.Idx) (hn : rLo.emb x ∉ rHi.set) :
    View.canon [(⟨rHi, w2⟩ : View.Piece (Elt Ideal) S512x2048 .bf16), ⟨rLo, w1⟩] (rLo.emb x) = w1 x :=
  (View.canon_cons_of_not_mem (⟨rHi, w2⟩ : View.Piece (Elt Ideal) S512x2048 .bf16) [⟨rLo, w1⟩] hn).trans (View.canon_cons_emb rLo w1 [] x)

theorem canon_lo (w1 : Vec Ideal S448x2048 .bf16) (w2 : Vec Ideal S64x2048 .bf16) (y : S512x2048.Idx) (h : (y 0).val < 448) :
    View.canon [(⟨rHi, w2⟩ : View.Piece (Elt Ideal) S512x2048 .bf16), ⟨rLo, w1⟩] y = w1 (ix2 (⟨(y 0).val, h⟩ : Fin 448) (y 1 : Fin 2048)) := by
  have e := canon_lo_emb w1 w2 (ix2 (⟨(y 0).val, h⟩ : Fin 448) (y 1 : Fin 2048)) (by rw [eta_lo y h]; exact not_hi y h)
  rw [eta_lo y h] at e
  exact e

theorem canon_hi (w1 : Vec Ideal S448x2048 .bf16) (w2 : Vec Ideal S64x2048 .bf16) (y : S512x2048.Idx) (h : ¬(y 0).val < 448) (h' : (y 0).val - 448 < 64) :
    View.canon [(⟨rHi, w2⟩ : View.Piece (Elt Ideal) S512x2048 .bf16), ⟨rLo, w1⟩] y = w2 (ix2 (⟨(y 0).val - 448, h'⟩ : Fin 64) (y 1 : Fin 2048)) := by
  refine (congrArg _ (eta_hi y h h').symm).trans ?_
  exact View.canon_cons_emb rHi w2 _ _

theorem ld_lo (x1 : Vec Ideal S1x512x2048 .f32) (j : Fin 448) (k : Fin 2048) :
    (View.ld x1 (Rect.unit ![0, 64, 0] ![1, 448, 2048] inb_S1x512x2048_S1x448x2048_0_64_0) : Vec Ideal S1x448x2048 .f32) (ix3 0 j k) = x1 (ix3 0 ⟨64 + j.val, by omega⟩ k) := by
  refine congrArg x1 (funext fun a => ?_)
  refine Fin.cases (Fin.ext ?_) (fun b => Fin.cases (Fin.ext ?_) (fun b => Fin.cases (Fin.ext ?_) (fun b => b.elim0) b) b) a
  · rfl
  · show 64 + 1 * j.val = 64 + j.val; omega
  · show 0 + 1 * k.val = k.val; omega

theorem ld_hi (x2 : Vec Ideal S1x128x2048 .f32) (j : Fin 64) (k : Fin 2048) :
    (View.ld x2 (Rect.unit ![0, 0, 0] ![1, 64, 2048] inb_S1x128x2048_S1x64x2048_0_0_0) : Vec Ideal S1x64x2048 .f32) (ix3 0 j k) = x2 (ix3 0 ⟨j.val, by omega⟩ k) := by
  refine congrArg x2 (funext fun a => ?_)
  refine Fin.cases (Fin.ext ?_) (fun b => Fin.cases (Fin.ext ?_) (fun b => Fin.cases (Fin.ext ?_) (fun b => b.elim0) b) b) a
  · rfl
  · show 0 + 1 * j.val = j.val; omega
  · show 0 + 1 * k.val = k.val; omega

theorem canon_two (x1 : Vec Ideal S1x512x2048 .f32) (x2 : Vec Ideal S1x128x2048 .f32) :
    (View.canon
      [(⟨Rect.unit ![448, 0] ![64, 2048] inb_S512x2048_S64x2048_448_0,
          k0_pay2 (View.ld x2 (Rect.unit ![0, 0, 0] ![1, 64, 2048] inb_S1x128x2048_S1x64x2048_0_0_0))⟩ : View.Piece (Elt Ideal) S512x2048 .bf16),
        ⟨Rect.unit ![0, 0] ![448, 2048] inb_S512x2048_S448x2048_0_0,
          k0_pay1 (View.ld x1 (Rect.unit ![0, 64, 0] ![1, 448, 2048] inb_S1x512x2048_S1x448x2048_0_64_0))⟩]) = wts x1 x2 := by
  funext y
  have hy0 : (y 0).val < 512 := (y 0).isLt
  by_cases h : (y 0).val < 448
  · refine (canon_lo _ _ y h).trans ((pay1_at _ _ _).trans ((ld_lo x1 _ _).trans ?_))
    unfold wts
    rw [dif_pos h]
  · refine (canon_hi _ _ y h (by omega)).trans ((pay2_at _ _ _).trans ((ld_hi x2 _ _).trans ?_))
    unfold wts
    rw [dif_neg h]

section cases
variable (i : grid0.Coords) (arg2 : Memref sig .tc .vmem S2048x2048 .bf16) (harg2 : arg2.IsWhole) (arg3 : Memref sig .tc .vmem S1x512x2048 .f32) (harg3 : arg3.IsWhole) (arg4 : Memref sig .tc .vmem S1x128x2048 .f32) (harg4 : arg4.IsWhole) (arg5 : Memref sig .tc .vmem S2048x512 .bf16) (harg5 : arg5.IsWhole) (arg6 : Memref sig .tc .vmem S512x2048 .bf16) (harg6 : arg6.IsWhole)
  (x0 : Vec Ideal S2048x2048 .bf16) (x1 : Vec Ideal S1x512x2048 .f32) (x2 : Vec Ideal S1x128x2048 .f32) (xs : Vec Ideal S512x2048 .bf16)

theorem scA (hc0 : cond0_0 i) : sout0_A_0 c i arg2 harg2 arg3 harg3 arg4 harg4 arg5 harg5 arg6 harg6 hc0 x0 x1 x2 = wts x1 x2 := by
  frame_out
  exact canon_two x1 x2

theorem outA (hc0 : cond0_0 i) : out0_A_3 c i arg2 harg2 arg3 harg3 arg4 harg4 arg5 harg5 arg6 harg6 hc0 x0 x1 x2 = k0_pay3 x0 (wts x1 x2) := by
  frame_out
  refine congrArg (k0_pay3 x0) ?_
  rw [View.readCov_eq_canon', canon_two]
  refine funext fun y => congrArg (wts x1 x2) (funext fun a => Fin.ext ?_)
  match a with
  | ⟨0, _⟩ => show 0 + 1 * (y 0).val = (y 0).val; omega
  | ⟨1, _⟩ => show 0 + 1 * (y 1).val = (y 1).val; omega

theorem outB (hc0 : ¬cond0_0 i) : out0_B_3 c i arg2 harg2 arg3 harg3 arg4 harg4 arg5 harg5 arg6 harg6 hc0 x0 x1 x2 xs = k0_pay3 x0 xs := by
  frame_out
end cases

/-- The weights of column block `b`: row `j` is column `11328 + 512 b + j`. -/
def blkW (a1 : FVec Ideal S4x2048x17472 .f32) (b : ℕ) (hb : b < 12) : Vec Ideal S512x2048 .bf16 := fun y =>
  a1 (ix3 0 (y 1) ⟨11328 + 512 * b + (y 0).val, by have : (y 0).val < 512 := (y 0).isLt; omega⟩)

theorem lt12 (n : ℕ) (hn : n < cfg0.N) : n / 4 < 12 := by have := lt_of_lt_of_eq hn N_0; omega

theorem wts_eq (t : Fin cfg0.N) : wts (X0_1 m c t) (X0_2 m c t) = blkW (A1 m c) (t.val / 4) (lt12 t.val t.isLt) := by
  have ht := lt12 t.val t.isLt
  funext y
  have hy0 : (y 0).val < 512 := (y 0).isLt
  unfold wts blkW
  split
  · refine (X1_at m c t _ _ (by show 512 * (22 + t.val / 4) + (64 + (y 0).val) < 17472; omega)).trans (congrArg (fun z => A1 m c (ix3 0 (y 1) z)) (Fin.ext ?_))
    show 512 * (22 + t.val / 4) + (64 + (y 0).val) = 11328 + 512 * (t.val / 4) + (y 0).val
    omega
  · refine (X2_at m c t _ _ (by show (y 0).val - 448 < 64; omega) (by show 512 * (23 + t.val / 4) + ((y 0).val - 448) < 17472; omega)).trans (congrArg (fun z => A1 m c (ix3 0 (y 1) z)) (Fin.ext ?_))
    show 512 * (23 + t.val / 4) + ((y 0).val - 448) = 11328 + 512 * (t.val / 4) + (y 0).val
    omega

/-- What every point leaves: the kept weights are its column block's, and the output block is the product with them. -/
theorem at_pt : ∀ n (hn : n < cfg0.N), (outsAt0 m c n hn).2 = blkW (A1 m c) (n / 4) (lt12 n hn)
    ∧ (outsAt0 m c n hn).1 = k0_pay3 (iblk m c 0 ⟨n, hn⟩) (blkW (A1 m c) (n / 4) (lt12 n hn)) := by
  intro n
  induction n with
  | zero =>
    intro hn
    have o := outsAt0_A m c ⟨0, hn⟩ (Nat.zero_mod _)
    rw [show outsAt0 m c 0 hn = _ from o]
    dsimp only
    rw [scA, outA, wts_eq]
    exact ⟨rfl, rfl⟩
  | succ n ih =>
    intro hn
    by_cases h : (n + 1) % 4 = 0
    · have o := outsAt0_A m c ⟨n + 1, hn⟩ h
      rw [show outsAt0 m c (n + 1) hn = _ from o]
      dsimp only
      rw [scA, outA, wts_eq]
      exact ⟨rfl, rfl⟩
    · have ih1 := (ih (Nat.lt_of_succ_lt hn)).1
      have eq : n / 4 = (n + 1) / 4 := by omega
      have ih2 : ∀ h', (outsAt0 m c (n + 1 - 1) h').2 = blkW (A1 m c) ((n + 1) / 4) (lt12 _ hn) := fun _ => by
        refine Eq.trans ih1 ?_
        congr 1
      have o := outsAt0_B m c ⟨n + 1, hn⟩ h
      rw [show outsAt0 m c (n + 1) hn = _ from o]
      dsimp only
      rw [outB, ih2]
      exact ⟨rfl, rfl⟩

/-- The result, entry by entry. -/
def G (a0 : FVec Ideal S1x8192x2048 .f32) (a1 : FVec Ideal S4x2048x17472 .f32) (r : Fin 8192) (j : Fin 6144) : EReal :=
  ∑ k : Fin 2048, (a0 (ix3 0 r k) : EReal) * a1 (ix3 0 k ⟨11328 + j.val, by omega⟩)

theorem point (t : Fin cfg0.N) (r : Fin 2048) (j : Fin 512) :
    (show EReal from (outsAt0 m c t.val t.isLt).1 (ix2 r j))
      = G (A0 m c) (A1 m c) ⟨2048 * (t.val % 4) + r.val, by omega⟩ ⟨512 * (t.val / 4) + j.val, by have := lt12 t.val t.isLt; omega⟩ := by
  rw [(at_pt m c t.val t.isLt).2]
  refine (pay3_at _ _ r j).trans ?_
  unfold G
  refine Finset.sum_congr rfl fun k _ => congrArg₂ (fun x y : EReal => x * y) (X0_at m c t r k) ?_
  refine congrArg (fun z => A1 m c (ix3 0 k z)) (Fin.ext ?_)
  show 11328 + 512 * (t.val / 4) + j.val = 11328 + (512 * (t.val / 4) + j.val)
  omega

theorem final : (dats m 0 c).arrAt 3 (cfgs 0).N = (fun i => G (A0 m c) (A1 m c) (i 0) (i 1) : FVec Ideal S8192x6144 .bf16) := by
  refine (dats m 0 c).arrAt_eq_of_covers 3 _ (by decide +kernel) fun t _ y => ?_
  blk_simp
  rw [after0_3]
  refine (congrArg _ (ix2_eta y).symm).trans ((point m c t (y 0) (y 1)).trans ?_)
  refine congrArg₂ (G _ _) (Fin.ext ?_) (Fin.ext ?_) <;> blk_simp [idx t] <;> idx_bounds <;> simp <;> omega

end Cert.Kernel8Ideal.Side

end
-- ==== Proof.GatesRef.lean ====
module

public import proofs.«01_k».proof.Proof.GatesKernel
public import proofs.«01_k».proof.Proof.Gen.Reference8Ideal.Run
public import proofs.«01_k».proof.Proof.Gen.Reference8Ideal
public import proofs.«01_k».proof.Defs
public import Idealize.ShloMosaic.Lib.Quiescent

/-! The third input projection's reference, entry by entry, and its equality with the kernel's result. -/

@[expose] public section

set_option maxRecDepth 16384

noncomputable section

namespace Cert.Reference8Ideal.Side

open Idealize.ShloMosaic Idealize.ShloMosaic.TcCoe Idealize.SL.Sem Idealize.ShloMosaic.StableHlo
open Cert.Reference8Ideal Cert.Reference8Ideal.Gen Cert.Reference8Ideal.Value

/-- The columns of the product, as the reference's operations compose it. -/
abbrev prod (a0 : FVec Ideal S1x8192x2048 .f32) (a1 : FVec Ideal S4x2048x17472 .f32) : FVec Ideal S8192x6144 .bf16 :=
  truncf .bf16 (shapeCast S8192x6144 (extractStridedSlice S1x8192x6144 ![0, 0, 11328]
        (Host.dotGeneral dot_S1x8192x2048_S2048x17472_S1x8192x17472_2_0_01_1_n_n none a0
          (shapeCast S2048x17472 (extractStridedSlice S1x2048x17472 ![0, 0, 0] a1 slices_S4x2048x17472_S1x2048x17472_0_0_0) shapeCasts_S1x2048x17472_S2048x17472 : FVec Ideal S2048x17472 .f32) : FVec Ideal S1x8192x17472 .f32)
        slices_S1x8192x17472_S1x8192x6144_0_0_11328) shapeCasts_S1x8192x6144_S8192x6144) bitsLt_bf16_f32

theorem prod_at (a0 : FVec Ideal S1x8192x2048 .f32) (a1 : FVec Ideal S4x2048x17472 .f32) (r : Fin 8192) (j : Fin 6144) :
    (show EReal from prod a0 a1 (ix2 r j)) = Cert.Kernel8Ideal.Side.G a0 a1 r j := by
  pointwise [Cert.Kernel8Ideal.Side.G]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

/-- The reference's result. -/
abbrev res : FVec Ideal S8192x6144 .bf16 := prod (A0 m c) (A1 m c)

/-- The reference runs to its result, its arguments unchanged and its semaphores at zero. -/
theorem run_all (ρ : Dev nD → PrngReg) : θ_run (defs (F := Ideal)) (onTc (τ := τ) (main (F := Ideal))) ⟨m, fun _ => 0, ρ⟩ fun r =>
    (∀ c : Dev nD, r.2.mem ((c.tc : Thread nD τ).loc main_v5) = res m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run _ _ _).mono (fun _ h => ⟨h, sem_eq_zero_of_no_sems (show sig.nSem + sig.nDmaSem = 0 by decide) _⟩) (run m ρ)

end Cert.Reference8Ideal.Side

namespace Cert.GatesEq

open Idealize.ShloMosaic Idealize.ShloMosaic.TcCoe Idealize.SL.Sem

/-- From memories that agree on the arguments, the two programs' results are the same array. -/
theorem result_eq (m : (ℓ : Loc Cert.Kernel8Ideal.nD Cert.Kernel8Ideal.τ Cert.Kernel8Ideal.sig) → Buf (Elt Ideal) ℓ)
    (m' : (ℓ : Loc Cert.Reference8Ideal.nD Cert.Reference8Ideal.τ Cert.Reference8Ideal.sig) → Buf (Elt Ideal) ℓ) (c : Dev Cert.Kernel8Ideal.nD) (c' : Dev Cert.Reference8Ideal.nD)
    (h0 : Cert.Reference8Ideal.Side.A0 m' c' = Cert.Kernel8Ideal.Side.A0 m c) (h1 : Cert.Reference8Ideal.Side.A1 m' c' = Cert.Kernel8Ideal.Side.A1 m c) :
    (Cert.Reference8Ideal.Side.res m' c' : FVec Ideal Cert.Reference8Ideal.S8192x6144 .bf16)
      = (Cert.Kernel8Ideal.Side.dats m 0 c).arrAt 3 (Cert.Kernel8Ideal.cfgs 0).N := by
  rw [Cert.Kernel8Ideal.Side.final]
  funext i
  refine (congrArg _ (ix2_eta i).symm).trans ((Cert.Reference8Ideal.Side.prod_at _ _ (i 0) (i 1)).trans ?_)
  rw [h0, h1]

/-- The kernel and the reference end with the same result. -/
theorem algebraic : Cert.algebraic_Kernel8Ideal_Reference8Ideal (hKernel8Ideal := Cert.Kernel8Ideal.Gen.facts) (hReference8Ideal := Cert.Reference8Ideal.Gen.facts) := by
  intro m g m' g' _ hA
  refine ⟨fun c => (Cert.Kernel8Ideal.Side.dats m 0 c).arrAt 3 (Cert.Kernel8Ideal.cfgs 0).N, Cert.Kernel8Ideal.Side.run_blocks m g, ?_⟩
  refine (θ_run _ _ _).mono (fun r h c => ?_) (Cert.Reference8Ideal.Side.run_all m' g')
  obtain ⟨h0, h1⟩ := hA c
  exact ⟨(h.1 c).1.trans (result_eq m m' c c h0 h1), (h.1 c).2⟩

end Cert.GatesEq

end
-- ==== Proof.QueryKernel.lean ====
module

public import proofs.«01_k».proof.Proof.Gen.Kernel9Ideal.Value
public import Idealize.ShloMosaic.Lib.Pipeline.ValueKit
public import Idealize.ShloMosaic.Lib.StableHlo.RunRead

/-! What the queries' input projection's kernel leaves in its result. -/

@[expose] public section

set_option maxRecDepth 16384

noncomputable section

namespace Cert.Kernel9Ideal.Side

open Idealize.ShloMosaic Idealize.ShloMosaic.TcCoe Idealize.SL.Sem Idealize.ShloMosaic.StableHlo
open Idealize.ShloMosaic.Pipeline (Dat)
open Cert.Kernel9Ideal Cert.Kernel9Ideal.Gen

/-- The queries' scale: the word of log2(e)/sqrt(128). -/
abbrev κ : EReal := Ideal.ofBits .f32 0x3E0293EE#32

theorem pay1_at (v : Vec Ideal S1x512x2048 .f32) (j : Fin 512) (k : Fin 2048) : (show EReal from k0_pay1 v (ix2 j k)) = v (ix3 0 j k) := by
  pointwise [k0_pay1]
theorem pay2_at (x : Vec Ideal S2048x2048 .bf16) (w : Vec Ideal S512x2048 .bf16) (r : Fin 2048) (j : Fin 512) :
    (show EReal from k0_pay2 x w (ix2 r j)) = (∑ k : Fin 2048, (x (ix2 r k) : EReal) * w (ix2 j k)) * κ := by
  pointwise [k0_pay2]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

theorem V1_at (r : Fin 8192) (j : Fin 2048) : V m c main_v1 (ix2 r j) = A0 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

theorem V2_at (l : Fin 4) (j : Fin 17472) (k : Fin 2048) : V m c main_v2 (ix3 l j k) = A1 m c (ix3 l k j) := by
  unfold V
  after_reads_simp
  have e (x : FVec Ideal S4x2048x17472 .f32) : transpose S4x17472x2048 [0, 2, 1] x transposes_S4x2048x17472_S4x17472x2048_0_2_1 (ix3 l j k) = x (ix3 l k j) := by pointwise
  exact e _

theorem idx : ∀ t : Fin cfg0.N, win0_0.index t = ![t.val % 4, 0] ∧ win0_1.index t = ![0, t.val / 4, 0] ∧ win0_2.index t = ![t.val % 4, t.val / 4] :=
  (by decide +kernel : ∀ t : Fin grid0.N, _)

theorem X0_at (t : Fin cfg0.N) (r : Fin 2048) (k : Fin 2048) : (show Vec Ideal S2048x2048 .bf16 from iblk m c 0 t) (ix2 r k) = A0 m c (ix3 0 ⟨2048 * (t.val % 4) + r.val, by omega⟩ k) := by
  rw [← V1_at]
  blk_point [iblk, V, idx t]

theorem X1_at (t : Fin cfg0.N) (j : Fin 512) (k : Fin 2048) (hj : 512 * (t.val / 4) + j.val < 17472) :
    (show Vec Ideal S1x512x2048 .f32 from X0_1 m c t) (ix3 0 j k) = A1 m c (ix3 0 k ⟨512 * (t.val / 4) + j.val, hj⟩) := by
  rw [← V2_at]
  unfold X0_1 Pipeline.Window.fill
  refine (dif_pos (moved0_1 t (ix3 0 j k))).trans ?_
  blk_point [iblk, V, idx t]

/-- The rows of the weights that a column block's first point keeps. -/
def wts (x1 : Vec Ideal S1x512x2048 .f32) : Vec Ideal S512x2048 .bf16 := fun y => x1 (ix3 0 (y 0) (y 1))

theorem pay1_wts (x1 : Vec Ideal S1x512x2048 .f32) : k0_pay1 x1 = wts x1 := by
  funext y
  exact (congrArg _ (ix2_eta y).symm).trans (pay1_at x1 (y 0) (y 1))

section cases
variable (i : grid0.Coords) (arg2 : Memref sig .tc .vmem S2048x2048 .bf16) (harg2 : arg2.IsWhole) (arg3 : Memref sig .tc .vmem S1x512x2048 .f32) (harg3 : arg3.IsWhole) (arg4 : Memref sig .tc .vmem S2048x512 .bf16) (harg4 : arg4.IsWhole) (arg5 : Memref sig .tc .vmem S512x2048 .bf16) (harg5 : arg5.IsWhole)
  (x0 : Vec Ideal S2048x2048 .bf16) (x1 : Vec Ideal S1x512x2048 .f32) (xs : Vec Ideal S512x2048 .bf16)

theorem scA (hc0 : cond0_0 i) : sout0_A_0 c i arg2 harg2 arg3 harg3 arg4 harg4 arg5 harg5 hc0 x0 x1 = wts x1 := by
  frame_out
  exact pay1_wts x1

theorem outA (hc0 : cond0_0 i) : out0_A_2 c i arg2 harg2 arg3 harg3 arg4 harg4 arg5 harg5 hc0 x0 x1 = k0_pay2 x0 (wts x1) := by
  frame_out
  rw [pay1_wts]

theorem outB (hc0 : ¬cond0_0 i) : out0_B_2 c i arg2 harg2 arg3 harg3 arg4 harg4 arg5 harg5 hc0 x0 x1 xs = k0_pay2 x0 xs := by
  frame_out
end cases

/-- The weights of column block `b`: row `j` is column `512 b + j`. -/
def blkW (a1 : FVec Ideal S4x2048x17472 .f32) (b : ℕ) (hb : b < 4) : Vec Ideal S512x2048 .bf16 := fun y =>
  a1 (ix3 0 (y 1) ⟨512 * b + (y 0).val, by have : (y 0).val < 512 := (y 0).isLt; omega⟩)

theorem lt4 (n : ℕ) (hn : n < cfg0.N) : n / 4 < 4 := by have := lt_of_lt_of_eq hn N_0; omega

theorem wts_eq (t : Fin cfg0.N) : wts (X0_1 m c t) = blkW (A1 m c) (t.val / 4) (lt4 t.val t.isLt) := by
  have ht := lt4 t.val t.isLt
  funext y
  have hy0 : (y 0).val < 512 := (y 0).isLt
  unfold wts blkW
  refine (X1_at m c t _ _ (by show 512 * (t.val / 4) + (y 0).val < 17472; omega)).trans (congrArg (fun z => A1 m c (ix3 0 (y 1) z)) (Fin.ext ?_))
  show 512 * (t.val / 4) + (y 0).val = 512 * (t.val / 4) + (y 0).val
  omega

/-- What every point leaves: the kept weights are its column block's, and the output block is the product with them. -/
theorem at_pt : ∀ n (hn : n < cfg0.N), (outsAt0 m c n hn).2 = blkW (A1 m c) (n / 4) (lt4 n hn)
    ∧ (outsAt0 m c n hn).1 = k0_pay2 (iblk m c 0 ⟨n, hn⟩) (blkW (A1 m c) (n / 4) (lt4 n hn)) := by
  intro n
  induction n with
  | zero =>
    intro hn
    have o := outsAt0_A m c ⟨0, hn⟩ (Nat.zero_mod _)
    rw [show outsAt0 m c 0 hn = _ from o]
    dsimp only
    rw [scA, outA, wts_eq]
    exact ⟨rfl, rfl⟩
  | succ n ih =>
    intro hn
    by_cases h : (n + 1) % 4 = 0
    · have o := outsAt0_A m c ⟨n + 1, hn⟩ h
      rw [show outsAt0 m c (n + 1) hn = _ from o]
      dsimp only
      rw [scA, outA, wts_eq]
      exact ⟨rfl, rfl⟩
    · have ih1 := (ih (Nat.lt_of_succ_lt hn)).1
      have eq : n / 4 = (n + 1) / 4 := by omega
      have ih2 : ∀ h', (outsAt0 m c (n + 1 - 1) h').2 = blkW (A1 m c) ((n + 1) / 4) (lt4 _ hn) := fun _ => by
        refine Eq.trans ih1 ?_
        congr 1
      have o := outsAt0_B m c ⟨n + 1, hn⟩ h
      rw [show outsAt0 m c (n + 1) hn = _ from o]
      dsimp only
      rw [outB, ih2]
      exact ⟨rfl, rfl⟩

/-- The result, entry by entry. -/
def G (a0 : FVec Ideal S1x8192x2048 .f32) (a1 : FVec Ideal S4x2048x17472 .f32) (r : Fin 8192) (j : Fin 2048) : EReal :=
  (∑ k : Fin 2048, (a0 (ix3 0 r k) : EReal) * a1 (ix3 0 k ⟨j.val, by omega⟩)) * κ

theorem point (t : Fin cfg0.N) (r : Fin 2048) (j : Fin 512) :
    (show EReal from (outsAt0 m c t.val t.isLt).1 (ix2 r j))
      = G (A0 m c) (A1 m c) ⟨2048 * (t.val % 4) + r.val, by omega⟩ ⟨512 * (t.val / 4) + j.val, by have := lt4 t.val t.isLt; omega⟩ := by
  rw [(at_pt m c t.val t.isLt).2]
  refine (pay2_at _ _ r j).trans ?_
  unfold G
  refine congrArg (fun z : EReal => z * κ) (Finset.sum_congr rfl fun k _ => congrArg₂ (fun x y : EReal => x * y) (X0_at m c t r k) rfl)

theorem final : (dats m 0 c).arrAt 2 (cfgs 0).N = (fun i => G (A0 m c) (A1 m c) (i 0) (i 1) : FVec Ideal S8192x2048 .bf16) := by
  refine (dats m 0 c).arrAt_eq_of_covers 2 _ (by decide +kernel) fun t _ y => ?_
  blk_simp
  rw [after0_2]
  refine (congrArg _ (ix2_eta y).symm).trans ((point m c t (y 0) (y 1)).trans ?_)
  refine congrArg₂ (G _ _) (Fin.ext ?_) (Fin.ext ?_) <;> blk_simp [idx t] <;> idx_bounds <;> simp <;> omega

end Cert.Kernel9Ideal.Side

end
-- ==== Proof.QueryRef.lean ====
module

public import proofs.«01_k».proof.Proof.QueryKernel
public import proofs.«01_k».proof.Proof.Gen.Reference9Ideal.Run
public import proofs.«01_k».proof.Proof.Gen.Reference9Ideal
public import proofs.«01_k».proof.Defs
public import Idealize.ShloMosaic.Lib.Quiescent

/-! The queries' input projection's reference, entry by entry, and its equality with the kernel's result. -/

@[expose] public section

set_option maxRecDepth 16384

noncomputable section

namespace Cert.Reference9Ideal.Side

open Idealize.ShloMosaic Idealize.ShloMosaic.TcCoe Idealize.SL.Sem Idealize.ShloMosaic.StableHlo
open Cert.Reference9Ideal Cert.Reference9Ideal.Gen Cert.Reference9Ideal.Value

/-- The columns of the product, as the reference's operations compose it. -/
abbrev prod (a0 : FVec Ideal S1x8192x2048 .f32) (a1 : FVec Ideal S4x2048x17472 .f32) : FVec Ideal S8192x2048 .bf16 :=
  truncf .bf16 (mulf (shapeCast S8192x2048 (extractStridedSlice S1x8192x2048 ![0, 0, 0]
        (Host.dotGeneral dot_S1x8192x2048_S2048x17472_S1x8192x17472_2_0_01_1_n_n none a0
          (shapeCast S2048x17472 (extractStridedSlice S1x2048x17472 ![0, 0, 0] a1 slices_S4x2048x17472_S1x2048x17472_0_0_0) shapeCasts_S1x2048x17472_S2048x17472 : FVec Ideal S2048x17472 .f32) : FVec Ideal S1x8192x17472 .f32)
        slices_S1x8192x17472_S1x8192x2048_0_0_0) shapeCasts_S1x8192x2048_S8192x2048) (broadcastInDim S8192x2048 ![] bcast_S_S8192x2048 (constant S_ .f32 0x3E0293EE#32))) bitsLt_bf16_f32

theorem prod_at (a0 : FVec Ideal S1x8192x2048 .f32) (a1 : FVec Ideal S4x2048x17472 .f32) (r : Fin 8192) (j : Fin 2048) :
    (show EReal from prod a0 a1 (ix2 r j)) = Cert.Kernel9Ideal.Side.G a0 a1 r j := by
  pointwise [Cert.Kernel9Ideal.Side.G]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

/-- The reference's result. -/
abbrev res : FVec Ideal S8192x2048 .bf16 := prod (A0 m c) (A1 m c)

/-- The reference runs to its result, its arguments unchanged and its semaphores at zero. -/
theorem run_all (ρ : Dev nD → PrngReg) : θ_run (defs (F := Ideal)) (onTc (τ := τ) (main (F := Ideal))) ⟨m, fun _ => 0, ρ⟩ fun r =>
    (∀ c : Dev nD, r.2.mem ((c.tc : Thread nD τ).loc main_v7) = res m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run _ _ _).mono (fun _ h => ⟨h, sem_eq_zero_of_no_sems (show sig.nSem + sig.nDmaSem = 0 by decide) _⟩) (run m ρ)

end Cert.Reference9Ideal.Side

namespace Cert.QueryEq

open Idealize.ShloMosaic Idealize.ShloMosaic.TcCoe Idealize.SL.Sem

/-- From memories that agree on the arguments, the two programs' results are the same array. -/
theorem result_eq (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev Cert.Kernel9Ideal.nD) (c' : Dev Cert.Reference9Ideal.nD)
    (h0 : Cert.Reference9Ideal.Side.A0 m' c' = Cert.Kernel9Ideal.Side.A0 m c) (h1 : Cert.Reference9Ideal.Side.A1 m' c' = Cert.Kernel9Ideal.Side.A1 m c) :
    (Cert.Reference9Ideal.Side.res m' c' : FVec Ideal Cert.Reference9Ideal.S8192x2048 .bf16)
      = (Cert.Kernel9Ideal.Gen.dats m 0 c).arrAt 2 (Cert.Kernel9Ideal.cfgs 0).N := by
  rw [Cert.Kernel9Ideal.Side.final]
  funext i
  refine (congrArg _ (ix2_eta i).symm).trans ((Cert.Reference9Ideal.Side.prod_at _ _ (i 0) (i 1)).trans ?_)
  rw [h0, h1]

/-- The kernel and the reference end with the same result. -/
theorem algebraic : Cert.algebraic_Kernel9Ideal_Reference9Ideal (hKernel9Ideal := Cert.Kernel9Ideal.Gen.facts) (hReference9Ideal := Cert.Reference9Ideal.Gen.facts) := by
  intro m g m' g' _ hA
  refine ⟨fun c => (Cert.Kernel9Ideal.Gen.dats m 0 c).arrAt 2 (Cert.Kernel9Ideal.cfgs 0).N, Cert.Kernel9Ideal.Value.run_blocks m g, ?_⟩
  refine (θ_run _ _ _).mono (fun r h c => ?_) (Cert.Reference9Ideal.Side.run_all m' g')
  obtain ⟨h0, h1⟩ := hA c
  exact ⟨(h.1 c).1.trans (result_eq m m' c c h0 h1), (h.1 c).2⟩

end Cert.QueryEq

end
-- ==== Proof.BranchKernel.lean ====
module

public import proofs.«01_k».proof.Proof.Gen.Kernel10Ideal.Value
public import Idealize.ShloMosaic.Lib.Pipeline.ValueKit
public import Idealize.ShloMosaic.Lib.StableHlo.RunRead

/-! What the branch gates' input projection's kernel leaves in its result. -/

@[expose] public section

set_option maxRecDepth 16384

noncomputable section

namespace Cert.Kernel10Ideal.Side

open Idealize.ShloMosaic Idealize.ShloMosaic.TcCoe Idealize.SL.Sem Idealize.ShloMosaic.StableHlo
open Idealize.ShloMosaic.Pipeline (Dat)
open Cert.Kernel10Ideal Cert.Kernel10Ideal.Gen

theorem pay1_at (v : Vec Ideal S1x128x2048 .f32) (j : Fin 128) (k : Fin 2048) : (show EReal from k0_pay1 v (ix2 j k)) = v (ix3 0 j k) := by
  pointwise [k0_pay1]
theorem pay2_at (j : Fin 80) (k : Fin 2048) : (show EReal from (k0_pay2 : FVec Ideal S80x2048 .bf16) (ix2 j k)) = 0 := by
  pointwise [k0_pay2]
theorem pay3_at (x : Vec Ideal S2048x2048 .bf16) (w : Vec Ideal S128x2048 .bf16) (r : Fin 2048) (j : Fin 128) :
    (show EReal from k0_pay3 x w (ix2 r j)) = ∑ k : Fin 2048, (x (ix2 r k) : EReal) * w (ix2 j k) := by
  pointwise [k0_pay3]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

theorem V1_at (r : Fin 8192) (j : Fin 2048) : V m c main_v1 (ix2 r j) = A0 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

theorem V2_at (l : Fin 4) (j : Fin 17472) (k : Fin 2048) : V m c main_v2 (ix3 l j k) = A1 m c (ix3 l k j) := by
  unfold V
  after_reads_simp
  have e (x : FVec Ideal S4x2048x17472 .f32) : transpose S4x17472x2048 [0, 2, 1] x transposes_S4x2048x17472_S4x17472x2048_0_2_1 (ix3 l j k) = x (ix3 l k j) := by pointwise
  exact e _

theorem idx : ∀ t : Fin cfg0.N, win0_0.index t = ![t.val, 0] ∧ win0_1.index t = ![0, 40, 0] ∧ win0_2.index t = ![t.val, 0] :=
  (by decide +kernel : ∀ t : Fin grid0.N, _)

theorem tlt (t : Fin cfg0.N) : t.val < 4 := lt_of_lt_of_eq t.isLt N_0

theorem X0_at (t : Fin cfg0.N) (r : Fin 2048) (k : Fin 2048) : (show Vec Ideal S2048x2048 .bf16 from iblk m c 0 t) (ix2 r k)
    = A0 m c (ix3 0 ⟨2048 * t.val + r.val, by have := tlt t; omega⟩ k) := by
  rw [← V1_at]
  blk_point [iblk, V, idx t]

theorem X1_at (t : Fin cfg0.N) (j : Fin 128) (k : Fin 2048) :
    (show Vec Ideal S1x128x2048 .f32 from X0_1 m c t) (ix3 0 j k) = A1 m c (ix3 0 k ⟨5120 + j.val, by omega⟩) := by
  rw [← V2_at]
  unfold X0_1 Pipeline.Window.fill
  refine (dif_pos (moved0_1 t (ix3 0 j k))).trans ?_
  blk_point [iblk, V, idx t]

/-- The rows of the weights that the first point keeps: 48 of the window, and zeros. -/
def wts (x1 : Vec Ideal S1x128x2048 .f32) : Vec Ideal S128x2048 .bf16 := fun y => if (y 0).val < 48 then x1 (ix3 0 (y 0) (y 1)) else (0 : EReal)

abbrev rAll : Rect S128x2048 := Rect.unit ![0, 0] ![128, 2048] inb_S128x2048_S128x2048_0_0
abbrev rHi : Rect S128x2048 := Rect.unit ![48, 0] ![80, 2048] inb_S128x2048_S80x2048_48_0

theorem eta_all (y : S128x2048.Idx) : rAll.emb (ix2 (y 0 : Fin 128) (y 1 : Fin 2048) : S128x2048.Idx) = y := by
  funext a; refine Fin.cases (Fin.ext ?_) (fun b => Fin.cases (Fin.ext ?_) (fun b => b.elim0) b) a
  · show 0 + 1 * (y 0).val = (y 0).val; omega
  · show 0 + 1 * (y 1).val = (y 1).val; omega

theorem eta_hi (y : S128x2048.Idx) (h : ¬(y 0).val < 48) (h' : (y 0).val - 48 < 80) : rHi.emb (ix2 (⟨(y 0).val - 48, h'⟩ : Fin 80) (y 1 : Fin 2048) : S80x2048.Idx) = y := by
  funext a; refine Fin.cases (Fin.ext ?_) (fun b => Fin.cases (Fin.ext ?_) (fun b => b.elim0) b) a
  · show 48 + 1 * ((y 0).val - 48) = (y 0).val; omega
  · show 0 + 1 * (y 1).val = (y 1).val; omega

theorem not_hi (y : S128x2048.Idx) (h : (y 0).val < 48) : y ∉ rHi.set := by
  intro hm
  have h0 : 48 ≤ (y 0).val := (Rect.mem_set_unit.mp hm 0).1
  omega

theorem canon_all_emb (w1 : Vec Ideal S128x2048 .bf16) (w2 : Vec Ideal S80x2048 .bf16) (x : S128x2048.Idx) (hn : rAll.emb x ∉ rHi.set) :
    View.canon [(⟨rHi, w2⟩ : View.Piece (Elt Ideal) S128x2048 .bf16), ⟨rAll, w1⟩] (rAll.emb x) = w1 x :=
  (View.canon_cons_of_not_mem (⟨rHi, w2⟩ : View.Piece (Elt Ideal) S128x2048 .bf16) [⟨rAll, w1⟩] hn).trans (View.canon_cons_emb rAll w1 [] x)

theorem canon_all (w1 : Vec Ideal S128x2048 .bf16) (w2 : Vec Ideal S80x2048 .bf16) (y : S128x2048.Idx) (h : (y 0).val < 48) :
    View.canon [(⟨rHi, w2⟩ : View.Piece (Elt Ideal) S128x2048 .bf16), ⟨rAll, w1⟩] y = w1 (ix2 (y 0 : Fin 128) (y 1 : Fin 2048)) := by
  have e := canon_all_emb w1 w2 (ix2 (y 0 : Fin 128) (y 1 : Fin 2048)) (by rw [eta_all y]; exact not_hi y h)
  rw [eta_all y] at e
  exact e

theorem canon_hi (w1 : Vec Ideal S128x2048 .bf16) (w2 : Vec Ideal S80x2048 .bf16) (y : S128x2048.Idx) (h : ¬(y 0).val < 48) (h' : (y 0).val - 48 < 80) :
    View.canon [(⟨rHi, w2⟩ : View.Piece (Elt Ideal) S128x2048 .bf16), ⟨rAll, w1⟩] y = w2 (ix2 (⟨(y 0).val - 48, h'⟩ : Fin 80) (y 1 : Fin 2048)) := by
  refine (congrArg _ (eta_hi y h h').symm).trans ?_
  exact View.canon_cons_emb rHi w2 _ _

theorem canon_two (x1 : Vec Ideal S1x128x2048 .f32) :
    (View.canon [(⟨rHi, (k0_pay2 : FVec Ideal S80x2048 .bf16)⟩ : View.Piece (Elt Ideal) S128x2048 .bf16), ⟨rAll, k0_pay1 x1⟩]) = wts x1 := by
  funext y
  have hy0 : (y 0).val < 128 := (y 0).isLt
  by_cases h : (y 0).val < 48
  · refine (canon_all _ _ y h).trans ((pay1_at x1 _ _).trans ?_)
    unfold wts
    rw [if_pos h]
  · refine (canon_hi _ _ y h (by omega)).trans ((pay2_at _ _).trans ?_)
    unfold wts
    rw [if_neg h]

section cases
variable (i : grid0.Coords) (arg2 : Memref sig .tc .vmem S2048x2048 .bf16) (harg2 : arg2.IsWhole) (arg3 : Memref sig .tc .vmem S1x128x2048 .f32) (harg3 : arg3.IsWhole) (arg4 : Memref sig .tc .vmem S2048x128 .bf16) (harg4 : arg4.IsWhole) (arg5 : Memref sig .tc .vmem S128x2048 .bf16) (harg5 : arg5.IsWhole)
  (x0 : Vec Ideal S2048x2048 .bf16) (x1 : Vec Ideal S1x128x2048 .f32) (xs : Vec Ideal S128x2048 .bf16)

theorem scA (hc0 : cond0_0 i) : sout0_A_0 c i arg2 harg2 arg3 harg3 arg4 harg4 arg5 harg5 hc0 x0 x1 = wts x1 := by
  frame_out
  exact canon_two x1

theorem outA (hc0 : cond0_0 i) : out0_A_2 c i arg2 harg2 arg3 harg3 arg4 harg4 arg5 harg5 hc0 x0 x1 = k0_pay3 x0 (wts x1) := by
  frame_out
  refine congrArg (k0_pay3 x0) ?_
  rw [View.readCov_eq_canon', canon_two]
  refine funext fun y => congrArg (wts x1) (funext fun a => Fin.ext ?_)
  match a with
  | ⟨0, _⟩ => show 0 + 1 * (y 0).val = (y 0).val; omega
  | ⟨1, _⟩ => show 0 + 1 * (y 1).val = (y 1).val; omega

theorem outB (hc0 : ¬cond0_0 i) : out0_B_2 c i arg2 harg2 arg3 harg3 arg4 harg4 arg5 harg5 hc0 x0 x1 xs = k0_pay3 x0 xs := by
  frame_out
end cases

/-- The kept weights: row `j` is column `5120 + j`, for 48 rows. -/
def blkW (a1 : FVec Ideal S4x2048x17472 .f32) : Vec Ideal S128x2048 .bf16 := fun y =>
  if (y 0).val < 48 then a1 (ix3 0 (y 1) ⟨5120 + (y 0).val, by have : (y 0).val < 128 := (y 0).isLt; omega⟩) else (0 : EReal)

theorem wts_eq (t : Fin cfg0.N) : wts (X0_1 m c t) = blkW (A1 m c) := by
  funext y
  unfold wts blkW
  split
  · exact X1_at m c t _ _
  · rfl

/-- What every point leaves: the kept weights, and the output block, which is the product with them. -/
theorem at_pt : ∀ n (hn : n < cfg0.N), (outsAt0 m c n hn).2 = blkW (A1 m c)
    ∧ (outsAt0 m c n hn).1 = k0_pay3 (iblk m c 0 ⟨n, hn⟩) (blkW (A1 m c)) := by
  intro n
  induction n with
  | zero =>
    intro hn
    have o := outsAt0_A m c ⟨0, hn⟩ (Nat.zero_mod _)
    rw [show outsAt0 m c 0 hn = _ from o]
    dsimp only
    rw [scA, outA, wts_eq]
    exact ⟨rfl, rfl⟩
  | succ n ih =>
    intro hn
    have h : ¬(n + 1) % 4 = 0 := by have := lt_of_lt_of_eq hn N_0; omega
    have ih2 : ∀ h', (outsAt0 m c (n + 1 - 1) h').2 = blkW (A1 m c) := fun _ => (ih (Nat.lt_of_succ_lt hn)).1
    have o := outsAt0_B m c ⟨n + 1, hn⟩ h
    rw [show outsAt0 m c (n + 1) hn = _ from o]
    dsimp only
    rw [outB, ih2]
    exact ⟨rfl, rfl⟩

/-- The result, entry by entry. -/
def G (a0 : FVec Ideal S1x8192x2048 .f32) (a1 : FVec Ideal S4x2048x17472 .f32) (r : Fin 8192) (j : Fin 128) : EReal :=
  if j.val < 48 then ∑ k : Fin 2048, (a0 (ix3 0 r k) : EReal) * a1 (ix3 0 k ⟨5120 + j.val, by omega⟩) else 0

theorem point (t : Fin cfg0.N) (r : Fin 2048) (j : Fin 128) :
    (show EReal from (outsAt0 m c t.val t.isLt).1 (ix2 r j))
      = G (A0 m c) (A1 m c) ⟨2048 * t.val + r.val, by have := tlt t; omega⟩ j := by
  rw [(at_pt m c t.val t.isLt).2]
  refine (pay3_at _ _ r j).trans ?_
  unfold G
  have hb (k : Fin 2048) : (blkW (A1 m c) (ix2 j k) : EReal) = if j.val < 48 then A1 m c (ix3 0 k ⟨5120 + j.val, by omega⟩) else (0 : EReal) := rfl
  by_cases h : j.val < 48
  · rw [if_pos h]
    exact Finset.sum_congr rfl fun k _ => congrArg₂ (fun x y : EReal => x * y) (X0_at m c t r k) ((hb k).trans (if_pos h))
  · rw [if_neg h]
    exact Finset.sum_eq_zero fun k _ => (congrArg (fun y : EReal => _ * y) ((hb k).trans (if_neg h))).trans (mul_zero _)

theorem final : (dats m 0 c).arrAt 2 (cfgs 0).N = (fun i => G (A0 m c) (A1 m c) (i 0) (i 1) : FVec Ideal S8192x128 .bf16) := by
  refine (dats m 0 c).arrAt_eq_of_covers 2 _ (by decide +kernel) fun t _ y => ?_
  blk_simp
  rw [after0_2]
  refine (congrArg _ (ix2_eta y).symm).trans ((point m c t (y 0) (y 1)).trans ?_)
  refine congrArg₂ (G _ _) (Fin.ext ?_) (Fin.ext ?_) <;> blk_simp [idx t] <;> idx_bounds <;> simp <;> omega

end Cert.Kernel10Ideal.Side

end
-- ==== Proof.BranchRef.lean ====
module

public import proofs.«01_k».proof.Proof.BranchKernel
public import proofs.«01_k».proof.Proof.Gen.Reference10Ideal.Run
public import proofs.«01_k».proof.Proof.Gen.Reference10Ideal
public import proofs.«01_k».proof.Defs
public import Idealize.ShloMosaic.Lib.Quiescent

/-! The branch gates' input projection's reference, entry by entry, and its equality with the kernel's result. -/

@[expose] public section

set_option maxRecDepth 16384

noncomputable section

namespace Cert.Reference10Ideal.Side

open Idealize.ShloMosaic Idealize.ShloMosaic.TcCoe Idealize.SL.Sem Idealize.ShloMosaic.StableHlo
open Cert.Reference10Ideal Cert.Reference10Ideal.Gen Cert.Reference10Ideal.Value

theorem sitofp_zero : (FloatOps.sitofp (F := Ideal) .f32 (0#32 : BitVec 32) : EReal) = 0 := by
  show (((0#32 : BitVec 32).toInt : ℝ) : EReal) = 0
  simp

/-- The columns of the product, as the reference's operations compose them. -/
abbrev cols (a0 : FVec Ideal S1x8192x2048 .f32) (a1 : FVec Ideal S4x2048x17472 .f32) : FVec Ideal S8192x48 .f32 :=
  shapeCast S8192x48 (extractStridedSlice S1x8192x48 ![0, 0, 5120]
        (Host.dotGeneral dot_S1x8192x2048_S2048x17472_S1x8192x17472_2_0_01_1_n_n none a0
          (shapeCast S2048x17472 (extractStridedSlice S1x2048x17472 ![0, 0, 0] a1 slices_S4x2048x17472_S1x2048x17472_0_0_0) shapeCasts_S1x2048x17472_S2048x17472 : FVec Ideal S2048x17472 .f32) : FVec Ideal S1x8192x17472 .f32)
        slices_S1x8192x17472_S1x8192x48_0_0_5120) shapeCasts_S1x8192x48_S8192x48

theorem cols_at (a0 : FVec Ideal S1x8192x2048 .f32) (a1 : FVec Ideal S4x2048x17472 .f32) (r : Fin 8192) (j : Fin 48) :
    (show EReal from cols a0 a1 (ix2 r j)) = ∑ k : Fin 2048, (a0 (ix3 0 r k) : EReal) * a1 (ix3 0 k ⟨5120 + j.val, by omega⟩) := by
  pointwise

/-- The columns, followed by zeros. -/
abbrev prod (a0 : FVec Ideal S1x8192x2048 .f32) (a1 : FVec Ideal S4x2048x17472 .f32) : FVec Ideal S8192x128 .bf16 :=
  truncf .bf16 (pad S8192x128 ![0, 0] ![0, 80] ![0, 0] (cols a0 a1) (sitofp .f32 (constantI S_ 32 0#32)) pads_S8192x48_S8192x128_000_0800 h_S_) bitsLt_bf16_f32

theorem prod_at (a0 : FVec Ideal S1x8192x2048 .f32) (a1 : FVec Ideal S4x2048x17472 .f32) (r : Fin 8192) (j : Fin 128) :
    (show EReal from prod a0 a1 (ix2 r j)) = Cert.Kernel10Ideal.Side.G a0 a1 r j := by
  have e (x : FVec Ideal S8192x48 .f32) : truncf .bf16 (pad S8192x128 ![0, 0] ![0, 80] ![0, 0] x
      (sitofp .f32 (constantI S_ 32 0#32) : FVec Ideal S_ .f32) pads_S8192x48_S8192x128_000_0800 h_S_) bitsLt_bf16_f32 (ix2 r j)
      = if h : j.val < 48 then x (ix2 r ⟨j.val, h⟩) else (0 : EReal) := by
    pointwise
    rw [sitofp_zero]
  refine (e _).trans ?_
  unfold Cert.Kernel10Ideal.Side.G
  by_cases h : j.val < 48
  · rw [dif_pos h, if_pos h]
    exact cols_at a0 a1 r ⟨j.val, h⟩
  · rw [dif_neg h, if_neg h]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

/-- The reference's result. -/
abbrev res : FVec Ideal S8192x128 .bf16 := prod (A0 m c) (A1 m c)

/-- The reference runs to its result, its arguments unchanged and its semaphores at zero. -/
theorem run_all (ρ : Dev nD → PrngReg) : θ_run (defs (F := Ideal)) (onTc (τ := τ) (main (F := Ideal))) ⟨m, fun _ => 0, ρ⟩ fun r =>
    (∀ c : Dev nD, r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run _ _ _).mono (fun _ h => ⟨h, sem_eq_zero_of_no_sems (show sig.nSem + sig.nDmaSem = 0 by decide) _⟩) (run m ρ)

end Cert.Reference10Ideal.Side

namespace Cert.BranchEq

open Idealize.ShloMosaic Idealize.ShloMosaic.TcCoe Idealize.SL.Sem

/-- From memories that agree on the arguments, the two programs' results are the same array. -/
theorem result_eq (m : (ℓ : Loc Cert.Kernel10Ideal.nD Cert.Kernel10Ideal.τ Cert.Kernel10Ideal.sig) → Buf (Elt Ideal) ℓ)
    (m' : (ℓ : Loc Cert.Reference10Ideal.nD Cert.Reference10Ideal.τ Cert.Reference10Ideal.sig) → Buf (Elt Ideal) ℓ) (c : Dev Cert.Kernel10Ideal.nD) (c' : Dev Cert.Reference10Ideal.nD)
    (h0 : Cert.Reference10Ideal.Side.A0 m' c' = Cert.Kernel10Ideal.Side.A0 m c) (h1 : Cert.Reference10Ideal.Side.A1 m' c' = Cert.Kernel10Ideal.Side.A1 m c) :
    (Cert.Reference10Ideal.Side.res m' c' : FVec Ideal Cert.Reference10Ideal.S8192x128 .bf16)
      = (Cert.Kernel10Ideal.Gen.dats m 0 c).arrAt 2 (Cert.Kernel10Ideal.cfgs 0).N := by
  rw [Cert.Kernel10Ideal.Side.final]
  funext i
  refine (congrArg _ (ix2_eta i).symm).trans ((Cert.Reference10Ideal.Side.prod_at _ _ (i 0) (i 1)).trans ?_)
  rw [h0, h1]

/-- The kernel and the reference end with the same result. -/
theorem algebraic : Cert.algebraic_Kernel10Ideal_Reference10Ideal (hKernel10Ideal := Cert.Kernel10Ideal.Gen.facts) (hReference10Ideal := Cert.Reference10Ideal.Gen.facts) := by
  intro m g m' g' _ hA
  refine ⟨fun c => (Cert.Kernel10Ideal.Gen.dats m 0 c).arrAt 2 (Cert.Kernel10Ideal.cfgs 0).N, Cert.Kernel10Ideal.Value.run_blocks m g, ?_⟩
  refine (θ_run _ _ _).mono (fun r h c => ?_) (Cert.Reference10Ideal.Side.run_all m' g')
  obtain ⟨h0, h1⟩ := hA c
  exact ⟨(h.1 c).1.trans (result_eq m m' c c h0 h1), (h.1 c).2⟩

end Cert.BranchEq

end
-- ==== Proof.RankKernel.lean ====
module

public import proofs.«01_k».proof.Proof.Gen.Kernel11Ideal.Value
public import Idealize.ShloMosaic.Lib.Pipeline.ValueKit
public import Idealize.ShloMosaic.Lib.StableHlo.RunRead

/-! What the low-rank gate input's projection's kernel leaves in its result. -/

@[expose] public section

set_option maxRecDepth 16384

noncomputable section

namespace Cert.Kernel11Ideal.Side

open Idealize.ShloMosaic Idealize.ShloMosaic.TcCoe Idealize.SL.Sem Idealize.ShloMosaic.StableHlo
open Idealize.ShloMosaic.Pipeline (Dat)
open Cert.Kernel11Ideal Cert.Kernel11Ideal.Gen

theorem pay1_at (v : Vec Ideal S1x80x2048 .f32) (j : Fin 80) (k : Fin 2048) : (show EReal from k0_pay1 v (ix2 j k)) = v (ix3 0 j k) := by
  pointwise [k0_pay1]
theorem pay3_at (j : Fin 112) (k : Fin 2048) : (show EReal from (k0_pay3 : FVec Ideal S112x2048 .bf16) (ix2 j k)) = 0 := by
  pointwise [k0_pay3]
theorem pay4_at (x : Vec Ideal S2048x2048 .bf16) (w : Vec Ideal S128x2048 .bf16) (r : Fin 2048) (j : Fin 128) :
    (show EReal from k0_pay4 x w (ix2 r j)) = ∑ k : Fin 2048, (x (ix2 r k) : EReal) * w (ix2 j k) := by
  pointwise [k0_pay4]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

theorem V1_at (r : Fin 8192) (j : Fin 2048) : V m c main_v1 (ix2 r j) = A0 m c (ix3 0 r j) := by
  unfold V
  after_reads_simp
  have e (x : FVec Ideal S1x8192x2048 .f32) : truncf .bf16 (shapeCast S8192x2048 x shapeCasts_S1x8192x2048_S8192x2048) bitsLt_bf16_f32 (ix2 r j) = x (ix3 0 r j) := by pointwise
  exact e _

theorem V2_at (l : Fin 4) (j : Fin 17472) (k : Fin 2048) : V m c main_v2 (ix3 l j k) = A1 m c (ix3 l k j) := by
  unfold V
  after_reads_simp
  have e (x : FVec Ideal S4x2048x17472 .f32) : transpose S4x17472x2048 [0, 2, 1] x transposes_S4x2048x17472_S4x17472x2048_0_2_1 (ix3 l j k) = x (ix3 l k j) := by pointwise
  exact e _

theorem idx : ∀ t : Fin cfg0.N, win0_0.index t = ![t.val, 0] ∧ win0_1.index t = ![0, 88, 0] ∧ win0_3.index t = ![t.val, 0] :=
  (by decide +kernel : ∀ t : Fin grid0.N, _)

theorem tlt (t : Fin cfg0.N) : t.val < 4 := lt_of_lt_of_eq t.isLt N_0

theorem X0_at (t : Fin cfg0.N) (r : Fin 2048) (k : Fin 2048) : (show Vec Ideal S2048x2048 .bf16 from iblk m c 0 t) (ix2 r k)
    = A0 m c (ix3 0 ⟨2048 * t.val + r.val, by have := tlt t; omega⟩ k) := by
  rw [← V1_at]
  blk_point [iblk, V, idx t]

theorem X1_at (t : Fin cfg0.N) (j : Fin 128) (k : Fin 2048) :
    (show Vec Ideal S1x128x2048 .f32 from X0_1 m c t) (ix3 0 j k) = A1 m c (ix3 0 k ⟨11264 + j.val, by omega⟩) := by
  rw [← V2_at]
  unfold X0_1 Pipeline.Window.fill
  refine (dif_pos (moved0_1 t (ix3 0 j k))).trans ?_
  blk_point [iblk, V, idx t]

/-- The rows of the weights that the first point keeps: 16 of the first window, and zeros. -/
def wts (x1 : Vec Ideal S1x128x2048 .f32) : Vec Ideal S128x2048 .bf16 := fun y =>
  if h : (y 0).val < 16 then x1 (ix3 0 ⟨48 + (y 0).val, by omega⟩ (y 1)) else (0 : EReal)

abbrev rLo : Rect S128x2048 := Rect.unit ![0, 0] ![80, 2048] inb_S128x2048_S80x2048_0_0
abbrev rMid : Rect S128x2048 := Rect.unit ![80, 0] ![48, 2048] inb_S128x2048_S48x2048_80_0
abbrev rHi : Rect S128x2048 := Rect.unit ![16, 0] ![112, 2048] inb_S128x2048_S112x2048_16_0

theorem eta_lo (y : S128x2048.Idx) (h : (y 0).val < 80) : rLo.emb (ix2 (⟨(y 0).val, h⟩ : Fin 80) (y 1 : Fin 2048) : S80x2048.Idx) = y := by
  funext a; refine Fin.cases (Fin.ext ?_) (fun b => Fin.cases (Fin.ext ?_) (fun b => b.elim0) b) a
  · show 0 + 1 * (y 0).val = (y 0).val; omega
  · show 0 + 1 * (y 1).val = (y 1).val; omega

theorem eta_hi (y : S128x2048.Idx) (h : ¬(y 0).val < 16) (h' : (y 0).val - 16 < 112) : rHi.emb (ix2 (⟨(y 0).val - 16, h'⟩ : Fin 112) (y 1 : Fin 2048) : S112x2048.Idx) = y := by
  funext a; refine Fin.cases (Fin.ext ?_) (fun b => Fin.cases (Fin.ext ?_) (fun b => b.elim0) b) a
  · show 16 + 1 * ((y 0).val - 16) = (y 0).val; omega
  · show 0 + 1 * (y 1).val = (y 1).val; omega

theorem not_hi (y : S128x2048.Idx) (h : (y 0).val < 16) : y ∉ rHi.set := by
  intro hm
  have h0 : 16 ≤ (y 0).val := (Rect.mem_set_unit.mp hm 0).1
  omega

theorem not_mid (y : S128x2048.Idx) (h : (y 0).val < 16) : y ∉ rMid.set := by
  intro hm
  have h0 : 80 ≤ (y 0).val := (Rect.mem_set_unit.mp hm 0).1
  omega

theorem canon_lo_emb (w1 : Vec Ideal S80x2048 .bf16) (w2 : Vec Ideal S48x2048 .bf16) (w3 : Vec Ideal S112x2048 .bf16) (x : S80x2048.Idx) (hn : rLo.emb x ∉ rHi.set) (hm : rLo.emb x ∉ rMid.set) :
    View.canon [(⟨rHi, w3⟩ : View.Piece (Elt Ideal) S128x2048 .bf16), ⟨rMid, w2⟩, ⟨rLo, w1⟩] (rLo.emb x) = w1 x :=
  (View.canon_cons_of_not_mem (⟨rHi, w3⟩ : View.Piece (Elt Ideal) S128x2048 .bf16) [⟨rMid, w2⟩, ⟨rLo, w1⟩] hn).trans
    ((View.canon_cons_of_not_mem (⟨rMid, w2⟩ : View.Piece (Elt Ideal) S128x2048 .bf16) [⟨rLo, w1⟩] hm).trans (View.canon_cons_emb rLo w1 [] x))

theorem canon_lo (w1 : Vec Ideal S80x2048 .bf16) (w2 : Vec Ideal S48x2048 .bf16) (w3 : Vec Ideal S112x2048 .bf16) (y : S128x2048.Idx) (h : (y 0).val < 16) (h' : (y 0).val < 80) :
    View.canon [(⟨rHi, w3⟩ : View.Piece (Elt Ideal) S128x2048 .bf16), ⟨rMid, w2⟩, ⟨rLo, w1⟩] y = w1 (ix2 (⟨(y 0).val, h'⟩ : Fin 80) (y 1 : Fin 2048)) := by
  have e := canon_lo_emb w1 w2 w3 (ix2 (⟨(y 0).val, h'⟩ : Fin 80) (y 1 : Fin 2048)) (by rw [eta_lo y h']; exact not_hi y h) (by rw [eta_lo y h']; exact not_mid y h)
  rw [eta_lo y h'] at e
  exact e

theorem canon_hi (w1 : Vec Ideal S80x2048 .bf16) (w2 : Vec Ideal S48x2048 .bf16) (w3 : Vec Ideal S112x2048 .bf16) (y : S128x2048.Idx) (h : ¬(y 0).val < 16) (h' : (y 0).val - 16 < 112) :
    View.canon [(⟨rHi, w3⟩ : View.Piece (Elt Ideal) S128x2048 .bf16), ⟨rMid, w2⟩, ⟨rLo, w1⟩] y = w3 (ix2 (⟨(y 0).val - 16, h'⟩ : Fin 112) (y 1 : Fin 2048)) := by
  refine (congrArg _ (eta_hi y h h').symm).trans ?_
  exact View.canon_cons_emb rHi w3 _ _

theorem ld_lo (x1 : Vec Ideal S1x128x2048 .f32) (j : Fin 80) (k : Fin 2048) :
    (View.ld x1 (Rect.unit ![0, 48, 0] ![1, 80, 2048] inb_S1x128x2048_S1x80x2048_0_48_0) : Vec Ideal S1x80x2048 .f32) (ix3 0 j k) = x1 (ix3 0 ⟨48 + j.val, by omega⟩ k) := by
  refine congrArg x1 (funext fun a => ?_)
  refine Fin.cases (Fin.ext ?_) (fun b => Fin.cases (Fin.ext ?_) (fun b => Fin.cases (Fin.ext ?_) (fun b => b.elim0) b) b) a
  · rfl
  · show 48 + 1 * j.val = 48 + j.val; omega
  · show 0 + 1 * k.val = k.val; omega

theorem canon_two (x1 : Vec Ideal S1x128x2048 .f32) (w2 : Vec Ideal S48x2048 .bf16) :
    (View.canon [(⟨rHi, (k0_pay3 : FVec Ideal S112x2048 .bf16)⟩ : View.Piece (Elt Ideal) S128x2048 .bf16), ⟨rMid, w2⟩,
      ⟨rLo, k0_pay1 (View.ld x1 (Rect.unit ![0, 48, 0] ![1, 80, 2048] inb_S1x128x2048_S1x80x2048_0_48_0))⟩]) = wts x1 := by
  funext y
  have hy0 : (y 0).val < 128 := (y 0).isLt
  by_cases h : (y 0).val < 16
  · refine (canon_lo _ _ _ y h (by omega)).trans ((pay1_at _ _ _).trans ((ld_lo x1 _ _).trans ?_))
    unfold wts
    rw [dif_pos h]
  · refine (canon_hi _ _ _ y h (by omega)).trans ((pay3_at _ _).trans ?_)
    unfold wts
    rw [dif_neg h]

section cases
variable (i : grid0.Coords) (arg2 : Memref sig .tc .vmem S2048x2048 .bf16) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S2048x128 .bf16) (harg5 : arg5.IsWhole) (arg6 : Memref sig .tc .vmem S128x2048 .bf16) (harg6 : arg6.IsWhole)
  (x0 : Vec Ideal S2048x2048 .bf16) (x1 x2 : Vec Ideal S1x128x2048 .f32) (xs : Vec Ideal S128x2048 .bf16)

theorem scA (hc0 : cond0_0 i) : sout0_A_0 c i arg2 harg2 arg3 harg3 arg4 harg4 arg5 harg5 arg6 harg6 hc0 x0 x1 x2 = wts x1 := by
  frame_out
  exact canon_two x1 _

theorem outA (hc0 : cond0_0 i) : out0_A_3 c i arg2 harg2 arg3 harg3 arg4 harg4 arg5 harg5 arg6 harg6 hc0 x0 x1 x2 = k0_pay4 x0 (wts x1) := by
  frame_out
  refine congrArg (k0_pay4 x0) ?_
  rw [View.readCov_eq_canon', canon_two]
  refine funext fun y => congrArg (wts x1) (funext fun a => Fin.ext ?_)
  match a with
  | ⟨0, _⟩ => show 0 + 1 * (y 0).val = (y 0).val; omega
  | ⟨1, _⟩ => show 0 + 1 * (y 1).val = (y 1).val; omega

theorem outB (hc0 : ¬cond0_0 i) : out0_B_3 c i arg2 harg2 arg3 harg3 arg4 harg4 arg5 harg5 arg6 harg6 hc0 x0 x1 x2 xs = k0_pay4 x0 xs := by
  frame_out
end cases

/-- The kept weights: row `j` is column `11312 + j`, for 16 rows. -/
def blkW (a1 : FVec Ideal S4x2048x17472 .f32) : Vec Ideal S128x2048 .bf16 := fun y =>
  if (y 0).val < 16 then a1 (ix3 0 (y 1) ⟨11312 + (y 0).val, by have : (y 0).val < 128 := (y 0).isLt; omega⟩) else (0 : EReal)

theorem wts_eq (t : Fin cfg0.N) : wts (X0_1 m c t) = blkW (A1 m c) := by
  funext y
  unfold wts blkW
  split
  · refine (X1_at m c t _ _).trans (congrArg (fun z => A1 m c (ix3 0 (y 1) z)) (Fin.ext ?_))
    show 11264 + (48 + (y 0).val) = 11312 + (y 0).val
    omega
  · rfl

/-- What every point leaves: the kept weights, and the output block, which is the product with them. -/
theorem at_pt : ∀ n (hn : n < cfg0.N), (outsAt0 m c n hn).2 = blkW (A1 m c)
    ∧ (outsAt0 m c n hn).1 = k0_pay4 (iblk m c 0 ⟨n, hn⟩) (blkW (A1 m c)) := by
  intro n
  induction n with
  | zero =>
    intro hn
    have o := outsAt0_A m c ⟨0, hn⟩ (Nat.zero_mod _)
    rw [show outsAt0 m c 0 hn = _ from o]
    dsimp only
    rw [scA, outA, wts_eq]
    exact ⟨rfl, rfl⟩
  | succ n ih =>
    intro hn
    have h : ¬(n + 1) % 4 = 0 := by have := lt_of_lt_of_eq hn N_0; omega
    have ih2 : ∀ h', (outsAt0 m c (n + 1 - 1) h').2 = blkW (A1 m c) := fun _ => (ih (Nat.lt_of_succ_lt hn)).1
    have o := outsAt0_B m c ⟨n + 1, hn⟩ h
    rw [show outsAt0 m c (n + 1) hn = _ from o]
    dsimp only
    rw [outB, ih2]
    exact ⟨rfl, rfl⟩

/-- The result, entry by entry. -/
def G (a0 : FVec Ideal S1x8192x2048 .f32) (a1 : FVec Ideal S4x2048x17472 .f32) (r : Fin 8192) (j : Fin 128) : EReal :=
  if j.val < 16 then ∑ k : Fin 2048, (a0 (ix3 0 r k) : EReal) * a1 (ix3 0 k ⟨11312 + j.val, by omega⟩) else 0

theorem point (t : Fin cfg0.N) (r : Fin 2048) (j : Fin 128) :
    (show EReal from (outsAt0 m c t.val t.isLt).1 (ix2 r j))
      = G (A0 m c) (A1 m c) ⟨2048 * t.val + r.val, by have := tlt t; omega⟩ j := by
  rw [(at_pt m c t.val t.isLt).2]
  refine (pay4_at _ _ r j).trans ?_
  unfold G
  have hb (k : Fin 2048) : (blkW (A1 m c) (ix2 j k) : EReal) = if j.val < 16 then A1 m c (ix3 0 k ⟨11312 + j.val, by omega⟩) else (0 : EReal) := rfl
  by_cases h : j.val < 16
  · rw [if_pos h]
    exact Finset.sum_congr rfl fun k _ => congrArg₂ (fun x y : EReal => x * y) (X0_at m c t r k) ((hb k).trans (if_pos h))
  · rw [if_neg h]
    exact Finset.sum_eq_zero fun k _ => (congrArg (fun y : EReal => _ * y) ((hb k).trans (if_neg h))).trans (mul_zero _)

theorem final : (dats m 0 c).arrAt 3 (cfgs 0).N = (fun i => G (A0 m c) (A1 m c) (i 0) (i 1) : FVec Ideal S8192x128 .bf16) := by
  refine (dats m 0 c).arrAt_eq_of_covers 3 _ (by decide +kernel) fun t _ y => ?_
  blk_simp
  rw [after0_3]
  refine (congrArg _ (ix2_eta y).symm).trans ((point m c t (y 0) (y 1)).trans ?_)
  refine congrArg₂ (G _ _) (Fin.ext ?_) (Fin.ext ?_) <;> blk_simp [idx t] <;> idx_bounds <;> simp <;> omega

end Cert.Kernel11Ideal.Side

end
-- ==== Proof.RankRef.lean ====
module

public import proofs.«01_k».proof.Proof.RankKernel
public import proofs.«01_k».proof.Proof.Gen.Reference11Ideal.Run
public import proofs.«01_k».proof.Proof.Gen.Reference11Ideal
public import proofs.«01_k».proof.Defs
public import Idealize.ShloMosaic.Lib.Quiescent

/-! The low-rank gate input's projection's reference, entry by entry, and its equality with the kernel's result. -/

@[expose] public section

set_option maxRecDepth 16384

noncomputable section

namespace Cert.Reference11Ideal.Side

open Idealize.ShloMosaic Idealize.ShloMosaic.TcCoe Idealize.SL.Sem Idealize.ShloMosaic.StableHlo
open Cert.Reference11Ideal Cert.Reference11Ideal.Gen Cert.Reference11Ideal.Value

theorem sitofp_zero : (FloatOps.sitofp (F := Ideal) .f32 (0#32 : BitVec 32) : EReal) = 0 := by
  show (((0#32 : BitVec 32).toInt : ℝ) : EReal) = 0
  simp

/-- The columns of the product, as the reference's operations compose them. -/
abbrev cols (a0 : FVec Ideal S1x8192x2048 .f32) (a1 : FVec Ideal S4x2048x17472 .f32) : FVec Ideal S8192x16 .f32 :=
  shapeCast S8192x16 (extractStridedSlice S1x8192x16 ![0, 0, 11312]
        (Host.dotGeneral dot_S1x8192x2048_S2048x17472_S1x8192x17472_2_0_01_1_n_n none a0
          (shapeCast S2048x17472 (extractStridedSlice S1x2048x17472 ![0, 0, 0] a1 slices_S4x2048x17472_S1x2048x17472_0_0_0) shapeCasts_S1x2048x17472_S2048x17472 : FVec Ideal S2048x17472 .f32) : FVec Ideal S1x8192x17472 .f32)
        slices_S1x8192x17472_S1x8192x16_0_0_11312) shapeCasts_S1x8192x16_S8192x16

theorem cols_at (a0 : FVec Ideal S1x8192x2048 .f32) (a1 : FVec Ideal S4x2048x17472 .f32) (r : Fin 8192) (j : Fin 16) :
    (show EReal from cols a0 a1 (ix2 r j)) = ∑ k : Fin 2048, (a0 (ix3 0 r k) : EReal) * a1 (ix3 0 k ⟨11312 + j.val, by omega⟩) := by
  pointwise

/-- The columns, followed by zeros. -/
abbrev prod (a0 : FVec Ideal S1x8192x2048 .f32) (a1 : FVec Ideal S4x2048x17472 .f32) : FVec Ideal S8192x128 .bf16 :=
  truncf .bf16 (pad S8192x128 ![0, 0] ![0, 112] ![0, 0] (cols a0 a1) (sitofp .f32 (constantI S_ 32 0#32)) pads_S8192x16_S8192x128_000_01120 h_S_) bitsLt_bf16_f32

theorem prod_at (a0 : FVec Ideal S1x8192x2048 .f32) (a1 : FVec Ideal S4x2048x17472 .f32) (r : Fin 8192) (j : Fin 128) :
    (show EReal from prod a0 a1 (ix2 r j)) = Cert.Kernel11Ideal.Side.G a0 a1 r j := by
  have e (x : FVec Ideal S8192x16 .f32) : truncf .bf16 (pad S8192x128 ![0, 0] ![0, 112] ![0, 0] x
      (sitofp .f32 (constantI S_ 32 0#32) : FVec Ideal S_ .f32) pads_S8192x16_S8192x128_000_01120 h_S_) bitsLt_bf16_f32 (ix2 r j)
      = if h : j.val < 16 then x (ix2 r ⟨j.val, h⟩) else (0 : EReal) := by
    pointwise
    rw [sitofp_zero]
  refine (e _).trans ?_
  unfold Cert.Kernel11Ideal.Side.G
  by_cases h : j.val < 16
  · rw [dif_pos h, if_pos h]
    exact cols_at a0 a1 r ⟨j.val, h⟩
  · rw [dif_neg h, if_neg h]

variable (m : (ℓ : Loc nD τ sig) → Buf (Elt Ideal) ℓ) (c : Dev nD)

abbrev A0 : FVec Ideal S1x8192x2048 .f32 := m ((c : Thread nD τ).loc main_arg0)
abbrev A1 : FVec Ideal S4x2048x17472 .f32 := m ((c : Thread nD τ).loc main_arg1)

/-- The reference's result. -/
abbrev res : FVec Ideal S8192x128 .bf16 := prod (A0 m c) (A1 m c)

/-- The reference runs to its result, its arguments unchanged and its semaphores at zero. -/
theorem run_all (ρ : Dev nD → PrngReg) : θ_run (defs (F := Ideal)) (onTc (τ := τ) (main (F := Ideal))) ⟨m, fun _ => 0, ρ⟩ fun r =>
    (∀ c : Dev nD, r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run _ _ _).mono (fun _ h => ⟨h, sem_eq_zero_of_no_sems (show sig.nSem + sig.nDmaSem = 0 by decide) _⟩) (run m ρ)

end Cert.Reference11Ideal.Side

namespace Cert.RankEq

open Idealize.ShloMosaic Idealize.ShloMosaic.TcCoe Idealize.SL.Sem

/-- From memories that agree on the arguments, the two programs' results are the same array. -/
theorem result_eq (m : (ℓ : Loc Cert.Kernel11Ideal.nD Cert.Kernel11Ideal.τ Cert.Kernel11Ideal.sig) → Buf (Elt Ideal) ℓ)
    (m' : (ℓ : Loc Cert.Reference11Ideal.nD Cert.Reference11Ideal.τ Cert.Reference11Ideal.sig) → Buf (Elt Ideal) ℓ) (c : Dev Cert.Kernel11Ideal.nD) (c' : Dev Cert.Reference11Ideal.nD)
    (h0 : Cert.Reference11Ideal.Side.A0 m' c' = Cert.Kernel11Ideal.Side.A0 m c) (h1 : Cert.Reference11Ideal.Side.A1 m' c' = Cert.Kernel11Ideal.Side.A1 m c) :
    (Cert.Reference11Ideal.Side.res m' c' : FVec Ideal Cert.Reference11Ideal.S8192x128 .bf16)
      = (Cert.Kernel11Ideal.Gen.dats m 0 c).arrAt 3 (Cert.Kernel11Ideal.cfgs 0).N := by
  rw [Cert.Kernel11Ideal.Side.final]
  funext i
  refine (congrArg _ (ix2_eta i).symm).trans ((Cert.Reference11Ideal.Side.prod_at _ _ (i 0) (i 1)).trans ?_)
  rw [h0, h1]

/-- The kernel and the reference end with the same result. -/
theorem algebraic : Cert.algebraic_Kernel11Ideal_Reference11Ideal (hKernel11Ideal := Cert.Kernel11Ideal.Gen.facts) (hReference11Ideal := Cert.Reference11Ideal.Gen.facts) := by
  intro m g m' g' _ hA
  refine ⟨fun c => (Cert.Kernel11Ideal.Gen.dats m 0 c).arrAt 3 (Cert.Kernel11Ideal.cfgs 0).N, Cert.Kernel11Ideal.Value.run_blocks m g, ?_⟩
  refine (θ_run _ _ _).mono (fun r h c => ?_) (Cert.Reference11Ideal.Side.run_all m' g')
  obtain ⟨h0, h1⟩ := hA c
  exact ⟨(h.1 c).1.trans (result_eq m m' c c h0 h1), (h.1 c).2⟩

end Cert.RankEq

end
-- ==== Proof.NormKernel.lean ====
module

public import proofs.«01_k».proof.Proof.OutSpec
public import proofs.«01_k».proof.Proof.Gen.Kernel12Ideal.Value
public import Idealize.ShloMosaic.Lib.Pipeline.ValueKit
public import Idealize.ShloMosaic.Lib.StableHlo.RunRead

/-! What the first norm's kernel leaves in its result. -/

@[expose] public section

set_option maxRecDepth 16384

noncomputable section

namespace Cert.Kernel12Ideal.Side

open Idealize.ShloMosaic Idealize.ShloMosaic.TcCoe Idealize.SL.Sem Idealize.ShloMosaic.StableHlo
open Idealize.ShloMosaic.Pipeline (Dat)
open Cert.Kernel12Ideal Cert.Kernel12Ideal.Gen

theorem pay1_at (v0 : Vec Ideal S512x2048 .f32) (v12 : Vec Ideal S1x2048 .f32) (r : Fin 512) (j : Fin 2048) :
    (show EReal from k0_pay1 v0 v12 (ix2 r j)) = OutP.nrm (fun k => v0 (ix2 r k)) (fun j => v12 (ix2 0 j)) j := by
  pointwise [k0_pay1, OutP.nrm]

variable (m : (ℓ : Loc nD τ sig) → Buf (Elt Ideal) ℓ) (c : Dev nD)

abbrev A0 : FVec Ideal S1x8192x2048 .f32 := m ((c : Thread nD τ).loc main_arg0)
abbrev A1 : FVec Ideal S4x2048 .f32 := m ((c : Thread nD τ).loc main_arg1)

theorem V0_at (r : Fin 8192) (j : Fin 2048) : V m c main_v0 (ix2 r j) = A0 m c (ix3 0 r j) := by
  unfold V
  after_reads_simp
  have e (x : FVec Ideal S1x8192x2048 .f32) : shapeCast S8192x2048 x shapeCasts_S1x8192x2048_S8192x2048 (ix2 r j) = x (ix3 0 r j) := by pointwise
  exact e _

theorem V3_at (j : Fin 2048) : V m c main_v3 (ix2 0 j) = A1 m c (ix2 0 j) := by
  unfold V
  after_reads_simp
  have e (x : FVec Ideal S4x2048 .f32) : shapeCast S1x2048 (shapeCast S2048 (extractStridedSlice S1x2048 ![0, 0] x slices_S4x2048_S1x2048_0_0) shapeCasts_S1x2048_S2048)
      shapeCasts_S2048_S1x2048 (ix2 0 j) = x (ix2 0 j) := by pointwise
  exact e _

theorem idx : ∀ t : Fin cfg0.N, win0_0.index t = ![t.val, 0] ∧ win0_1.index t = ![0, 0] ∧ win0_2.index t = ![t.val, 0] :=
  (by decide +kernel : ∀ t : Fin grid0.N, _)

abbrev row (t : Fin cfg0.N) (r : Fin 512) : Fin 8192 := ⟨512 * t.val + r.val, by have := lt_of_lt_of_eq t.isLt N_0; omega⟩

theorem X0_at (t : Fin cfg0.N) (r : Fin 512) (j : Fin 2048) : (show Vec Ideal S512x2048 .f32 from iblk m c 0 t) (ix2 r j) = A0 m c (ix3 0 (row t r) j) := by
  rw [← V0_at]
  blk_point [iblk, V, idx t]

theorem X1_at (t : Fin cfg0.N) (j : Fin 2048) : (show Vec Ideal S1x2048 .f32 from iblk m c 1 t) (ix2 0 j) = A1 m c (ix2 0 j) := by
  rw [← V3_at]
  blk_point [iblk, V, idx t]

/-- The result of the arguments, entry by entry. -/
def G (a0 : FVec Ideal S1x8192x2048 .f32) (a1 : FVec Ideal S4x2048 .f32) (r : Fin 8192) (j : Fin 2048) : EReal :=
  OutP.nrm (fun k => a0 (ix3 0 r k)) (fun j => a1 (ix2 0 j)) j

/-- A block of the result. -/
theorem point (t : Fin cfg0.N) (r : Fin 512) (j : Fin 2048) :
    (show EReal from k0_pay1 (iblk m c 0 t) (iblk m c 1 t) (ix2 r j)) = G (A0 m c) (A1 m c) (row t r) j := by
  refine (pay1_at _ _ r j).trans ?_
  unfold G
  have h0 := funext fun k => X0_at m c t r k
  have h1 := funext fun k => X1_at m c t k
  exact congrArg₂ (fun a b => OutP.nrm a b j) h0 h1

/-- The kernel's result array. -/
theorem final : (dats m 0 c).arrAt 2 (cfgs 0).N = (fun i => G (A0 m c) (A1 m c) (i 0) (i 1) : FVec Ideal S8192x2048 .bf16) := by
  refine (dats m 0 c).arrAt_eq_of_covers 2 _ (by decide +kernel) fun t _ y => ?_
  blk_simp
  rw [after0_2]; frame_out
  refine (congrArg _ (ix2_eta y).symm).trans ((point m c t (y 0) (y 1)).trans ?_)
  refine congrArg₂ (G _ _) (Fin.ext ?_) (Fin.ext ?_) <;> blk_simp [idx t] <;> idx_bounds <;> simp [row] <;> omega

end Cert.Kernel12Ideal.Side

end
-- ==== Proof.NormRef.lean ====
module

public import proofs.«01_k».proof.Proof.NormKernel
public import proofs.«01_k».proof.Proof.Gen.Reference12Ideal.Run
public import proofs.«01_k».proof.Proof.Gen.Reference12Ideal
public import proofs.«01_k».proof.Defs
public import Idealize.ShloMosaic.Lib.Quiescent

/-! The reference of the first norm, entry by entry, and its equality with the kernel's result. -/

@[expose] public section

set_option maxRecDepth 16384

noncomputable section

namespace Cert.Reference12Ideal.Side

open Idealize.ShloMosaic Idealize.ShloMosaic.TcCoe Idealize.SL.Sem Idealize.ShloMosaic.StableHlo
open Cert.Reference12Ideal Cert.Reference12Ideal.Gen Cert.Reference12Ideal.Value

/-- The norm of the rows. -/
abbrev nrmR (x : FVec Ideal S1x8192x2048 .f32) (a1 : FVec Ideal S4x2048 .f32) : FVec Ideal S8192x2048 .bf16 :=
  truncf .bf16 (shapeCast S8192x2048 (mulf (mulf x (broadcastInDim S1x8192x2048 ![0, 1, 2] bcast_S1x8192x1_S1x8192x2048_0_1_2
      (Host.rsqrt (addf (Host.divf (broadcastInDim S1x8192x1 ![0, 1] bcast_S1x8192_S1x8192x1_0_1
          (Host.reduceAdd (mulf x x) (constant S_ .f32 0x00000000#32) reducesTo_S1x8192x2048_S1x8192_d2 h_S_))
        (broadcastInDim S1x8192x1 ![] bcast_S_S1x8192x1 (constant S_ .f32 0x45000000#32)))
        (broadcastInDim S1x8192x1 ![] bcast_S_S1x8192x1 (constant S_ .f32 0x358637BD#32))))))
      (broadcastInDim S1x8192x2048 ![0, 1, 2] bcast_S1x1x2048_S1x8192x2048_0_1_2 (broadcastInDim S1x1x2048 ![2] bcast_S2048_S1x1x2048_2
        (shapeCast S2048 (extractStridedSlice S1x2048 ![0, 0] a1 slices_S4x2048_S1x2048_0_0) shapeCasts_S1x2048_S2048))))
    shapeCasts_S1x8192x2048_S8192x2048) bitsLt_bf16_f32

theorem nrmR_at (x : FVec Ideal S1x8192x2048 .f32) (a1 : FVec Ideal S4x2048 .f32) (r : Fin 8192) (j : Fin 2048) :
    (show EReal from nrmR x a1 (ix2 r j)) = Cert.Kernel12Ideal.Side.G x a1 r j := by
  pointwise [Cert.Kernel12Ideal.Side.G, OutP.nrm]

variable (m : (ℓ : Loc nD τ sig) → Buf (Elt Ideal) ℓ) (c : Dev nD)

abbrev A0 : FVec Ideal S1x8192x2048 .f32 := m ((c : Thread nD τ).loc main_arg0)
abbrev A1 : FVec Ideal S4x2048 .f32 := m ((c : Thread nD τ).loc main_arg1)

/-- The reference runs to its result, its arguments unchanged and its semaphores at zero. -/
theorem run_all (ρ : Dev nD → PrngReg) : θ_run (defs (F := Ideal)) (onTc (τ := τ) (main (F := Ideal))) ⟨m, fun _ => 0, ρ⟩ fun r =>
    (∀ c : Dev nD, r.2.mem ((c.tc : Thread nD τ).loc main_v16) = nrmR (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run _ _ _).mono (fun _ h => ⟨h, sem_eq_zero_of_no_sems (show sig.nSem + sig.nDmaSem = 0 by decide) _⟩) (run m ρ)

end Cert.Reference12Ideal.Side

namespace Cert.NormEq

open Idealize.ShloMosaic Idealize.ShloMosaic.TcCoe Idealize.SL.Sem

/-- From memories that agree on the arguments, the two programs' results are the same array. -/
theorem result_eq (m : (ℓ : Loc Cert.Kernel12Ideal.nD Cert.Kernel12Ideal.τ Cert.Kernel12Ideal.sig) → Buf (Elt Ideal) ℓ)
    (m' : (ℓ : Loc Cert.Reference12Ideal.nD Cert.Reference12Ideal.τ Cert.Reference12Ideal.sig) → Buf (Elt Ideal) ℓ) (c : Dev Cert.Kernel12Ideal.nD) (c' : Dev Cert.Reference12Ideal.nD)
    (h0 : Cert.Reference12Ideal.Side.A0 m' c' = Cert.Kernel12Ideal.Side.A0 m c) (h1 : Cert.Reference12Ideal.Side.A1 m' c' = Cert.Kernel12Ideal.Side.A1 m c) :
    (Cert.Reference12Ideal.Side.nrmR (Cert.Reference12Ideal.Side.A0 m' c') (Cert.Reference12Ideal.Side.A1 m' c') : FVec Ideal Cert.Reference12Ideal.S8192x2048 .bf16)
      = (Cert.Kernel12Ideal.Gen.dats m 0 c).arrAt 2 (Cert.Kernel12Ideal.cfgs 0).N := by
  rw [Cert.Kernel12Ideal.Side.final]
  funext i
  refine (congrArg _ (ix2_eta i).symm).trans ((Cert.Reference12Ideal.Side.nrmR_at _ _ (i 0) (i 1)).trans ?_)
  rw [h0, h1]

/-- The first norm: the kernel and the reference end with the same result. -/
theorem algebraic : Cert.algebraic_Kernel12Ideal_Reference12Ideal (hKernel12Ideal := Cert.Kernel12Ideal.Gen.facts) (hReference12Ideal := Cert.Reference12Ideal.Gen.facts) := by
  intro m g m' g' _ hA
  refine ⟨fun c => (Cert.Kernel12Ideal.Gen.dats m 0 c).arrAt 2 (Cert.Kernel12Ideal.cfgs 0).N, Cert.Kernel12Ideal.Value.run_blocks m g, ?_⟩
  refine (θ_run _ _ _).mono (fun r h c => ?_) (Cert.Reference12Ideal.Side.run_all m' g')
  obtain ⟨h0, h1⟩ := hA c
  exact ⟨(h.1 c).1.trans (result_eq m m' c c h0 h1), (h.1 c).2⟩

end Cert.NormEq

end
-- ==== Proof.CompressSpec.lean ====
module

public import Idealize.ShloMosaic.Lib.Pointwise
public import Idealize.ShloMosaic.Lib.Pipeline.ValueKit

/-! The compression of one group's tokens, entry by entry. -/

@[expose] public section

noncomputable section

namespace Cert.Cmp

open Idealize.ShloMosaic

/-- The gelu in its tanh form. -/
def gel (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- Entry `i` of block `n`: token `16 n + i / 128` with its position's row added; the last block's second half is zero. -/
def blk (kv : Fin 8192 → Fin 128 → EReal) (pe : Fin 32 → Fin 128 → EReal) (n : Fin 512) (i : Fin 4096) : EReal :=
  if h : n.val < 511 ∨ i.val < 2048 then kv ⟨16 * n.val + i.val / 128, by omega⟩ ⟨i.val % 128, by omega⟩ + pe ⟨i.val / 128, by omega⟩ ⟨i.val % 128, by omega⟩ else 0

/-- The compressed token of block `n`. -/
def tok (kv : Fin 8192 → Fin 128 → EReal) (pe : Fin 32 → Fin 128 → EReal) (w1 : Fin 4096 → Fin 256 → EReal) (b1 : Fin 256 → EReal)
    (w2 : Fin 256 → Fin 128 → EReal) (b2 : Fin 128 → EReal) (n : Fin 512) (d : Fin 128) : EReal :=
  (∑ k : Fin 256, gel ((∑ i : Fin 4096, blk kv pe n i * w1 i k) + b1 k) * w2 k d) + b2 d

end Cert.Cmp

end
-- ==== Proof.CompressKernel.lean ====
module

public import proofs.«01_k».proof.Proof.CompressSpec
public import proofs.«01_k».proof.Proof.Gen.Kernel13Ideal.Value
public import Idealize.ShloMosaic.Lib.Pipeline.ValueKit
public import Idealize.ShloMosaic.Lib.StableHlo.RunRead
public import Idealize.ShloMosaic.Lib.KernelVsHost
public import Idealize.ShloMosaic.Lib.WritesUnit

/-! What the compression's kernel leaves in its result. -/

@[expose] public section

set_option maxRecDepth 16384

noncomputable section

namespace Cert.Kernel13Ideal.Side

open Idealize.ShloMosaic Idealize.ShloMosaic.TcCoe Idealize.SL.Sem Idealize.ShloMosaic.StableHlo
open Idealize.ShloMosaic.Pipeline (Dat)
open Cert.Kernel13Ideal Cert.Kernel13Ideal.Gen

/-- The product with the first half's rows of the first weights. -/
theorem pay53_at (a : Vec Ideal S512x2048 .bf16) (x2 : Vec Ideal S1x4096x256 .bf16) (n : Fin 512) (k : Fin 256) :
    (show EReal from k0_pay53 a (View.ld x2 (Rect.unit ![0, 0, 0] ![1, 2048, 256] inb_S1x4096x256_S1x2048x256_0_0_0)) (ix2 n k))
      = ∑ i : Fin 2048, (a (ix2 n i) : EReal) * x2 (ix3 0 ⟨i.val, by omega⟩ k) := by
  pointwise [k0_pay53]

/-- The product of the next block's rows with the second half's rows of the first weights. -/
theorem pay54_at (b : Vec Ideal S512x2048 .bf16) (x2 : Vec Ideal S1x4096x256 .bf16) (n : Fin 512) (hn : n.val < 511) (k : Fin 256) :
    (show EReal from k0_pay54 b (View.ld x2 (Rect.unit ![0, 2048, 0] ![1, 2048, 256] inb_S1x4096x256_S1x2048x256_0_2048_0)) (ix2 n k))
      = ∑ i : Fin 2048, (b (ix2 ⟨n.val + 1, by omega⟩ i) : EReal) * x2 (ix3 0 ⟨2048 + i.val, by omega⟩ k) := by
  unfold k0_pay54
  refine (dynamicRotate_apply (0 : Fin 2) 511#32 _ _ (ix2 n k) (ix2 ⟨n.val + 1, by omega⟩ k) fun b => ?_).trans ?_
  · match b with
    | ⟨0, _⟩ => show n.val + 1 = (n.val + 512 - 511 % 512) % 512; omega
    | ⟨1, _⟩ => rfl
  · pointwise

theorem pay55_at (n : Fin 512) (k : Fin 256) : k0_pay55 (ix2 n k) = if n.val < 511 then 1#1 else 0#1 := by
  have e : ∀ n : Fin 512, IntOp.cmpi .slt (BitVec.ofNat 32 n.val) 511#32 = if n.val < 511 then 1#1 else 0#1 := by decide +kernel
  refine Eq.trans ?_ (e n)
  unfold k0_pay55
  pointwise

/-- The rest, of the two products. -/
theorem pay56_at (a b : FVec Ideal S512x256 .f32) (q : IVec S512x256 1) (x3 : Vec Ideal S1x1x256 .f32) (x4 : Vec Ideal S1x256x128 .bf16) (x5 : Vec Ideal S1x1x128 .f32)
    (n : Fin 512) (d : Fin 128) :
    (show EReal from k0_pay56 a b q x3 x4 x5 (ix4 0 0 n d))
      = (∑ k : Fin 256, Cmp.gel ((a (ix2 n k) + Scalar.select (q (ix2 n k)) (b (ix2 n k) : EReal) 0) + x3 (ix3 0 0 k)) * x4 (ix3 0 k d)) + x5 (ix3 0 0 d) := by
  have g (x : EReal) : Ideal.ofBits .f32 0x3F000000#32 * x * (Ideal.ofBits .f32 0x3F800000#32
    + Ideal.tanh (Ideal.ofBits .f32 0x3F4C422A#32 * (x + Ideal.ofBits .f32 0x3D372713#32 * (x * x * x)))) = Cmp.gel x := by
    unfold Cmp.gel
    rw [mul_comm (Ideal.ofBits .f32 0x3F000000#32) x, mul_assoc]
  simp only [← g]
  pointwise [k0_pay56]

/-- Row `r`, column `j` of a buffer of shifted tokens, the positions' rows from `o` on. -/
def T (x0 : Vec Ideal S8192x128 .f32) (x1 : Vec Ideal S1x32x128 .f32) (o : ℕ) (ho : o ≤ 16) (r : Fin 512) (j : Fin 2048) : EReal :=
  (x0 (ix2 ⟨16 * r.val + j.val / 128, by omega⟩ ⟨j.val % 128, by omega⟩) : EReal) + x1 (ix3 0 ⟨o + j.val / 128, by omega⟩ ⟨j.val % 128, by omega⟩)

/-- One more position's columns in a buffer. -/
theorem step (v : View sig .tc .vmem S512x2048 .bf16) (f : v.ty.Contents (Elt Ideal)) (o : ℕ) (ho : o + 128 ≤ 2048) {off : Fin 2 → ℕ}
    (inb : ∀ a, off a + (![512, 128] : Fin 2 → ℕ) a ≤ S512x2048.size a)
    (w : FVec Ideal S512x128 .bf16) (L : List (View.Piece (Elt Ideal) S512x2048 .bf16)) (W : Fin 512 → Fin 2048 → EReal) (heq : off = ![0, o])
    (hL : ∀ r j, j.val < o → (show EReal from v.read (Elt Ideal) (v.writes (Elt Ideal) f L) (ix2 r j)) = W r j)
    (hw : ∀ (r : Fin 512) (d : Fin 128), (show EReal from w (ix2 r d)) = W r ⟨o + d.val, by omega⟩) :
    ∀ r j, j.val < o + 128 →
      (show EReal from v.read (Elt Ideal) (v.writes (Elt Ideal) f ((⟨Rect.unit (s := S512x2048) off ![512, 128] inb, w⟩ : View.Piece (Elt Ideal) S512x2048 .bf16) :: L)) (ix2 r j)) = W r j := by
  intro r j hj
  by_cases h : j.val < o
  · refine Eq.trans ?_ (hL r j h)
    exact View.read_writes_cons_unit_of_not_mem v f inb w L (ix2 r j) heq (1 : Fin 2) (Or.inl h)
  · refine (View.read_writes_cons_unit_of_mem v f inb w L (ix2 r j) (ix2 r (⟨j.val - o, by omega⟩ : Fin 128)) heq ?_).trans ?_
    · intro a
      match a with
      | ⟨0, _⟩ => exact (Nat.zero_add _).symm
      | ⟨1, _⟩ => show j.val = o + (j.val - o); omega
    · refine (hw r ⟨j.val - o, by omega⟩).trans (congrArg (W r) (Fin.ext ?_))
      show o + (j.val - o) = j.val
      omega

/-- Every sixteenth token from `p` on. -/
theorem T_head (arg2 : Memref sig .tc .vmem S8192x128 .f32) (harg2 : arg2.IsWhole) (x0 : Vec Ideal S8192x128 .f32) (x1 : Vec Ideal S1x32x128 .f32) (o : ℕ) (ho : o ≤ 16)
    (p : ℕ) (hp : p < 16) (inb : ∀ a : Fin 2, S512x128.size a = 0 ∨ (![p, 0] : Fin 2 → ℕ) a + (![16, 1] : Fin 2 → ℕ) a * (S512x128.size a - 1) < S8192x128.size a) (r : Fin 512) (d : Fin 128) :
    T x0 x1 o ho r ⟨128 * p + d.val, by omega⟩
      = (View.readAt (Elt Ideal) arg2.view ⟨![p, 0], ![512, 128], ![16, 1], inb⟩ (harg2.unread x0) (ix2 r d) : EReal) + x1 (ix3 0 ⟨o + p, by omega⟩ d) := by
  have e1 : (128 * p + d.val) / 128 = p := by omega
  have e2 : (128 * p + d.val) % 128 = d.val := by omega
  have e3 : (View.readAt (Elt Ideal) arg2.view ⟨![p, 0], ![512, 128], ![16, 1], inb⟩ (harg2.unread x0) (ix2 r d) : EReal) = x0 (ix2 ⟨16 * r.val + p, by omega⟩ d) := by
    refine (congrFun (harg2.read_unread x0) _).trans (congrArg x0 (funext fun a => Fin.ext ?_))
    match a with
    | ⟨0, _⟩ => show p + 16 * r.val = 16 * r.val + p; omega
    | ⟨1, _⟩ => show 0 + 1 * d.val = d.val; omega
  rw [e3]
  unfold T
  simp only [e1, e2]

/-- The kernel's block of the blocks it reads. -/
theorem pay_at (lo hi : Vec Ideal S512x2048 .bf16) (x0 : Vec Ideal S8192x128 .f32) (x1 : Vec Ideal S1x32x128 .f32) (x2 : Vec Ideal S1x4096x256 .bf16)
    (x3 : Vec Ideal S1x1x256 .f32) (x4 : Vec Ideal S1x256x128 .bf16) (x5 : Vec Ideal S1x1x128 .f32)
    (hlo : ∀ r j, (show EReal from lo (ix2 r j)) = T x0 x1 0 (by decide) r j) (hhi : ∀ r j, (show EReal from hi (ix2 r j)) = T x0 x1 16 (by decide) r j)
    (n : Fin 512) (d : Fin 128) :
    (show EReal from k0_pay56 (k0_pay53 lo (View.ld x2 (Rect.unit ![0, 0, 0] ![1, 2048, 256] inb_S1x4096x256_S1x2048x256_0_0_0)))
      (k0_pay54 hi (View.ld x2 (Rect.unit ![0, 2048, 0] ![1, 2048, 256] inb_S1x4096x256_S1x2048x256_0_2048_0))) k0_pay55 x3 x4 x5 (ix4 0 0 n d))
      = Cmp.tok (fun r d => x0 (ix2 r d)) (fun p d => x1 (ix3 0 p d)) (fun i k => x2 (ix3 0 i k)) (fun k => x3 (ix3 0 0 k)) (fun k d => x4 (ix3 0 k d)) (fun d => x5 (ix3 0 0 d)) n d := by
  refine (pay56_at _ _ _ x3 x4 x5 n d).trans ?_
  unfold Cmp.tok
  refine congrArg (fun z : EReal => z + _) (Finset.sum_congr rfl fun k _ => congrArg (fun z : EReal => Cmp.gel (z + _) * _) ?_)
  refine Eq.trans ?_ (Fin.sum_univ_add (a := 2048) (b := 2048) (fun i : Fin (2048 + 2048) => Cmp.blk (fun r d => x0 (ix2 r d)) (fun p d => x1 (ix3 0 p d)) n i * x2 (ix3 0 i k))).symm
  refine congrArg₂ (fun a b : EReal => a + b) ?_ ?_
  · refine (pay53_at lo x2 n k).trans (Finset.sum_congr rfl fun i _ => congrArg₂ (fun a b : EReal => a * b) ?_ rfl)
    refine (hlo _ _).trans ?_
    have hi' : i.val < 2048 := i.isLt
    unfold Cmp.blk T
    refine Eq.trans ?_ (dif_pos (Or.inr hi')).symm
    refine congrArg₂ (fun a b : EReal => a + b) rfl (congrArg x1 ?_)
    exact congrArg (fun z => ix3 0 z _) (Fin.ext (Nat.zero_add _))
  · rw [pay55_at]
    by_cases hn : n.val < 511
    · rw [if_pos hn]
      refine Eq.trans ?_ ((pay54_at hi x2 n hn k).trans (Finset.sum_congr rfl fun i _ => congrArg₂ (fun a b : EReal => a * b) ?_ rfl))
      · rfl
      · refine (hhi _ _).trans ?_
        have hi' : i.val < 2048 := i.isLt
        unfold Cmp.blk T
        refine Eq.trans ?_ (dif_pos (Or.inl hn)).symm
        have e1 : (2048 + i.val) / 128 = 16 + i.val / 128 := by omega
        have e2 : (2048 + i.val) % 128 = i.val % 128 := by omega
        refine congrArg₂ (fun a b : EReal => a + b) (congrArg x0 (congrArg₂ ix2 (Fin.ext ?_) (Fin.ext ?_))) (congrArg x1 (congrArg₂ (ix3 0) (Fin.ext ?_) (Fin.ext ?_)))
        · show 16 * (n.val + 1) + i.val / 128 = 16 * n.val + (2048 + i.val) / 128; omega
        · exact e2.symm
        · exact e1.symm
        · exact e2.symm
    · rw [if_neg hn]
      refine Eq.trans ?_ (Finset.sum_eq_zero fun i _ => ?_).symm
      · rfl
      · have e : Cmp.blk (fun r d => x0 (ix2 r d)) (fun p d => x1 (ix3 0 p d)) n (Fin.natAdd 2048 i) = 0 :=
          dif_neg fun h => h.elim hn fun h => by have : 2048 + i.val < 2048 := h; omega
        rw [e]
        exact zero_mul _

section blocks
variable (c : Dev nD) (i : grid0.Coords) (arg2 : Memref sig .tc .vmem S8192x128 .f32) (harg2 : arg2.IsWhole) (arg3 : Memref sig .tc .vmem S1x32x128 .f32) (harg3 : arg3.IsWhole) (arg4 : Memref sig .tc .vmem S1x4096x256 .bf16) (harg4 : arg4.IsWhole) (arg5 : Memref sig .tc .vmem S1x1x256 .f32) (harg5 : arg5.IsWhole) (arg6 : Memref sig .tc .vmem S1x256x128 .bf16) (harg6 : arg6.IsWhole) (arg7 : Memref sig .tc .vmem S1x1x128 .f32) (harg7 : arg7.IsWhole) (arg8 : Memref sig .tc .vmem S1x1x512x128 .bf16) (harg8 : arg8.IsWhole) (arg9 : Memref sig .tc .vmem S512x2048 .bf16) (harg9 : arg9.IsWhole) (arg10 : Memref sig .tc .vmem S512x2048 .bf16) (harg10 : arg10.IsWhole)
  (x0 : Vec Ideal S8192x128 .f32) (x1 : Vec Ideal S1x32x128 .f32) (x2 : Vec Ideal S1x4096x256 .bf16) (x3 : Vec Ideal S1x1x256 .f32) (x4 : Vec Ideal S1x256x128 .bf16) (x5 : Vec Ideal S1x1x128 .f32)

theorem whole_idx (r : Fin 512) (j : Fin 2048) : (Rect.unit (s := S512x2048) ![0, 0] ![512, 2048] inb_S512x2048_S512x2048_0_0).toLoadRect.idx (ix2 r j) = ix2 r j := by
  refine funext fun a => Fin.ext ?_
  match a with
  | ⟨0, _⟩ => show 0 + 1 * r.val = r.val; omega
  | ⟨1, _⟩ => show 0 + 1 * j.val = j.val; omega

/-- What a point leaves in its block of the result. -/
theorem out_at (n : Fin 512) (d : Fin 128) :
    (show EReal from out0_A_6 c i arg2 harg2 arg3 harg3 arg4 harg4 arg5 harg5 arg6 harg6 arg7 harg7 arg8 harg8 arg9 harg9 arg10 harg10 x0 x1 x2 x3 x4 x5 (ix4 0 0 n d))
      = Cmp.tok (fun r d => x0 (ix2 r d)) (fun p d => x1 (ix3 0 p d)) (fun i k => x2 (ix3 0 i k)) (fun k => x3 (ix3 0 0 k)) (fun k d => x4 (ix3 0 k d)) (fun d => x5 (ix3 0 0 d)) n d := by
  unfold out0_A_6
  frame_out
  refine pay_at _ _ x0 x1 x2 x3 x4 x5 ?lo ?hi n d
  case lo =>
    intro r j
    rw [View.readCov_eq_canon']
    dsimp only
    rw [whole_idx, ← View.read_writes_junk_eq_canon arg9.view]
    refine step arg9.view _ 1920 (by decide) _ _ _ (T x0 x1 0 (by decide)) rfl ?_ ?w15 r j ?lt
    refine step arg9.view _ 1792 (by decide) _ _ _ (T x0 x1 0 (by decide)) rfl ?_ ?w14
    refine step arg9.view _ 1664 (by decide) _ _ _ (T x0 x1 0 (by decide)) rfl ?_ ?w13
    refine step arg9.view _ 1536 (by decide) _ _ _ (T x0 x1 0 (by decide)) rfl ?_ ?w12
    refine step arg9.view _ 1408 (by decide) _ _ _ (T x0 x1 0 (by decide)) rfl ?_ ?w11
    refine step arg9.view _ 1280 (by decide) _ _ _ (T x0 x1 0 (by decide)) rfl ?_ ?w10
    refine step arg9.view _ 1152 (by decide) _ _ _ (T x0 x1 0 (by decide)) rfl ?_ ?w9
    refine step arg9.view _ 1024 (by decide) _ _ _ (T x0 x1 0 (by decide)) rfl ?_ ?w8
    refine step arg9.view _ 896 (by decide) _ _ _ (T x0 x1 0 (by decide)) rfl ?_ ?w7
    refine step arg9.view _ 768 (by decide) _ _ _ (T x0 x1 0 (by decide)) rfl ?_ ?w6
    refine step arg9.view _ 640 (by decide) _ _ _ (T x0 x1 0 (by decide)) rfl ?_ ?w5
    refine step arg9.view _ 512 (by decide) _ _ _ (T x0 x1 0 (by decide)) rfl ?_ ?w4
    refine step arg9.view _ 384 (by decide) _ _ _ (T x0 x1 0 (by decide)) rfl ?_ ?w3
    refine step arg9.view _ 256 (by decide) _ _ _ (T x0 x1 0 (by decide)) rfl ?_ ?w2
    refine step arg9.view _ 128 (by decide) _ _ _ (T x0 x1 0 (by decide)) rfl ?_ ?w1
    refine step arg9.view _ 0 (by decide) _ _ _ (T x0 x1 0 (by decide)) rfl ?_ ?w0
    · exact fun r j h => absurd h (Nat.not_lt_zero _)
    case lt => exact j.isLt
    case w0 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 0 (by decide) inb_S8192x128_S512x128_0_0_s_16_1 r d).symm
    case w1 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 1 (by decide) inb_S8192x128_S512x128_1_0_s_16_1 r d).symm
    case w2 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 2 (by decide) inb_S8192x128_S512x128_2_0_s_16_1 r d).symm
    case w3 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 3 (by decide) inb_S8192x128_S512x128_3_0_s_16_1 r d).symm
    case w4 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 4 (by decide) inb_S8192x128_S512x128_4_0_s_16_1 r d).symm
    case w5 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 5 (by decide) inb_S8192x128_S512x128_5_0_s_16_1 r d).symm
    case w6 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 6 (by decide) inb_S8192x128_S512x128_6_0_s_16_1 r d).symm
    case w7 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 7 (by decide) inb_S8192x128_S512x128_7_0_s_16_1 r d).symm
    case w8 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 8 (by decide) inb_S8192x128_S512x128_8_0_s_16_1 r d).symm
    case w9 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 9 (by decide) inb_S8192x128_S512x128_9_0_s_16_1 r d).symm
    case w10 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 10 (by decide) inb_S8192x128_S512x128_10_0_s_16_1 r d).symm
    case w11 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 11 (by decide) inb_S8192x128_S512x128_11_0_s_16_1 r d).symm
    case w12 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 12 (by decide) inb_S8192x128_S512x128_12_0_s_16_1 r d).symm
    case w13 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 13 (by decide) inb_S8192x128_S512x128_13_0_s_16_1 r d).symm
    case w14 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 14 (by decide) inb_S8192x128_S512x128_14_0_s_16_1 r d).symm
    case w15 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 0 (by decide) 15 (by decide) inb_S8192x128_S512x128_15_0_s_16_1 r d).symm
  case hi =>
    intro r j
    rw [View.readCov_eq_canon']
    dsimp only
    rw [whole_idx, ← View.read_writes_junk_eq_canon arg10.view]
    refine step arg10.view _ 1920 (by decide) _ _ _ (T x0 x1 16 (by decide)) rfl ?_ ?w15 r j ?lt
    refine step arg10.view _ 1792 (by decide) _ _ _ (T x0 x1 16 (by decide)) rfl ?_ ?w14
    refine step arg10.view _ 1664 (by decide) _ _ _ (T x0 x1 16 (by decide)) rfl ?_ ?w13
    refine step arg10.view _ 1536 (by decide) _ _ _ (T x0 x1 16 (by decide)) rfl ?_ ?w12
    refine step arg10.view _ 1408 (by decide) _ _ _ (T x0 x1 16 (by decide)) rfl ?_ ?w11
    refine step arg10.view _ 1280 (by decide) _ _ _ (T x0 x1 16 (by decide)) rfl ?_ ?w10
    refine step arg10.view _ 1152 (by decide) _ _ _ (T x0 x1 16 (by decide)) rfl ?_ ?w9
    refine step arg10.view _ 1024 (by decide) _ _ _ (T x0 x1 16 (by decide)) rfl ?_ ?w8
    refine step arg10.view _ 896 (by decide) _ _ _ (T x0 x1 16 (by decide)) rfl ?_ ?w7
    refine step arg10.view _ 768 (by decide) _ _ _ (T x0 x1 16 (by decide)) rfl ?_ ?w6
    refine step arg10.view _ 640 (by decide) _ _ _ (T x0 x1 16 (by decide)) rfl ?_ ?w5
    refine step arg10.view _ 512 (by decide) _ _ _ (T x0 x1 16 (by decide)) rfl ?_ ?w4
    refine step arg10.view _ 384 (by decide) _ _ _ (T x0 x1 16 (by decide)) rfl ?_ ?w3
    refine step arg10.view _ 256 (by decide) _ _ _ (T x0 x1 16 (by decide)) rfl ?_ ?w2
    refine step arg10.view _ 128 (by decide) _ _ _ (T x0 x1 16 (by decide)) rfl ?_ ?w1
    refine step arg10.view _ 0 (by decide) _ _ _ (T x0 x1 16 (by decide)) rfl ?_ ?w0
    · exact fun r j h => absurd h (Nat.not_lt_zero _)
    case lt => exact j.isLt
    case w0 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 0 (by decide) inb_S8192x128_S512x128_0_0_s_16_1 r d).symm
    case w1 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 1 (by decide) inb_S8192x128_S512x128_1_0_s_16_1 r d).symm
    case w2 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 2 (by decide) inb_S8192x128_S512x128_2_0_s_16_1 r d).symm
    case w3 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 3 (by decide) inb_S8192x128_S512x128_3_0_s_16_1 r d).symm
    case w4 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 4 (by decide) inb_S8192x128_S512x128_4_0_s_16_1 r d).symm
    case w5 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 5 (by decide) inb_S8192x128_S512x128_5_0_s_16_1 r d).symm
    case w6 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 6 (by decide) inb_S8192x128_S512x128_6_0_s_16_1 r d).symm
    case w7 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 7 (by decide) inb_S8192x128_S512x128_7_0_s_16_1 r d).symm
    case w8 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 8 (by decide) inb_S8192x128_S512x128_8_0_s_16_1 r d).symm
    case w9 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 9 (by decide) inb_S8192x128_S512x128_9_0_s_16_1 r d).symm
    case w10 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 10 (by decide) inb_S8192x128_S512x128_10_0_s_16_1 r d).symm
    case w11 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 11 (by decide) inb_S8192x128_S512x128_11_0_s_16_1 r d).symm
    case w12 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 12 (by decide) inb_S8192x128_S512x128_12_0_s_16_1 r d).symm
    case w13 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 13 (by decide) inb_S8192x128_S512x128_13_0_s_16_1 r d).symm
    case w14 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 14 (by decide) inb_S8192x128_S512x128_14_0_s_16_1 r d).symm
    case w15 => exact fun r d => Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]) (T_head arg2 harg2 x0 x1 16 (by decide) 15 (by decide) inb_S8192x128_S512x128_15_0_s_16_1 r d).symm
end blocks

variable (m : (ℓ : Loc nD τ sig) → Buf (Elt Ideal) ℓ) (c : Dev nD)

abbrev A0 : FVec Ideal S1x8192x1024 .f32 := m ((c : Thread nD τ).loc main_arg0)
abbrev A1 : FVec Ideal S4x2x32x128 .f32 := m ((c : Thread nD τ).loc main_arg1)
abbrev A2 : FVec Ideal S4x2x4096x256 .f32 := m ((c : Thread nD τ).loc main_arg2)
abbrev A3 : FVec Ideal S4x2x256 .f32 := m ((c : Thread nD τ).loc main_arg3)
abbrev A4 : FVec Ideal S4x2x256x128 .f32 := m ((c : Thread nD τ).loc main_arg4)
abbrev A5 : FVec Ideal S4x2x128 .f32 := m ((c : Thread nD τ).loc main_arg5)

theorem V0_at (r : Fin 8192) (j : Fin 1024) : V m c main_v0 (ix2 r j) = A0 m c (ix3 0 r j) := by
  unfold V
  after_reads_simp
  have e (x : FVec Ideal S1x8192x1024 .f32) : shapeCast S8192x1024 x shapeCasts_S1x8192x1024_S8192x1024 (ix2 r j) = x (ix3 0 r j) := by pointwise
  exact e _

theorem V2_at (s : Fin 2) (p : Fin 32) (d : Fin 128) : V m c main_v2 (ix3 s p d) = A1 m c (ix4 0 s p d) := by
  unfold V
  after_reads_simp
  have e (x : FVec Ideal S4x2x32x128 .f32) : shapeCast S2x32x128 (extractStridedSlice S1x2x32x128 ![0, 0, 0, 0] x slices_S4x2x32x128_S1x2x32x128_0_0_0_0)
      shapeCasts_S1x2x32x128_S2x32x128 (ix3 s p d) = x (ix4 0 s p d) := by pointwise
  exact e _

theorem V5_at (s : Fin 2) (i : Fin 4096) (k : Fin 256) : V m c main_v5 (ix3 s i k) = A2 m c (ix4 0 s i k) := by
  unfold V
  after_reads_simp
  have e (x : FVec Ideal S4x2x4096x256 .f32) : truncf .bf16 (shapeCast S2x4096x256 (extractStridedSlice S1x2x4096x256 ![0, 0, 0, 0] x slices_S4x2x4096x256_S1x2x4096x256_0_0_0_0)
      shapeCasts_S1x2x4096x256_S2x4096x256) bitsLt_bf16_f32 (ix3 s i k) = x (ix4 0 s i k) := by pointwise
  exact e _

theorem V8_at (s : Fin 2) (k : Fin 256) : V m c main_v8 (ix3 s 0 k) = A3 m c (ix3 0 s k) := by
  unfold V
  after_reads_simp
  have e (x : FVec Ideal S4x2x256 .f32) : shapeCast S2x1x256 (shapeCast S2x256 (extractStridedSlice S1x2x256 ![0, 0, 0] x slices_S4x2x256_S1x2x256_0_0_0)
      shapeCasts_S1x2x256_S2x256) shapeCasts_S2x256_S2x1x256 (ix3 s 0 k) = x (ix3 0 s k) := by pointwise
  exact e _

theorem V11_at (s : Fin 2) (k : Fin 256) (d : Fin 128) : V m c main_v11 (ix3 s k d) = A4 m c (ix4 0 s k d) := by
  unfold V
  after_reads_simp
  have e (x : FVec Ideal S4x2x256x128 .f32) : truncf .bf16 (shapeCast S2x256x128 (extractStridedSlice S1x2x256x128 ![0, 0, 0, 0] x slices_S4x2x256x128_S1x2x256x128_0_0_0_0)
      shapeCasts_S1x2x256x128_S2x256x128) bitsLt_bf16_f32 (ix3 s k d) = x (ix4 0 s k d) := by pointwise
  exact e _

theorem V14_at (s : Fin 2) (d : Fin 128) : V m c main_v14 (ix3 s 0 d) = A5 m c (ix3 0 s d) := by
  unfold V
  after_reads_simp
  have e (x : FVec Ideal S4x2x128 .f32) : shapeCast S2x1x128 (shapeCast S2x128 (extractStridedSlice S1x2x128 ![0, 0, 0] x slices_S4x2x128_S1x2x128_0_0_0)
      shapeCasts_S1x2x128_S2x128) shapeCasts_S2x128_S2x1x128 (ix3 s 0 d) = x (ix3 0 s d) := by pointwise
  exact e _

theorem idx : ∀ t : Fin cfg0.N, win0_0.index t = ![0, t.val] ∧ win0_1.index t = ![t.val / 4, 0, 0] ∧ win0_2.index t = ![t.val / 4, 0, 0]
    ∧ win0_3.index t = ![t.val / 4, 0, 0] ∧ win0_4.index t = ![t.val / 4, 0, 0] ∧ win0_5.index t = ![t.val / 4, 0, 0]
    ∧ win0_6.index t = ![t.val / 4, t.val % 4, 0, 0] :=
  (by decide +kernel : ∀ t : Fin grid0.N, _)

/-- Keys or values. -/
abbrev sel (t : Fin cfg0.N) : Fin 2 := ⟨t.val / 4, by have := lt_of_lt_of_eq t.isLt N_0; omega⟩
/-- The group. -/
abbrev grp (t : Fin cfg0.N) : Fin 4 := ⟨t.val % 4, by omega⟩
/-- A column of the array of keys and values. -/
abbrev col (s : Fin 2) (g : Fin 4) (d : Fin 128) : Fin 1024 := ⟨512 * s.val + 128 * g.val + d.val, by omega⟩

theorem X0_at (t : Fin cfg0.N) (r : Fin 8192) (d : Fin 128) : (show Vec Ideal S8192x128 .f32 from iblk m c 0 t) (ix2 r d) = A0 m c (ix3 0 r (col (sel t) (grp t) d)) := by
  rw [← V0_at]
  blk_point [iblk, V, idx t]

theorem X1_at (t : Fin cfg0.N) (p : Fin 32) (d : Fin 128) : (show Vec Ideal S1x32x128 .f32 from iblk m c 1 t) (ix3 0 p d) = A1 m c (ix4 0 (sel t) p d) := by
  rw [← V2_at]
  blk_point [iblk, V, idx t]

theorem X2_at (t : Fin cfg0.N) (i : Fin 4096) (k : Fin 256) : (show Vec Ideal S1x4096x256 .bf16 from iblk m c 2 t) (ix3 0 i k) = A2 m c (ix4 0 (sel t) i k) := by
  rw [← V5_at]
  blk_point [iblk, V, idx t]

theorem X3_at (t : Fin cfg0.N) (k : Fin 256) : (show Vec Ideal S1x1x256 .f32 from iblk m c 3 t) (ix3 0 0 k) = A3 m c (ix3 0 (sel t) k) := by
  rw [← V8_at]
  blk_point [iblk, V, idx t]

theorem X4_at (t : Fin cfg0.N) (k : Fin 256) (d : Fin 128) : (show Vec Ideal S1x256x128 .bf16 from iblk m c 4 t) (ix3 0 k d) = A4 m c (ix4 0 (sel t) k d) := by
  rw [← V11_at]
  blk_point [iblk, V, idx t]

theorem X5_at (t : Fin cfg0.N) (d : Fin 128) : (show Vec Ideal S1x1x128 .f32 from iblk m c 5 t) (ix3 0 0 d) = A5 m c (ix3 0 (sel t) d) := by
  rw [← V14_at]
  blk_point [iblk, V, idx t]

/-- The result of the arguments, entry by entry. -/
def G (a0 : FVec Ideal S1x8192x1024 .f32) (a1 : FVec Ideal S4x2x32x128 .f32) (a2 : FVec Ideal S4x2x4096x256 .f32) (a3 : FVec Ideal S4x2x256 .f32)
    (a4 : FVec Ideal S4x2x256x128 .f32) (a5 : FVec Ideal S4x2x128 .f32) (s : Fin 2) (g : Fin 4) (n : Fin 512) (d : Fin 128) : EReal :=
  Cmp.tok (fun r d => a0 (ix3 0 r (col s g d))) (fun p d => a1 (ix4 0 s p d)) (fun i k => a2 (ix4 0 s i k)) (fun k => a3 (ix3 0 s k)) (fun k d => a4 (ix4 0 s k d))
    (fun d => a5 (ix3 0 s d)) n d

/-- A block of the result. -/
theorem point (t : Fin cfg0.N) (n : Fin 512) (d : Fin 128) :
    (show EReal from outsAt0 m c t (ix4 0 0 n d)) = G (A0 m c) (A1 m c) (A2 m c) (A3 m c) (A4 m c) (A5 m c) (sel t) (grp t) n d := by
  unfold outsAt0
  refine (out_at c _ _ _ _ _ _ _ _ _ _ _ _ _ _ _ _ _ _ _ _ _ _ _ _ _ n d).trans ?_
  unfold G
  have h0 := funext fun r => funext fun d => X0_at m c t r d
  have h1 := funext fun p => funext fun d => X1_at m c t p d
  have h2 := funext fun i => funext fun k => X2_at m c t i k
  have h3 := funext fun k => X3_at m c t k
  have h4 := funext fun k => funext fun d => X4_at m c t k d
  have h5 := funext fun d => X5_at m c t d
  exact congrFun (congrFun (congr (congr (congr (congr (congr (congrArg Cmp.tok h0) h1) h2) h3) h4) h5) n) d

theorem eta4 (y : S1x1x512x128.Idx) : y = ix4 0 0 (y 2) (y 3) := by
  funext a
  match a with
  | ⟨0, _⟩ => exact Fin.ext (by have : (y 0).val < 1 := (y 0).isLt; show (y 0).val = 0; omega)
  | ⟨1, _⟩ => exact Fin.ext (by have : (y 1).val < 1 := (y 1).isLt; show (y 1).val = 0; omega)
  | ⟨2, _⟩ => rfl
  | ⟨3, _⟩ => rfl

theorem G_congr (a0 : FVec Ideal S1x8192x1024 .f32) (a1 : FVec Ideal S4x2x32x128 .f32) (a2 : FVec Ideal S4x2x4096x256 .f32) (a3 : FVec Ideal S4x2x256 .f32)
    (a4 : FVec Ideal S4x2x256x128 .f32) (a5 : FVec Ideal S4x2x128 .f32) {s s' : Fin 2} {g g' : Fin 4} {n n' : Fin 512} {d d' : Fin 128}
    (hs : s = s') (hg : g = g') (hn : n = n') (hd : d = d') : G a0 a1 a2 a3 a4 a5 s g n d = G a0 a1 a2 a3 a4 a5 s' g' n' d' := by
  subst hs hg hn hd; rfl

/-- The kernel's result array. -/
theorem final : (dats m 0 c).arrAt 6 (cfgs 0).N = (fun i => G (A0 m c) (A1 m c) (A2 m c) (A3 m c) (A4 m c) (A5 m c) (i 0) (i 1) (i 2) (i 3) : FVec Ideal S2x4x512x128 .bf16) := by
  refine (dats m 0 c).arrAt_eq_of_covers 6 _ (by decide +kernel) fun t _ y => ?_
  blk_simp
  rw [after0_6]
  refine (congrArg _ (eta4 y)).trans ((point m c t (y 2) (y 3)).trans ?_)
  refine G_congr _ _ _ _ _ _ (Fin.ext ?_) (Fin.ext ?_) (Fin.ext ?_) (Fin.ext ?_) <;> blk_simp [idx t] <;> idx_bounds <;> simp <;> omega

end Cert.Kernel13Ideal.Side

end
-- ==== Proof.CompressRef.lean ====
module

public import proofs.«01_k».proof.Proof.CompressKernel
public import proofs.«01_k».proof.Proof.Gen.Reference13Ideal.Run
public import proofs.«01_k».proof.Proof.Gen.Reference13Ideal
public import proofs.«01_k».proof.Defs
public import Idealize.ShloMosaic.Lib.Quiescent

/-! The compression's reference, entry by entry, and its equality with the kernel's result. -/

@[expose] public section

set_option maxRecDepth 16384

noncomputable section

namespace Cert.Reference13Ideal.Side

open Idealize.ShloMosaic Idealize.ShloMosaic.TcCoe Idealize.SL.Sem Idealize.ShloMosaic.StableHlo
open Cert.Reference13Ideal Cert.Reference13Ideal.Gen Cert.Reference13Ideal.Value

theorem sitofp_zero : (FloatOps.sitofp (F := Ideal) .f32 (0#32 : BitVec 32) : EReal) = 0 := by
  show (((0#32 : BitVec 32).toInt : ℝ) : EReal) = 0
  simp

/-- The blocks' tokens with their positions' rows, flat. -/
abbrev flatR (x : FVec Ideal S8192x512 .f32) (pe : FVec Ideal S32x128 .f32) : FVec Ideal S512x4x4096 .f32 :=
  shapeCast S512x4x4096 (transpose S512x4x32x128 [0, 2, 1, 3] (concatenate S512x32x4x128 1
    [⟨S512x16x4x128, addf (shapeCast S512x16x4x128 x shapeCasts_S8192x512_S512x16x4x128)
        (broadcastInDim S512x16x4x128 ![0, 1, 2, 3] bcast_S1x16x1x128_S512x16x4x128_0_1_2_3 (broadcastInDim S1x16x1x128 ![1, 3] bcast_S16x128_S1x16x1x128_1_3
          (extractStridedSlice S16x128 ![0, 0] pe slices_S32x128_S16x128_0_0)))⟩,
     ⟨S512x16x4x128, pad S512x16x4x128 ![0, 0, 0, 0] ![1, 0, 0, 0] ![0, 0, 0, 0]
        (addf (extractStridedSlice S511x16x4x128 ![1, 0, 0, 0] (shapeCast S512x16x4x128 x shapeCasts_S8192x512_S512x16x4x128) slices_S512x16x4x128_S511x16x4x128_1_0_0_0)
          (broadcastInDim S511x16x4x128 ![0, 1, 2, 3] bcast_S1x16x1x128_S511x16x4x128_0_1_2_3 (broadcastInDim S1x16x1x128 ![1, 3] bcast_S16x128_S1x16x1x128_1_3
            (extractStridedSlice S16x128 ![16, 0] pe slices_S32x128_S16x128_16_0))))
        (sitofp .f32 (constantI S_ 32 0#32)) pads_S511x16x4x128_S512x16x4x128_010_000_000_000 h_S_⟩]
    concatenates_S512x16x4x128_S512x16x4x128_S512x32x4x128_d1) transposes_S512x32x4x128_S512x4x32x128_0_2_1_3) shapeCasts_S512x4x32x128_S512x4x4096

theorem flatR_entry (x : FVec Ideal S8192x512 .f32) (pe : FVec Ideal S32x128 .f32) (n : Fin 512) (g : Fin 4) (i : Fin 4096) :
    (show EReal from flatR x pe (ix3 n g i)) = if h : i.val / 128 < 16 then
        x (ix2 ⟨n.val * 16 + i.val / 128, by omega⟩ ⟨g.val * 128 + i.val % 128, by omega⟩) + pe (ix2 ⟨i.val / 128, by omega⟩ ⟨i.val % 128, by omega⟩)
      else if h' : n.val < 511 ∧ i.val / 128 - 16 < 16 ∧ i.val % 128 < 128 then
        x (ix2 ⟨(1 + n.val) * 16 + (i.val / 128 - 16), by omega⟩ ⟨g.val * 128 + i.val % 128, by omega⟩) + pe (ix2 ⟨16 + (i.val / 128 - 16), by omega⟩ ⟨i.val % 128, by omega⟩)
      else FloatOps.sitofp (F := Ideal) .f32 (0#32 : BitVec 32) := by
  pointwise

theorem flatR_at (x : FVec Ideal S8192x512 .f32) (pe : FVec Ideal S32x128 .f32) (n : Fin 512) (g : Fin 4) (i : Fin 4096) :
    (show EReal from flatR x pe (ix3 n g i)) = Cmp.blk (fun r d => x (ix2 r ⟨128 * g.val + d.val, by omega⟩)) (fun p d => pe (ix2 p d)) n i := by
  refine (flatR_entry x pe n g i).trans ?_
  unfold Cmp.blk
  have key : ∀ (a b a' b' : ℕ) (ha : a < 8192) (hb : b < 512) (ha' : a' < 8192) (hb' : b' < 512), a = a' → b = b' → x (ix2 ⟨a, ha⟩ ⟨b, hb⟩) = x (ix2 ⟨a', ha'⟩ ⟨b', hb'⟩) := by
    rintro a b _ _ ha hb _ _ rfl rfl
    rfl
  have kpe : ∀ (a b a' : ℕ) (ha : a < 32) (hb : b < 128) (ha' : a' < 32), a = a' → pe (ix2 ⟨a, ha⟩ ⟨b, hb⟩) = pe (ix2 ⟨a', ha'⟩ ⟨b, hb⟩) := by
    rintro a b _ ha hb _ rfl
    rfl
  by_cases h1 : i.val / 128 < 16
  · rw [dif_pos h1, dif_pos (show n.val < 511 ∨ i.val < 2048 by omega)]
    rw [key (n.val * 16 + i.val / 128) (g.val * 128 + i.val % 128) (16 * n.val + i.val / 128) (128 * g.val + i.val % 128) (by omega) (by omega) (by omega) (by omega) (by omega) (by omega)]
  · rw [dif_neg h1]
    by_cases h2 : n.val < 511
    · rw [dif_pos (show n.val < 511 ∧ i.val / 128 - 16 < 16 ∧ i.val % 128 < 128 by omega), dif_pos (show n.val < 511 ∨ i.val < 2048 by omega)]
      rw [key ((1 + n.val) * 16 + (i.val / 128 - 16)) (g.val * 128 + i.val % 128) (16 * n.val + i.val / 128) (128 * g.val + i.val % 128) (by omega) (by omega) (by omega) (by omega)
          (by omega) (by omega),
        kpe (16 + (i.val / 128 - 16)) (i.val % 128) (i.val / 128) (by omega) (by omega) (by omega) (by omega)]
    · rw [dif_neg (show ¬(n.val < 511 ∧ i.val / 128 - 16 < 16 ∧ i.val % 128 < 128) by omega), dif_neg (show ¬(n.val < 511 ∨ i.val < 2048) by omega)]
      exact sitofp_zero

/-- The hidden layer before the gelu. -/
abbrev hidR (f : FVec Ideal S512x4x4096 .f32) (w1 : FVec Ideal S4096x256 .f32) (b1 : FVec Ideal S256 .f32) : FVec Ideal S512x4x256 .f32 :=
  addf (Host.dotGeneral dot_S512x4x4096_S4096x256_S512x4x256_2_0_01_1_n_n none f w1)
    (broadcastInDim S512x4x256 ![0, 1, 2] bcast_S1x1x256_S512x4x256_0_1_2 (broadcastInDim S1x1x256 ![2] bcast_S256_S1x1x256_2 b1))

theorem hidR_at (f : FVec Ideal S512x4x4096 .f32) (w1 : FVec Ideal S4096x256 .f32) (b1 : FVec Ideal S256 .f32) (n : Fin 512) (g : Fin 4) (k : Fin 256) :
    (show EReal from hidR f w1 b1 (ix3 n g k)) = (∑ i : Fin 4096, (f (ix3 n g i) : EReal) * w1 (ix2 i k)) + b1 (ix1 k) := by
  pointwise

/-- The gelu. -/
abbrev gelR (h : FVec Ideal S512x4x256 .f32) : FVec Ideal S512x4x256 .f32 :=
  mulf h (mulf (broadcastInDim S512x4x256 ![] bcast_S_S512x4x256 (constant S_ .f32 0x3F000000#32))
    (addf (broadcastInDim S512x4x256 ![] bcast_S_S512x4x256 (constant S_ .f32 0x3F800000#32))
      (Host.tanh (mulf (broadcastInDim S512x4x256 ![] bcast_S_S512x4x256 (constant S_ .f32 0x3F4C422A#32))
        (addf h (mulf (broadcastInDim S512x4x256 ![] bcast_S_S512x4x256 (constant S_ .f32 0x3D372713#32)) (mulf (mulf h h) h)))))))

theorem gelR_at (h : FVec Ideal S512x4x256 .f32) (i : S512x4x256.Idx) : (show EReal from gelR h i) = Cmp.gel (h i) := rfl

/-- The output layer. -/
abbrev outR (h : FVec Ideal S512x4x256 .f32) (w2 : FVec Ideal S256x128 .f32) (b2 : FVec Ideal S128 .f32) : FVec Ideal S512x4x128 .f32 :=
  addf (Host.dotGeneral dot_S512x4x256_S256x128_S512x4x128_2_0_01_1_n_n none h w2)
    (broadcastInDim S512x4x128 ![0, 1, 2] bcast_S1x1x128_S512x4x128_0_1_2 (broadcastInDim S1x1x128 ![2] bcast_S128_S1x1x128_2 b2))

theorem outR_at (h : FVec Ideal S512x4x256 .f32) (w2 : FVec Ideal S256x128 .f32) (b2 : FVec Ideal S128 .f32) (n : Fin 512) (g : Fin 4) (d : Fin 128) :
    (show EReal from outR h w2 b2 (ix3 n g d)) = (∑ k : Fin 256, (h (ix3 n g k) : EReal) * w2 (ix2 k d)) + b2 (ix1 d) := by
  pointwise

/-- The compressed tokens of the keys or of the values. -/
abbrev tokR (x : FVec Ideal S8192x512 .f32) (pe : FVec Ideal S32x128 .f32) (w1 : FVec Ideal S4096x256 .f32) (b1 : FVec Ideal S256 .f32) (w2 : FVec Ideal S256x128 .f32)
    (b2 : FVec Ideal S128 .f32) : FVec Ideal S512x4x128 .f32 := outR (gelR (hidR (flatR x pe) w1 b1)) w2 b2

theorem tokR_at (x : FVec Ideal S8192x512 .f32) (pe : FVec Ideal S32x128 .f32) (w1 : FVec Ideal S4096x256 .f32) (b1 : FVec Ideal S256 .f32) (w2 : FVec Ideal S256x128 .f32)
    (b2 : FVec Ideal S128 .f32) (n : Fin 512) (g : Fin 4) (d : Fin 128) :
    (show EReal from tokR x pe w1 b1 w2 b2 (ix3 n g d))
      = Cmp.tok (fun r d => x (ix2 r ⟨128 * g.val + d.val, by omega⟩)) (fun p d => pe (ix2 p d)) (fun i k => w1 (ix2 i k)) (fun k => b1 (ix1 k)) (fun k d => w2 (ix2 k d))
        (fun d => b2 (ix1 d)) n d := by
  refine (outR_at _ w2 b2 n g d).trans ?_
  unfold Cmp.tok
  refine congrArg (fun z : EReal => z + _) (Finset.sum_congr rfl fun k _ => congrArg (fun z : EReal => z * _) ?_)
  refine (gelR_at _ _).trans (congrArg Cmp.gel ((hidR_at _ w1 b1 n g k).trans ?_))
  exact congrArg (fun z : EReal => z + _) (Finset.sum_congr rfl fun i _ => congrArg (fun z : EReal => z * _) (flatR_at x pe n g i))

/-- The result of the keys' and the values' compressed tokens. -/
abbrev stackR (a b : FVec Ideal S512x4x128 .f32) : FVec Ideal S2x4x512x128 .bf16 :=
  truncf .bf16 (transpose S2x4x512x128 [0, 2, 1, 3] (concatenate S2x512x4x128 0
    [⟨S1x512x4x128, broadcastInDim S1x512x4x128 ![1, 2, 3] bcast_S512x4x128_S1x512x4x128_1_2_3 a⟩,
     ⟨S1x512x4x128, broadcastInDim S1x512x4x128 ![1, 2, 3] bcast_S512x4x128_S1x512x4x128_1_2_3 b⟩] concatenates_S1x512x4x128_S1x512x4x128_S2x512x4x128_d0)
    transposes_S2x512x4x128_S2x4x512x128_0_2_1_3) bitsLt_bf16_f32

theorem stackR_at (a b : FVec Ideal S512x4x128 .f32) (s : Fin 2) (g : Fin 4) (n : Fin 512) (d : Fin 128) :
    (show EReal from stackR a b (ix4 s g n d)) = if s.val < 1 then a (ix3 n g d) else b (ix3 n g d) := by
  pointwise
  by_cases h : s.val < 1
  · rw [dif_pos h, if_pos h]
  · rw [dif_neg h, if_neg h]

variable (m : (ℓ : Loc nD τ sig) → Buf (Elt Ideal) ℓ) (c : Dev nD)

abbrev A0 : FVec Ideal S1x8192x1024 .f32 := m ((c : Thread nD τ).loc main_arg0)
abbrev A1 : FVec Ideal S4x2x32x128 .f32 := m ((c : Thread nD τ).loc main_arg1)
abbrev A2 : FVec Ideal S4x2x4096x256 .f32 := m ((c : Thread nD τ).loc main_arg2)
abbrev A3 : FVec Ideal S4x2x256 .f32 := m ((c : Thread nD τ).loc main_arg3)
abbrev A4 : FVec Ideal S4x2x256x128 .f32 := m ((c : Thread nD τ).loc main_arg4)
abbrev A5 : FVec Ideal S4x2x128 .f32 := m ((c : Thread nD τ).loc main_arg5)

abbrev kR (a0 : FVec Ideal S1x8192x1024 .f32) (a1 : FVec Ideal S4x2x32x128 .f32) (a2 : FVec Ideal S4x2x4096x256 .f32) (a3 : FVec Ideal S4x2x256 .f32)
    (a4 : FVec Ideal S4x2x256x128 .f32) (a5 : FVec Ideal S4x2x128 .f32) : FVec Ideal S512x4x128 .f32 :=
  tokR (shapeCast S8192x512 (extractStridedSlice S1x8192x512 ![0, 0, 0] a0 slices_S1x8192x1024_S1x8192x512_0_0_0) shapeCasts_S1x8192x512_S8192x512)
    (shapeCast S32x128 (extractStridedSlice S1x1x32x128 ![0, 0, 0, 0] a1 slices_S4x2x32x128_S1x1x32x128_0_0_0_0) shapeCasts_S1x1x32x128_S32x128)
    (shapeCast S4096x256 (extractStridedSlice S1x1x4096x256 ![0, 0, 0, 0] a2 slices_S4x2x4096x256_S1x1x4096x256_0_0_0_0) shapeCasts_S1x1x4096x256_S4096x256)
    (shapeCast S256 (extractStridedSlice S1x1x256 ![0, 0, 0] a3 slices_S4x2x256_S1x1x256_0_0_0) shapeCasts_S1x1x256_S256)
    (shapeCast S256x128 (extractStridedSlice S1x1x256x128 ![0, 0, 0, 0] a4 slices_S4x2x256x128_S1x1x256x128_0_0_0_0) shapeCasts_S1x1x256x128_S256x128)
    (shapeCast S128 (extractStridedSlice S1x1x128 ![0, 0, 0] a5 slices_S4x2x128_S1x1x128_0_0_0) shapeCasts_S1x1x128_S128)

abbrev vR (a0 : FVec Ideal S1x8192x1024 .f32) (a1 : FVec Ideal S4x2x32x128 .f32) (a2 : FVec Ideal S4x2x4096x256 .f32) (a3 : FVec Ideal S4x2x256 .f32)
    (a4 : FVec Ideal S4x2x256x128 .f32) (a5 : FVec Ideal S4x2x128 .f32) : FVec Ideal S512x4x128 .f32 :=
  tokR (shapeCast S8192x512 (extractStridedSlice S1x8192x512 ![0, 0, 512] a0 slices_S1x8192x1024_S1x8192x512_0_0_512) shapeCasts_S1x8192x512_S8192x512)
    (shapeCast S32x128 (extractStridedSlice S1x1x32x128 ![0, 1, 0, 0] a1 slices_S4x2x32x128_S1x1x32x128_0_1_0_0) shapeCasts_S1x1x32x128_S32x128)
    (shapeCast S4096x256 (extractStridedSlice S1x1x4096x256 ![0, 1, 0, 0] a2 slices_S4x2x4096x256_S1x1x4096x256_0_1_0_0) shapeCasts_S1x1x4096x256_S4096x256)
    (shapeCast S256 (extractStridedSlice S1x1x256 ![0, 1, 0] a3 slices_S4x2x256_S1x1x256_0_1_0) shapeCasts_S1x1x256_S256)
    (shapeCast S256x128 (extractStridedSlice S1x1x256x128 ![0, 1, 0, 0] a4 slices_S4x2x256x128_S1x1x256x128_0_1_0_0) shapeCasts_S1x1x256x128_S256x128)
    (shapeCast S128 (extractStridedSlice S1x1x128 ![0, 1, 0] a5 slices_S4x2x128_S1x1x128_0_1_0) shapeCasts_S1x1x128_S128)

theorem res_eq : res_main_v98 m c = stackR (kR (A0 m c) (A1 m c) (A2 m c) (A3 m c) (A4 m c) (A5 m c)) (vR (A0 m c) (A1 m c) (A2 m c) (A3 m c) (A4 m c) (A5 m c)) := by
  unfold res_main_v98
  rfl

theorem tok_congr {kv kv' : Fin 8192 → Fin 128 → EReal} {pe pe' : Fin 32 → Fin 128 → EReal} {w1 w1' : Fin 4096 → Fin 256 → EReal} {b1 b1' : Fin 256 → EReal}
    {w2 w2' : Fin 256 → Fin 128 → EReal} {b2 b2' : Fin 128 → EReal} (n : Fin 512) (d : Fin 128) (h0 : ∀ r d, kv r d = kv' r d) (h1 : ∀ p d, pe p d = pe' p d)
    (h2 : ∀ i k, w1 i k = w1' i k) (h3 : ∀ k, b1 k = b1' k) (h4 : ∀ k d, w2 k d = w2' k d) (h5 : ∀ d, b2 d = b2' d) :
    Cmp.tok kv pe w1 b1 w2 b2 n d = Cmp.tok kv' pe' w1' b1' w2' b2' n d := by
  obtain rfl : kv = kv' := funext fun r => funext (h0 r)
  obtain rfl : pe = pe' := funext fun r => funext (h1 r)
  obtain rfl : w1 = w1' := funext fun r => funext (h2 r)
  obtain rfl : b1 = b1' := funext h3
  obtain rfl : w2 = w2' := funext fun r => funext (h4 r)
  obtain rfl : b2 = b2' := funext h5
  rfl

theorem kR_at (a0 : FVec Ideal S1x8192x1024 .f32) (a1 : FVec Ideal S4x2x32x128 .f32) (a2 : FVec Ideal S4x2x4096x256 .f32) (a3 : FVec Ideal S4x2x256 .f32)
    (a4 : FVec Ideal S4x2x256x128 .f32) (a5 : FVec Ideal S4x2x128 .f32) (n : Fin 512) (g : Fin 4) (d : Fin 128) :
    (show EReal from kR a0 a1 a2 a3 a4 a5 (ix3 n g d)) = Cert.Kernel13Ideal.Side.G a0 a1 a2 a3 a4 a5 0 g n d := by
  refine (tokR_at _ _ _ _ _ _ n g d).trans ?_
  unfold Cert.Kernel13Ideal.Side.G
  refine tok_congr n d (fun r d => ?_) (fun p d => ?_) (fun i k => ?_) (fun k => ?_) (fun k d => ?_) (fun d => ?_)
  · pointwise
    exact congrArg (fun q => a0 (ix3 0 r q)) (Fin.ext (by unfold Cert.Kernel13Ideal.Side.col; simp only [Fin.val_zero, Fin.val_one]; omega))
  · pointwise
  · pointwise
  · pointwise
  · pointwise
  · pointwise

theorem vR_at (a0 : FVec Ideal S1x8192x1024 .f32) (a1 : FVec Ideal S4x2x32x128 .f32) (a2 : FVec Ideal S4x2x4096x256 .f32) (a3 : FVec Ideal S4x2x256 .f32)
    (a4 : FVec Ideal S4x2x256x128 .f32) (a5 : FVec Ideal S4x2x128 .f32) (n : Fin 512) (g : Fin 4) (d : Fin 128) :
    (show EReal from vR a0 a1 a2 a3 a4 a5 (ix3 n g d)) = Cert.Kernel13Ideal.Side.G a0 a1 a2 a3 a4 a5 1 g n d := by
  refine (tokR_at _ _ _ _ _ _ n g d).trans ?_
  unfold Cert.Kernel13Ideal.Side.G
  refine tok_congr n d (fun r d => ?_) (fun p d => ?_) (fun i k => ?_) (fun k => ?_) (fun k d => ?_) (fun d => ?_)
  · pointwise
    exact congrArg (fun q => a0 (ix3 0 r q)) (Fin.ext (by unfold Cert.Kernel13Ideal.Side.col; simp only [Fin.val_zero, Fin.val_one]; omega))
  · pointwise
  · pointwise
  · pointwise
  · pointwise
  · pointwise

/-- The reference's result. -/
theorem R_at (s : Fin 2) (g : Fin 4) (n : Fin 512) (d : Fin 128) :
    (show EReal from res_main_v98 m c (ix4 s g n d)) = Cert.Kernel13Ideal.Side.G (A0 m c) (A1 m c) (A2 m c) (A3 m c) (A4 m c) (A5 m c) s g n d := by
  rw [res_eq]
  refine (stackR_at _ _ s g n d).trans ?_
  match s with
  | ⟨0, _⟩ => exact kR_at _ _ _ _ _ _ n g d
  | ⟨1, _⟩ => exact vR_at _ _ _ _ _ _ n g d

/-- The reference runs to its result, its arguments unchanged and its semaphores at zero. -/
theorem run_all (ρ : Dev nD → PrngReg) : θ_run (defs (F := Ideal)) (onTc (τ := τ) (main (F := Ideal))) ⟨m, fun _ => 0, ρ⟩ fun r =>
    (∀ c : Dev nD, r.2.mem ((c.tc : Thread nD τ).loc main_v98) = res_main_v98 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0 :=
  (θ_run _ _ _).mono (fun _ h => ⟨h, sem_eq_zero_of_no_sems (show sig.nSem + sig.nDmaSem = 0 by decide) _⟩) (run m ρ)

end Cert.Reference13Ideal.Side

namespace Cert.CompressEq

open Idealize.ShloMosaic Idealize.ShloMosaic.TcCoe Idealize.SL.Sem

/-- From memories that agree on the arguments, the two programs' results are the same array. -/
theorem result_eq (m : (ℓ : Loc Cert.Kernel13Ideal.nD Cert.Kernel13Ideal.τ Cert.Kernel13Ideal.sig) → Buf (Elt Ideal) ℓ)
    (m' : (ℓ : Loc Cert.Reference13Ideal.nD Cert.Reference13Ideal.τ Cert.Reference13Ideal.sig) → Buf (Elt Ideal) ℓ) (c : Dev Cert.Kernel13Ideal.nD) (c' : Dev Cert.Reference13Ideal.nD)
    (h0 : Cert.Reference13Ideal.Side.A0 m' c' = Cert.Kernel13Ideal.Side.A0 m c) (h1 : Cert.Reference13Ideal.Side.A1 m' c' = Cert.Kernel13Ideal.Side.A1 m c)
    (h2 : Cert.Reference13Ideal.Side.A2 m' c' = Cert.Kernel13Ideal.Side.A2 m c) (h3 : Cert.Reference13Ideal.Side.A3 m' c' = Cert.Kernel13Ideal.Side.A3 m c)
    (h4 : Cert.Reference13Ideal.Side.A4 m' c' = Cert.Kernel13Ideal.Side.A4 m c) (h5 : Cert.Reference13Ideal.Side.A5 m' c' = Cert.Kernel13Ideal.Side.A5 m c) :
    (Cert.Reference13Ideal.Value.res_main_v98 m' c' : FVec Ideal Cert.Reference13Ideal.S2x4x512x128 .bf16)
      = (Cert.Kernel13Ideal.Gen.dats m 0 c).arrAt 6 (Cert.Kernel13Ideal.cfgs 0).N := by
  rw [Cert.Kernel13Ideal.Side.final]
  funext i
  have e : i = ix4 (i 0) (i 1) (i 2) (i 3) := by
    funext a
    match a with
    | ⟨0, _⟩ => rfl
    | ⟨1, _⟩ => rfl
    | ⟨2, _⟩ => rfl
    | ⟨3, _⟩ => rfl
  refine (congrArg _ e).trans ((Cert.Reference13Ideal.Side.R_at m' c' (i 0) (i 1) (i 2) (i 3)).trans ?_)
  rw [h0, h1, h2, h3, h4, h5]

/-- The compression: the kernel and the reference end with the same result. -/
theorem algebraic : Cert.algebraic_Kernel13Ideal_Reference13Ideal (hKernel13Ideal := Cert.Kernel13Ideal.Gen.facts) (hReference13Ideal := Cert.Reference13Ideal.Gen.facts) := by
  intro m g m' g' _ hA
  refine ⟨fun c => (Cert.Kernel13Ideal.Gen.dats m 0 c).arrAt 6 (Cert.Kernel13Ideal.cfgs 0).N, Cert.Kernel13Ideal.Value.run_blocks m g, ?_⟩
  refine (θ_run _ _ _).mono (fun r h c => ?_) (Cert.Reference13Ideal.Side.run_all m' g')
  obtain ⟨h0, h1, h2, h3, h4, h5⟩ := hA c
  exact ⟨(h.1 c).1.trans (result_eq m m' c c h0 h1 h2 h3 h4 h5), (h.1 c).2⟩

end Cert.CompressEq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Reference8Ideal.Run
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal
public import proofs.«01_k».proof.Proof.Equation
public import proofs.«01_k».proof.Proof.OutRef
public import proofs.«01_k».proof.Proof.ColsRef
public import proofs.«01_k».proof.Proof.KvRef
public import proofs.«01_k».proof.Proof.CmpColsRef
public import proofs.«01_k».proof.Proof.MidRef
public import proofs.«01_k».proof.Proof.MergeRef
public import proofs.«01_k».proof.Proof.GatesFrame
public import proofs.«01_k».proof.Proof.GatesRef
public import proofs.«01_k».proof.Proof.QueryRef
public import proofs.«01_k».proof.Proof.BranchRef
public import proofs.«01_k».proof.Proof.RankRef
public import proofs.«01_k».proof.Proof.NormRef
public import proofs.«01_k».proof.Proof.CompressRef
public import Idealize.ShloMosaic.Adequacy
public import Idealize.ShloMosaic.Init

/-! The proof of `Cert.Claim`: the frames of the programs, and the equality of the kernel's result with the reference's over the reals. -/

@[expose] public section

noncomputable section

namespace Cert.Proof

open Idealize.ShloMosaic Idealize.SL.Sem

/-- The gated linear attention's kernel and reference end with the same result. -/
theorem gla_algebraic : Cert.algebraic_KernelIdeal_ReferenceIdeal (hKernelIdeal := Cert.KernelIdeal.Gen.facts) (hReferenceIdeal := Cert.ReferenceIdeal.Gen.facts) := by
  intro m g m' g' _ hA
  refine ⟨fun c => Cert.KernelIdeal.Value.G7 m c, Cert.KernelIdeal.Value.run m g, ?_⟩
  refine (θ_run _ _ _).mono (fun r h c => ?_) (Cert.ReferenceIdeal.Side.run_all m' g')
  obtain ⟨h0, h1, h2, h3, h4⟩ := hA c
  exact ⟨(h.1 c).1.trans (Cert.GlaEq.result_eq m m' c c h0 h1 h2 h3 h4), (h.1 c).2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  fun m ρ _ => Cert.Kernel.Gen.frame m ρ,
  fun m ρ _ => Cert.KernelIdeal.Gen.frame m ρ,
  fun m ρ _ => (θ_run _ _ _).mono (fun _ h => ⟨fun c => (h.1 c).2, h.2⟩) (Cert.ReferenceIdeal.Side.run_all m ρ),
  fun m ρ _ => Cert.Kernel2.Gen.frame m ρ,
  fun m ρ _ => Cert.Kernel2Ideal.Gen.frame m ρ,
  fun m ρ _ => (θ_run _ _ _).mono (fun _ h => ⟨fun c => (h.1 c).2, h.2⟩) (Cert.Reference2Ideal.Side.run_all m ρ),
  fun m ρ _ => Cert.Kernel3.Gen.frame m ρ,
  fun m ρ _ => Cert.Kernel3Ideal.Gen.frame m ρ,
  fun m ρ _ => (θ_run _ _ _).mono (fun _ h => ⟨fun c => (h.1 c).2, h.2⟩) (Cert.Reference3Ideal.Side.run_all m ρ),
  fun m ρ _ => Cert.Kernel4.Gen.frame m ρ,
  fun m ρ _ => Cert.Kernel4Ideal.Gen.frame m ρ,
  fun m ρ _ => (θ_run _ _ _).mono (fun _ h => ⟨fun c => (h.1 c).2, h.2⟩) (Cert.Reference4Ideal.Side.run_all m ρ),
  fun m ρ _ => Cert.Kernel5.Gen.frame m ρ,
  fun m ρ _ => Cert.Kernel5Ideal.Gen.frame m ρ,
  fun m ρ _ => (θ_run _ _ _).mono (fun _ h => ⟨fun c => (h.1 c).2, h.2⟩) (Cert.Reference5Ideal.Side.run_all m ρ),
  fun m ρ _ => Cert.Kernel6.Gen.frame m ρ,
  fun m ρ _ => Cert.Kernel6Ideal.Gen.frame m ρ,
  fun m ρ _ => (θ_run _ _ _).mono (fun _ h => ⟨fun c => (h.1 c).2.2, h.2⟩) (Cert.Reference6Ideal.Side.run_all m ρ),
  fun m ρ _ => Cert.Kernel7.Gen.frame m ρ,
  fun m ρ _ => Cert.Kernel7Ideal.Gen.frame m ρ,
  fun m ρ _ => (θ_run _ _ _).mono (fun _ h => ⟨fun c => (h.1 c).2, h.2⟩) (Cert.Reference7Ideal.Side.run_all m ρ),
  fun m ρ _ => Cert.Kernel8.Side.frame m ρ,
  fun m ρ _ => Cert.Kernel8Ideal.Side.frame m ρ,
  fun m ρ _ => (θ_run _ _ _).mono (fun _ h => ⟨fun c => (h.1 c).2, h.2⟩) (Cert.Reference8Ideal.Side.run_all m ρ),
  fun m ρ _ => Cert.Kernel9.Gen.frame m ρ,
  fun m ρ _ => Cert.Kernel9Ideal.Gen.frame m ρ,
  fun m ρ _ => (θ_run _ _ _).mono (fun _ h => ⟨fun c => (h.1 c).2, h.2⟩) (Cert.Reference9Ideal.Side.run_all m ρ),
  fun m ρ _ => Cert.Kernel10.Gen.frame m ρ,
  fun m ρ _ => Cert.Kernel10Ideal.Gen.frame m ρ,
  fun m ρ _ => (θ_run _ _ _).mono (fun _ h => ⟨fun c => (h.1 c).2, h.2⟩) (Cert.Reference10Ideal.Side.run_all m ρ),
  fun m ρ _ => Cert.Kernel11.Gen.frame m ρ,
  fun m ρ _ => Cert.Kernel11Ideal.Gen.frame m ρ,
  fun m ρ _ => (θ_run _ _ _).mono (fun _ h => ⟨fun c => (h.1 c).2, h.2⟩) (Cert.Reference11Ideal.Side.run_all m ρ),
  fun m ρ _ => Cert.Kernel12.Gen.frame m ρ,
  fun m ρ _ => Cert.Kernel12Ideal.Gen.frame m ρ,
  fun m ρ _ => (θ_run _ _ _).mono (fun _ h => ⟨fun c => (h.1 c).2, h.2⟩) (Cert.Reference12Ideal.Side.run_all m ρ),
  fun m ρ _ => Cert.Kernel13.Gen.frame m ρ,
  fun m ρ _ => Cert.Kernel13Ideal.Gen.frame m ρ,
  fun m ρ _ => (θ_run _ _ _).mono (fun _ h => ⟨fun c => (h.1 c).2, h.2⟩) (Cert.Reference13Ideal.Side.run_all m ρ),
  trivial, gla_algebraic, trivial, Cert.OutEq.algebraic, trivial, Cert.ColsEq.algebraic, trivial, Cert.KvEq.algebraic, trivial, Cert.CmpColsEq.algebraic, trivial, Cert.MidEq.algebraic, trivial, Cert.MergeEq.algebraic, trivial, Cert.GatesEq.algebraic, trivial, Cert.QueryEq.algebraic, trivial, Cert.BranchEq.algebraic, trivial, Cert.RankEq.algebraic, trivial, Cert.NormEq.algebraic, trivial, Cert.CompressEq.algebraic⟩

end Cert.Proof

end
